-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Kernel23Ideal_finite23 [hPre_finite23 : Cert.Pre_finite23.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_finite23.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1))) = (fun _ => 1#1)

def Pre_Reference23Ideal (m : (ℓ : Loc Cert.Reference23Ideal.nD Cert.Reference23Ideal.τ Cert.Reference23Ideal.sig) → Buf (Elt Ideal) ℓ) : Prop :=
  True

def Pre_Reference23Ideal_finite23 [hPre_finite23 : Cert.Pre_finite23.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_finite23.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1))) = (fun _ => 1#1)

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Kernel24Ideal_finite24 [hPre_finite24 : Cert.Pre_finite24.Facts] (m : (ℓ : Loc Cert.Kernel24Ideal.nD Cert.Kernel24Ideal.τ Cert.Kernel24Ideal.sig) → Buf (Elt Ideal) ℓ) : Prop :=
  ∀ c : Dev Cert.Kernel24Ideal.nD,
    (Cert.Pre_finite24.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3))) = (fun _ => 1#1)

def Pre_Reference24Ideal (m : (ℓ : Loc Cert.Reference24Ideal.nD Cert.Reference24Ideal.τ Cert.Reference24Ideal.sig) → Buf (Elt Ideal) ℓ) : Prop :=
  True

def Pre_Reference24Ideal_finite24 [hPre_finite24 : Cert.Pre_finite24.Facts] (m : (ℓ : Loc Cert.Reference24Ideal.nD Cert.Reference24Ideal.τ Cert.Reference24Ideal.sig) → Buf (Elt Ideal) ℓ) : Prop :=
  ∀ c : Dev Cert.Reference24Ideal.nD,
    (Cert.Pre_finite24.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1)) (m ((c.tc : Thread Cert.Reference24Ideal.nD Cert.Reference24Ideal.τ).loc Cert.Reference24Ideal.main_arg2)) (m ((c.tc : Thread Cert.Reference24Ideal.nD Cert.Reference24Ideal.τ).loc Cert.Reference24Ideal.main_arg3))) = (fun _ => 1#1)

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Kernel29Ideal_finite29 [hPre_finite29 : Cert.Pre_finite29.Facts] (m : (ℓ : Loc Cert.Kernel29Ideal.nD Cert.Kernel29Ideal.τ Cert.Kernel29Ideal.sig) → Buf (Elt Ideal) ℓ) : Prop :=
  ∀ c : Dev Cert.Kernel29Ideal.nD,
    (Cert.Pre_finite29.fn (F := Ideal) (m ((c.tc : Thread Cert.Kernel29Ideal.nD Cert.Kernel29Ideal.τ).loc Cert.Kernel29Ideal.main_arg0))) = (fun _ => 1#1)

def Pre_Reference29Ideal (m : (ℓ : Loc Cert.Reference29Ideal.nD Cert.Reference29Ideal.τ Cert.Reference29Ideal.sig) → Buf (Elt Ideal) ℓ) : Prop :=
  True

def Pre_Reference29Ideal_finite29 [hPre_finite29 : Cert.Pre_finite29.Facts] (m : (ℓ : Loc Cert.Reference29Ideal.nD Cert.Reference29Ideal.τ Cert.Reference29Ideal.sig) → Buf (Elt Ideal) ℓ) : Prop :=
  ∀ c : Dev Cert.Reference29Ideal.nD,
    (Cert.Pre_finite29.fn (F := Ideal) (m ((c.tc : Thread Cert.Reference29Ideal.nD Cert.Reference29Ideal.τ).loc Cert.Reference29Ideal.main_arg0))) = (fun _ => 1#1)

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Kernel30Ideal_finite30 [hPre_finite30 : Cert.Pre_finite30.Facts] (m : (ℓ : Loc Cert.Kernel30Ideal.nD Cert.Kernel30Ideal.τ Cert.Kernel30Ideal.sig) → Buf (Elt Ideal) ℓ) : Prop :=
  ∀ c : Dev Cert.Kernel30Ideal.nD,
    (Cert.Pre_finite30.fn (F := Ideal) (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)) (m ((c.tc : Thread Cert.Kernel30Ideal.nD Cert.Kernel30Ideal.τ).loc Cert.Kernel30Ideal.main_arg3)) (m ((c.tc : Thread Cert.Kernel30Ideal.nD Cert.Kernel30Ideal.τ).loc Cert.Kernel30Ideal.main_arg4))) = (fun _ => 1#1)

def Pre_Reference30Ideal (m : (ℓ : Loc Cert.Reference30Ideal.nD Cert.Reference30Ideal.τ Cert.Reference30Ideal.sig) → Buf (Elt Ideal) ℓ) : Prop :=
  True

def Pre_Reference30Ideal_finite30 [hPre_finite30 : Cert.Pre_finite30.Facts] (m : (ℓ : Loc Cert.Reference30Ideal.nD Cert.Reference30Ideal.τ Cert.Reference30Ideal.sig) → Buf (Elt Ideal) ℓ) : Prop :=
  ∀ c : Dev Cert.Reference30Ideal.nD,
    (Cert.Pre_finite30.fn (F := Ideal) (m ((c.tc : Thread Cert.Reference30Ideal.nD Cert.Reference30Ideal.τ).loc Cert.Reference30Ideal.main_arg0)) (m ((c.tc : Thread Cert.Reference30Ideal.nD Cert.Reference30Ideal.τ).loc Cert.Reference30Ideal.main_arg1)) (m ((c.tc : Thread Cert.Reference30Ideal.nD Cert.Reference30Ideal.τ).loc Cert.Reference30Ideal.main_arg2)) (m ((c.tc : Thread Cert.Reference30Ideal.nD Cert.Reference30Ideal.τ).loc Cert.Reference30Ideal.main_arg3)) (m ((c.tc : Thread Cert.Reference30Ideal.nD Cert.Reference30Ideal.τ).loc Cert.Reference30Ideal.main_arg4))) = (fun _ => 1#1)

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Kernel23Ideal_pre_finite23 [hKernel23Ideal : Cert.Kernel23Ideal.Facts] [hPre_finite23 : Cert.Pre_finite23.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal_finite23 m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Reference23Ideal_pre_finite23 [hReference23Ideal : Cert.Reference23Ideal.Facts] [hPre_finite23 : Cert.Pre_finite23.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal_finite23 m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Kernel24Ideal_pre_finite24 [hKernel24Ideal : Cert.Kernel24Ideal.Facts] [hPre_finite24 : Cert.Pre_finite24.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal_finite24 m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Reference24Ideal_pre_finite24 [hReference24Ideal : Cert.Reference24Ideal.Facts] [hPre_finite24 : Cert.Pre_finite24.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal_finite24 m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0))
      ∧ r.2.sem = fun _ => 0)

def quiescent_Kernel29Ideal_pre_finite29 [hKernel29Ideal : Cert.Kernel29Ideal.Facts] [hPre_finite29 : Cert.Pre_finite29.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal_finite29 m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0))
      ∧ r.2.sem = fun _ => 0)

def quiescent_Reference29Ideal_pre_finite29 [hReference29Ideal : Cert.Reference29Ideal.Facts] [hPre_finite29 : Cert.Pre_finite29.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal_finite29 m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3)
      ∧ r.2.mem ((c.tc : Thread Cert.Kernel30.nD Cert.Kernel30.τ).loc Cert.Kernel30.main_arg4) = m ((c.tc : Thread Cert.Kernel30.nD Cert.Kernel30.τ).loc Cert.Kernel30.main_arg4))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4))
      ∧ r.2.sem = fun _ => 0)

def quiescent_Kernel30Ideal_pre_finite30 [hKernel30Ideal : Cert.Kernel30Ideal.Facts] [hPre_finite30 : Cert.Pre_finite30.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal_finite30 m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4))
      ∧ r.2.sem = fun _ => 0)

def quiescent_Reference30Ideal_pre_finite30 [hReference30Ideal : Cert.Reference30Ideal.Facts] [hPre_finite30 : Cert.Pre_finite30.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal_finite30 m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3)
      ∧ r.2.mem ((c.tc : Thread Cert.Kernel31.nD Cert.Kernel31.τ).loc Cert.Kernel31.main_arg4) = m ((c.tc : Thread Cert.Kernel31.nD Cert.Kernel31.τ).loc Cert.Kernel31.main_arg4)
      ∧ r.2.mem ((c.tc : Thread Cert.Kernel31.nD Cert.Kernel31.τ).loc Cert.Kernel31.main_arg5) = m ((c.tc : Thread Cert.Kernel31.nD Cert.Kernel31.τ).loc Cert.Kernel31.main_arg5)
      ∧ r.2.mem ((c.tc : Thread Cert.Kernel31.nD Cert.Kernel31.τ).loc Cert.Kernel31.main_arg6) = m ((c.tc : Thread Cert.Kernel31.nD Cert.Kernel31.τ).loc Cert.Kernel31.main_arg6)
      ∧ r.2.mem ((c.tc : Thread Cert.Kernel31.nD Cert.Kernel31.τ).loc Cert.Kernel31.main_arg7) = m ((c.tc : Thread Cert.Kernel31.nD Cert.Kernel31.τ).loc Cert.Kernel31.main_arg7)
      ∧ r.2.mem ((c.tc : Thread Cert.Kernel31.nD Cert.Kernel31.τ).loc Cert.Kernel31.main_arg8) = m ((c.tc : Thread Cert.Kernel31.nD Cert.Kernel31.τ).loc Cert.Kernel31.main_arg8)
      ∧ r.2.mem ((c.tc : Thread Cert.Kernel31.nD Cert.Kernel31.τ).loc Cert.Kernel31.main_arg9) = m ((c.tc : Thread Cert.Kernel31.nD Cert.Kernel31.τ).loc Cert.Kernel31.main_arg9)
      ∧ r.2.mem ((c.tc : Thread Cert.Kernel31.nD Cert.Kernel31.τ).loc Cert.Kernel31.main_arg10) = m ((c.tc : Thread Cert.Kernel31.nD Cert.Kernel31.τ).loc Cert.Kernel31.main_arg10)
      ∧ r.2.mem ((c.tc : Thread Cert.Kernel31.nD Cert.Kernel31.τ).loc Cert.Kernel31.main_arg11) = m ((c.tc : Thread Cert.Kernel31.nD Cert.Kernel31.τ).loc Cert.Kernel31.main_arg11)
      ∧ r.2.mem ((c.tc : Thread Cert.Kernel31.nD Cert.Kernel31.τ).loc Cert.Kernel31.main_arg12) = m ((c.tc : Thread Cert.Kernel31.nD Cert.Kernel31.τ).loc Cert.Kernel31.main_arg12)
      ∧ r.2.mem ((c.tc : Thread Cert.Kernel31.nD Cert.Kernel31.τ).loc Cert.Kernel31.main_arg13) = m ((c.tc : Thread Cert.Kernel31.nD Cert.Kernel31.τ).loc Cert.Kernel31.main_arg13)
      ∧ r.2.mem ((c.tc : Thread Cert.Kernel31.nD Cert.Kernel31.τ).loc Cert.Kernel31.main_arg14) = m ((c.tc : Thread Cert.Kernel31.nD Cert.Kernel31.τ).loc Cert.Kernel31.main_arg14)
      ∧ r.2.mem ((c.tc : Thread Cert.Kernel31.nD Cert.Kernel31.τ).loc Cert.Kernel31.main_arg15) = m ((c.tc : Thread Cert.Kernel31.nD Cert.Kernel31.τ).loc Cert.Kernel31.main_arg15)
      ∧ r.2.mem ((c.tc : Thread Cert.Kernel31.nD Cert.Kernel31.τ).loc Cert.Kernel31.main_arg16) = m ((c.tc : Thread Cert.Kernel31.nD Cert.Kernel31.τ).loc Cert.Kernel31.main_arg16)
      ∧ r.2.mem ((c.tc : Thread Cert.Kernel31.nD Cert.Kernel31.τ).loc Cert.Kernel31.main_arg17) = m ((c.tc : Thread Cert.Kernel31.nD Cert.Kernel31.τ).loc Cert.Kernel31.main_arg17)
      ∧ r.2.mem ((c.tc : Thread Cert.Kernel31.nD Cert.Kernel31.τ).loc Cert.Kernel31.main_arg18) = m ((c.tc : Thread Cert.Kernel31.nD Cert.Kernel31.τ).loc Cert.Kernel31.main_arg18)
      ∧ r.2.mem ((c.tc : Thread Cert.Kernel31.nD Cert.Kernel31.τ).loc Cert.Kernel31.main_arg19) = m ((c.tc : Thread Cert.Kernel31.nD Cert.Kernel31.τ).loc Cert.Kernel31.main_arg19))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
      ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5)
      ∧ r.2.mem ((c.tc : Thread Cert.Kernel31Ideal.nD Cert.Kernel31Ideal.τ).loc Cert.Kernel31Ideal.main_arg6) = m ((c.tc : Thread Cert.Kernel31Ideal.nD Cert.Kernel31Ideal.τ).loc Cert.Kernel31Ideal.main_arg6)
      ∧ r.2.mem ((c.tc : Thread Cert.Kernel31Ideal.nD Cert.Kernel31Ideal.τ).loc Cert.Kernel31Ideal.main_arg7) = m ((c.tc : Thread Cert.Kernel31Ideal.nD Cert.Kernel31Ideal.τ).loc Cert.Kernel31Ideal.main_arg7)
      ∧ r.2.mem ((c.tc : Thread Cert.Kernel31Ideal.nD Cert.Kernel31Ideal.τ).loc Cert.Kernel31Ideal.main_arg8) = m ((c.tc : Thread Cert.Kernel31Ideal.nD Cert.Kernel31Ideal.τ).loc Cert.Kernel31Ideal.main_arg8)
      ∧ r.2.mem ((c.tc : Thread Cert.Kernel31Ideal.nD Cert.Kernel31Ideal.τ).loc Cert.Kernel31Ideal.main_arg9) = m ((c.tc : Thread Cert.Kernel31Ideal.nD Cert.Kernel31Ideal.τ).loc Cert.Kernel31Ideal.main_arg9)
      ∧ r.2.mem ((c.tc : Thread Cert.Kernel31Ideal.nD Cert.Kernel31Ideal.τ).loc Cert.Kernel31Ideal.main_arg10) = m ((c.tc : Thread Cert.Kernel31Ideal.nD Cert.Kernel31Ideal.τ).loc Cert.Kernel31Ideal.main_arg10)
      ∧ r.2.mem ((c.tc : Thread Cert.Kernel31Ideal.nD Cert.Kernel31Ideal.τ).loc Cert.Kernel31Ideal.main_arg11) = m ((c.tc : Thread Cert.Kernel31Ideal.nD Cert.Kernel31Ideal.τ).loc Cert.Kernel31Ideal.main_arg11)
      ∧ r.2.mem ((c.tc : Thread Cert.Kernel31Ideal.nD Cert.Kernel31Ideal.τ).loc Cert.Kernel31Ideal.main_arg12) = m ((c.tc : Thread Cert.Kernel31Ideal.nD Cert.Kernel31Ideal.τ).loc Cert.Kernel31Ideal.main_arg12)
      ∧ r.2.mem ((c.tc : Thread Cert.Kernel31Ideal.nD Cert.Kernel31Ideal.τ).loc Cert.Kernel31Ideal.main_arg13) = m ((c.tc : Thread Cert.Kernel31Ideal.nD Cert.Kernel31Ideal.τ).loc Cert.Kernel31Ideal.main_arg13)
      ∧ r.2.mem ((c.tc : Thread Cert.Kernel31Ideal.nD Cert.Kernel31Ideal.τ).loc Cert.Kernel31Ideal.main_arg14) = m ((c.tc : Thread Cert.Kernel31Ideal.nD Cert.Kernel31Ideal.τ).loc Cert.Kernel31Ideal.main_arg14)
      ∧ r.2.mem ((c.tc : Thread Cert.Kernel31Ideal.nD Cert.Kernel31Ideal.τ).loc Cert.Kernel31Ideal.main_arg15) = m ((c.tc : Thread Cert.Kernel31Ideal.nD Cert.Kernel31Ideal.τ).loc Cert.Kernel31Ideal.main_arg15)
      ∧ r.2.mem ((c.tc : Thread Cert.Kernel31Ideal.nD Cert.Kernel31Ideal.τ).loc Cert.Kernel31Ideal.main_arg16) = m ((c.tc : Thread Cert.Kernel31Ideal.nD Cert.Kernel31Ideal.τ).loc Cert.Kernel31Ideal.main_arg16)
      ∧ r.2.mem ((c.tc : Thread Cert.Kernel31Ideal.nD Cert.Kernel31Ideal.τ).loc Cert.Kernel31Ideal.main_arg17) = m ((c.tc : Thread Cert.Kernel31Ideal.nD Cert.Kernel31Ideal.τ).loc Cert.Kernel31Ideal.main_arg17)
      ∧ r.2.mem ((c.tc : Thread Cert.Kernel31Ideal.nD Cert.Kernel31Ideal.τ).loc Cert.Kernel31Ideal.main_arg18) = m ((c.tc : Thread Cert.Kernel31Ideal.nD Cert.Kernel31Ideal.τ).loc Cert.Kernel31Ideal.main_arg18)
      ∧ r.2.mem ((c.tc : Thread Cert.Kernel31Ideal.nD Cert.Kernel31Ideal.τ).loc Cert.Kernel31Ideal.main_arg19) = m ((c.tc : Thread Cert.Kernel31Ideal.nD Cert.Kernel31Ideal.τ).loc Cert.Kernel31Ideal.main_arg19))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4)
      ∧ r.2.mem ((c.tc : Thread Cert.Reference31Ideal.nD Cert.Reference31Ideal.τ).loc Cert.Reference31Ideal.main_arg5) = m ((c.tc : Thread Cert.Reference31Ideal.nD Cert.Reference31Ideal.τ).loc Cert.Reference31Ideal.main_arg5)
      ∧ r.2.mem ((c.tc : Thread Cert.Reference31Ideal.nD Cert.Reference31Ideal.τ).loc Cert.Reference31Ideal.main_arg6) = m ((c.tc : Thread Cert.Reference31Ideal.nD Cert.Reference31Ideal.τ).loc Cert.Reference31Ideal.main_arg6)
      ∧ r.2.mem ((c.tc : Thread Cert.Reference31Ideal.nD Cert.Reference31Ideal.τ).loc Cert.Reference31Ideal.main_arg7) = m ((c.tc : Thread Cert.Reference31Ideal.nD Cert.Reference31Ideal.τ).loc Cert.Reference31Ideal.main_arg7)
      ∧ r.2.mem ((c.tc : Thread Cert.Reference31Ideal.nD Cert.Reference31Ideal.τ).loc Cert.Reference31Ideal.main_arg8) = m ((c.tc : Thread Cert.Reference31Ideal.nD Cert.Reference31Ideal.τ).loc Cert.Reference31Ideal.main_arg8)
      ∧ r.2.mem ((c.tc : Thread Cert.Reference31Ideal.nD Cert.Reference31Ideal.τ).loc Cert.Reference31Ideal.main_arg9) = m ((c.tc : Thread Cert.Reference31Ideal.nD Cert.Reference31Ideal.τ).loc Cert.Reference31Ideal.main_arg9)
      ∧ r.2.mem ((c.tc : Thread Cert.Reference31Ideal.nD Cert.Reference31Ideal.τ).loc Cert.Reference31Ideal.main_arg10) = m ((c.tc : Thread Cert.Reference31Ideal.nD Cert.Reference31Ideal.τ).loc Cert.Reference31Ideal.main_arg10)
      ∧ r.2.mem ((c.tc : Thread Cert.Reference31Ideal.nD Cert.Reference31Ideal.τ).loc Cert.Reference31Ideal.main_arg11) = m ((c.tc : Thread Cert.Reference31Ideal.nD Cert.Reference31Ideal.τ).loc Cert.Reference31Ideal.main_arg11)
      ∧ r.2.mem ((c.tc : Thread Cert.Reference31Ideal.nD Cert.Reference31Ideal.τ).loc Cert.Reference31Ideal.main_arg12) = m ((c.tc : Thread Cert.Reference31Ideal.nD Cert.Reference31Ideal.τ).loc Cert.Reference31Ideal.main_arg12)
      ∧ r.2.mem ((c.tc : Thread Cert.Reference31Ideal.nD Cert.Reference31Ideal.τ).loc Cert.Reference31Ideal.main_arg13) = m ((c.tc : Thread Cert.Reference31Ideal.nD Cert.Reference31Ideal.τ).loc Cert.Reference31Ideal.main_arg13)
      ∧ r.2.mem ((c.tc : Thread Cert.Reference31Ideal.nD Cert.Reference31Ideal.τ).loc Cert.Reference31Ideal.main_arg14) = m ((c.tc : Thread Cert.Reference31Ideal.nD Cert.Reference31Ideal.τ).loc Cert.Reference31Ideal.main_arg14)
      ∧ r.2.mem ((c.tc : Thread Cert.Reference31Ideal.nD Cert.Reference31Ideal.τ).loc Cert.Reference31Ideal.main_arg15) = m ((c.tc : Thread Cert.Reference31Ideal.nD Cert.Reference31Ideal.τ).loc Cert.Reference31Ideal.main_arg15)
      ∧ r.2.mem ((c.tc : Thread Cert.Reference31Ideal.nD Cert.Reference31Ideal.τ).loc Cert.Reference31Ideal.main_arg16) = m ((c.tc : Thread Cert.Reference31Ideal.nD Cert.Reference31Ideal.τ).loc Cert.Reference31Ideal.main_arg16)
      ∧ r.2.mem ((c.tc : Thread Cert.Reference31Ideal.nD Cert.Reference31Ideal.τ).loc Cert.Reference31Ideal.main_arg17) = m ((c.tc : Thread Cert.Reference31Ideal.nD Cert.Reference31Ideal.τ).loc Cert.Reference31Ideal.main_arg17)
      ∧ r.2.mem ((c.tc : Thread Cert.Reference31Ideal.nD Cert.Reference31Ideal.τ).loc Cert.Reference31Ideal.main_arg18) = m ((c.tc : Thread Cert.Reference31Ideal.nD Cert.Reference31Ideal.τ).loc Cert.Reference31Ideal.main_arg18)
      ∧ r.2.mem ((c.tc : Thread Cert.Reference31Ideal.nD Cert.Reference31Ideal.τ).loc Cert.Reference31Ideal.main_arg19) = m ((c.tc : Thread Cert.Reference31Ideal.nD Cert.Reference31Ideal.τ).loc Cert.Reference31Ideal.main_arg19))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_v6) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_v6) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_v6) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_v6) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_v6) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_v5) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v33) = v0 c
          ∧ r.2.mem ((c.tc : Thread Cert.Reference22Ideal.nD Cert.Reference22Ideal.τ).loc Cert.Reference22Ideal.main_v34) = v1 c
          ∧ r.2.mem ((c.tc : Thread Cert.Reference22Ideal.nD Cert.Reference22Ideal.τ).loc Cert.Reference22Ideal.main_v35) = v2 c
          ∧ r.2.mem ((c.tc : Thread Cert.Reference22Ideal.nD Cert.Reference22Ideal.τ).loc Cert.Reference22Ideal.main_v36) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal_pre_finite23 [hKernel23Ideal : Cert.Kernel23Ideal.Facts] [hReference23Ideal : Cert.Reference23Ideal.Facts] [hPre_finite23 : Cert.Pre_finite23.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal_finite23 m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v10) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal_pre_finite24 [hKernel24Ideal : Cert.Kernel24Ideal.Facts] [hReference24Ideal : Cert.Reference24Ideal.Facts] [hPre_finite24 : Cert.Pre_finite24.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal_finite24 m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v34) = v0 c
          ∧ r.2.mem ((c.tc : Thread Cert.Reference24Ideal.nD Cert.Reference24Ideal.τ).loc Cert.Reference24Ideal.main_v35) = v1 c
          ∧ r.2.mem ((c.tc : Thread Cert.Reference24Ideal.nD Cert.Reference24Ideal.τ).loc Cert.Reference24Ideal.main_v17) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v20) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v5) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v12) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_arg1) = v0 c
          ∧ r.2.mem ((c.tc : Thread Cert.Reference28Ideal.nD Cert.Reference28Ideal.τ).loc Cert.Reference28Ideal.main_v23) = v1 c
          ∧ r.2.mem ((c.tc : Thread Cert.Reference28Ideal.nD Cert.Reference28Ideal.τ).loc Cert.Reference28Ideal.main_v4) = v2 c
          ∧ r.2.mem ((c.tc : Thread Cert.Reference28Ideal.nD Cert.Reference28Ideal.τ).loc Cert.Reference28Ideal.main_v10) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal_pre_finite29 [hKernel29Ideal : Cert.Kernel29Ideal.Facts] [hReference29Ideal : Cert.Reference29Ideal.Facts] [hPre_finite29 : Cert.Pre_finite29.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal_finite29 m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v29) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0))

def preserves_Kernel30_Kernel30Ideal : Prop :=
  True

def algebraic_Kernel30Ideal_Reference30Ideal_pre_finite30 [hKernel30Ideal : Cert.Kernel30Ideal.Facts] [hReference30Ideal : Cert.Reference30Ideal.Facts] [hPre_finite30 : Cert.Pre_finite30.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal_finite30 m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)
      ∧ m' ((c.tc : Thread Cert.Reference30Ideal.nD Cert.Reference30Ideal.τ).loc Cert.Reference30Ideal.main_arg4) = m ((c.tc : Thread Cert.Kernel30Ideal.nD Cert.Kernel30Ideal.τ).loc Cert.Kernel30Ideal.main_arg4)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)) (v4 : (c : Dev Cert.Kernel30Ideal.nD) → Buf (Elt Ideal) ((c.tc : Thread Cert.Kernel30Ideal.nD Cert.Kernel30Ideal.τ).loc Cert.Kernel30Ideal.main_v0_4)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_v0_4) = v4 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
          ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v61) = v0 c
          ∧ r.2.mem ((c.tc : Thread Cert.Reference30Ideal.nD Cert.Reference30Ideal.τ).loc Cert.Reference30Ideal.main_v65) = v1 c
          ∧ r.2.mem ((c.tc : Thread Cert.Reference30Ideal.nD Cert.Reference30Ideal.τ).loc Cert.Reference30Ideal.main_v66) = v2 c
          ∧ r.2.mem ((c.tc : Thread Cert.Reference30Ideal.nD Cert.Reference30Ideal.τ).loc Cert.Reference30Ideal.main_v45) = v3 c
          ∧ r.2.mem ((c.tc : Thread Cert.Reference30Ideal.nD Cert.Reference30Ideal.τ).loc Cert.Reference30Ideal.main_v67) = v4 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3)
          ∧ r.2.mem ((c.tc : Thread Cert.Reference30Ideal.nD Cert.Reference30Ideal.τ).loc Cert.Reference30Ideal.main_arg4) = m' ((c.tc : Thread Cert.Reference30Ideal.nD Cert.Reference30Ideal.τ).loc Cert.Reference30Ideal.main_arg4))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)
      ∧ m' ((c.tc : Thread Cert.Reference31Ideal.nD Cert.Reference31Ideal.τ).loc Cert.Reference31Ideal.main_arg4) = m ((c.tc : Thread Cert.Kernel31Ideal.nD Cert.Kernel31Ideal.τ).loc Cert.Kernel31Ideal.main_arg4)
      ∧ m' ((c.tc : Thread Cert.Reference31Ideal.nD Cert.Reference31Ideal.τ).loc Cert.Reference31Ideal.main_arg5) = m ((c.tc : Thread Cert.Kernel31Ideal.nD Cert.Kernel31Ideal.τ).loc Cert.Kernel31Ideal.main_arg5)
      ∧ m' ((c.tc : Thread Cert.Reference31Ideal.nD Cert.Reference31Ideal.τ).loc Cert.Reference31Ideal.main_arg6) = m ((c.tc : Thread Cert.Kernel31Ideal.nD Cert.Kernel31Ideal.τ).loc Cert.Kernel31Ideal.main_arg6)
      ∧ m' ((c.tc : Thread Cert.Reference31Ideal.nD Cert.Reference31Ideal.τ).loc Cert.Reference31Ideal.main_arg7) = m ((c.tc : Thread Cert.Kernel31Ideal.nD Cert.Kernel31Ideal.τ).loc Cert.Kernel31Ideal.main_arg7)
      ∧ m' ((c.tc : Thread Cert.Reference31Ideal.nD Cert.Reference31Ideal.τ).loc Cert.Reference31Ideal.main_arg8) = m ((c.tc : Thread Cert.Kernel31Ideal.nD Cert.Kernel31Ideal.τ).loc Cert.Kernel31Ideal.main_arg8)
      ∧ m' ((c.tc : Thread Cert.Reference31Ideal.nD Cert.Reference31Ideal.τ).loc Cert.Reference31Ideal.main_arg9) = m ((c.tc : Thread Cert.Kernel31Ideal.nD Cert.Kernel31Ideal.τ).loc Cert.Kernel31Ideal.main_arg9)
      ∧ m' ((c.tc : Thread Cert.Reference31Ideal.nD Cert.Reference31Ideal.τ).loc Cert.Reference31Ideal.main_arg10) = m ((c.tc : Thread Cert.Kernel31Ideal.nD Cert.Kernel31Ideal.τ).loc Cert.Kernel31Ideal.main_arg10)
      ∧ m' ((c.tc : Thread Cert.Reference31Ideal.nD Cert.Reference31Ideal.τ).loc Cert.Reference31Ideal.main_arg11) = m ((c.tc : Thread Cert.Kernel31Ideal.nD Cert.Kernel31Ideal.τ).loc Cert.Kernel31Ideal.main_arg11)
      ∧ m' ((c.tc : Thread Cert.Reference31Ideal.nD Cert.Reference31Ideal.τ).loc Cert.Reference31Ideal.main_arg12) = m ((c.tc : Thread Cert.Kernel31Ideal.nD Cert.Kernel31Ideal.τ).loc Cert.Kernel31Ideal.main_arg12)
      ∧ m' ((c.tc : Thread Cert.Reference31Ideal.nD Cert.Reference31Ideal.τ).loc Cert.Reference31Ideal.main_arg13) = m ((c.tc : Thread Cert.Kernel31Ideal.nD Cert.Kernel31Ideal.τ).loc Cert.Kernel31Ideal.main_arg13)
      ∧ m' ((c.tc : Thread Cert.Reference31Ideal.nD Cert.Reference31Ideal.τ).loc Cert.Reference31Ideal.main_arg14) = m ((c.tc : Thread Cert.Kernel31Ideal.nD Cert.Kernel31Ideal.τ).loc Cert.Kernel31Ideal.main_arg14)
      ∧ m' ((c.tc : Thread Cert.Reference31Ideal.nD Cert.Reference31Ideal.τ).loc Cert.Reference31Ideal.main_arg15) = m ((c.tc : Thread Cert.Kernel31Ideal.nD Cert.Kernel31Ideal.τ).loc Cert.Kernel31Ideal.main_arg15)
      ∧ m' ((c.tc : Thread Cert.Reference31Ideal.nD Cert.Reference31Ideal.τ).loc Cert.Reference31Ideal.main_arg16) = m ((c.tc : Thread Cert.Kernel31Ideal.nD Cert.Kernel31Ideal.τ).loc Cert.Kernel31Ideal.main_arg16)
      ∧ m' ((c.tc : Thread Cert.Reference31Ideal.nD Cert.Reference31Ideal.τ).loc Cert.Reference31Ideal.main_arg17) = m ((c.tc : Thread Cert.Kernel31Ideal.nD Cert.Kernel31Ideal.τ).loc Cert.Kernel31Ideal.main_arg17)
      ∧ m' ((c.tc : Thread Cert.Reference31Ideal.nD Cert.Reference31Ideal.τ).loc Cert.Reference31Ideal.main_arg18) = m ((c.tc : Thread Cert.Kernel31Ideal.nD Cert.Kernel31Ideal.τ).loc Cert.Kernel31Ideal.main_arg18)
      ∧ m' ((c.tc : Thread Cert.Reference31Ideal.nD Cert.Reference31Ideal.τ).loc Cert.Reference31Ideal.main_arg19) = m ((c.tc : Thread Cert.Kernel31Ideal.nD Cert.Kernel31Ideal.τ).loc Cert.Kernel31Ideal.main_arg19)) →
    ∃ (v0 : (c : Dev Cert.Kernel31Ideal.nD) → Buf (Elt Ideal) ((c.tc : Thread Cert.Kernel31Ideal.nD Cert.Kernel31Ideal.τ).loc Cert.Kernel31Ideal.main_v31)) (v1 : (c : Dev Cert.Kernel31Ideal.nD) → Buf (Elt Ideal) ((c.tc : Thread Cert.Kernel31Ideal.nD Cert.Kernel31Ideal.τ).loc Cert.Kernel31Ideal.main_v33)) (v2 : (c : Dev Cert.Kernel31Ideal.nD) → Buf (Elt Ideal) ((c.tc : Thread Cert.Kernel31Ideal.nD Cert.Kernel31Ideal.τ).loc Cert.Kernel31Ideal.main_v35)) (v3 : (c : Dev Cert.Kernel31Ideal.nD) → Buf (Elt Ideal) ((c.tc : Thread Cert.Kernel31Ideal.nD Cert.Kernel31Ideal.τ).loc Cert.Kernel31Ideal.main_v37)) (v4 : (c : Dev Cert.Kernel31Ideal.nD) → Buf (Elt Ideal) ((c.tc : Thread Cert.Kernel31Ideal.nD Cert.Kernel31Ideal.τ).loc Cert.Kernel31Ideal.main_v38)) (v5 : (c : Dev Cert.Kernel31Ideal.nD) → Buf (Elt Ideal) ((c.tc : Thread Cert.Kernel31Ideal.nD Cert.Kernel31Ideal.τ).loc Cert.Kernel31Ideal.main_v41)) (v6 : (c : Dev Cert.Kernel31Ideal.nD) → Buf (Elt Ideal) ((c.tc : Thread Cert.Kernel31Ideal.nD Cert.Kernel31Ideal.τ).loc Cert.Kernel31Ideal.main_v43)) (v7 : (c : Dev Cert.Kernel31Ideal.nD) → Buf (Elt Ideal) ((c.tc : Thread Cert.Kernel31Ideal.nD Cert.Kernel31Ideal.τ).loc Cert.Kernel31Ideal.main_v45)) (v8 : (c : Dev Cert.Kernel31Ideal.nD) → Buf (Elt Ideal) ((c.tc : Thread Cert.Kernel31Ideal.nD Cert.Kernel31Ideal.τ).loc Cert.Kernel31Ideal.main_v47)) (v9 : (c : Dev Cert.Kernel31Ideal.nD) → Buf (Elt Ideal) ((c.tc : Thread Cert.Kernel31Ideal.nD Cert.Kernel31Ideal.τ).loc Cert.Kernel31Ideal.main_v48)) (v10 : (c : Dev Cert.Kernel31Ideal.nD) → Buf (Elt Ideal) ((c.tc : Thread Cert.Kernel31Ideal.nD Cert.Kernel31Ideal.τ).loc Cert.Kernel31Ideal.main_v51)) (v11 : (c : Dev Cert.Kernel31Ideal.nD) → Buf (Elt Ideal) ((c.tc : Thread Cert.Kernel31Ideal.nD Cert.Kernel31Ideal.τ).loc Cert.Kernel31Ideal.main_v53)) (v12 : (c : Dev Cert.Kernel31Ideal.nD) → Buf (Elt Ideal) ((c.tc : Thread Cert.Kernel31Ideal.nD Cert.Kernel31Ideal.τ).loc Cert.Kernel31Ideal.main_v55)) (v13 : (c : Dev Cert.Kernel31Ideal.nD) → Buf (Elt Ideal) ((c.tc : Thread Cert.Kernel31Ideal.nD Cert.Kernel31Ideal.τ).loc Cert.Kernel31Ideal.main_v57)) (v14 : (c : Dev Cert.Kernel31Ideal.nD) → Buf (Elt Ideal) ((c.tc : Thread Cert.Kernel31Ideal.nD Cert.Kernel31Ideal.τ).loc Cert.Kernel31Ideal.main_v58)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v31) = v0 c
          ∧ r.2.mem ((c.tc : Thread Cert.Kernel31Ideal.nD Cert.Kernel31Ideal.τ).loc Cert.Kernel31Ideal.main_v33) = v1 c
          ∧ r.2.mem ((c.tc : Thread Cert.Kernel31Ideal.nD Cert.Kernel31Ideal.τ).loc Cert.Kernel31Ideal.main_v35) = v2 c
          ∧ r.2.mem ((c.tc : Thread Cert.Kernel31Ideal.nD Cert.Kernel31Ideal.τ).loc Cert.Kernel31Ideal.main_v37) = v3 c
          ∧ r.2.mem ((c.tc : Thread Cert.Kernel31Ideal.nD Cert.Kernel31Ideal.τ).loc Cert.Kernel31Ideal.main_v38) = v4 c
          ∧ r.2.mem ((c.tc : Thread Cert.Kernel31Ideal.nD Cert.Kernel31Ideal.τ).loc Cert.Kernel31Ideal.main_v41) = v5 c
          ∧ r.2.mem ((c.tc : Thread Cert.Kernel31Ideal.nD Cert.Kernel31Ideal.τ).loc Cert.Kernel31Ideal.main_v43) = v6 c
          ∧ r.2.mem ((c.tc : Thread Cert.Kernel31Ideal.nD Cert.Kernel31Ideal.τ).loc Cert.Kernel31Ideal.main_v45) = v7 c
          ∧ r.2.mem ((c.tc : Thread Cert.Kernel31Ideal.nD Cert.Kernel31Ideal.τ).loc Cert.Kernel31Ideal.main_v47) = v8 c
          ∧ r.2.mem ((c.tc : Thread Cert.Kernel31Ideal.nD Cert.Kernel31Ideal.τ).loc Cert.Kernel31Ideal.main_v48) = v9 c
          ∧ r.2.mem ((c.tc : Thread Cert.Kernel31Ideal.nD Cert.Kernel31Ideal.τ).loc Cert.Kernel31Ideal.main_v51) = v10 c
          ∧ r.2.mem ((c.tc : Thread Cert.Kernel31Ideal.nD Cert.Kernel31Ideal.τ).loc Cert.Kernel31Ideal.main_v53) = v11 c
          ∧ r.2.mem ((c.tc : Thread Cert.Kernel31Ideal.nD Cert.Kernel31Ideal.τ).loc Cert.Kernel31Ideal.main_v55) = v12 c
          ∧ r.2.mem ((c.tc : Thread Cert.Kernel31Ideal.nD Cert.Kernel31Ideal.τ).loc Cert.Kernel31Ideal.main_v57) = v13 c
          ∧ r.2.mem ((c.tc : Thread Cert.Kernel31Ideal.nD Cert.Kernel31Ideal.τ).loc Cert.Kernel31Ideal.main_v58) = v14 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
          ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
          ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5)
          ∧ r.2.mem ((c.tc : Thread Cert.Kernel31Ideal.nD Cert.Kernel31Ideal.τ).loc Cert.Kernel31Ideal.main_arg6) = m ((c.tc : Thread Cert.Kernel31Ideal.nD Cert.Kernel31Ideal.τ).loc Cert.Kernel31Ideal.main_arg6)
          ∧ r.2.mem ((c.tc : Thread Cert.Kernel31Ideal.nD Cert.Kernel31Ideal.τ).loc Cert.Kernel31Ideal.main_arg7) = m ((c.tc : Thread Cert.Kernel31Ideal.nD Cert.Kernel31Ideal.τ).loc Cert.Kernel31Ideal.main_arg7)
          ∧ r.2.mem ((c.tc : Thread Cert.Kernel31Ideal.nD Cert.Kernel31Ideal.τ).loc Cert.Kernel31Ideal.main_arg8) = m ((c.tc : Thread Cert.Kernel31Ideal.nD Cert.Kernel31Ideal.τ).loc Cert.Kernel31Ideal.main_arg8)
          ∧ r.2.mem ((c.tc : Thread Cert.Kernel31Ideal.nD Cert.Kernel31Ideal.τ).loc Cert.Kernel31Ideal.main_arg9) = m ((c.tc : Thread Cert.Kernel31Ideal.nD Cert.Kernel31Ideal.τ).loc Cert.Kernel31Ideal.main_arg9)
          ∧ r.2.mem ((c.tc : Thread Cert.Kernel31Ideal.nD Cert.Kernel31Ideal.τ).loc Cert.Kernel31Ideal.main_arg10) = m ((c.tc : Thread Cert.Kernel31Ideal.nD Cert.Kernel31Ideal.τ).loc Cert.Kernel31Ideal.main_arg10)
          ∧ r.2.mem ((c.tc : Thread Cert.Kernel31Ideal.nD Cert.Kernel31Ideal.τ).loc Cert.Kernel31Ideal.main_arg11) = m ((c.tc : Thread Cert.Kernel31Ideal.nD Cert.Kernel31Ideal.τ).loc Cert.Kernel31Ideal.main_arg11)
          ∧ r.2.mem ((c.tc : Thread Cert.Kernel31Ideal.nD Cert.Kernel31Ideal.τ).loc Cert.Kernel31Ideal.main_arg12) = m ((c.tc : Thread Cert.Kernel31Ideal.nD Cert.Kernel31Ideal.τ).loc Cert.Kernel31Ideal.main_arg12)
          ∧ r.2.mem ((c.tc : Thread Cert.Kernel31Ideal.nD Cert.Kernel31Ideal.τ).loc Cert.Kernel31Ideal.main_arg13) = m ((c.tc : Thread Cert.Kernel31Ideal.nD Cert.Kernel31Ideal.τ).loc Cert.Kernel31Ideal.main_arg13)
          ∧ r.2.mem ((c.tc : Thread Cert.Kernel31Ideal.nD Cert.Kernel31Ideal.τ).loc Cert.Kernel31Ideal.main_arg14) = m ((c.tc : Thread Cert.Kernel31Ideal.nD Cert.Kernel31Ideal.τ).loc Cert.Kernel31Ideal.main_arg14)
          ∧ r.2.mem ((c.tc : Thread Cert.Kernel31Ideal.nD Cert.Kernel31Ideal.τ).loc Cert.Kernel31Ideal.main_arg15) = m ((c.tc : Thread Cert.Kernel31Ideal.nD Cert.Kernel31Ideal.τ).loc Cert.Kernel31Ideal.main_arg15)
          ∧ r.2.mem ((c.tc : Thread Cert.Kernel31Ideal.nD Cert.Kernel31Ideal.τ).loc Cert.Kernel31Ideal.main_arg16) = m ((c.tc : Thread Cert.Kernel31Ideal.nD Cert.Kernel31Ideal.τ).loc Cert.Kernel31Ideal.main_arg16)
          ∧ r.2.mem ((c.tc : Thread Cert.Kernel31Ideal.nD Cert.Kernel31Ideal.τ).loc Cert.Kernel31Ideal.main_arg17) = m ((c.tc : Thread Cert.Kernel31Ideal.nD Cert.Kernel31Ideal.τ).loc Cert.Kernel31Ideal.main_arg17)
          ∧ r.2.mem ((c.tc : Thread Cert.Kernel31Ideal.nD Cert.Kernel31Ideal.τ).loc Cert.Kernel31Ideal.main_arg18) = m ((c.tc : Thread Cert.Kernel31Ideal.nD Cert.Kernel31Ideal.τ).loc Cert.Kernel31Ideal.main_arg18)
          ∧ r.2.mem ((c.tc : Thread Cert.Kernel31Ideal.nD Cert.Kernel31Ideal.τ).loc Cert.Kernel31Ideal.main_arg19) = m ((c.tc : Thread Cert.Kernel31Ideal.nD Cert.Kernel31Ideal.τ).loc Cert.Kernel31Ideal.main_arg19))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v23) = v0 c
          ∧ r.2.mem ((c.tc : Thread Cert.Reference31Ideal.nD Cert.Reference31Ideal.τ).loc Cert.Reference31Ideal.main_v47) = v1 c
          ∧ r.2.mem ((c.tc : Thread Cert.Reference31Ideal.nD Cert.Reference31Ideal.τ).loc Cert.Reference31Ideal.main_v71) = v2 c
          ∧ r.2.mem ((c.tc : Thread Cert.Reference31Ideal.nD Cert.Reference31Ideal.τ).loc Cert.Reference31Ideal.main_v95) = v3 c
          ∧ r.2.mem ((c.tc : Thread Cert.Reference31Ideal.nD Cert.Reference31Ideal.τ).loc Cert.Reference31Ideal.main_v119) = v4 c
          ∧ r.2.mem ((c.tc : Thread Cert.Reference31Ideal.nD Cert.Reference31Ideal.τ).loc Cert.Reference31Ideal.main_v4) = v5 c
          ∧ r.2.mem ((c.tc : Thread Cert.Reference31Ideal.nD Cert.Reference31Ideal.τ).loc Cert.Reference31Ideal.main_v28) = v6 c
          ∧ r.2.mem ((c.tc : Thread Cert.Reference31Ideal.nD Cert.Reference31Ideal.τ).loc Cert.Reference31Ideal.main_v52) = v7 c
          ∧ r.2.mem ((c.tc : Thread Cert.Reference31Ideal.nD Cert.Reference31Ideal.τ).loc Cert.Reference31Ideal.main_v76) = v8 c
          ∧ r.2.mem ((c.tc : Thread Cert.Reference31Ideal.nD Cert.Reference31Ideal.τ).loc Cert.Reference31Ideal.main_v100) = v9 c
          ∧ r.2.mem ((c.tc : Thread Cert.Reference31Ideal.nD Cert.Reference31Ideal.τ).loc Cert.Reference31Ideal.main_v10) = v10 c
          ∧ r.2.mem ((c.tc : Thread Cert.Reference31Ideal.nD Cert.Reference31Ideal.τ).loc Cert.Reference31Ideal.main_v34) = v11 c
          ∧ r.2.mem ((c.tc : Thread Cert.Reference31Ideal.nD Cert.Reference31Ideal.τ).loc Cert.Reference31Ideal.main_v58) = v12 c
          ∧ r.2.mem ((c.tc : Thread Cert.Reference31Ideal.nD Cert.Reference31Ideal.τ).loc Cert.Reference31Ideal.main_v82) = v13 c
          ∧ r.2.mem ((c.tc : Thread Cert.Reference31Ideal.nD Cert.Reference31Ideal.τ).loc Cert.Reference31Ideal.main_v106) = v14 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3)
          ∧ r.2.mem ((c.tc : Thread Cert.Reference31Ideal.nD Cert.Reference31Ideal.τ).loc Cert.Reference31Ideal.main_arg4) = m' ((c.tc : Thread Cert.Reference31Ideal.nD Cert.Reference31Ideal.τ).loc Cert.Reference31Ideal.main_arg4)
          ∧ r.2.mem ((c.tc : Thread Cert.Reference31Ideal.nD Cert.Reference31Ideal.τ).loc Cert.Reference31Ideal.main_arg5) = m' ((c.tc : Thread Cert.Reference31Ideal.nD Cert.Reference31Ideal.τ).loc Cert.Reference31Ideal.main_arg5)
          ∧ r.2.mem ((c.tc : Thread Cert.Reference31Ideal.nD Cert.Reference31Ideal.τ).loc Cert.Reference31Ideal.main_arg6) = m' ((c.tc : Thread Cert.Reference31Ideal.nD Cert.Reference31Ideal.τ).loc Cert.Reference31Ideal.main_arg6)
          ∧ r.2.mem ((c.tc : Thread Cert.Reference31Ideal.nD Cert.Reference31Ideal.τ).loc Cert.Reference31Ideal.main_arg7) = m' ((c.tc : Thread Cert.Reference31Ideal.nD Cert.Reference31Ideal.τ).loc Cert.Reference31Ideal.main_arg7)
          ∧ r.2.mem ((c.tc : Thread Cert.Reference31Ideal.nD Cert.Reference31Ideal.τ).loc Cert.Reference31Ideal.main_arg8) = m' ((c.tc : Thread Cert.Reference31Ideal.nD Cert.Reference31Ideal.τ).loc Cert.Reference31Ideal.main_arg8)
          ∧ r.2.mem ((c.tc : Thread Cert.Reference31Ideal.nD Cert.Reference31Ideal.τ).loc Cert.Reference31Ideal.main_arg9) = m' ((c.tc : Thread Cert.Reference31Ideal.nD Cert.Reference31Ideal.τ).loc Cert.Reference31Ideal.main_arg9)
          ∧ r.2.mem ((c.tc : Thread Cert.Reference31Ideal.nD Cert.Reference31Ideal.τ).loc Cert.Reference31Ideal.main_arg10) = m' ((c.tc : Thread Cert.Reference31Ideal.nD Cert.Reference31Ideal.τ).loc Cert.Reference31Ideal.main_arg10)
          ∧ r.2.mem ((c.tc : Thread Cert.Reference31Ideal.nD Cert.Reference31Ideal.τ).loc Cert.Reference31Ideal.main_arg11) = m' ((c.tc : Thread Cert.Reference31Ideal.nD Cert.Reference31Ideal.τ).loc Cert.Reference31Ideal.main_arg11)
          ∧ r.2.mem ((c.tc : Thread Cert.Reference31Ideal.nD Cert.Reference31Ideal.τ).loc Cert.Reference31Ideal.main_arg12) = m' ((c.tc : Thread Cert.Reference31Ideal.nD Cert.Reference31Ideal.τ).loc Cert.Reference31Ideal.main_arg12)
          ∧ r.2.mem ((c.tc : Thread Cert.Reference31Ideal.nD Cert.Reference31Ideal.τ).loc Cert.Reference31Ideal.main_arg13) = m' ((c.tc : Thread Cert.Reference31Ideal.nD Cert.Reference31Ideal.τ).loc Cert.Reference31Ideal.main_arg13)
          ∧ r.2.mem ((c.tc : Thread Cert.Reference31Ideal.nD Cert.Reference31Ideal.τ).loc Cert.Reference31Ideal.main_arg14) = m' ((c.tc : Thread Cert.Reference31Ideal.nD Cert.Reference31Ideal.τ).loc Cert.Reference31Ideal.main_arg14)
          ∧ r.2.mem ((c.tc : Thread Cert.Reference31Ideal.nD Cert.Reference31Ideal.τ).loc Cert.Reference31Ideal.main_arg15) = m' ((c.tc : Thread Cert.Reference31Ideal.nD Cert.Reference31Ideal.τ).loc Cert.Reference31Ideal.main_arg15)
          ∧ r.2.mem ((c.tc : Thread Cert.Reference31Ideal.nD Cert.Reference31Ideal.τ).loc Cert.Reference31Ideal.main_arg16) = m' ((c.tc : Thread Cert.Reference31Ideal.nD Cert.Reference31Ideal.τ).loc Cert.Reference31Ideal.main_arg16)
          ∧ r.2.mem ((c.tc : Thread Cert.Reference31Ideal.nD Cert.Reference31Ideal.τ).loc Cert.Reference31Ideal.main_arg17) = m' ((c.tc : Thread Cert.Reference31Ideal.nD Cert.Reference31Ideal.τ).loc Cert.Reference31Ideal.main_arg17)
          ∧ r.2.mem ((c.tc : Thread Cert.Reference31Ideal.nD Cert.Reference31Ideal.τ).loc Cert.Reference31Ideal.main_arg18) = m' ((c.tc : Thread Cert.Reference31Ideal.nD Cert.Reference31Ideal.τ).loc Cert.Reference31Ideal.main_arg18)
          ∧ r.2.mem ((c.tc : Thread Cert.Reference31Ideal.nD Cert.Reference31Ideal.τ).loc Cert.Reference31Ideal.main_arg19) = m' ((c.tc : Thread Cert.Reference31Ideal.nD Cert.Reference31Ideal.τ).loc Cert.Reference31Ideal.main_arg19))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hPre_finite : Cert.Pre_finite.Facts) (hPre_finite23 : Cert.Pre_finite23.Facts) (hPre_finite24 : Cert.Pre_finite24.Facts) (hPre_finite29 : Cert.Pre_finite29.Facts) (hPre_finite30 : Cert.Pre_finite30.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Kernel23Ideal_pre_finite23 (hKernel23Ideal := hKernel23Ideal) (hPre_finite23 := hPre_finite23)
    ∧ quiescent_Reference23Ideal (hReference23Ideal := hReference23Ideal)
    ∧ quiescent_Reference23Ideal_pre_finite23 (hReference23Ideal := hReference23Ideal) (hPre_finite23 := hPre_finite23)
    ∧ quiescent_Kernel24 (hKernel24 := hKernel24)
    ∧ quiescent_Kernel24Ideal (hKernel24Ideal := hKernel24Ideal)
    ∧ quiescent_Kernel24Ideal_pre_finite24 (hKernel24Ideal := hKernel24Ideal) (hPre_finite24 := hPre_finite24)
    ∧ quiescent_Reference24Ideal (hReference24Ideal := hReference24Ideal)
    ∧ quiescent_Reference24Ideal_pre_finite24 (hReference24Ideal := hReference24Ideal) (hPre_finite24 := hPre_finite24)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Kernel29Ideal_pre_finite29 (hKernel29Ideal := hKernel29Ideal) (hPre_finite29 := hPre_finite29)
    ∧ quiescent_Reference29Ideal (hReference29Ideal := hReference29Ideal)
    ∧ quiescent_Reference29Ideal_pre_finite29 (hReference29Ideal := hReference29Ideal) (hPre_finite29 := hPre_finite29)
    ∧ quiescent_Kernel30 (hKernel30 := hKernel30)
    ∧ quiescent_Kernel30Ideal (hKernel30Ideal := hKernel30Ideal)
    ∧ quiescent_Kernel30Ideal_pre_finite30 (hKernel30Ideal := hKernel30Ideal) (hPre_finite30 := hPre_finite30)
    ∧ quiescent_Reference30Ideal (hReference30Ideal := hReference30Ideal)
    ∧ quiescent_Reference30Ideal_pre_finite30 (hReference30Ideal := hReference30Ideal) (hPre_finite30 := hPre_finite30)
    ∧ quiescent_Kernel31 (hKernel31 := hKernel31)
    ∧ quiescent_Kernel31Ideal (hKernel31Ideal := hKernel31Ideal)
    ∧ quiescent_Reference31Ideal (hReference31Ideal := hReference31Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal_pre_finite23 (hKernel23Ideal := hKernel23Ideal) (hReference23Ideal := hReference23Ideal) (hPre_finite23 := hPre_finite23)
    ∧ preserves_Kernel24_Kernel24Ideal
    ∧ algebraic_Kernel24Ideal_Reference24Ideal_pre_finite24 (hKernel24Ideal := hKernel24Ideal) (hReference24Ideal := hReference24Ideal) (hPre_finite24 := hPre_finite24)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal_pre_finite29 (hKernel29Ideal := hKernel29Ideal) (hReference29Ideal := hReference29Ideal) (hPre_finite29 := hPre_finite29)
    ∧ preserves_Kernel30_Kernel30Ideal
    ∧ algebraic_Kernel30Ideal_Reference30Ideal_pre_finite30 (hKernel30Ideal := hKernel30Ideal) (hReference30Ideal := hReference30Ideal) (hPre_finite30 := hPre_finite30)
    ∧ preserves_Kernel31_Kernel31Ideal
    ∧ algebraic_Kernel31Ideal_Reference31Ideal (hKernel31Ideal := hKernel31Ideal) (hReference31Ideal := hReference31Ideal)
-- ==== Pre_finite.lean ====
abbrev S2048x6144 : Shape := ⟨2, ![2048, 6144]⟩
abbrev S2048x1024 : Shape := ⟨2, ![2048, 1024]⟩
abbrev S_ : Shape := ⟨0, ![]⟩

class Facts : Prop where
  bitsLt_bf16_f32 : FTy.bits .bf16 < FTy.bits .f32
  bcast_S_S2048x6144 : S_.BroadcastsInDim S2048x6144 (![] : Fin 0 → Fin S2048x6144.rank)
  reducesTo_S2048x6144_S_d0_1 : S2048x6144.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S2048x6144 .bf16) (main_arg1 : FVec F S2048x1024 .bf16) : IVec S_ 1 :=
  let main_v0 : FVec F S2048x6144 .f32 := (extf .f32 · bitsLt_bf16_f32) main_arg0
  let main_v1 : FVec F S2048x6144 .f32 := Host.absf main_v0
  let main_cst : FVec F S_ .f32 := constant S_ .f32 0x7F800000#32
  let main_v2 : FVec F S2048x6144 .f32 := broadcastInDim S2048x6144 ![] bcast_S_S2048x6144 main_cst
  let main_v3 : IVec S2048x6144 1 := cmpf .olt main_v1 main_v2
  let main_c : IVec S_ 1 := constantI S_ 1 1#1
  let main_v4 : IVec S_ 1 := (fun x v => Host.reduce IntOp.andi x v reducesTo_S2048x6144_S_d0_1 h_S_) main_v3 main_c
  let main_v5 : FVec F S2048x1024 .f32 := (extf .f32 · bitsLt_bf16_f32) main_arg1
  let main_v6 : FVec F S2048x1024 .f32 := Host.absf main_v5
  let main_cst_0 : FVec F S_ .f32 := constant S_ .f32 0x7F800000#32
  let main_v7 : FVec F S2048x1024 .f32 := broadcastInDim S2048x1024 ![] bcast_S_S2048x1024 main_cst_0
  let main_v8 : IVec S2048x1024 1 := cmpf .olt main_v6 main_v7
  let main_c_1 : IVec S_ 1 := constantI S_ 1 1#1
  let main_v9 : IVec S_ 1 := (fun x v => Host.reduce IntOp.andi x v reducesTo_S2048x1024_S_d0_1 h_S_) main_v8 main_c_1
  let main_v10 : IVec S_ 1 := andi main_v4 main_v9
  main_v10
-- ==== Pre_finite23.lean ====
abbrev S2048x5632 : Shape := ⟨2, ![2048, 5632]⟩
abbrev S2048x11264 : Shape := ⟨2, ![2048, 11264]⟩
abbrev S_ : Shape := ⟨0, ![]⟩

class Facts : Prop where
  bitsLt_bf16_f32 : FTy.bits .bf16 < FTy.bits .f32
  bcast_S_S2048x5632 : S_.BroadcastsInDim S2048x5632 (![] : Fin 0 → Fin S2048x5632.rank)
  reducesTo_S2048x5632_S_d0_1 : S2048x5632.ReducesTo [0, 1] S_
  h_S_ : 0 < S_.numel
  bcast_S_S2048x11264 : S_.BroadcastsInDim S2048x11264 (![] : Fin 0 → Fin S2048x11264.rank)
  reducesTo_S2048x11264_S_d0_1 : S2048x11264.ReducesTo [0, 1] S_

variable [Facts]

def fn {F : FTy → Type} [FloatOps F] (main_arg0 : FVec F S2048x5632 .bf16) (main_arg1 : FVec F S2048x11264 .bf16) : IVec S_ 1 :=
  let main_v0 : FVec F S2048x5632 .f32 := (extf .f32 · bitsLt_bf16_f32) main_arg0
  let main_v1 : FVec F S2048x5632 .f32 := Host.absf main_v0
  let main_cst : FVec F S_ .f32 := constant S_ .f32 0x7F800000#32
  let main_v2 : FVec F S2048x5632 .f32 := broadcastInDim S2048x5632 ![] bcast_S_S2048x5632 main_cst
  let main_v3 : IVec S2048x5632 1 := cmpf .olt main_v1 main_v2
  let main_c : IVec S_ 1 := constantI S_ 1 1#1
  let main_v4 : IVec S_ 1 := (fun x v => Host.reduce IntOp.andi x v reducesTo_S2048x5632_S_d0_1 h_S_) main_v3 main_c
  let main_v5 : FVec F S2048x11264 .f32 := (extf .f32 · bitsLt_bf16_f32) main_arg1
  let main_v6 : FVec F S2048x11264 .f32 := Host.absf main_v5
  let main_cst_0 : FVec F S_ .f32 := constant S_ .f32 0x7F800000#32
  let main_v7 : FVec F S2048x11264 .f32 := broadcastInDim S2048x11264 ![] bcast_S_S2048x11264 main_cst_0
  let main_v8 : IVec S2048x11264 1 := cmpf .olt main_v6 main_v7
  let main_c_1 : IVec S_ 1 := constantI S_ 1 1#1
  let main_v9 : IVec S_ 1 := (fun x v => Host.reduce IntOp.andi x v reducesTo_S2048x11264_S_d0_1 h_S_) main_v8 main_c_1
  let main_v10 : IVec S_ 1 := andi main_v4 main_v9
  main_v10
-- ==== Pre_finite24.lean ====
abbrev S2048x2048 : Shape := ⟨2, ![2048, 2048]⟩
abbrev S1x2048 : Shape := ⟨2, ![1, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  main_v18

def fn {F : FTy → Type} [FloatOps F] (main_arg0 : FVec F S2048x2048 .f32) (main_arg1 : FVec F S1x2048 .f32) (main_arg2 : FVec F S2048x2048 .f32) (main_arg3 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_v13 main_v16
-- ==== Pre_finite29.lean ====
abbrev S2048x6144 : Shape := ⟨2, ![2048, 6144]⟩
abbrev S_ : Shape := ⟨0, ![]⟩

class Facts : Prop where
  bitsLt_bf16_f32 : FTy.bits .bf16 < FTy.bits .f32
  bcast_S_S2048x6144 : S_.BroadcastsInDim S2048x6144 (![] : Fin 0 → Fin S2048x6144.rank)
  reducesTo_S2048x6144_S_d0_1 : S2048x6144.ReducesTo [0, 1] S_
  h_S_ : 0 < S_.numel

variable [Facts]

def fn {F : FTy → Type} [FloatOps F] (main_arg0 : FVec F S2048x6144 .bf16) : IVec S_ 1 :=
  let main_v0 : FVec F S2048x6144 .f32 := (extf .f32 · bitsLt_bf16_f32) main_arg0
  let main_v1 : FVec F S2048x6144 .f32 := Host.absf main_v0
  let main_cst : FVec F S_ .f32 := constant S_ .f32 0x7F800000#32
  let main_v2 : FVec F S2048x6144 .f32 := broadcastInDim S2048x6144 ![] bcast_S_S2048x6144 main_cst
  let main_v3 : IVec S2048x6144 1 := cmpf .olt main_v1 main_v2
  let main_c : IVec S_ 1 := constantI S_ 1 1#1
  let main_v4 : IVec S_ 1 := (fun x v => Host.reduce IntOp.andi x v reducesTo_S2048x6144_S_d0_1 h_S_) main_v3 main_c
  main_v4
-- ==== Pre_finite30.lean ====
abbrev S2048x2048 : Shape := ⟨2, ![2048, 2048]⟩
abbrev S1x2048 : Shape := ⟨2, ![1, 2048]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg4 : FVec F S2048x2048 .f32) (main_v15 : IVec S_ 1) (main_v16 : FVec F S1x2048 .f32) (main_cst_4 : FVec F S_ .f32) : IVec S_ 1 :=
  let main_v17 : FVec F S1x2048 .f32 := broadcastInDim S1x2048 ![] bcast_S_S1x2048 main_cst_4
  let main_v18 : IVec S1x2048 1 := cmpf .olt main_v16 main_v17
  let main_c_5 : IVec S_ 1 := constantI S_ 1 1#1
  let main_v19 : IVec S_ 1 := (fun x v => Host.reduce IntOp.andi x v reducesTo_S1x2048_S_d0_1 h_S_) main_v18 main_c_5
  let main_v20 : IVec S_ 1 := andi main_v15 main_v19
  let main_v21 : FVec F S2048x2048 .f32 := Host.absf main_arg4
  let main_cst_6 : FVec F S_ .f32 := constant S_ .f32 0x7F800000#32
  let main_v22 : FVec F S2048x2048 .f32 := broadcastInDim S2048x2048 ![] bcast_S_S2048x2048 main_cst_6
  let main_v23 : IVec S2048x2048 1 := cmpf .olt main_v21 main_v22
  let main_c_7 : IVec S_ 1 := constantI S_ 1 1#1
  let main_v24 : IVec S_ 1 := (fun x v => Host.reduce IntOp.andi x v reducesTo_S2048x2048_S_d0_1 h_S_) main_v23 main_c_7
  let main_v25 : IVec S_ 1 := andi main_v20 main_v24
  main_v25

def fn {F : FTy → Type} [FloatOps F] (main_arg0 : FVec F S2048x2048 .f32) (main_arg1 : FVec F S2048x2048 .bf16) (main_arg2 : FVec F S2048x2048 .bf16) (main_arg3 : FVec F S1x2048 .f32) (main_arg4 : FVec F S2048x2048 .f32) : IVec S_ 1 :=
  let main_v0 : FVec F S2048x2048 .f32 := (extf .f32 · bitsLt_bf16_f32) main_arg1
  let main_v1 : FVec F S2048x2048 .f32 := (extf .f32 · bitsLt_bf16_f32) main_arg2
  let main_v2 : FVec F S2048x2048 .f32 := Host.absf main_arg0
  let main_cst : FVec F S_ .f32 := constant S_ .f32 0x7F800000#32
  let main_v3 : FVec F S2048x2048 .f32 := broadcastInDim S2048x2048 ![] bcast_S_S2048x2048 main_cst
  let main_v4 : IVec S2048x2048 1 := cmpf .olt main_v2 main_v3
  let main_c : IVec S_ 1 := constantI S_ 1 1#1
  let main_v5 : IVec S_ 1 := (fun x v => Host.reduce IntOp.andi x v reducesTo_S2048x2048_S_d0_1 h_S_) main_v4 main_c
  let main_v6 : FVec F S2048x2048 .f32 := Host.absf main_v0
  let main_cst_0 : FVec F S_ .f32 := constant S_ .f32 0x7F800000#32
  let main_v7 : FVec F S2048x2048 .f32 := broadcastInDim S2048x2048 ![] bcast_S_S2048x2048 main_cst_0
  let main_v8 : IVec S2048x2048 1 := cmpf .olt main_v6 main_v7
  let main_c_1 : IVec S_ 1 := constantI S_ 1 1#1
  let main_v9 : IVec S_ 1 := (fun x v => Host.reduce IntOp.andi x v reducesTo_S2048x2048_S_d0_1 h_S_) main_v8 main_c_1
  let main_v10 : IVec S_ 1 := andi main_v5 main_v9
  let main_v11 : FVec F S2048x2048 .f32 := Host.absf main_v1
  let main_cst_2 : FVec F S_ .f32 := constant S_ .f32 0x7F800000#32
  let main_v12 : FVec F S2048x2048 .f32 := broadcastInDim S2048x2048 ![] bcast_S_S2048x2048 main_cst_2
  let main_v13 : IVec S2048x2048 1 := cmpf .olt main_v11 main_v12
  let main_c_3 : IVec S_ 1 := constantI S_ 1 1#1
  let main_v14 : IVec S_ 1 := (fun x v => Host.reduce IntOp.andi x v reducesTo_S2048x2048_S_d0_1 h_S_) main_v13 main_c_3
  let main_v15 : IVec S_ 1 := andi main_v10 main_v14
  let main_v16 : FVec F S1x2048 .f32 := Host.absf main_arg3
  let main_cst_4 : FVec F S_ .f32 := constant S_ .f32 0x7F800000#32
  fn_part1 (F := F) main_arg4 main_v15 main_v16 main_cst_4
-- ==== Kernel.lean ====
abbrev S2048x6144 : Shape := ⟨2, ![2048, 6144]⟩
abbrev S2048x1024 : Shape := ⟨2, ![2048, 1024]⟩
abbrev S512x128 : Shape := ⟨2, ![512, 128]⟩
abbrev S2048x128 : Shape := ⟨2, ![2048, 128]⟩
abbrev S4x512x512 : Shape := ⟨3, ![4, 512, 512]⟩
abbrev S128x128 : Shape := ⟨2, ![128, 128]⟩
abbrev S128x256 : Shape := ⟨2, ![128, 256]⟩
abbrev S512x512 : Shape := ⟨2, ![512, 512]⟩
abbrev S512x256 : Shape := ⟨2, ![512, 256]⟩
abbrev S1x512x512 : Shape := ⟨3, ![1, 512, 512]⟩

abbrev nBuf : Space → Nat
  | .hbm => 5
  | .vmem => 18
  | .smem => 0
  | _ => 0

abbrev bufTy : (tb : Table) → Fin (tcTables nBuf tb) → BufTy
  | .hbm, ⟨0, _⟩ => ⟨S2048x6144, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S2048x1024, .bf16⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S4x512x512, .f32⟩
  | .local _ .vmem, ⟨15, _⟩ => ⟨S4x512x512, .f32⟩
  | .local _ .vmem, ⟨16, _⟩ => ⟨S2048x128, .f32⟩
  | .local _ .vmem, ⟨17, _⟩ => ⟨S2048x128, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c512_i32 : BitVec 32 := 512#32
  let v14 : BitVec 32 := Scalar.muli arg1 c512_i32
  v14
def k0_off1 (i : grid0.Coords) : Fin 2 → Nat :=
  let arg1 : BitVec 32 := BitVec.ofNat 32 (i 1).val
  let c512_i32 : BitVec 32 := 512#32
  let v14 : BitVec 32 := Scalar.muli arg1 c512_i32
  let v15 : BitVec 32 := v14
  let v25 : Index := Scalar.indexCast v15
  let c0_7 : Index := 0#32
  ![v25.toNat, 0]
def k0_off2 (i : grid0.Coords) : Fin 3 → Nat :=
  let arg1 : BitVec 32 := BitVec.ofNat 32 (i 1).val
  let v96 : Index := Scalar.indexCast arg1
  let c0_27 : Index := 0#32
  let c0_28 : Index := 0#32
  ![v96.toNat, 0, 0]
@[reducible] def k0_t1_loop (i : grid0.Coords) : Scf.Loop 32 :=
  let c0_i32_34 : BitVec 32 := 0#32
  let arg1 : BitVec 32 := BitVec.ofNat 32 (i 1).val
  let v114 : BitVec 32 := Scalar.subi arg1 c0_i32_34
  let c1_i32 : BitVec 32 := 1#32
  let v116 : BitVec 32 := Scalar.divsi v114 c1_i32
  let v117 : BitVec 32 := Scalar.muli v116 c1_i32
  let v118 : BitVec 32 := Scalar.addi c0_i32_34 v117
  let c1_i32_35 : BitVec 32 := 1#32
  ⟨c0_i32_34, v118, c1_i32_35⟩
def k0_mult2 (i : grid0.Coords) (k0_t1 : Fin (k0_t1_loop i).trips) : BitVec 32 :=
  let arg1 : BitVec 32 := BitVec.ofNat 32 (i 1).val
  let c1_i32_70 : BitVec 32 := 1#32
  let v221 : BitVec 32 := Scalar.subi arg1 c1_i32_70
  let c0_i32_34 : BitVec 32 := 0#32
  let c1_i32_35 : BitVec 32 := 1#32
  let arg13 : BitVec 32 := Scf.iv c0_i32_34 c1_i32_35 k0_t1
  let v222 : BitVec 32 := Scalar.subi v221 arg13
  let c512_i32_71 : BitVec 32 := 512#32
  let v223 : BitVec 32 := Scalar.muli v222 c512_i32_71
  v223
def k0_off3 (i : grid0.Coords) (k0_t1 : Fin (k0_t1_loop i).trips) : Fin 2 → Nat :=
  let arg1 : BitVec 32 := BitVec.ofNat 32 (i 1).val
  let c1_i32_70 : BitVec 32 := 1#32
  let v221 : BitVec 32 := Scalar.subi arg1 c1_i32_70
  let c0_i32_34 : BitVec 32 := 0#32
  let c1_i32_35 : BitVec 32 := 1#32
  let arg13 : BitVec 32 := Scf.iv c0_i32_34 c1_i32_35 k0_t1
  let v222 : BitVec 32 := Scalar.subi v221 arg13
  let c512_i32_71 : BitVec 32 := 512#32
  let v223 : BitVec 32 := Scalar.muli v222 c512_i32_71
  let v224 : BitVec 32 := v223
  let v225 : Index := Scalar.indexCast v224
  let c0_72 : Index := 0#32
  ![v225.toNat, 0]
def k0_off4 (i : grid0.Coords) (k0_t1 : Fin (k0_t1_loop i).trips) : Fin 3 → Nat :=
  let arg1 : BitVec 32 := BitVec.ofNat 32 (i 1).val
  let c1_i32_70 : BitVec 32 := 1#32
  let v221 : BitVec 32 := Scalar.subi arg1 c1_i32_70
  let c0_i32_34 : BitVec 32 := 0#32
  let c1_i32_35 : BitVec 32 := 1#32
  let arg13 : BitVec 32 := Scf.iv c0_i32_34 c1_i32_35 k0_t1
  let v222 : BitVec 32 := Scalar.subi v221 arg13
  let v292 : Index := Scalar.indexCast v222
  let c0_90 : Index := 0#32
  let c0_91 : Index := 0#32
  ![v292.toNat, 0, 0]
@[reducible] def k0_t2_loop (i : grid0.Coords) : Scf.Loop 32 :=
  let c0_i32_34 : BitVec 32 := 0#32
  let arg1 : BitVec 32 := BitVec.ofNat 32 (i 1).val
  let v114 : BitVec 32 := Scalar.subi arg1 c0_i32_34
  let c1_i32 : BitVec 32 := 1#32
  let v116 : BitVec 32 := Scalar.divsi v114 c1_i32
  let v117 : BitVec 32 := Scalar.muli v116 c1_i32
  let v118 : BitVec 32 := Scalar.addi c0_i32_34 v117
  let v115 : BitVec 32 := Scalar.addi c0_i32_34 v114
  let c1_i32_36 : BitVec 32 := 1#32
  ⟨v118, v115, c1_i32_36⟩
def k0_mult3 (i : grid0.Coords) (k0_t2 : Fin (k0_t2_loop i).trips) : BitVec 32 :=
  let arg1 : BitVec 32 := BitVec.ofNat 32 (i 1).val
  let c1_i32_70 : BitVec 32 := 1#32
  let v221 : BitVec 32 := Scalar.subi arg1 c1_i32_70
  let c0_i32_34 : BitVec 32 := 0#32
  let v114 : BitVec 32 := Scalar.subi arg1 c0_i32_34
  let c1_i32 : BitVec 32 := 1#32
  let v116 : BitVec 32 := Scalar.divsi v114 c1_i32
  let v117 : BitVec 32 := Scalar.muli v116 c1_i32
  let v118 : BitVec 32 := Scalar.addi c0_i32_34 v117
  let c1_i32_36 : BitVec 32 := 1#32
  let arg13 : BitVec 32 := Scf.iv v118 c1_i32_36 k0_t2
  let v222 : BitVec 32 := Scalar.subi v221 arg13
  let c512_i32_71 : BitVec 32 := 512#32
  let v223 : BitVec 32 := Scalar.muli v222 c512_i32_71
  v223
def k0_off5 (i : grid0.Coords) (k0_t2 : Fin (k0_t2_loop i).trips) : Fin 2 → Nat :=
  let arg1 : BitVec 32 := BitVec.ofNat 32 (i 1).val
  let c1_i32_70 : BitVec 32 := 1#32
  let v221 : BitVec 32 := Scalar.subi arg1 c1_i32_70
  let c0_i32_34 : BitVec 32 := 0#32
  let v114 : BitVec 32 := Scalar.subi arg1 c0_i32_34
  let c1_i32 : BitVec 32 := 1#32
  let v116 : BitVec 32 := Scalar.divsi v114 c1_i32
  let v117 : BitVec 32 := Scalar.muli v116 c1_i32
  let v118 : BitVec 32 := Scalar.addi c0_i32_34 v117
  let c1_i32_36 : BitVec 32 := 1#32
  let arg13 : BitVec 32 := Scf.iv v118 c1_i32_36 k0_t2
  let v222 : BitVec 32 := Scalar.subi v221 arg13
  let c512_i32_71 : BitVec 32 := 512#32
  let v223 : BitVec 32 := Scalar.muli v222 c512_i32_71
  let v224 : BitVec 32 := v223
  let v225 : Index := Scalar.indexCast v224
  let c0_72 : Index := 0#32
  ![v225.toNat, 0]
def k0_off6 (i : grid0.Coords) (k0_t2 : Fin (k0_t2_loop i).trips) : Fin 3 → Nat :=
  let arg1 : BitVec 32 := BitVec.ofNat 32 (i 1).val
  let c1_i32_70 : BitVec 32 := 1#32
  let v221 : BitVec 32 := Scalar.subi arg1 c1_i32_70
  let c0_i32_34 : BitVec 32 := 0#32
  let v114 : BitVec 32 := Scalar.subi arg1 c0_i32_34
  let c1_i32 : BitVec 32 := 1#32
  let v116 : BitVec 32 := Scalar.divsi v114 c1_i32
  let v117 : BitVec 32 := Scalar.muli v116 c1_i32
  let v118 : BitVec 32 := Scalar.addi c0_i32_34 v117
  let c1_i32_36 : BitVec 32 := 1#32
  let arg13 : BitVec 32 := Scf.iv v118 c1_i32_36 k0_t2
  let v222 : BitVec 32 := Scalar.subi v221 arg13
  let v292 : Index := Scalar.indexCast v222
  let c0_90 : Index := 0#32
  let c0_91 : Index := 0#32
  ![v292.toNat, 0, 0]
@[reducible] def k0_t3_loop (i : grid0.Coords) : Scf.Loop 32 :=
  let c0_i32_40 : BitVec 32 := 0#32
  let arg1 : BitVec 32 := BitVec.ofNat 32 (i 1).val
  let v131 : BitVec 32 := Scalar.subi arg1 c0_i32_40
  let c1_i32_41 : BitVec 32 := 1#32
  let v133 : BitVec 32 := Scalar.divsi v131 c1_i32_41
  let v134 : BitVec 32 := Scalar.muli v133 c1_i32_41
  let v135 : BitVec 32 := Scalar.addi c0_i32_40 v134
  let c1_i32_42 : BitVec 32 := 1#32
  ⟨c0_i32_40, v135, c1_i32_42⟩
def k0_mult4 (i : grid0.Coords) (k0_t3 : Fin (k0_t3_loop i).trips) : BitVec 32 :=
  let c0_i32_40 : BitVec 32 := 0#32
  let c1_i32_42 : BitVec 32 := 1#32
  let arg13 : BitVec 32 := Scf.iv c0_i32_40 c1_i32_42 k0_t3
  let c512_i32_70 : BitVec 32 := 512#32
  let v221 : BitVec 32 := Scalar.muli arg13 c512_i32_70
  v221
def k0_off7 (i : grid0.Coords) (k0_t3 : Fin (k0_t3_loop i).trips) : Fin 2 → Nat :=
  let c0_i32_40 : BitVec 32 := 0#32
  let c1_i32_42 : BitVec 32 := 1#32
  let arg13 : BitVec 32 := Scf.iv c0_i32_40 c1_i32_42 k0_t3
  let c512_i32_70 : BitVec 32 := 512#32
  let v221 : BitVec 32 := Scalar.muli arg13 c512_i32_70
  let v222 : BitVec 32 := v221
  let v223 : Index := Scalar.indexCast v222
  let c0_71 : Index := 0#32
  ![v223.toNat, 0]
def k0_off8 (i : grid0.Coords) (k0_t3 : Fin (k0_t3_loop i).trips) : Fin 3 → Nat :=
  let c0_i32_40 : BitVec 32 := 0#32
  let c1_i32_42 : BitVec 32 := 1#32
  let arg13 : BitVec 32 := Scf.iv c0_i32_40 c1_i32_42 k0_t3
  let v225 : Index := Scalar.indexCast arg13
  let c0_72 : Index := 0#32
  let c0_73 : Index := 0#32
  ![v225.toNat, 0, 0]
@[reducible] def k0_t4_loop (i : grid0.Coords) : Scf.Loop 32 :=
  let c0_i32_40 : BitVec 32 := 0#32
  let arg1 : BitVec 32 := BitVec.ofNat 32 (i 1).val
  let v131 : BitVec 32 := Scalar.subi arg1 c0_i32_40
  let c1_i32_41 : BitVec 32 := 1#32
  let v133 : BitVec 32 := Scalar.divsi v131 c1_i32_41
  let v134 : BitVec 32 := Scalar.muli v133 c1_i32_41
  let v135 : BitVec 32 := Scalar.addi c0_i32_40 v134
  let v132 : BitVec 32 := Scalar.addi c0_i32_40 v131
  let c1_i32_43 : BitVec 32 := 1#32
  ⟨v135, v132, c1_i32_43⟩
def k0_mult5 (i : grid0.Coords) (k0_t4 : Fin (k0_t4_loop i).trips) : BitVec 32 :=
  let c0_i32_40 : BitVec 32 := 0#32
  let arg1 : BitVec 32 := BitVec.ofNat 32 (i 1).val
  let v131 : BitVec 32 := Scalar.subi arg1 c0_i32_40
  let c1_i32_41 : BitVec 32 := 1#32
  let v133 : BitVec 32 := Scalar.divsi v131 c1_i32_41
  let v134 : BitVec 32 := Scalar.muli v133 c1_i32_41
  let v135 : BitVec 32 := Scalar.addi c0_i32_40 v134
  let c1_i32_43 : BitVec 32 := 1#32
  let arg13 : BitVec 32 := Scf.iv v135 c1_i32_43 k0_t4
  let c512_i32_70 : BitVec 32 := 512#32
  let v221 : BitVec 32 := Scalar.muli arg13 c512_i32_70
  v221
def k0_off9 (i : grid0.Coords) (k0_t4 : Fin (k0_t4_loop i).trips) : Fin 2 → Nat :=
  let c0_i32_40 : BitVec 32 := 0#32
  let arg1 : BitVec 32 := BitVec.ofNat 32 (i 1).val
  let v131 : BitVec 32 := Scalar.subi arg1 c0_i32_40
  let c1_i32_41 : BitVec 32 := 1#32
  let v133 : BitVec 32 := Scalar.divsi v131 c1_i32_41
  let v134 : BitVec 32 := Scalar.muli v133 c1_i32_41
  let v135 : BitVec 32 := Scalar.addi c0_i32_40 v134
  let c1_i32_43 : BitVec 32 := 1#32
  let arg13 : BitVec 32 := Scf.iv v135 c1_i32_43 k0_t4
  let c512_i32_70 : BitVec 32 := 512#32
  let v221 : BitVec 32 := Scalar.muli arg13 c512_i32_70
  let v222 : BitVec 32 := v221
  let v223 : Index := Scalar.indexCast v222
  let c0_71 : Index := 0#32
  ![v223.toNat, 0]
def k0_off10 (i : grid0.Coords) (k0_t4 : Fin (k0_t4_loop i).trips) : Fin 3 → Nat :=
  let c0_i32_40 : BitVec 32 := 0#32
  let arg1 : BitVec 32 := BitVec.ofNat 32 (i 1).val
  let v131 : BitVec 32 := Scalar.subi arg1 c0_i32_40
  let c1_i32_41 : BitVec 32 := 1#32
  let v133 : BitVec 32 := Scalar.divsi v131 c1_i32_41
  let v134 : BitVec 32 := Scalar.muli v133 c1_i32_41
  let v135 : BitVec 32 := Scalar.addi c0_i32_40 v134
  let c1_i32_43 : BitVec 32 := 1#32
  let arg13 : BitVec 32 := Scf.iv v135 c1_i32_43 k0_t4
  let v225 : Index := Scalar.indexCast arg13
  let c0_72 : Index := 0#32
  let c0_73 : Index := 0#32
  ![v225.toNat, 0, 0]
def k0_mult6 (i : grid0.Coords) : BitVec 32 :=
  let arg1 : BitVec 32 := BitVec.ofNat 32 (i 1).val
  let c512_i32_44 : BitVec 32 := 512#32
  let v138 : BitVec 32 := Scalar.muli arg1 c512_i32_44
  v138
def k0_cond2 (i : grid0.Coords) : BitVec 1 :=
  let arg1 : BitVec 32 := BitVec.ofNat 32 (i 1).val
  let c3_i32 : BitVec 32 := 3#32
  let v218 : BitVec 1 := Scalar.cmpi .eq arg1 c3_i32
  let v219 : BitVec 32 := Scalar.extui v218
  let c0_i32_69 : BitVec 32 := 0#32
  let v220 : BitVec 1 := Scalar.cmpi .ne v219 c0_i32_69
  v220

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S2048x6144 : Shape := ⟨2, ![2048, 6144]⟩
abbrev S2048x1024 : Shape := ⟨2, ![2048, 1024]⟩
abbrev S2048x8x128 : Shape := ⟨3, ![2048, 8, 128]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x128x2048 : Shape := ⟨3, ![8, 128, 2048]⟩
abbrev S8x2048x128 : Shape := ⟨3, ![8, 2048, 128]⟩

abbrev nBuf : Space → Nat
  | .hbm => 178
  | .vmem => 0
  | .smem => 0
  | _ => 0

abbrev hbmTy0_0 (i : Nat) : BufTy := match i % 128 with
  | 0 => ⟨S2048x6144, .bf16⟩
  | 1 => ⟨S2048x1024, .bf16⟩
  | 2 => ⟨S2048x6144, .f32⟩
  | 3 => ⟨S2048x1024, .f32⟩
  | 4 => ⟨S2048x8x128, .f32⟩
  | 5 => ⟨S2048x1024, .f32⟩
  | 6 => ⟨S2048x8x128, .f32⟩
  | 7 => ⟨S2048x1024, .f32⟩
  | 8 => ⟨S2048x8x128, .f32⟩
  | 9 => ⟨S2048x1024, .f32⟩
  | 10 => ⟨S2048x8x128, .f32⟩
  | 11 => ⟨S8x2048x2048, .f32⟩
  | 12 => ⟨S_, .f32⟩
  | 13 => ⟨S8x2048x2048, .f32⟩
  | 14 => ⟨S8x2048x2048, .f32⟩
  | 15 => ⟨S2048, .i32⟩
  | 16 => ⟨S1x2048, .i32⟩
  | 17 => ⟨S2048, .i32⟩
  | 18 => ⟨S2048x1, .i32⟩
  | 19 => ⟨S2048x2048, .i32⟩
  | 20 => ⟨S2048x2048, .i32⟩
  | 21 => ⟨S2048x2048, .i1⟩
  | 22 => ⟨S8x2048x2048, .f32⟩
  | 23 => ⟨S8x2048x2048, .f32⟩
  | 24 => ⟨S_, .f32⟩
  | 25 => ⟨S8x2048x2048, .f32⟩
  | 26 => ⟨S8x2048x2048, .f32⟩
  | 27 => ⟨S8x2048x2048, .f32⟩
  | 28 => ⟨S8x2048x2048, .f32⟩
  | 29 => ⟨S8x2048x2048, .i1⟩
  | 30 => ⟨S8x2048x2048, .f32⟩
  | 31 => ⟨S8x2048x2048, .f32⟩
  | 32 => ⟨S8x2048x2048, .f32⟩
  | 33 => ⟨S8x2048x2048, .f32⟩
  | 34 => ⟨S8x2048x2048, .f32⟩
  | 35 => ⟨S8x2048x2048, .f32⟩
  | 36 => ⟨S8x2048x2048, .f32⟩
  | 37 => ⟨S8x2048x2048, .f32⟩
  | 38 => ⟨S_, .f32⟩
  | 39 => ⟨S8x2048x2048, .f32⟩
  | 40 => ⟨S8x2048x2048, .i1⟩
  | 41 => ⟨S_, .f32⟩
  | 42 => ⟨S8x2048x2048, .f32⟩
  | 43 => ⟨S8x2048x2048, .f32⟩
  | 44 => ⟨S_, .f32⟩
  | 45 => ⟨S8x2048x2048, .f32⟩
  | 46 => ⟨S8x2048x2048, .i1⟩
  | 47 => ⟨S_, .f32⟩
  | 48 => ⟨S8x2048x2048, .f32⟩
  | 49 => ⟨S8x2048x2048, .f32⟩
  | 50 => ⟨S8x2048x2048, .f32⟩
  | 51 => ⟨S8x2048x2048, .f32⟩
  | 52 => ⟨S_, .f32⟩
  | 53 => ⟨S_, .f32⟩
  | 54 => ⟨S_, .i1⟩
  | 55 => ⟨S_, .f32⟩
  | 56 => ⟨S_, .f32⟩
  | 57 => ⟨S_, .f32⟩
  | 58 => ⟨S_, .f32⟩
  | 59 => ⟨S8x2048x2048, .f32⟩
  | 60 => ⟨S8x2048x2048, .i1⟩
  | 61 => ⟨S_, .f32⟩
  | 62 => ⟨S8x2048x2048, .f32⟩
  | 63 => ⟨S8x2048x2048, .f32⟩
  | 64 => ⟨S8x2048x2048, .f32⟩
  | 65 => ⟨S8x2048x2048, .f32⟩
  | 66 => ⟨S8x2048x2048, .f32⟩
  | 67 => ⟨S_, .f32⟩
  | 68 => ⟨S8x2048x2048, .f32⟩
  | 69 => ⟨S8x2048x2048, .f32⟩
  | 70 => ⟨S8x2048x2048, .f32⟩
  | 71 => ⟨S_, .f32⟩
  | 72 => ⟨S_, .f32⟩
  | 73 => ⟨S8x2048x2048, .i1⟩
  | 74 => ⟨S8x2048x2048, .f32⟩
  | 75 => ⟨S8x2048x2048, .f32⟩
  | 76 => ⟨S_, .f32⟩
  | 77 => ⟨S8x2048x2048, .f32⟩
  | 78 => ⟨S_, .f32⟩
  | 79 => ⟨S_, .f32⟩
  | 80 => ⟨S8x2048x2048, .f32⟩
  | 81 => ⟨S8x2048x2048, .f32⟩
  | 82 => ⟨S8x2048x2048, .f32⟩
  | 83 => ⟨S_, .f32⟩
  | 84 => ⟨S8x2048x2048, .f32⟩
  | 85 => ⟨S8x2048x2048, .f32⟩
  | 86 => ⟨S8x2048x2048, .f32⟩
  | 87 => ⟨S8x2048x2048, .f32⟩
  | 88 => ⟨S8x2048x2048, .i1⟩
  | 89 => ⟨S8x2048x2048, .f32⟩
  | 90 => ⟨S8x2048x2048, .f32⟩
  | 91 => ⟨S8x2048x2048, .f32⟩
  | 92 => ⟨S8x2048x2048, .f32⟩
  | 93 => ⟨S8x2048x2048, .f32⟩
  | 94 => ⟨S8x2048x2048, .f32⟩
  | 95 => ⟨S8x2048x2048, .f32⟩
  | 96 => ⟨S8x2048x2048, .f32⟩
  | 97 => ⟨S_, .f32⟩
  | 98 => ⟨S8x2048x2048, .f32⟩
  | 99 => ⟨S8x2048x2048, .i1⟩
  | 100 => ⟨S_, .f32⟩
  | 101 => ⟨S8x2048x2048, .f32⟩
  | 102 => ⟨S8x2048x2048, .f32⟩
  | 103 => ⟨S_, .f32⟩
  | 104 => ⟨S8x2048x2048, .f32⟩
  | 105 => ⟨S8x2048x2048, .i1⟩
  | 106 => ⟨S_, .f32⟩
  | 107 => ⟨S8x2048x2048, .f32⟩
  | 108 => ⟨S8x2048x2048, .f32⟩
  | 109 => ⟨S8x2048x2048, .f32⟩
  | 110 => ⟨S8x2048x2048, .f32⟩
  | 111 => ⟨S_, .f32⟩
  | 112 => ⟨S_, .f32⟩
  | 113 => ⟨S_, .i1⟩
  | 114 => ⟨S_, .f32⟩
  | 115 => ⟨S_, .f32⟩
  | 116 => ⟨S_, .f32⟩
  | 117 => ⟨S_, .f32⟩
  | 118 => ⟨S8x2048x2048, .f32⟩
  | 119 => ⟨S8x2048x2048, .i1⟩
  | 120 => ⟨S_, .f32⟩
  | 121 => ⟨S8x2048x2048, .f32⟩
  | 122 => ⟨S8x2048x2048, .f32⟩
  | 123 => ⟨S8x2048x2048, .f32⟩
  | 124 => ⟨S8x2048x2048, .f32⟩
  | 125 => ⟨S8x2048x2048, .f32⟩
  | 126 => ⟨S_, .f32⟩
  | 127 => ⟨S8x2048x2048, .f32⟩
  | _ => ⟨S2048x6144, .bf16⟩

abbrev hbmTy0_1 (i : Nat) : BufTy := match i % 128 with
  | 0 => ⟨S8x2048x2048, .f32⟩
  | 1 => ⟨S8x2048x2048, .f32⟩
  | 2 => ⟨S8x2048x2048, .f32⟩
  | 3 => ⟨S8x2048x2048, .f32⟩
  | 4 => ⟨S_, .f32⟩
  | 5 => ⟨S_, .f32⟩
  | 6 => ⟨S8x2048x2048, .i1⟩
  | 7 => ⟨S8x2048x2048, .f32⟩
  | 8 => ⟨S8x2048x2048, .f32⟩
  | 9 => ⟨S_, .f32⟩
  | 10 => ⟨S8x2048x2048, .f32⟩
  | 11 => ⟨S8x128x2048, .f32⟩
  | 12 => ⟨S2048x8x128, .f32⟩
  | 13 => ⟨S8x128x2048, .f32⟩
  | 14 => ⟨S8x2048x2048, .f32⟩
  | 15 => ⟨S8x128x2048, .f32⟩
  | 16 => ⟨S2048x8x128, .f32⟩
  | 17 => ⟨S_, .f32⟩
  | 18 => ⟨S8x2048x2048, .f32⟩
  | 19 => ⟨S8x2048x2048, .f32⟩
  | 20 => ⟨S8x2048x2048, .f32⟩
  | 21 => ⟨S8x2048x2048, .f32⟩
  | 22 => ⟨S8x2048x2048, .f32⟩
  | 23 => ⟨S8x2048x2048, .f32⟩
  | 24 => ⟨S8x2048x2048, .f32⟩
  | 25 => ⟨S_, .f32⟩
  | 26 => ⟨S_, .f32⟩
  | 27 => ⟨S8x2048x2048, .f32⟩
  | 28 => ⟨S8x2048x2048, .f32⟩
  | 29 => ⟨S_, .f32⟩
  | 30 => ⟨S8x2048x2048, .f32⟩
  | 31 => ⟨S8x2048x2048, .f32⟩
  | 32 => ⟨S8x2048x2048, .f32⟩
  | 33 => ⟨S8x2048x2048, .f32⟩
  | 34 => ⟨S8x2048x2048, .f32⟩
  | 35 => ⟨S8x2048x2048, .f32⟩
  | 36 => ⟨S8x2048x2048, .f32⟩
  | 37 => ⟨S_, .f32⟩
  | 38 => ⟨S8x2048x2048, .f32⟩
  | 39 => ⟨S8x2048x2048, .f32⟩
  | 40 => ⟨S8x2048x128, .f32⟩
  | 41 => ⟨S2048x8x128, .f32⟩
  | 42 => ⟨S8x2048x128, .f32⟩
  | 43 => ⟨S2048x8x128, .f32⟩
  | 44 => ⟨S2048x1024, .f32⟩
  | 45 => ⟨S2048x1024, .bf16⟩
  | 46 => ⟨S2048x1024, .f32⟩
  | 47 => ⟨S2048x1024, .bf16⟩
  | 48 => ⟨S2048x1024, .f32⟩
  | 49 => ⟨S2048x1024, .bf16⟩
  | _ => ⟨S2048x6144, .bf16⟩

abbrev hbmTy (i : Nat) : BufTy := match i / 128 with
  | 0 => hbmTy0_0 i
  | 1 => hbmTy0_1 i
  | _ => ⟨S2048x6144, .bf16⟩

abbrev bufTy : (tb : Table) → Fin (tcTables nBuf tb) → BufTy
  | .hbm, ⟨i, _⟩ => hbmTy i
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1_0 : Ref sig .tc := ⟨.hbm, 37, rfl⟩
abbrev main_call0_call0_cst_0 : Ref sig .tc := ⟨.hbm, 38, rfl⟩
abbrev main_call0_call0_v13 : Ref sig .tc := ⟨.hbm, 39, rfl⟩
abbrev main_call0_call0_v14 : Ref sig .tc := ⟨.hbm, 40, rfl⟩
abbrev main_call0_call0_cst_1 : Ref sig .tc := ⟨.hbm, 41, rfl⟩
abbrev main_call0_call0_v15 : Ref sig .tc := ⟨.hbm, 42, rfl⟩
abbrev main_call0_call0_v16 : Ref sig .tc := ⟨.hbm, 43, rfl⟩
abbrev main_call0_call0_cst_2 : Ref sig .tc := ⟨.hbm, 44, rfl⟩
abbrev main_call0_call0_v17 : Ref sig .tc := ⟨.hbm, 45, rfl⟩
abbrev main_call0_call0_v18 : Ref sig .tc := ⟨.hbm, 46, rfl⟩
abbrev main_call0_call0_cst_3 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_v21 : Ref sig .tc := ⟨.hbm, 50, rfl⟩
abbrev main_v20_1 : Ref sig .tc := ⟨.hbm, 51, rfl⟩
abbrev main_call0_call0_cst_4 : Ref sig .tc := ⟨.hbm, 52, rfl⟩
abbrev main_call0_call0_cst_5 : Ref sig .tc := ⟨.hbm, 53, rfl⟩
abbrev main_call0_call0_v23 : Ref sig .tc := ⟨.hbm, 54, rfl⟩
abbrev main_call0_call0_cst_6 : Ref sig .tc := ⟨.hbm, 55, rfl⟩
abbrev main_call0_call0_cst_7 : Ref sig .tc := ⟨.hbm, 56, rfl⟩
abbrev main_call0_call0_v24 : Ref sig .tc := ⟨.hbm, 57, rfl⟩
abbrev main_call0_call0_cst_8 : Ref sig .tc := ⟨.hbm, 58, rfl⟩
abbrev main_call0_call0_v25 : Ref sig .tc := ⟨.hbm, 59, rfl⟩
abbrev main_call0_call0_v26 : Ref sig .tc := ⟨.hbm, 60, rfl⟩
abbrev main_call0_call0_cst_9 : Ref sig .tc := ⟨.hbm, 61, rfl⟩
abbrev main_call0_call0_v27 : Ref sig .tc := ⟨.hbm, 62, rfl⟩
abbrev main_call0_call0_v28 : Ref sig .tc := ⟨.hbm, 63, rfl⟩
abbrev main_call0_call0_v29 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_cst_10 : Ref sig .tc := ⟨.hbm, 67, rfl⟩
abbrev main_call0_call0_v32 : Ref sig .tc := ⟨.hbm, 68, rfl⟩
abbrev main_v20_2 : Ref sig .tc := ⟨.hbm, 69, rfl⟩
abbrev main_v20_0 : Ref sig .tc := ⟨.hbm, 70, rfl⟩
abbrev main_cst_0 : Ref sig .tc := ⟨.hbm, 71, rfl⟩
abbrev main_call1_v0 : Ref sig .tc := ⟨.hbm, 72, rfl⟩
abbrev main_v21_1 : Ref sig .tc := ⟨.hbm, 73, rfl⟩
abbrev main_call1_v2 : Ref sig .tc := ⟨.hbm, 74, rfl⟩
abbrev main_v21_0 : Ref sig .tc := ⟨.hbm, 75, rfl⟩
abbrev main_call1_cst : Ref sig .tc := ⟨.hbm, 76, rfl⟩
abbrev main_v21_2 : Ref sig .tc := ⟨.hbm, 77, rfl⟩
abbrev main_call2_cst : Ref sig .tc := ⟨.hbm, 78, rfl⟩
abbrev main_call2_v0 : Ref sig .tc := ⟨.hbm, 79, rfl⟩
abbrev main_v22 : Ref sig .tc := ⟨.hbm, 80, rfl⟩
abbrev main_v23 : Ref sig .tc := ⟨.hbm, 81, rfl⟩
abbrev main_call3_v0 : Ref sig .tc := ⟨.hbm, 82, rfl⟩
abbrev main_call3_call0_cst : Ref sig .tc := ⟨.hbm, 83, rfl⟩
abbrev main_call3_call0_v0 : Ref sig .tc := ⟨.hbm, 84, rfl⟩
abbrev main_call3_call0_v1 : Ref sig .tc := ⟨.hbm, 85, rfl⟩
abbrev main_call3_call0_v2 : Ref sig .tc := ⟨.hbm, 86, rfl⟩
abbrev main_call3_call0_v3 : Ref sig .tc := ⟨.hbm, 87, rfl⟩
abbrev main_call3_call0_v4 : Ref sig .tc := ⟨.hbm, 88, rfl⟩
abbrev main_call3_call0_v5 : Ref sig .tc := ⟨.hbm, 89, rfl⟩
abbrev main_call3_call0_v6 : Ref sig .tc := ⟨.hbm, 90, rfl⟩
abbrev main_call3_call0_v7 : Ref sig .tc := ⟨.hbm, 91, rfl⟩
abbrev main_call3_call0_v8 : Ref sig .tc := ⟨.hbm, 92, rfl⟩
abbrev main_call3_call0_v9 : Ref sig .tc := ⟨.hbm, 93, rfl⟩
abbrev main_call3_call0_v10 : Ref sig .tc := ⟨.hbm, 94, rfl⟩
abbrev main_call3_call0_v11 : Ref sig .tc := ⟨.hbm, 95, rfl⟩
abbrev main_call3_v1_0 : Ref sig .tc := ⟨.hbm, 96, rfl⟩
abbrev main_call3_call0_cst_0 : Ref sig .tc := ⟨.hbm, 97, rfl⟩
abbrev main_call3_call0_v13 : Ref sig .tc := ⟨.hbm, 98, rfl⟩
abbrev main_call3_call0_v14 : Ref sig .tc := ⟨.hbm, 99, rfl⟩
abbrev main_call3_call0_cst_1 : Ref sig .tc := ⟨.hbm, 100, rfl⟩
abbrev main_call3_call0_v15 : Ref sig .tc := ⟨.hbm, 101, rfl⟩
abbrev main_call3_call0_v16 : Ref sig .tc := ⟨.hbm, 102, rfl⟩
abbrev main_call3_call0_cst_2 : Ref sig .tc := ⟨.hbm, 103, rfl⟩
abbrev main_call3_call0_v17 : Ref sig .tc := ⟨.hbm, 104, rfl⟩
abbrev main_call3_call0_v18 : Ref sig .tc := ⟨.hbm, 105, rfl⟩
abbrev main_call3_call0_cst_3 : Ref sig .tc := ⟨.hbm, 106, rfl⟩
abbrev main_call3_call0_v19 : Ref sig .tc := ⟨.hbm, 107, rfl⟩
abbrev main_call3_call0_v20 : Ref sig .tc := ⟨.hbm, 108, rfl⟩
abbrev main_call3_call0_v21 : Ref sig .tc := ⟨.hbm, 109, rfl⟩
abbrev main_v24_1 : Ref sig .tc := ⟨.hbm, 110, rfl⟩
abbrev main_call3_call0_cst_4 : Ref sig .tc := ⟨.hbm, 111, rfl⟩
abbrev main_call3_call0_cst_5 : Ref sig .tc := ⟨.hbm, 112, rfl⟩
abbrev main_call3_call0_v23 : Ref sig .tc := ⟨.hbm, 113, rfl⟩
abbrev main_call3_call0_cst_6 : Ref sig .tc := ⟨.hbm, 114, rfl⟩
abbrev main_call3_call0_cst_7 : Ref sig .tc := ⟨.hbm, 115, rfl⟩
abbrev main_call3_call0_v24 : Ref sig .tc := ⟨.hbm, 116, rfl⟩
abbrev main_call3_call0_cst_8 : Ref sig .tc := ⟨.hbm, 117, rfl⟩
abbrev main_call3_call0_v25 : Ref sig .tc := ⟨.hbm, 118, rfl⟩
abbrev main_call3_call0_v26 : Ref sig .tc := ⟨.hbm, 119, rfl⟩
abbrev main_call3_call0_cst_9 : Ref sig .tc := ⟨.hbm, 120, rfl⟩
abbrev main_call3_call0_v27 : Ref sig .tc := ⟨.hbm, 121, rfl⟩
abbrev main_call3_call0_v28 : Ref sig .tc := ⟨.hbm, 122, rfl⟩
abbrev main_call3_call0_v29 : Ref sig .tc := ⟨.hbm, 123, rfl⟩
abbrev main_call3_call0_v30 : Ref sig .tc := ⟨.hbm, 124, rfl⟩
abbrev main_call3_call0_v31 : Ref sig .tc := ⟨.hbm, 125, rfl⟩
abbrev main_call3_call0_cst_10 : Ref sig .tc := ⟨.hbm, 126, rfl⟩
abbrev main_call3_call0_v32 : Ref sig .tc := ⟨.hbm, 127, rfl⟩
abbrev main_v24_2 : Ref sig .tc := ⟨.hbm, 128, rfl⟩
abbrev main_v24_0 : Ref sig .tc := ⟨.hbm, 129, rfl⟩
abbrev main_v25 : Ref sig .tc := ⟨.hbm, 130, rfl⟩
abbrev main_v26 : Ref sig .tc := ⟨.hbm, 131, rfl⟩
abbrev main_cst_1 : Ref sig .tc := ⟨.hbm, 132, rfl⟩
abbrev main_call4_v0 : Ref sig .tc := ⟨.hbm, 133, rfl⟩
abbrev main_v27_1 : Ref sig .tc := ⟨.hbm, 134, rfl⟩
abbrev main_call4_v2 : Ref sig .tc := ⟨.hbm, 135, rfl⟩
abbrev main_v27_0 : Ref sig .tc := ⟨.hbm, 136, rfl⟩
abbrev main_call4_cst : Ref sig .tc := ⟨.hbm, 137, rfl⟩
abbrev main_v27_2 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_call5_cst : Ref sig .tc := ⟨.hbm, 145, rfl⟩
abbrev main_call5_v0 : Ref sig .tc := ⟨.hbm, 146, rfl⟩
abbrev main_v34 : Ref sig .tc := ⟨.hbm, 147, rfl⟩
abbrev main_v35 : Ref sig .tc := ⟨.hbm, 148, rfl⟩
abbrev main_call6_v0 : Ref sig .tc := ⟨.hbm, 149, rfl⟩
abbrev main_call6_v1 : Ref sig .tc := ⟨.hbm, 150, rfl⟩
abbrev main_v36 : Ref sig .tc := ⟨.hbm, 151, rfl⟩
abbrev main_v37 : Ref sig .tc := ⟨.hbm, 152, rfl⟩
abbrev main_call7_cst : Ref sig .tc := ⟨.hbm, 153, rfl⟩
abbrev main_call7_v0 : Ref sig .tc := ⟨.hbm, 154, rfl⟩
abbrev main_v38 : Ref sig .tc := ⟨.hbm, 155, rfl⟩
abbrev main_v39 : Ref sig .tc := ⟨.hbm, 156, rfl⟩
abbrev main_call8_cst : Ref sig .tc := ⟨.hbm, 157, rfl⟩
abbrev main_call8_v0 : Ref sig .tc := ⟨.hbm, 158, rfl⟩
abbrev main_v40 : Ref sig .tc := ⟨.hbm, 159, rfl⟩
abbrev main_call9_v0 : Ref sig .tc := ⟨.hbm, 160, rfl⟩
abbrev main_call9_v1 : Ref sig .tc := ⟨.hbm, 161, rfl⟩
abbrev main_v41 : Ref sig .tc := ⟨.hbm, 162, rfl⟩
abbrev main_v42 : Ref sig .tc := ⟨.hbm, 163, rfl⟩
abbrev main_v43 : Ref sig .tc := ⟨.hbm, 164, rfl⟩
abbrev main_cst_2 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩

abbrev nD : Nat := 1
abbrev τ : Topo := Topo.v7x

variable {F : FTy → Type} [FloatOps F]
-- ==== Kernel2.lean ====
abbrev S2048x2048 : Shape := ⟨2, ![2048, 2048]⟩
abbrev S2048x11264 : Shape := ⟨2, ![2048, 11264]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x11264, .f32⟩
  | .hbm, ⟨3, _⟩ => ⟨S2048x11264, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .f32⟩
  | .local _ .vmem, ⟨4, _⟩ => ⟨S2048x512, .f32⟩
  | .local _ .vmem, ⟨5, _⟩ => ⟨S2048x512, .bf16⟩
  | .local _ .vmem, ⟨6, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S2048x2048 : Shape := ⟨2, ![2048, 2048]⟩
abbrev S2048x11264 : Shape := ⟨2, ![2048, 11264]⟩
abbrev S_ : Shape := ⟨0, ![]⟩
abbrev S11264x2048 : Shape := ⟨2, ![11264, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x2048, .f32⟩
  | .hbm, ⟨3, _⟩ => ⟨S2048x11264, .f32⟩
  | .hbm, ⟨4, _⟩ => ⟨S_, .f32⟩
  | .hbm, ⟨5, _⟩ => ⟨S2048x11264, .f32⟩
  | .hbm, ⟨6, _⟩ => ⟨S2048x11264, .f32⟩
  | .hbm, ⟨7, _⟩ => ⟨S11264x2048, .f32⟩
  | .hbm, ⟨8, _⟩ => ⟨S2048x11264, .f32⟩
  | .hbm, ⟨9, _⟩ => ⟨S2048x11264, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S2048x11264 : Shape := ⟨2, ![2048, 11264]⟩
abbrev S2048x2048 : Shape := ⟨2, ![2048, 2048]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x11264, .bf16⟩
  | .hbm, ⟨1, _⟩ => ⟨S2048x11264, .bf16⟩
  | .hbm, ⟨2, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x11264 : Shape := ⟨2, ![2048, 11264]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S2048x11264, .bf16⟩
  | .hbm, ⟨2, _⟩ => ⟨S2048x11264, .f32⟩
  | .hbm, ⟨3, _⟩ => ⟨S2048x11264, .f32⟩
  | .hbm, ⟨4, _⟩ => ⟨S_, .f32⟩
  | .hbm, ⟨5, _⟩ => ⟨S2048x2048, .f32⟩
  | .hbm, ⟨6, _⟩ => ⟨S2048x11264, .f32⟩
  | .hbm, ⟨7, _⟩ => ⟨S2048x2048, .f32⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S2048x2048 : Shape := ⟨2, ![2048, 2048]⟩
abbrev S2048x10240 : Shape := ⟨2, ![2048, 10240]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x10240, .bf16⟩
  | .hbm, ⟨2, _⟩ => ⟨S2048x10240, .f32⟩
  | .hbm, ⟨3, _⟩ => ⟨S2048x10240, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .f32⟩
  | .local _ .vmem, ⟨4, _⟩ => ⟨S2048x512, .f32⟩
  | .local _ .vmem, ⟨5, _⟩ => ⟨S2048x512, .bf16⟩
  | .local _ .vmem, ⟨6, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 20, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S2048x2048 : Shape := ⟨2, ![2048, 2048]⟩
abbrev S2048x10240 : Shape := ⟨2, ![2048, 10240]⟩
abbrev S_ : Shape := ⟨0, ![]⟩
abbrev S10240x2048 : Shape := ⟨2, ![10240, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x10240, .bf16⟩
  | .hbm, ⟨2, _⟩ => ⟨S2048x2048, .f32⟩
  | .hbm, ⟨3, _⟩ => ⟨S2048x10240, .f32⟩
  | .hbm, ⟨4, _⟩ => ⟨S_, .f32⟩
  | .hbm, ⟨5, _⟩ => ⟨S2048x10240, .f32⟩
  | .hbm, ⟨6, _⟩ => ⟨S2048x10240, .f32⟩
  | .hbm, ⟨7, _⟩ => ⟨S10240x2048, .f32⟩
  | .hbm, ⟨8, _⟩ => ⟨S2048x10240, .f32⟩
  | .hbm, ⟨9, _⟩ => ⟨S2048x10240, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S2048x10240 : Shape := ⟨2, ![2048, 10240]⟩
abbrev S2048x2048 : Shape := ⟨2, ![2048, 2048]⟩
abbrev S512x10240 : Shape := ⟨2, ![512, 10240]⟩
abbrev S256x10240 : Shape := ⟨2, ![256, 10240]⟩
abbrev S512x256 : Shape := ⟨2, ![512, 256]⟩

abbrev nBuf : Space → Nat
  | .hbm => 4
  | .vmem => 12
  | .smem => 0
  | _ => 0

abbrev bufTy : (tb : Table) → Fin (tcTables nBuf tb) → BufTy
  | .hbm, ⟨0, _⟩ => ⟨S2048x10240, .bf16⟩
  | .hbm, ⟨1, _⟩ => ⟨S2048x10240, .bf16⟩
  | .hbm, ⟨2, _⟩ => ⟨S2048x2048, .f32⟩
  | .hbm, ⟨3, _⟩ => ⟨S2048x2048, .f32⟩
  | .local _ .vmem, ⟨0, _⟩ => ⟨S512x10240, .bf16⟩
  | .local _ .vmem, ⟨1, _⟩ => ⟨S512x10240, .bf16⟩
  | .local _ .vmem, ⟨2, _⟩ => ⟨S256x10240, .bf16⟩
  | .local _ .vmem, ⟨3, _⟩ => ⟨S256x10240, .bf16⟩
  | .local _ .vmem, ⟨4, _⟩ => ⟨S512x256, .f32⟩
  | .local _ .vmem, ⟨5, _⟩ => ⟨S512x256, .f32⟩
  | .local _ .vmem, ⟨6, _⟩ => ⟨S512x10240, .bf16⟩
  | .local _ .vmem, ⟨7, _⟩ => ⟨S512x10240, .bf16⟩
  | .local _ .vmem, ⟨8, _⟩ => ⟨S256x10240, .bf16⟩
  | .local _ .vmem, ⟨9, _⟩ => ⟨S256x10240, .bf16⟩
  | .local _ .vmem, ⟨10, _⟩ => ⟨S512x256, .f32⟩
  | .local _ .vmem, ⟨11, _⟩ => ⟨S512x256, .f32⟩
  | _, _ => ⟨S2048x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S512x10240 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x10240 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  ![v0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  ![v0.toNat, arg1.toNat]

abbrev stage1_0 : Fin 2 → Memref sig .tc .vmem S512x10240 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S256x10240 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference5Ideal.lean ====
abbrev S2048x10240 : Shape := ⟨2, ![2048, 10240]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x10240, .bf16⟩
  | .hbm, ⟨1, _⟩ => ⟨S2048x10240, .bf16⟩
  | .hbm, ⟨2, _⟩ => ⟨S2048x10240, .f32⟩
  | .hbm, ⟨3, _⟩ => ⟨S2048x10240, .f32⟩
  | .hbm, ⟨4, _⟩ => ⟨S_, .f32⟩
  | .hbm, ⟨5, _⟩ => ⟨S2048x2048, .f32⟩
  | .hbm, ⟨6, _⟩ => ⟨S2048x10240, .f32⟩
  | .hbm, ⟨7, _⟩ => ⟨S2048x2048, .f32⟩
  | _, _ => ⟨S2048x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S2048x5632 : Shape := ⟨2, ![2048, 5632]⟩
abbrev S2048x2048 : Shape := ⟨2, ![2048, 2048]⟩
abbrev S5632x2048 : Shape := ⟨2, ![5632, 2048]⟩
abbrev S2048x512 : Shape := ⟨2, ![2048, 512]⟩
abbrev S512x2048 : Shape := ⟨2, ![512, 2048]⟩

abbrev nBuf : Space → Nat
  | .hbm => 4
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .f32⟩
  | .hbm, ⟨3, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .bf16⟩
  | .local _ .vmem, ⟨6, _⟩ => ⟨S512x2048, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S2048x5632, .f32⟩
  | .hbm, ⟨3, _⟩ => ⟨S2048x2048, .f32⟩
  | .hbm, ⟨4, _⟩ => ⟨S_, .f32⟩
  | .hbm, ⟨5, _⟩ => ⟨S5632x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S2048x2048 : Shape := ⟨2, ![2048, 2048]⟩
abbrev S5632x2048 : Shape := ⟨2, ![5632, 2048]⟩
abbrev S2048x5632 : Shape := ⟨2, ![2048, 5632]⟩
abbrev S512x2048 : Shape := ⟨2, ![512, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x5632, .bf16⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .bf16⟩
  | .local _ .vmem, ⟨4, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x2048 : Shape := ⟨2, ![2048, 2048]⟩
abbrev S5632x2048 : Shape := ⟨2, ![5632, 2048]⟩
abbrev S_ : Shape := ⟨0, ![]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x2048, .f32⟩
  | .hbm, ⟨3, _⟩ => ⟨S5632x2048, .f32⟩
  | .hbm, ⟨4, _⟩ => ⟨S_, .f32⟩
  | .hbm, ⟨5, _⟩ => ⟨S2048x5632, .f32⟩
  | .hbm, ⟨6, _⟩ => ⟨S2048x2048, .f32⟩
  | .hbm, ⟨7, _⟩ => ⟨S2048x5632, .f32⟩
  | .hbm, ⟨8, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S2048x2048 : Shape := ⟨2, ![2048, 2048]⟩
abbrev S2048x11264 : Shape := ⟨2, ![2048, 11264]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x11264, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x2048 : Shape := ⟨2, ![2048, 2048]⟩
abbrev S2048x11264 : Shape := ⟨2, ![2048, 11264]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x2048, .f32⟩
  | .hbm, ⟨3, _⟩ => ⟨S2048x11264, .f32⟩
  | .hbm, ⟨4, _⟩ => ⟨S2048x11264, .f32⟩
  | .hbm, ⟨5, _⟩ => ⟨S2048x11264, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S2048x2048 : Shape := ⟨2, ![2048, 2048]⟩
abbrev S2048x10240 : Shape := ⟨2, ![2048, 10240]⟩
abbrev S2048x6144 : Shape := ⟨2, ![2048, 6144]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x10240, .bf16⟩
  | .hbm, ⟨2, _⟩ => ⟨S2048x6144, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x2048 : Shape := ⟨2, ![2048, 2048]⟩
abbrev S2048x10240 : Shape := ⟨2, ![2048, 10240]⟩
abbrev S2048x6144 : Shape := ⟨2, ![2048, 6144]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x10240, .bf16⟩
  | .hbm, ⟨2, _⟩ => ⟨S2048x2048, .f32⟩
  | .hbm, ⟨3, _⟩ => ⟨S2048x10240, .f32⟩
  | .hbm, ⟨4, _⟩ => ⟨S2048x10240, .f32⟩
  | .hbm, ⟨5, _⟩ => ⟨S2048x6144, .f32⟩
  | .hbm, ⟨6, _⟩ => ⟨S2048x6144, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S2048x2048 : Shape := ⟨2, ![2048, 2048]⟩
abbrev S2048x10240 : Shape := ⟨2, ![2048, 10240]⟩
abbrev S2048x4096 : Shape := ⟨2, ![2048, 4096]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x10240, .bf16⟩
  | .hbm, ⟨2, _⟩ => ⟨S2048x4096, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi arg1 c12_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x2048 : Shape := ⟨2, ![2048, 2048]⟩
abbrev S2048x10240 : Shape := ⟨2, ![2048, 10240]⟩
abbrev S2048x4096 : Shape := ⟨2, ![2048, 4096]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x10240, .bf16⟩
  | .hbm, ⟨2, _⟩ => ⟨S2048x2048, .f32⟩
  | .hbm, ⟨3, _⟩ => ⟨S2048x10240, .f32⟩
  | .hbm, ⟨4, _⟩ => ⟨S2048x10240, .f32⟩
  | .hbm, ⟨5, _⟩ => ⟨S2048x4096, .f32⟩
  | .hbm, ⟨6, _⟩ => ⟨S2048x4096, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel11.lean ====
abbrev S2048x5632 : Shape := ⟨2, ![2048, 5632]⟩
abbrev S5632x2048 : Shape := ⟨2, ![5632, 2048]⟩
abbrev S2048x2048 : Shape := ⟨2, ![2048, 2048]⟩
abbrev S1024x5632 : Shape := ⟨2, ![1024, 5632]⟩
abbrev S5632x256 : Shape := ⟨2, ![5632, 256]⟩
abbrev S1024x256 : Shape := ⟨2, ![1024, 256]⟩

abbrev nBuf : Space → Nat
  | .hbm => 4
  | .vmem => 8
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x256, .bf16⟩
  | .local _ .vmem, ⟨3, _⟩ => ⟨S5632x256, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S2048x2048 : Shape := ⟨2, ![2048, 2048]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .f32⟩
  | .local _ .vmem, ⟨4, _⟩ => ⟨S2048x512, .f32⟩
  | .local _ .vmem, ⟨5, _⟩ => ⟨S2048x512, .bf16⟩
  | .local _ .vmem, ⟨6, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .bf16⟩
  | .local _ .vmem, ⟨4, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .f32⟩
  | .local _ .vmem, ⟨4, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S2048x2048 : Shape := ⟨2, ![2048, 2048]⟩
abbrev S2048x256 : Shape := ⟨2, ![2048, 256]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .local _ .vmem, ⟨0, _⟩ => ⟨S2048x2048, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S2048x2048 : Shape := ⟨2, ![2048, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel17.lean ====
abbrev S2048x1024 : Shape := ⟨2, ![2048, 1024]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S1024x2048, .f32⟩
  | .hbm, ⟨3, _⟩ => ⟨S1024x2048, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .bf16⟩
  | .local _ .vmem, ⟨6, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference17Ideal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S2048x1024, .f32⟩
  | .hbm, ⟨3, _⟩ => ⟨S2048x2048, .f32⟩
  | .hbm, ⟨4, _⟩ => ⟨S_, .f32⟩
  | .hbm, ⟨5, _⟩ => ⟨S1024x2048, .f32⟩
  | .hbm, ⟨6, _⟩ => ⟨S2048x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel18.lean ====
abbrev S2048x2048 : Shape := ⟨2, ![2048, 2048]⟩
abbrev S1024x2048 : Shape := ⟨2, ![1024, 2048]⟩
abbrev S2048x1024 : Shape := ⟨2, ![2048, 1024]⟩
abbrev S512x2048 : Shape := ⟨2, ![512, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S1024x2048, .bf16⟩
  | .hbm, ⟨2, _⟩ => ⟨S2048x1024, .bf16⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .bf16⟩
  | .local _ .vmem, ⟨4, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S2048x2048 : Shape := ⟨2, ![2048, 2048]⟩
abbrev S1024x2048 : Shape := ⟨2, ![1024, 2048]⟩
abbrev S_ : Shape := ⟨0, ![]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1024x2048, .bf16⟩
  | .hbm, ⟨2, _⟩ => ⟨S2048x2048, .f32⟩
  | .hbm, ⟨3, _⟩ => ⟨S1024x2048, .f32⟩
  | .hbm, ⟨4, _⟩ => ⟨S_, .f32⟩
  | .hbm, ⟨5, _⟩ => ⟨S2048x1024, .f32⟩
  | .hbm, ⟨6, _⟩ => ⟨S2048x2048, .f32⟩
  | .hbm, ⟨7, _⟩ => ⟨S2048x1024, .f32⟩
  | .hbm, ⟨8, _⟩ => ⟨S2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel19.lean ====
abbrev S2048x1024 : Shape := ⟨2, ![2048, 1024]⟩
abbrev S1024x2048 : Shape := ⟨2, ![1024, 2048]⟩
abbrev S2048x2048 : Shape := ⟨2, ![2048, 2048]⟩
abbrev S1024x512 : Shape := ⟨2, ![1024, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x2048, .bf16⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .bf16⟩
  | .local _ .vmem, ⟨4, _⟩ => ⟨S2048x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S2048x1024 : Shape := ⟨2, ![2048, 1024]⟩
abbrev S1024x2048 : Shape := ⟨2, ![1024, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x1024, .f32⟩
  | .hbm, ⟨3, _⟩ => ⟨S1024x2048, .f32⟩
  | .hbm, ⟨4, _⟩ => ⟨S2048x2048, .f32⟩
  | .hbm, ⟨5, _⟩ => ⟨S2048x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel20.lean ====
abbrev S2048x256 : Shape := ⟨2, ![2048, 256]⟩
abbrev S2048x2048 : Shape := ⟨2, ![2048, 2048]⟩
abbrev S256x2048 : Shape := ⟨2, ![256, 2048]⟩
abbrev S2048x512 : Shape := ⟨2, ![2048, 512]⟩
abbrev S256x512 : Shape := ⟨2, ![256, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x256, .f32⟩
  | .hbm, ⟨1, _⟩ => ⟨S2048x2048, .bf16⟩
  | .hbm, ⟨2, _⟩ => ⟨S256x2048, .f32⟩
  | .hbm, ⟨3, _⟩ => ⟨S256x2048, .bf16⟩
  | .local _ .vmem, ⟨0, _⟩ => ⟨S2048x256, .f32⟩
  | .local _ .vmem, ⟨1, _⟩ => ⟨S2048x512, .bf16⟩
  | .local _ .vmem, ⟨2, _⟩ => ⟨S2048x512, .bf16⟩
  | .local _ .vmem, ⟨3, _⟩ => ⟨S256x512, .f32⟩
  | .local _ .vmem, ⟨4, _⟩ => ⟨S256x512, .f32⟩
  | .local _ .vmem, ⟨5, _⟩ => ⟨S256x512, .bf16⟩
  | .local _ .vmem, ⟨6, _⟩ => ⟨S256x512, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference20Ideal.lean ====
abbrev S2048x256 : Shape := ⟨2, ![2048, 256]⟩
abbrev S2048x2048 : Shape := ⟨2, ![2048, 2048]⟩
abbrev S_ : Shape := ⟨0, ![]⟩
abbrev S256x2048 : Shape := ⟨2, ![256, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S256x2048, .f32⟩
  | .hbm, ⟨5, _⟩ => ⟨S2048x2048, .f32⟩
  | .hbm, ⟨6, _⟩ => ⟨S2048x256, .f32⟩
  | .hbm, ⟨7, _⟩ => ⟨S256x2048, .f32⟩
  | .hbm, ⟨8, _⟩ => ⟨S256x2048, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel21.lean ====
abbrev S2048x256 : Shape := ⟨2, ![2048, 256]⟩
abbrev S256x2048 : Shape := ⟨2, ![256, 2048]⟩
abbrev S2048x2048 : Shape := ⟨2, ![2048, 2048]⟩
abbrev S256x1024 : Shape := ⟨2, ![256, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x256, .f32⟩
  | .hbm, ⟨1, _⟩ => ⟨S256x2048, .bf16⟩
  | .hbm, ⟨2, _⟩ => ⟨S2048x2048, .bf16⟩
  | .local _ .vmem, ⟨0, _⟩ => ⟨S2048x256, .f32⟩
  | .local _ .vmem, ⟨1, _⟩ => ⟨S256x1024, .bf16⟩
  | .local _ .vmem, ⟨2, _⟩ => ⟨S256x1024, .bf16⟩
  | .local _ .vmem, ⟨3, _⟩ => ⟨S2048x1024, .bf16⟩
  | .local _ .vmem, ⟨4, _⟩ => ⟨S2048x1024, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S2048x256 : Shape := ⟨2, ![2048, 256]⟩
abbrev S256x2048 : Shape := ⟨2, ![256, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x2048, .bf16⟩
  | .hbm, ⟨2, _⟩ => ⟨S256x2048, .f32⟩
  | .hbm, ⟨3, _⟩ => ⟨S2048x2048, .f32⟩
  | .hbm, ⟨4, _⟩ => ⟨S2048x2048, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel22.lean ====
abbrev S2048x2048 : Shape := ⟨2, ![2048, 2048]⟩
abbrev S2048x4096 : Shape := ⟨2, ![2048, 4096]⟩
abbrev S256x1024 : Shape := ⟨2, ![256, 1024]⟩

abbrev nBuf : Space → Nat
  | .hbm => 8
  | .vmem => 18
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .bf16⟩
  | .hbm, ⟨2, _⟩ => ⟨S2048x2048, .bf16⟩
  | .hbm, ⟨3, _⟩ => ⟨S2048x2048, .bf16⟩
  | .hbm, ⟨4, _⟩ => ⟨S2048x2048, .bf16⟩
  | .hbm, ⟨5, _⟩ => ⟨S2048x2048, .bf16⟩
  | .hbm, ⟨6, _⟩ => ⟨S2048x2048, .bf16⟩
  | .hbm, ⟨7, _⟩ => ⟨S2048x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference22Ideal.lean ====
abbrev S2048x2048 : Shape := ⟨2, ![2048, 2048]⟩
abbrev S2048x4096 : Shape := ⟨2, ![2048, 4096]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .bf16⟩
  | .hbm, ⟨2, _⟩ => ⟨S2048x2048, .bf16⟩
  | .hbm, ⟨3, _⟩ => ⟨S2048x2048, .bf16⟩
  | .hbm, ⟨4, _⟩ => ⟨S2048x2048, .f32⟩
  | .hbm, ⟨5, _⟩ => ⟨S2048x4096, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .bf16⟩
  | .hbm, ⟨44, _⟩ => ⟨S2048x2048, .bf16⟩
  | .hbm, ⟨45, _⟩ => ⟨S2048x2048, .bf16⟩
  | .hbm, ⟨46, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Kernel23.lean ====
abbrev S2048x5632 : Shape := ⟨2, ![2048, 5632]⟩
abbrev S2048x11264 : Shape := ⟨2, ![2048, 11264]⟩
abbrev S128x5632 : Shape := ⟨2, ![128, 5632]⟩
abbrev S128x11264 : Shape := ⟨2, ![128, 11264]⟩
abbrev S128x512 : Shape := ⟨2, ![128, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x11264, .bf16⟩
  | .hbm, ⟨2, _⟩ => ⟨S2048x11264, .bf16⟩
  | .local _ .vmem, ⟨0, _⟩ => ⟨S128x5632, .bf16⟩
  | .local _ .vmem, ⟨1, _⟩ => ⟨S128x5632, .bf16⟩
  | .local _ .vmem, ⟨2, _⟩ => ⟨S128x11264, .bf16⟩
  | .local _ .vmem, ⟨3, _⟩ => ⟨S128x11264, .bf16⟩
  | .local _ .vmem, ⟨4, _⟩ => ⟨S128x11264, .bf16⟩
  | .local _ .vmem, ⟨5, _⟩ => ⟨S128x11264, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x11264 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x11264 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference23Ideal.lean ====
abbrev S2048x5632 : Shape := ⟨2, ![2048, 5632]⟩
abbrev S2048x11264 : Shape := ⟨2, ![2048, 11264]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x11264, .bf16⟩
  | .hbm, ⟨2, _⟩ => ⟨S2048x5632, .f32⟩
  | .hbm, ⟨3, _⟩ => ⟨S2048x11264, .f32⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S2048x5632, .f32⟩
  | .hbm, ⟨8, _⟩ => ⟨S_, .f32⟩
  | .hbm, ⟨9, _⟩ => ⟨S2048x5632, .f32⟩
  | .hbm, ⟨10, _⟩ => ⟨S2048x5632, .f32⟩
  | .hbm, ⟨11, _⟩ => ⟨S_, .f32⟩
  | .hbm, ⟨12, _⟩ => ⟨S2048x5632, .f32⟩
  | .hbm, ⟨13, _⟩ => ⟨S2048x5632, .f32⟩
  | .hbm, ⟨14, _⟩ => ⟨S_, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x11264, .f32⟩
  | .hbm, ⟨27, _⟩ => ⟨S2048x11264, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v4_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v4_1 : Ref sig .tc := ⟨.hbm, 17, rfl⟩
abbrev main_v4_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩

abbrev nD : Nat := 1
abbrev τ : Topo := Topo.v7x

variable {F : FTy → Type} [FloatOps F]
-- ==== Kernel24.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference24Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 48
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S_, .f32⟩
  | .hbm, ⟨41, _⟩ => ⟨S2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel25.lean ====
abbrev S2048x4096 : Shape := ⟨2, ![2048, 4096]⟩
abbrev S2048x2048 : Shape := ⟨2, ![2048, 2048]⟩
abbrev S256x1024 : Shape := ⟨2, ![256, 1024]⟩

abbrev nBuf : Space → Nat
  | .hbm => 4
  | .vmem => 10
  | .smem => 0
  | _ => 0

abbrev bufTy : (tb : Table) → Fin (tcTables nBuf tb) → BufTy
  | .hbm, ⟨0, _⟩ => ⟨S2048x4096, .bf16⟩
  | .hbm, ⟨1, _⟩ => ⟨S2048x2048, .bf16⟩
  | .hbm, ⟨2, _⟩ => ⟨S2048x2048, .bf16⟩
  | .hbm, ⟨3, _⟩ => ⟨S2048x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference25Ideal.lean ====
abbrev S2048x4096 : Shape := ⟨2, ![2048, 4096]⟩
abbrev S2048x2048 : Shape := ⟨2, ![2048, 2048]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x2048, .bf16⟩
  | .hbm, ⟨2, _⟩ => ⟨S2048x2048, .bf16⟩
  | .hbm, ⟨3, _⟩ => ⟨S2048x4096, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel26.lean ====
abbrev S2048x11264 : Shape := ⟨2, ![2048, 11264]⟩
abbrev S2048x5632 : Shape := ⟨2, ![2048, 5632]⟩
abbrev S128x11264 : Shape := ⟨2, ![128, 11264]⟩
abbrev S128x5632 : Shape := ⟨2, ![128, 5632]⟩
abbrev S128x512 : Shape := ⟨2, ![128, 512]⟩

abbrev nBuf : Space → Nat
  | .hbm => 2
  | .vmem => 4
  | .smem => 0
  | _ => 0

abbrev bufTy : (tb : Table) → Fin (tcTables nBuf tb) → BufTy
  | .hbm, ⟨0, _⟩ => ⟨S2048x11264, .bf16⟩
  | .hbm, ⟨1, _⟩ => ⟨S2048x5632, .bf16⟩
  | .local _ .vmem, ⟨0, _⟩ => ⟨S128x11264, .bf16⟩
  | .local _ .vmem, ⟨1, _⟩ => ⟨S128x11264, .bf16⟩
  | .local _ .vmem, ⟨2, _⟩ => ⟨S128x5632, .bf16⟩
  | .local _ .vmem, ⟨3, _⟩ => ⟨S128x5632, .bf16⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x11264 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference26Ideal.lean ====
abbrev S2048x11264 : Shape := ⟨2, ![2048, 11264]⟩
abbrev S2048x5632 : Shape := ⟨2, ![2048, 5632]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S2048x11264, .f32⟩
  | .hbm, ⟨2, _⟩ => ⟨S2048x5632, .f32⟩
  | .hbm, ⟨3, _⟩ => ⟨S2048x5632, .f32⟩
  | .hbm, ⟨4, _⟩ => ⟨S2048x5632, .f32⟩
  | .hbm, ⟨5, _⟩ => ⟨S2048x5632, .f32⟩
  | .hbm, ⟨6, _⟩ => ⟨S_, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S2048x5632, .f32⟩
  | .hbm, ⟨13, _⟩ => ⟨S2048x5632, .f32⟩
  | .hbm, ⟨14, _⟩ => ⟨S2048x5632, .bf16⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]
-- ==== Kernel27.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference27Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel28.lean ====
abbrev S2048x2560 : Shape := ⟨2, ![2048, 2560]⟩
abbrev S64x2560 : Shape := ⟨2, ![64, 2560]⟩

abbrev nBuf : Space → Nat
  | .hbm => 8
  | .vmem => 16
  | .smem => 0
  | _ => 0

abbrev bufTy : (tb : Table) → Fin (tcTables nBuf tb) → BufTy
  | .hbm, ⟨0, _⟩ => ⟨S2048x2560, .f32⟩
  | .hbm, ⟨1, _⟩ => ⟨S2048x2560, .f32⟩
  | .hbm, ⟨2, _⟩ => ⟨S2048x2560, .f32⟩
  | .hbm, ⟨3, _⟩ => ⟨S2048x2560, .f32⟩
  | .hbm, ⟨4, _⟩ => ⟨S2048x2560, .f32⟩
  | .hbm, ⟨5, _⟩ => ⟨S2048x2560, .f32⟩
  | .hbm, ⟨6, _⟩ => ⟨S2048x2560, .f32⟩
  | .hbm, ⟨7, _⟩ => ⟨S2048x2560, .f32⟩
  | .local _ .vmem, ⟨0, _⟩ => ⟨S64x2560, .f32⟩
  | .local _ .vmem, ⟨1, _⟩ => ⟨S64x2560, .f32⟩
  | .local _ .vmem, ⟨2, _⟩ => ⟨S64x2560, .f32⟩
  | .local _ .vmem, ⟨3, _⟩ => ⟨S64x2560, .f32⟩
  | .local _ .vmem, ⟨4, _⟩ => ⟨S64x2560, .f32⟩
  | .local _ .vmem, ⟨5, _⟩ => ⟨S64x2560, .f32⟩
  | .local _ .vmem, ⟨6, _⟩ => ⟨S64x2560, .f32⟩
  | .local _ .vmem, ⟨7, _⟩ => ⟨S64x2560, .f32⟩
  | .local _ .vmem, ⟨8, _⟩ => ⟨S64x2560, .f32⟩
  | .local _ .vmem, ⟨9, _⟩ => ⟨S64x2560, .f32⟩
  | .local _ .vmem, ⟨10, _⟩ => ⟨S64x2560, .f32⟩
  | .local _ .vmem, ⟨11, _⟩ => ⟨S64x2560, .f32⟩
  | .local _ .vmem, ⟨12, _⟩ => ⟨S64x2560, .f32⟩
  | .local _ .vmem, ⟨13, _⟩ => ⟨S64x2560, .f32⟩
  | .local _ .vmem, ⟨14, _⟩ => ⟨S64x2560, .f32⟩
  | .local _ .vmem, ⟨15, _⟩ => ⟨S64x2560, .f32⟩
  | _, _ => ⟨S2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S64x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x2560 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference28Ideal.lean ====
abbrev S2048x2560 : Shape := ⟨2, ![2048, 2560]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2560, .f32⟩
  | .hbm, ⟨1, _⟩ => ⟨S2048x2560, .f32⟩
  | .hbm, ⟨2, _⟩ => ⟨S2048x2560, .f32⟩
  | .hbm, ⟨3, _⟩ => ⟨S2048x2560, .f32⟩
  | .hbm, ⟨4, _⟩ => ⟨S_, .f32⟩
  | .hbm, ⟨5, _⟩ => ⟨S2048x2560, .f32⟩
  | .hbm, ⟨6, _⟩ => ⟨S2048x2560, .f32⟩
  | .hbm, ⟨7, _⟩ => ⟨S_, .f32⟩
  | .hbm, ⟨8, _⟩ => ⟨S2048x2560, .f32⟩
  | .hbm, ⟨9, _⟩ => ⟨S2048x2560, .f32⟩
  | .hbm, ⟨10, _⟩ => ⟨S2048x2560, .f32⟩
  | .hbm, ⟨11, _⟩ => ⟨S_, .f32⟩
  | .hbm, ⟨12, _⟩ => ⟨S2048x2560, .f32⟩
  | .hbm, ⟨13, _⟩ => ⟨S2048x2560, .f32⟩
  | .hbm, ⟨14, _⟩ => ⟨S2048x2560, .f32⟩
  | .hbm, ⟨15, _⟩ => ⟨S_, .f32⟩
  | .hbm, ⟨16, _⟩ => ⟨S2048x2560, .f32⟩
  | .hbm, ⟨17, _⟩ => ⟨S2048x2560, .f32⟩
  | .hbm, ⟨18, _⟩ => ⟨S2048x2560, .f32⟩
  | .hbm, ⟨19, _⟩ => ⟨S_, .f32⟩
  | .hbm, ⟨20, _⟩ => ⟨S2048x2560, .f32⟩
  | .hbm, ⟨21, _⟩ => ⟨S2048x2560, .f32⟩
  | .hbm, ⟨22, _⟩ => ⟨S_, .f32⟩
  | .hbm, ⟨23, _⟩ => ⟨S2048x2560, .f32⟩
  | .hbm, ⟨24, _⟩ => ⟨S2048x2560, .f32⟩
  | .hbm, ⟨25, _⟩ => ⟨S2048x2560, .f32⟩
  | .hbm, ⟨26, _⟩ => ⟨S_, .f32⟩
  | .hbm, ⟨27, _⟩ => ⟨S2048x2560, .f32⟩
  | .hbm, ⟨28, _⟩ => ⟨S2048x2560, .f32⟩
  | .hbm, ⟨29, _⟩ => ⟨S2048x2560, .f32⟩
  | .hbm, ⟨30, _⟩ => ⟨S_, .f32⟩
  | .hbm, ⟨31, _⟩ => ⟨S2048x2560, .f32⟩
  | .hbm, ⟨32, _⟩ => ⟨S2048x2560, .f32⟩
  | .hbm, ⟨33, _⟩ => ⟨S2048x2560, .f32⟩
  | .hbm, ⟨34, _⟩ => ⟨S_, .f32⟩
  | .hbm, ⟨35, _⟩ => ⟨S2048x2560, .f32⟩
  | .hbm, ⟨36, _⟩ => ⟨S2048x2560, .f32⟩
  | _, _ => ⟨S2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S2048x6144 : Shape := ⟨2, ![2048, 6144]⟩
abbrev S2048x1024 : Shape := ⟨2, ![2048, 1024]⟩
abbrev S512x128 : Shape := ⟨2, ![512, 128]⟩
abbrev S2048x128 : Shape := ⟨2, ![2048, 128]⟩
abbrev S128x128 : Shape := ⟨2, ![128, 128]⟩
abbrev S128x256 : Shape := ⟨2, ![128, 256]⟩
abbrev S512x512 : Shape := ⟨2, ![512, 512]⟩
abbrev S512x256 : Shape := ⟨2, ![512, 256]⟩

abbrev nBuf : Space → Nat
  | .hbm => 2
  | .vmem => 8
  | .smem => 0
  | _ => 0

abbrev bufTy : (tb : Table) → Fin (tcTables nBuf tb) → BufTy
  | .hbm, ⟨0, _⟩ => ⟨S2048x6144, .bf16⟩
  | .hbm, ⟨1, _⟩ => ⟨S2048x1024, .bf16⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x128, .bf16⟩
  | .local _ .vmem, ⟨7, _⟩ => ⟨S512x128, .bf16⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c512_i32 : BitVec 32 := 512#32
  let v11 : BitVec 32 := Scalar.muli arg1 c512_i32
  v11
def k0_off1 (i : grid0.Coords) : Fin 2 → Nat :=
  let arg1 : BitVec 32 := BitVec.ofNat 32 (i 1).val
  let c512_i32 : BitVec 32 := 512#32
  let v11 : BitVec 32 := Scalar.muli arg1 c512_i32
  let v12 : BitVec 32 := v11
  let v22 : Index := Scalar.indexCast v12
  let c0_5 : Index := 0#32
  ![v22.toNat, 0]
@[reducible] def k0_t1_loop (i : grid0.Coords) : Scf.Loop 32 :=
  let c0_i32 : BitVec 32 := 0#32
  let arg1 : BitVec 32 := BitVec.ofNat 32 (i 1).val
  let v94 : BitVec 32 := Scalar.subi arg1 c0_i32
  let c1_i32 : BitVec 32 := 1#32
  let v96 : BitVec 32 := Scalar.divsi v94 c1_i32
  let v97 : BitVec 32 := Scalar.muli v96 c1_i32
  let v98 : BitVec 32 := Scalar.addi c0_i32 v97
  let c1_i32_25 : BitVec 32 := 1#32
  ⟨c0_i32, v98, c1_i32_25⟩
def k0_mult2 (i : grid0.Coords) (k0_t1 : Fin (k0_t1_loop i).trips) : BitVec 32 :=
  let arg1 : BitVec 32 := BitVec.ofNat 32 (i 1).val
  let c1_i32_29 : BitVec 32 := 1#32
  let v103 : BitVec 32 := Scalar.subi arg1 c1_i32_29
  let c0_i32 : BitVec 32 := 0#32
  let c1_i32_25 : BitVec 32 := 1#32
  let arg6 : BitVec 32 := Scf.iv c0_i32 c1_i32_25 k0_t1
  let v104 : BitVec 32 := Scalar.subi v103 arg6
  let c512_i32_30 : BitVec 32 := 512#32
  let v105 : BitVec 32 := Scalar.muli v104 c512_i32_30
  v105
def k0_off2 (i : grid0.Coords) (k0_t1 : Fin (k0_t1_loop i).trips) : Fin 2 → Nat :=
  let arg1 : BitVec 32 := BitVec.ofNat 32 (i 1).val
  let c1_i32_29 : BitVec 32 := 1#32
  let v103 : BitVec 32 := Scalar.subi arg1 c1_i32_29
  let c0_i32 : BitVec 32 := 0#32
  let c1_i32_25 : BitVec 32 := 1#32
  let arg6 : BitVec 32 := Scf.iv c0_i32 c1_i32_25 k0_t1
  let v104 : BitVec 32 := Scalar.subi v103 arg6
  let c512_i32_30 : BitVec 32 := 512#32
  let v105 : BitVec 32 := Scalar.muli v104 c512_i32_30
  let v106 : BitVec 32 := v105
  let v107 : Index := Scalar.indexCast v106
  let c0_31 : Index := 0#32
  ![v107.toNat, 0]
@[reducible] def k0_t2_loop (i : grid0.Coords) : Scf.Loop 32 :=
  let c0_i32 : BitVec 32 := 0#32
  let arg1 : BitVec 32 := BitVec.ofNat 32 (i 1).val
  let v94 : BitVec 32 := Scalar.subi arg1 c0_i32
  let c1_i32 : BitVec 32 := 1#32
  let v96 : BitVec 32 := Scalar.divsi v94 c1_i32
  let v97 : BitVec 32 := Scalar.muli v96 c1_i32
  let v98 : BitVec 32 := Scalar.addi c0_i32 v97
  let v95 : BitVec 32 := Scalar.addi c0_i32 v94
  let c1_i32_26 : BitVec 32 := 1#32
  ⟨v98, v95, c1_i32_26⟩
def k0_mult3 (i : grid0.Coords) (k0_t2 : Fin (k0_t2_loop i).trips) : BitVec 32 :=
  let arg1 : BitVec 32 := BitVec.ofNat 32 (i 1).val
  let c1_i32_29 : BitVec 32 := 1#32
  let v103 : BitVec 32 := Scalar.subi arg1 c1_i32_29
  let c0_i32 : BitVec 32 := 0#32
  let v94 : BitVec 32 := Scalar.subi arg1 c0_i32
  let c1_i32 : BitVec 32 := 1#32
  let v96 : BitVec 32 := Scalar.divsi v94 c1_i32
  let v97 : BitVec 32 := Scalar.muli v96 c1_i32
  let v98 : BitVec 32 := Scalar.addi c0_i32 v97
  let c1_i32_26 : BitVec 32 := 1#32
  let arg6 : BitVec 32 := Scf.iv v98 c1_i32_26 k0_t2
  let v104 : BitVec 32 := Scalar.subi v103 arg6
  let c512_i32_30 : BitVec 32 := 512#32
  let v105 : BitVec 32 := Scalar.muli v104 c512_i32_30
  v105
def k0_off3 (i : grid0.Coords) (k0_t2 : Fin (k0_t2_loop i).trips) : Fin 2 → Nat :=
  let arg1 : BitVec 32 := BitVec.ofNat 32 (i 1).val
  let c1_i32_29 : BitVec 32 := 1#32
  let v103 : BitVec 32 := Scalar.subi arg1 c1_i32_29
  let c0_i32 : BitVec 32 := 0#32
  let v94 : BitVec 32 := Scalar.subi arg1 c0_i32
  let c1_i32 : BitVec 32 := 1#32
  let v96 : BitVec 32 := Scalar.divsi v94 c1_i32
  let v97 : BitVec 32 := Scalar.muli v96 c1_i32
  let v98 : BitVec 32 := Scalar.addi c0_i32 v97
  let c1_i32_26 : BitVec 32 := 1#32
  let arg6 : BitVec 32 := Scf.iv v98 c1_i32_26 k0_t2
  let v104 : BitVec 32 := Scalar.subi v103 arg6
  let c512_i32_30 : BitVec 32 := 512#32
  let v105 : BitVec 32 := Scalar.muli v104 c512_i32_30
  let v106 : BitVec 32 := v105
  let v107 : Index := Scalar.indexCast v106
  let c0_31 : Index := 0#32
  ![v107.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference29Ideal.lean ====
abbrev S2048x6144 : Shape := ⟨2, ![2048, 6144]⟩
abbrev S2048x1024 : Shape := ⟨2, ![2048, 1024]⟩
abbrev S2048x8x128 : Shape := ⟨3, ![2048, 8, 128]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x128x2048 : Shape := ⟨3, ![8, 128, 2048]⟩

abbrev nBuf : Space → Nat
  | .hbm => 72
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S2048x6144, .f32⟩
  | .hbm, ⟨2, _⟩ => ⟨S2048x1024, .f32⟩
  | .hbm, ⟨3, _⟩ => ⟨S2048x8x128, .f32⟩
  | .hbm, ⟨4, _⟩ => ⟨S2048x1024, .f32⟩
  | .hbm, ⟨5, _⟩ => ⟨S2048x8x128, .f32⟩
  | .hbm, ⟨6, _⟩ => ⟨S2048x1024, .f32⟩
  | .hbm, ⟨7, _⟩ => ⟨S2048x8x128, .f32⟩
  | .hbm, ⟨8, _⟩ => ⟨S8x2048x2048, .f32⟩
  | .hbm, ⟨9, _⟩ => ⟨S_, .f32⟩
  | .hbm, ⟨10, _⟩ => ⟨S8x2048x2048, .f32⟩
  | .hbm, ⟨11, _⟩ => ⟨S8x2048x2048, .f32⟩
  | .hbm, ⟨12, _⟩ => ⟨S2048, .i32⟩
  | .hbm, ⟨13, _⟩ => ⟨S1x2048, .i32⟩
  | .hbm, ⟨14, _⟩ => ⟨S2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S8x2048x2048, .f32⟩
  | .hbm, ⟨20, _⟩ => ⟨S8x2048x2048, .f32⟩
  | .hbm, ⟨21, _⟩ => ⟨S_, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S8x2048x2048, .i1⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S_, .f32⟩
  | .hbm, ⟨38, _⟩ => ⟨S8x2048x2048, .i1⟩
  | .hbm, ⟨39, _⟩ => ⟨S8x2048x2048, .f32⟩
  | .hbm, ⟨40, _⟩ => ⟨S8x2048x2048, .f32⟩
  | .hbm, ⟨41, _⟩ => ⟨S_, .f32⟩
  | .hbm, ⟨42, _⟩ => ⟨S_, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S_, .f32⟩
  | .hbm, ⟨47, _⟩ => ⟨S8x2048x2048, .f32⟩
  | .hbm, ⟨48, _⟩ => ⟨S8x2048x2048, .f32⟩
  | .hbm, ⟨49, _⟩ => ⟨S8x2048x2048, .f32⟩
  | .hbm, ⟨50, _⟩ => ⟨S8x2048x2048, .f32⟩
  | .hbm, ⟨51, _⟩ => ⟨S8x2048x2048, .i1⟩
  | .hbm, ⟨52, _⟩ => ⟨S8x2048x2048, .f32⟩
  | .hbm, ⟨53, _⟩ => ⟨S8x2048x2048, .f32⟩
  | .hbm, ⟨54, _⟩ => ⟨S8x2048x2048, .f32⟩
  | .hbm, ⟨55, _⟩ => ⟨S8x2048x2048, .f32⟩
  | .hbm, ⟨56, _⟩ => ⟨S8x2048x2048, .f32⟩
  | .hbm, ⟨57, _⟩ => ⟨S8x2048x2048, .f32⟩
  | .hbm, ⟨58, _⟩ => ⟨S8x2048x2048, .f32⟩
  | .hbm, ⟨59, _⟩ => ⟨S8x2048x2048, .f32⟩
  | .hbm, ⟨60, _⟩ => ⟨S8x2048x2048, .f32⟩
  | .hbm, ⟨61, _⟩ => ⟨S8x2048x2048, .f32⟩
  | .hbm, ⟨62, _⟩ => ⟨S8x2048x2048, .f32⟩
  | .hbm, ⟨63, _⟩ => ⟨S_, .f32⟩
  | .hbm, ⟨64, _⟩ => ⟨S_, .f32⟩
  | .hbm, ⟨65, _⟩ => ⟨S8x2048x2048, .i1⟩
  | .hbm, ⟨66, _⟩ => ⟨S8x2048x2048, .f32⟩
  | .hbm, ⟨67, _⟩ => ⟨S8x2048x2048, .f32⟩
  | .hbm, ⟨68, _⟩ => ⟨S8x128x2048, .f32⟩
  | .hbm, ⟨69, _⟩ => ⟨S2048x8x128, .f32⟩
  | .hbm, ⟨70, _⟩ => ⟨S2048x1024, .f32⟩
  | .hbm, ⟨71, _⟩ => ⟨S2048x1024, .bf16⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v18 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v19 : Ref sig .tc := ⟨.hbm, 40, rfl⟩
abbrev main_call2_cst : Ref sig .tc := ⟨.hbm, 41, rfl⟩
abbrev main_call2_v0 : Ref sig .tc := ⟨.hbm, 42, rfl⟩
abbrev main_v20 : Ref sig .tc := ⟨.hbm, 43, rfl⟩
abbrev main_v21 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_cst_1 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩

abbrev nD : Nat := 1
abbrev τ : Topo := Topo.v7x

variable {F : FTy → Type} [FloatOps F]
-- ==== Kernel30.lean ====
abbrev S2048x2048 : Shape := ⟨2, ![2048, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S1 : Shape := ⟨1, ![1]⟩
abbrev S1x1 : Shape := ⟨2, ![1, 1]⟩

abbrev nBuf : Space → Nat
  | .hbm => 10
  | .vmem => 17
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .bf16⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | .hbm, ⟨7, _⟩ => ⟨S2048x2048, .bf16⟩
  | .hbm, ⟨8, _⟩ => ⟨S1x2048, .f32⟩
  | .hbm, ⟨9, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S1x2048, .f32⟩
  | .local _ .vmem, ⟨16, _⟩ => ⟨S1x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference30Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S1x128 : Shape := ⟨2, ![1, 128]⟩

abbrev nBuf : Space → Nat
  | .hbm => 92
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .bf16⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S_, .f32⟩
  | .hbm, ⟨43, _⟩ => ⟨S2048x2048, .f32⟩
  | .hbm, ⟨44, _⟩ => ⟨S2048x2048, .f32⟩
  | .hbm, ⟨45, _⟩ => ⟨S_, .f32⟩
  | .hbm, ⟨46, _⟩ => ⟨S2048, .f32⟩
  | .hbm, ⟨47, _⟩ => ⟨S_, .f32⟩
  | .hbm, ⟨48, _⟩ => ⟨S2048, .f32⟩
  | .hbm, ⟨49, _⟩ => ⟨S2048, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S2048, .f32⟩
  | .hbm, ⟨58, _⟩ => ⟨S_, .f32⟩
  | .hbm, ⟨59, _⟩ => ⟨S2048, .f32⟩
  | .hbm, ⟨60, _⟩ => ⟨S2048, .f32⟩
  | .hbm, ⟨61, _⟩ => ⟨S2048x2048, .f32⟩
  | .hbm, ⟨62, _⟩ => ⟨S2048x2048, .f32⟩
  | .hbm, ⟨63, _⟩ => ⟨S2048x2048, .f32⟩
  | .hbm, ⟨64, _⟩ => ⟨S_, .f32⟩
  | .hbm, ⟨65, _⟩ => ⟨S2048, .f32⟩
  | .hbm, ⟨66, _⟩ => ⟨S1x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S_, .f32⟩
  | .hbm, ⟨71, _⟩ => ⟨S2048, .f32⟩
  | .hbm, ⟨72, _⟩ => ⟨S2048x1, .f32⟩
  | .hbm, ⟨73, _⟩ => ⟨S2048x2048, .f32⟩
  | .hbm, ⟨74, _⟩ => ⟨S2048x2048, .f32⟩
  | .hbm, ⟨75, _⟩ => ⟨S2048x1, .f32⟩
  | .hbm, ⟨76, _⟩ => ⟨S_, .f32⟩
  | .hbm, ⟨77, _⟩ => ⟨S2048x1, .f32⟩
  | .hbm, ⟨78, _⟩ => ⟨S2048x1, .f32⟩
  | .hbm, ⟨79, _⟩ => ⟨S_, .f32⟩
  | .hbm, ⟨80, _⟩ => ⟨S2048, .f32⟩
  | .hbm, ⟨81, _⟩ => ⟨S2048x2048, .f32⟩
  | .hbm, ⟨82, _⟩ => ⟨S2048x2048, .f32⟩
  | .hbm, ⟨83, _⟩ => ⟨S2048x2048, .f32⟩
  | .hbm, ⟨84, _⟩ => ⟨S2048x2048, .f32⟩
  | .hbm, ⟨85, _⟩ => ⟨S2048x2048, .f32⟩
  | .hbm, ⟨86, _⟩ => ⟨S2048x2048, .f32⟩
  | .hbm, ⟨87, _⟩ => ⟨S2048x2048, .f32⟩
  | .hbm, ⟨88, _⟩ => ⟨S2048x2048, .f32⟩
  | .hbm, ⟨89, _⟩ => ⟨S2048x2048, .bf16⟩
  | .hbm, ⟨90, _⟩ => ⟨S2048x2048, .bf16⟩
  | .hbm, ⟨91, _⟩ => ⟨S1x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_cst_10 : Ref sig .tc := ⟨.hbm, 52, rfl⟩
abbrev main_v36 : Ref sig .tc := ⟨.hbm, 53, rfl⟩
abbrev main_cst_11 : Ref sig .tc := ⟨.hbm, 54, rfl⟩
abbrev main_cst_12 : Ref sig .tc := ⟨.hbm, 55, rfl⟩
abbrev main_v37 : Ref sig .tc := ⟨.hbm, 56, rfl⟩
abbrev main_v38 : Ref sig .tc := ⟨.hbm, 57, rfl⟩
abbrev main_cst_13 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_14 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_16 : Ref sig .tc := ⟨.hbm, 76, rfl⟩
abbrev main_v54 : Ref sig .tc := ⟨.hbm, 77, rfl⟩
abbrev main_v55 : Ref sig .tc := ⟨.hbm, 78, rfl⟩
abbrev main_cst_17 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]
-- ==== Kernel31.lean ====
abbrev S1x8x192 : Shape := ⟨3, ![1, 8, 192]⟩
abbrev S1x2048 : Shape := ⟨2, ![1, 2048]⟩
abbrev S2048 : Shape := ⟨1, ![2048]⟩
abbrev S1536 : Shape := ⟨1, ![1536]⟩
abbrev S9728 : Shape := ⟨1, ![9728]⟩
abbrev S_ : Shape := ⟨0, ![]⟩
abbrev S10240 : Shape := ⟨1, ![10240]⟩
abbrev S80x128 : Shape := ⟨2, ![80, 128]⟩
abbrev S16x128 : Shape := ⟨2, ![16, 128]⟩

abbrev nBuf : Space → Nat
  | .hbm => 90
  | .vmem => 16
  | .smem => 0
  | _ => 0

abbrev bufTy : (tb : Table) → Fin (tcTables nBuf tb) → BufTy
  | .hbm, ⟨0, _⟩ => ⟨S1x8x192, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048, .f32⟩
  | .hbm, ⟨5, _⟩ => ⟨S1x8x192, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S2048, .f32⟩
  | .hbm, ⟨10, _⟩ => ⟨S1x8x192, .f32⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S2048, .f32⟩
  | .hbm, ⟨15, _⟩ => ⟨S1x8x192, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S2048, .f32⟩
  | .hbm, ⟨20, _⟩ => ⟨S1536, .f32⟩
  | .hbm, ⟨21, _⟩ => ⟨S2048, .f32⟩
  | .hbm, ⟨22, _⟩ => ⟨S2048, .f32⟩
  | .hbm, ⟨23, _⟩ => ⟨S2048, .f32⟩
  | .hbm, ⟨24, _⟩ => ⟨S9728, .f32⟩
  | .hbm, ⟨25, _⟩ => ⟨S_, .i32⟩
  | .hbm, ⟨26, _⟩ => ⟨S_, .f32⟩
  | .hbm, ⟨27, _⟩ => ⟨S10240, .f32⟩
  | .hbm, ⟨28, _⟩ => ⟨S80x128, .f32⟩
  | .hbm, ⟨29, _⟩ => ⟨S1536, .f32⟩
  | .hbm, ⟨30, _⟩ => ⟨S2048, .f32⟩
  | .hbm, ⟨31, _⟩ => ⟨S2048, .f32⟩
  | .hbm, ⟨32, _⟩ => ⟨S2048, .f32⟩
  | .hbm, ⟨33, _⟩ => ⟨S9728, .f32⟩
  | .hbm, ⟨34, _⟩ => ⟨S_, .i32⟩
  | .hbm, ⟨35, _⟩ => ⟨S_, .f32⟩
  | .hbm, ⟨36, _⟩ => ⟨S10240, .f32⟩
  | .hbm, ⟨37, _⟩ => ⟨S80x128, .f32⟩
  | .hbm, ⟨38, _⟩ => ⟨S1536, .f32⟩
  | .hbm, ⟨39, _⟩ => ⟨S2048, .f32⟩
  | .hbm, ⟨40, _⟩ => ⟨S2048, .f32⟩
  | .hbm, ⟨41, _⟩ => ⟨S2048, .f32⟩
  | .hbm, ⟨42, _⟩ => ⟨S9728, .f32⟩
  | .hbm, ⟨43, _⟩ => ⟨S_, .i32⟩
  | .hbm, ⟨44, _⟩ => ⟨S_, .f32⟩
  | .hbm, ⟨45, _⟩ => ⟨S10240, .f32⟩
  | .hbm, ⟨46, _⟩ => ⟨S80x128, .f32⟩
  | .hbm, ⟨47, _⟩ => ⟨S1536, .f32⟩
  | .hbm, ⟨48, _⟩ => ⟨S2048, .f32⟩
  | .hbm, ⟨49, _⟩ => ⟨S2048, .f32⟩
  | .hbm, ⟨50, _⟩ => ⟨S2048, .f32⟩
  | .hbm, ⟨51, _⟩ => ⟨S9728, .f32⟩
  | .hbm, ⟨52, _⟩ => ⟨S_, .i32⟩
  | .hbm, ⟨53, _⟩ => ⟨S_, .f32⟩
  | .hbm, ⟨54, _⟩ => ⟨S10240, .f32⟩
  | .hbm, ⟨55, _⟩ => ⟨S80x128, .f32⟩
  | .hbm, ⟨56, _⟩ => ⟨S80x128, .f32⟩
  | .hbm, ⟨57, _⟩ => ⟨S80x128, .f32⟩
  | .hbm, ⟨58, _⟩ => ⟨S80x128, .f32⟩
  | .hbm, ⟨59, _⟩ => ⟨S80x128, .f32⟩
  | .hbm, ⟨60, _⟩ => ⟨S10240, .f32⟩
  | .hbm, ⟨61, _⟩ => ⟨S1536, .f32⟩
  | .hbm, ⟨62, _⟩ => ⟨S1x8x192, .f32⟩
  | .hbm, ⟨63, _⟩ => ⟨S2048, .f32⟩
  | .hbm, ⟨64, _⟩ => ⟨S1x2048, .f32⟩
  | .hbm, ⟨65, _⟩ => ⟨S2048, .f32⟩
  | .hbm, ⟨66, _⟩ => ⟨S1x2048, .f32⟩
  | .hbm, ⟨67, _⟩ => ⟨S2048, .f32⟩
  | .hbm, ⟨68, _⟩ => ⟨S1x2048, .f32⟩
  | .hbm, ⟨69, _⟩ => ⟨S2048, .f32⟩
  | .hbm, ⟨70, _⟩ => ⟨S10240, .f32⟩
  | .hbm, ⟨71, _⟩ => ⟨S1536, .f32⟩
  | .hbm, ⟨72, _⟩ => ⟨S1x8x192, .f32⟩
  | .hbm, ⟨73, _⟩ => ⟨S2048, .f32⟩
  | .hbm, ⟨74, _⟩ => ⟨S1x2048, .f32⟩
  | .hbm, ⟨75, _⟩ => ⟨S2048, .f32⟩
  | .hbm, ⟨76, _⟩ => ⟨S1x2048, .f32⟩
  | .hbm, ⟨77, _⟩ => ⟨S2048, .f32⟩
  | .hbm, ⟨78, _⟩ => ⟨S1x2048, .f32⟩
  | .hbm, ⟨79, _⟩ => ⟨S2048, .f32⟩
  | .hbm, ⟨80, _⟩ => ⟨S10240, .f32⟩
  | .hbm, ⟨81, _⟩ => ⟨S1536, .f32⟩
  | .hbm, ⟨82, _⟩ => ⟨S1x8x192, .f32⟩
  | .hbm, ⟨83, _⟩ => ⟨S2048, .f32⟩
  | .hbm, ⟨84, _⟩ => ⟨S1x2048, .f32⟩
  | .hbm, ⟨85, _⟩ => ⟨S2048, .f32⟩
  | .hbm, ⟨86, _⟩ => ⟨S1x2048, .f32⟩
  | .hbm, ⟨87, _⟩ => ⟨S2048, .f32⟩
  | .hbm, ⟨88, _⟩ => ⟨S1x2048, .f32⟩
  | .hbm, ⟨89, _⟩ => ⟨S2048, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .vmem, ⟨9, _⟩ => ⟨S16x128, .f32⟩
  | .local _ .vmem, ⟨10, _⟩ => ⟨S16x128, .f32⟩
  | .local _ .vmem, ⟨11, _⟩ => ⟨S16x128, .f32⟩
  | .local _ .vmem, ⟨12, _⟩ => ⟨S16x128, .f32⟩
  | .local _ .vmem, ⟨13, _⟩ => ⟨S16x128, .f32⟩
  | .local _ .vmem, ⟨14, _⟩ => ⟨S16x128, .f32⟩
  | .local _ .vmem, ⟨15, _⟩ => ⟨S16x128, .f32⟩
  | _, _ => ⟨S1x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_c : Ref sig .tc := ⟨.hbm, 25, rfl⟩
abbrev main_call0_v0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_c_0 : Ref sig .tc := ⟨.hbm, 34, rfl⟩
abbrev main_call1_v0 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c_1 : Ref sig .tc := ⟨.hbm, 43, rfl⟩
abbrev main_call2_v0 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c_2 : Ref sig .tc := ⟨.hbm, 52, rfl⟩
abbrev main_call3_v0 : Ref sig .tc := ⟨.hbm, 53, rfl⟩
abbrev main_v26 : Ref sig .tc := ⟨.hbm, 54, rfl⟩
abbrev main_v27 : Ref sig .tc := ⟨.hbm, 55, rfl⟩
abbrev main_v28_0 : Ref sig .tc := ⟨.hbm, 56, rfl⟩
abbrev main_v28_1 : Ref sig .tc := ⟨.hbm, 57, rfl⟩
abbrev main_v28_2 : Ref sig .tc := ⟨.hbm, 58, rfl⟩
abbrev main_v28_3 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![5, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference31Ideal.lean ====
abbrev S1x8x192 : Shape := ⟨3, ![1, 8, 192]⟩
abbrev S1x2048 : Shape := ⟨2, ![1, 2048]⟩
abbrev S2048 : Shape := ⟨1, ![2048]⟩
abbrev S_ : Shape := ⟨0, ![]⟩

abbrev nBuf : Space → Nat
  | .hbm => 185
  | .vmem => 0
  | .smem => 0
  | _ => 0

abbrev hbmTy0_0 (i : Nat) : BufTy := match i % 128 with
  | 0 => ⟨S1x8x192, .f32⟩
  | 1 => ⟨S1x2048, .f32⟩
  | 2 => ⟨S1x2048, .f32⟩
  | 3 => ⟨S1x2048, .f32⟩
  | 4 => ⟨S2048, .f32⟩
  | 5 => ⟨S1x8x192, .f32⟩
  | 6 => ⟨S1x2048, .f32⟩
  | 7 => ⟨S1x2048, .f32⟩
  | 8 => ⟨S1x2048, .f32⟩
  | 9 => ⟨S2048, .f32⟩
  | 10 => ⟨S1x8x192, .f32⟩
  | 11 => ⟨S1x2048, .f32⟩
  | 12 => ⟨S1x2048, .f32⟩
  | 13 => ⟨S1x2048, .f32⟩
  | 14 => ⟨S2048, .f32⟩
  | 15 => ⟨S1x8x192, .f32⟩
  | 16 => ⟨S1x2048, .f32⟩
  | 17 => ⟨S1x2048, .f32⟩
  | 18 => ⟨S1x2048, .f32⟩
  | 19 => ⟨S2048, .f32⟩
  | 20 => ⟨S_, .f32⟩
  | 21 => ⟨S1x8x192, .f32⟩
  | 22 => ⟨S1x8x192, .f32⟩
  | 23 => ⟨S_, .f32⟩
  | 24 => ⟨S1x8x192, .f32⟩
  | 25 => ⟨S1x8x192, .f32⟩
  | 26 => ⟨S1x8x192, .f32⟩
  | 27 => ⟨S_, .f32⟩
  | 28 => ⟨S1x8x192, .f32⟩
  | 29 => ⟨S1x8x192, .f32⟩
  | 30 => ⟨S1x8x192, .f32⟩
  | 31 => ⟨S_, .f32⟩
  | 32 => ⟨S1x8x192, .f32⟩
  | 33 => ⟨S1x8x192, .f32⟩
  | 34 => ⟨S1x8x192, .f32⟩
  | 35 => ⟨S_, .f32⟩
  | 36 => ⟨S1x8x192, .f32⟩
  | 37 => ⟨S1x8x192, .f32⟩
  | 38 => ⟨S_, .f32⟩
  | 39 => ⟨S1x8x192, .f32⟩
  | 40 => ⟨S1x8x192, .f32⟩
  | 41 => ⟨S1x8x192, .f32⟩
  | 42 => ⟨S_, .f32⟩
  | 43 => ⟨S1x8x192, .f32⟩
  | 44 => ⟨S1x8x192, .f32⟩
  | 45 => ⟨S1x8x192, .f32⟩
  | 46 => ⟨S_, .f32⟩
  | 47 => ⟨S1x8x192, .f32⟩
  | 48 => ⟨S1x8x192, .f32⟩
  | 49 => ⟨S1x8x192, .f32⟩
  | 50 => ⟨S_, .f32⟩
  | 51 => ⟨S1x8x192, .f32⟩
  | 52 => ⟨S1x8x192, .f32⟩
  | 53 => ⟨S_, .f32⟩
  | 54 => ⟨S1x2048, .f32⟩
  | 55 => ⟨S1x2048, .f32⟩
  | 56 => ⟨S_, .f32⟩
  | 57 => ⟨S1x2048, .f32⟩
  | 58 => ⟨S1x2048, .f32⟩
  | 59 => ⟨S1x2048, .f32⟩
  | 60 => ⟨S_, .f32⟩
  | 61 => ⟨S1x2048, .f32⟩
  | 62 => ⟨S1x2048, .f32⟩
  | 63 => ⟨S1x2048, .f32⟩
  | 64 => ⟨S_, .f32⟩
  | 65 => ⟨S1x2048, .f32⟩
  | 66 => ⟨S1x2048, .f32⟩
  | 67 => ⟨S1x2048, .f32⟩
  | 68 => ⟨S_, .f32⟩
  | 69 => ⟨S1x2048, .f32⟩
  | 70 => ⟨S1x2048, .f32⟩
  | 71 => ⟨S_, .f32⟩
  | 72 => ⟨S1x2048, .f32⟩
  | 73 => ⟨S1x2048, .f32⟩
  | 74 => ⟨S1x2048, .f32⟩
  | 75 => ⟨S_, .f32⟩
  | 76 => ⟨S1x2048, .f32⟩
  | 77 => ⟨S1x2048, .f32⟩
  | 78 => ⟨S1x2048, .f32⟩
  | 79 => ⟨S_, .f32⟩
  | 80 => ⟨S1x2048, .f32⟩
  | 81 => ⟨S1x2048, .f32⟩
  | 82 => ⟨S1x2048, .f32⟩
  | 83 => ⟨S_, .f32⟩
  | 84 => ⟨S1x2048, .f32⟩
  | 85 => ⟨S1x2048, .f32⟩
  | 86 => ⟨S_, .f32⟩
  | 87 => ⟨S1x2048, .f32⟩
  | 88 => ⟨S1x2048, .f32⟩
  | 89 => ⟨S_, .f32⟩
  | 90 => ⟨S1x2048, .f32⟩
  | 91 => ⟨S1x2048, .f32⟩
  | 92 => ⟨S1x2048, .f32⟩
  | 93 => ⟨S_, .f32⟩
  | 94 => ⟨S1x2048, .f32⟩
  | 95 => ⟨S1x2048, .f32⟩
  | 96 => ⟨S1x2048, .f32⟩
  | 97 => ⟨S_, .f32⟩
  | 98 => ⟨S1x2048, .f32⟩
  | 99 => ⟨S1x2048, .f32⟩
  | 100 => ⟨S1x2048, .f32⟩
  | 101 => ⟨S_, .f32⟩
  | 102 => ⟨S1x2048, .f32⟩
  | 103 => ⟨S1x2048, .f32⟩
  | 104 => ⟨S_, .f32⟩
  | 105 => ⟨S1x2048, .f32⟩
  | 106 => ⟨S1x2048, .f32⟩
  | 107 => ⟨S1x2048, .f32⟩
  | 108 => ⟨S_, .f32⟩
  | 109 => ⟨S1x2048, .f32⟩
  | 110 => ⟨S1x2048, .f32⟩
  | 111 => ⟨S1x2048, .f32⟩
  | 112 => ⟨S_, .f32⟩
  | 113 => ⟨S1x2048, .f32⟩
  | 114 => ⟨S1x2048, .f32⟩
  | 115 => ⟨S1x2048, .f32⟩
  | 116 => ⟨S_, .f32⟩
  | 117 => ⟨S1x2048, .f32⟩
  | 118 => ⟨S1x2048, .f32⟩
  | 119 => ⟨S_, .f32⟩
  | 120 => ⟨S1x2048, .f32⟩
  | 121 => ⟨S1x2048, .f32⟩
  | 122 => ⟨S_, .f32⟩
  | 123 => ⟨S1x2048, .f32⟩
  | 124 => ⟨S1x2048, .f32⟩
  | 125 => ⟨S1x2048, .f32⟩
  | 126 => ⟨S_, .f32⟩
  | 127 => ⟨S1x2048, .f32⟩
  | _ => ⟨S1x8x192, .f32⟩

abbrev hbmTy0_1 (i : Nat) : BufTy := match i % 128 with
  | 0 => ⟨S1x2048, .f32⟩
  | 1 => ⟨S1x2048, .f32⟩
  | 2 => ⟨S_, .f32⟩
  | 3 => ⟨S1x2048, .f32⟩
  | 4 => ⟨S1x2048, .f32⟩
  | 5 => ⟨S1x2048, .f32⟩
  | 6 => ⟨S_, .f32⟩
  | 7 => ⟨S1x2048, .f32⟩
  | 8 => ⟨S1x2048, .f32⟩
  | 9 => ⟨S_, .f32⟩
  | 10 => ⟨S1x2048, .f32⟩
  | 11 => ⟨S1x2048, .f32⟩
  | 12 => ⟨S1x2048, .f32⟩
  | 13 => ⟨S_, .f32⟩
  | 14 => ⟨S1x2048, .f32⟩
  | 15 => ⟨S1x2048, .f32⟩
  | 16 => ⟨S1x2048, .f32⟩
  | 17 => ⟨S_, .f32⟩
  | 18 => ⟨S1x2048, .f32⟩
  | 19 => ⟨S1x2048, .f32⟩
  | 20 => ⟨S1x2048, .f32⟩
  | 21 => ⟨S_, .f32⟩
  | 22 => ⟨S1x2048, .f32⟩
  | 23 => ⟨S1x2048, .f32⟩
  | 24 => ⟨S_, .f32⟩
  | 25 => ⟨S2048, .f32⟩
  | 26 => ⟨S2048, .f32⟩
  | 27 => ⟨S_, .f32⟩
  | 28 => ⟨S2048, .f32⟩
  | 29 => ⟨S2048, .f32⟩
  | 30 => ⟨S2048, .f32⟩
  | 31 => ⟨S_, .f32⟩
  | 32 => ⟨S2048, .f32⟩
  | 33 => ⟨S2048, .f32⟩
  | 34 => ⟨S2048, .f32⟩
  | 35 => ⟨S_, .f32⟩
  | 36 => ⟨S2048, .f32⟩
  | 37 => ⟨S2048, .f32⟩
  | 38 => ⟨S2048, .f32⟩
  | 39 => ⟨S_, .f32⟩
  | 40 => ⟨S2048, .f32⟩
  | 41 => ⟨S2048, .f32⟩
  | 42 => ⟨S_, .f32⟩
  | 43 => ⟨S2048, .f32⟩
  | 44 => ⟨S2048, .f32⟩
  | 45 => ⟨S2048, .f32⟩
  | 46 => ⟨S_, .f32⟩
  | 47 => ⟨S2048, .f32⟩
  | 48 => ⟨S2048, .f32⟩
  | 49 => ⟨S2048, .f32⟩
  | 50 => ⟨S_, .f32⟩
  | 51 => ⟨S2048, .f32⟩
  | 52 => ⟨S2048, .f32⟩
  | 53 => ⟨S2048, .f32⟩
  | 54 => ⟨S_, .f32⟩
  | 55 => ⟨S2048, .f32⟩
  | 56 => ⟨S2048, .f32⟩
  | _ => ⟨S1x8x192, .f32⟩

abbrev hbmTy (i : Nat) : BufTy := match i / 128 with
  | 0 => hbmTy0_0 i
  | 1 => hbmTy0_1 i
  | _ => ⟨S1x8x192, .f32⟩

abbrev bufTy : (tb : Table) → Fin (tcTables nBuf tb) → BufTy
  | .hbm, ⟨i, _⟩ => hbmTy i
  | _, _ => ⟨S1x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_v1 : Ref sig .tc := ⟨.hbm, 22, rfl⟩
abbrev main_cst_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_cst_1 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_2 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_3 : Ref sig .tc := ⟨.hbm, 35, rfl⟩
abbrev main_v11 : Ref sig .tc := ⟨.hbm, 36, rfl⟩
abbrev main_v12 : Ref sig .tc := ⟨.hbm, 37, rfl⟩
abbrev main_cst_4 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_5 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_6 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_7 : Ref sig .tc := ⟨.hbm, 50, rfl⟩
abbrev main_v22 : Ref sig .tc := ⟨.hbm, 51, rfl⟩
abbrev main_v23 : Ref sig .tc := ⟨.hbm, 52, rfl⟩
abbrev main_cst_8 : Ref sig .tc := ⟨.hbm, 53, rfl⟩
abbrev main_v24 : Ref sig .tc := ⟨.hbm, 54, rfl⟩
abbrev main_v25 : Ref sig .tc := ⟨.hbm, 55, rfl⟩
abbrev main_cst_9 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_10 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_11 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_12 : Ref sig .tc := ⟨.hbm, 68, rfl⟩
abbrev main_v35 : Ref sig .tc := ⟨.hbm, 69, rfl⟩
abbrev main_v36 : Ref sig .tc := ⟨.hbm, 70, rfl⟩
abbrev main_cst_13 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst_14 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_15 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst_16 : Ref sig .tc := ⟨.hbm, 83, rfl⟩
abbrev main_v46 : Ref sig .tc := ⟨.hbm, 84, rfl⟩
abbrev main_v47 : Ref sig .tc := ⟨.hbm, 85, rfl⟩
abbrev main_cst_17 : Ref sig .tc := ⟨.hbm, 86, rfl⟩
abbrev main_v48 : Ref sig .tc := ⟨.hbm, 87, rfl⟩
abbrev main_v49 : Ref sig .tc := ⟨.hbm, 88, rfl⟩
abbrev main_cst_18 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_19 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_cst_20 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_cst_21 : Ref sig .tc := ⟨.hbm, 101, rfl⟩
abbrev main_v59 : Ref sig .tc := ⟨.hbm, 102, rfl⟩
abbrev main_v60 : Ref sig .tc := ⟨.hbm, 103, rfl⟩
abbrev main_cst_22 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_cst_23 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_cst_24 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_cst_25 : Ref sig .tc := ⟨.hbm, 116, rfl⟩
abbrev main_v70 : Ref sig .tc := ⟨.hbm, 117, rfl⟩
abbrev main_v71 : Ref sig .tc := ⟨.hbm, 118, rfl⟩
abbrev main_cst_26 : Ref sig .tc := ⟨.hbm, 119, rfl⟩
abbrev main_v72 : Ref sig .tc := ⟨.hbm, 120, rfl⟩
abbrev main_v73 : Ref sig .tc := ⟨.hbm, 121, rfl⟩
abbrev main_cst_27 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_cst_28 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_cst_29 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_cst_30 : Ref sig .tc := ⟨.hbm, 134, rfl⟩
abbrev main_v83 : Ref sig .tc := ⟨.hbm, 135, rfl⟩
abbrev main_v84 : Ref sig .tc := ⟨.hbm, 136, rfl⟩
abbrev main_cst_31 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_cst_32 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_cst_33 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_cst_34 : Ref sig .tc := ⟨.hbm, 149, rfl⟩
abbrev main_v94 : Ref sig .tc := ⟨.hbm, 150, rfl⟩
abbrev main_v95 : Ref sig .tc := ⟨.hbm, 151, rfl⟩
abbrev main_cst_35 : Ref sig .tc := ⟨.hbm, 152, rfl⟩
abbrev main_v96 : Ref sig .tc := ⟨.hbm, 153, rfl⟩
abbrev main_v97 : Ref sig .tc := ⟨.hbm, 154, rfl⟩
abbrev main_cst_36 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_cst_37 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_cst_38 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_cst_39 : Ref sig .tc := ⟨.hbm, 167, rfl⟩
abbrev main_v107 : Ref sig .tc := ⟨.hbm, 168, rfl⟩
abbrev main_v108 : Ref sig .tc := ⟨.hbm, 169, rfl⟩
abbrev main_cst_40 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_cst_41 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_cst_42 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_cst_43 : Ref sig .tc := ⟨.hbm, 182, rfl⟩
abbrev main_v118 : Ref sig .tc := ⟨.hbm, 183, rfl⟩
abbrev main_v119 : Ref sig .tc := ⟨.hbm, 184, rfl⟩

abbrev nD : Nat := 1
abbrev τ : Topo := Topo.v7x

variable {F : FTy → Type} [FloatOps F]
-- ==== Proof.Model.lean ====
/-
  What one grid point of the stick-breaking backward kernel computes, as plain functions of vectors, for any float
  values `F`. A point handles one block of 512 queries of one head. The first pass walks the key blocks from the
  query block down to block 0 and keeps, per key block, the weights times `dy · v` (`e`) and the values `σ(z)` (`sg`);
  the second pass walks the key blocks up and accumulates the gradients of `k` and `q`.
-/
module

public import proofs.«01_k».proof.Proof.Gen.KernelIdeal.Skeleton
public import Idealize.ShloMosaic.Lib.VecWindow

@[expose] public section

set_option maxRecDepth 16384

noncomputable section

namespace Cert.Proof.SB

open Idealize.ShloMosaic Cert.KernelIdeal Cert.KernelIdeal.Gen

variable {F : FTy → Type} [FloatOps F]

/-! ## Blocks of rows -/

theorem row_inb (j : Fin 4) : ∀ a, (![512 * j.val, 0] : Fin 2 → ℕ) a + S512x128.size a ≤ S2048x128.size a := by
  revert j; decide +kernel
theorem sq_inb (j : Fin 4) : ∀ a, (![j.val, 0, 0] : Fin 3 → ℕ) a + S1x512x512.size a ≤ S4x512x512.size a := by
  revert j; decide +kernel

/-- Rows `512·j` to `512·j + 511` of a 2048 × 128 array. -/
def rowBlk {e : EltTy} (X : Vec F S2048x128 e) (j : Fin 4) : Vec F S512x128 e :=
  VecWindow.window X ![512 * j.val, 0] S512x128.size (row_inb j)
/-- The array with those rows replaced by `w`. -/
def putRow {e : EltTy} (X : Vec F S2048x128 e) (j : Fin 4) (w : Vec F S512x128 e) : Vec F S2048x128 e :=
  VecWindow.put X ![512 * j.val, 0] S512x128.size w
/-- Plane `j` of a stack of four 512 × 512 arrays. -/
def sqBlk (Y : Vec F S4x512x512 .f32) (j : Fin 4) : Vec F S1x512x512 .f32 :=
  VecWindow.window Y ![j.val, 0, 0] S1x512x512.size (sq_inb j)
/-- The stack with that plane replaced by `w`. -/
def putSq (Y : Vec F S4x512x512 .f32) (j : Fin 4) (w : Vec F S1x512x512 .f32) : Vec F S4x512x512 .f32 :=
  VecWindow.put Y ![j.val, 0, 0] S1x512x512.size w

/-- The query block of a point. -/
abbrev ib (i : grid0.Coords) : Fin 4 := ⟨(i 1).val, (i 1).isLt⟩
/-- The key block `n` blocks before the query block. -/
def bk (i : grid0.Coords) (n : ℕ) : Fin 4 := ⟨(i 1).val - n, by have : (i 1).val < 4 := (i 1).isLt; omega⟩
/-- Key block `k`, for `k` below the query block. -/
def fk (k : ℕ) : Fin 4 := ⟨k % 4, Nat.mod_lt _ (by decide)⟩

/-! ## The first pass -/

/-- The running sums after one more key block. -/
def t1r (v0 : Vec F S512x128 .bf16) (v12 : FVec F S128x256 .bf16) (kb : Vec F S512x128 .bf16) (r : FVec F S512x128 .f32) : FVec F S512x128 .f32 :=
  k0_pay19 v12 (k0_pay7 v0 kb) (k0_pay8 v0 kb) (k0_pay11 v0 v12 r kb) (k0_pay14 v0 v12 kb)
/-- The weights times `dy · v` of a key block before the query block. -/
def t1e (v0 v1 : Vec F S512x128 .bf16) (v12 : FVec F S128x256 .bf16) (kb vb : Vec F S512x128 .bf16) (r : FVec F S512x128 .f32) : Vec F S1x512x512 .f32 :=
  k0_pay21 v1 v12 (k0_pay5 v0 kb) (k0_pay7 v0 kb) (k0_pay8 v0 kb) (k0_pay10 v0 v12 r kb) (k0_pay11 v0 v12 r kb) (k0_pay13 v0 v12 r kb) (k0_pay14 v0 v12 kb) vb
/-- The values `σ(z)` of a key block before the query block. -/
def t1s (v0 kb : Vec F S512x128 .bf16) : Vec F S1x512x512 .f32 := k0_pay22 (k0_pay5 v0 kb)
/-- The gradient of `v` at a key block before the query block, added to `d`. -/
def t1d (v0 v1 : Vec F S512x128 .bf16) (v12 : FVec F S128x256 .bf16) (kb : Vec F S512x128 .bf16) (r : FVec F S512x128 .f32) (d : Vec F S512x128 .f32) : Vec F S512x128 .f32 :=
  k0_pay23 v1 v12 (k0_pay5 v0 kb) (k0_pay7 v0 kb) (k0_pay8 v0 kb) (k0_pay10 v0 v12 r kb) (k0_pay11 v0 v12 r kb) (k0_pay13 v0 v12 r kb) (k0_pay14 v0 v12 kb) d

/-- The running sums before trip `k` of the first pass, starting from `r`. -/
def runs (i : grid0.Coords) (v0 : Vec F S512x128 .bf16) (v12 : FVec F S128x256 .bf16) (K : Vec F S2048x128 .bf16) (r : FVec F S512x128 .f32) : ℕ → FVec F S512x128 .f32
  | 0 => r
  | k + 1 => t1r v0 v12 (rowBlk K (bk i (k + 1))) (runs i v0 v12 K r k)
/-- The stack of `e` before trip `k`. -/
def es (i : grid0.Coords) (v0 v1 : Vec F S512x128 .bf16) (v12 : FVec F S128x256 .bf16) (K V : Vec F S2048x128 .bf16) (r : FVec F S512x128 .f32) (Y : Vec F S4x512x512 .f32) : ℕ → Vec F S4x512x512 .f32
  | 0 => Y
  | k + 1 => putSq (es i v0 v1 v12 K V r Y k) (bk i (k + 1))
      (t1e v0 v1 v12 (rowBlk K (bk i (k + 1))) (rowBlk V (bk i (k + 1))) (runs i v0 v12 K r k))
/-- The stack of `σ(z)` before trip `k`. -/
def ss (i : grid0.Coords) (v0 : Vec F S512x128 .bf16) (K : Vec F S2048x128 .bf16) (Y : Vec F S4x512x512 .f32) : ℕ → Vec F S4x512x512 .f32
  | 0 => Y
  | k + 1 => putSq (ss i v0 K Y k) (bk i (k + 1)) (t1s v0 (rowBlk K (bk i (k + 1))))
/-- The accumulated gradient of `v` before trip `k`. -/
def ds (i : grid0.Coords) (v0 v1 : Vec F S512x128 .bf16) (v12 : FVec F S128x256 .bf16) (K : Vec F S2048x128 .bf16) (r : FVec F S512x128 .f32) (D : Vec F S2048x128 .f32) : ℕ → Vec F S2048x128 .f32
  | 0 => D
  | k + 1 => putRow (ds i v0 v1 v12 K r D k) (bk i (k + 1))
      (t1d v0 v1 v12 (rowBlk K (bk i (k + 1))) (runs i v0 v12 K r k) (rowBlk (ds i v0 v1 v12 K r D k) (bk i (k + 1))))

/-! ## The second pass -/

/-- The running sums of `e` after one more key block. -/
def t3r (v128 : FVec F S128x256 .bf16) (r : FVec F S512x128 .f32) (ev : Vec F S1x512x512 .f32) : FVec F S512x128 .f32 :=
  k0_pay103 (k0_pay57 v128 r ev) (k0_pay58 v128 ev) (k0_pay59 v128 ev)
/-- The gradient of `q` with one more key block added. -/
def t3q (v128 : FVec F S128x256 .bf16) (r q : FVec F S512x128 .f32) (kb : Vec F S512x128 .bf16) (sv ev : Vec F S1x512x512 .f32) : FVec F S512x128 .f32 :=
  k0_pay106 q kb (k0_pay45 sv) (k0_pay46 ev) (k0_pay50 v128 r ev) (k0_pay53 v128 r ev) (k0_pay56 v128 r ev) (k0_pay57 v128 r ev) (k0_pay58 v128 ev) (k0_pay59 v128 ev)
/-- The gradient of `k` at a key block before the query block, added to `d`. -/
def t3k (v0 : Vec F S512x128 .bf16) (v128 : FVec F S128x256 .bf16) (r : FVec F S512x128 .f32) (sv ev : Vec F S1x512x512 .f32) (d : Vec F S512x128 .f32) : Vec F S512x128 .f32 :=
  k0_pay105 v0 (k0_pay45 sv) (k0_pay46 ev) (k0_pay50 v128 r ev) (k0_pay53 v128 r ev) (k0_pay56 v128 r ev) (k0_pay57 v128 r ev) (k0_pay58 v128 ev) (k0_pay59 v128 ev) d

/-- The running sums of `e` and the gradient of `q` before trip `k` of the second pass. -/
def st3 (v128 : FVec F S128x256 .bf16) (K : Vec F S2048x128 .bf16) (E G : Vec F S4x512x512 .f32) (x : FVec F S512x128 .f32 × FVec F S512x128 .f32) : ℕ → FVec F S512x128 .f32 × FVec F S512x128 .f32
  | 0 => x
  | k + 1 => (t3r v128 (st3 v128 K E G x k).1 (sqBlk E (fk k)),
      t3q v128 (st3 v128 K E G x k).1 (st3 v128 K E G x k).2 (rowBlk K (fk k)) (sqBlk G (fk k)) (sqBlk E (fk k)))
/-- The accumulated gradient of `k` before trip `k`. -/
def ks (v0 : Vec F S512x128 .bf16) (v128 : FVec F S128x256 .bf16) (K : Vec F S2048x128 .bf16) (E G : Vec F S4x512x512 .f32) (x : FVec F S512x128 .f32 × FVec F S512x128 .f32) (D : Vec F S2048x128 .f32) : ℕ → Vec F S2048x128 .f32
  | 0 => D
  | k + 1 => putRow (ks v0 v128 K E G x D k) (fk k)
      (t3k v0 v128 (st3 v128 K E G x k).1 (sqBlk G (fk k)) (sqBlk E (fk k)) (rowBlk (ks v0 v128 K E G x D k) (fk k)))

/-! ## A whole point -/

/-- The running sums the query block's own key block leaves. -/
def own_r (i : grid0.Coords) (v0 kb : Vec F S512x128 .bf16) : FVec F S512x128 .f32 :=
  k0_pay93 k0_pay77 k0_pay78 (k0_pay79 i) (k0_pay80 v0 kb) (k0_pay81 v0 kb)
/-- The weights of the query block's own key block. -/
def own_a (i : grid0.Coords) (v0 kb : Vec F S512x128 .bf16) : FVec F S512x512 .f32 :=
  k0_pay94 k0_pay77 k0_pay78 (k0_pay79 i) (k0_pay80 v0 kb) (k0_pay81 v0 kb) (k0_pay82 v0 kb)
/-- The weights times `dy · v` at the own key block. -/
def own_e (i : grid0.Coords) (v0 v1 kb vb : Vec F S512x128 .bf16) : Vec F S1x512x512 .f32 :=
  k0_pay96 v1 (k0_pay79 i) (own_a i v0 kb) vb
/-- The values `σ(z)` at the own key block. -/
def own_s (v0 kb : Vec F S512x128 .bf16) : Vec F S1x512x512 .f32 := k0_pay97 (k0_pay82 v0 kb)
/-- The gradient of `v` at the own key block, added to `d`. -/
def own_d (i : grid0.Coords) (v0 v1 kb : Vec F S512x128 .bf16) (d : Vec F S512x128 .f32) : Vec F S512x128 .f32 :=
  k0_pay98 v1 (k0_pay79 i) (own_a i v0 kb) d

/-- The gradient of `q` with the own key block added. -/
def fin_q (i : grid0.Coords) (x : FVec F S512x128 .f32 × FVec F S512x128 .f32) (kb : Vec F S512x128 .bf16) (sv ev : Vec F S1x512x512 .f32) : Vec F S512x128 .bf16 :=
  k0_pay126 (BitVec.ofNat 32 (i 1).val) k0_pay99 x.2 kb (k0_pay112 sv) (k0_pay113 ev) (k0_pay114 ev) (k0_pay115 ev) (k0_pay117 k0_pay99 x.1 ev) (k0_pay120 k0_pay99 x.1 ev) (k0_pay121 k0_pay99 x.1 ev) (k0_pay122 k0_pay99 ev) (k0_pay123 ev) (constant S512x256 .f32 0x00000000#32)
/-- The gradient of `k` at the own key block, added to `d`. -/
def fin_k (i : grid0.Coords) (v0 : Vec F S512x128 .bf16) (x : FVec F S512x128 .f32 × FVec F S512x128 .f32) (sv ev : Vec F S1x512x512 .f32) (d : Vec F S512x128 .f32) : Vec F S512x128 .f32 :=
  k0_pay125 (BitVec.ofNat 32 (i 1).val) v0 k0_pay99 (k0_pay112 sv) (k0_pay113 ev) (k0_pay114 ev) (k0_pay115 ev) (k0_pay117 k0_pay99 x.1 ev) (k0_pay120 k0_pay99 x.1 ev) (k0_pay121 k0_pay99 x.1 ev) (k0_pay122 k0_pay99 ev) (k0_pay123 ev) (constant S512x256 .f32 0x00000000#32) d

/-- The running sums of the first pass. -/
abbrev p1r (i : grid0.Coords) (q : Vec F S512x128 .bf16) (K : Vec F S2048x128 .bf16) : ℕ → FVec F S512x128 .f32 :=
  runs i q k0_pay77 K (own_r i q (rowBlk K (ib i)))
/-- The stack of `e` after the first pass, from contents `Y`. -/
def p1e (i : grid0.Coords) (q dy : Vec F S512x128 .bf16) (K V : Vec F S2048x128 .bf16) (Y : Vec F S4x512x512 .f32) : Vec F S4x512x512 .f32 :=
  es i q dy k0_pay77 K V (own_r i q (rowBlk K (ib i))) (putSq Y (ib i) (own_e i q dy (rowBlk K (ib i)) (rowBlk V (ib i)))) (i 1).val
/-- The stack of `σ(z)` after the first pass, from contents `Y`. -/
def p1s (i : grid0.Coords) (q : Vec F S512x128 .bf16) (K : Vec F S2048x128 .bf16) (Y : Vec F S4x512x512 .f32) : Vec F S4x512x512 .f32 :=
  ss i q K (putSq Y (ib i) (own_s q (rowBlk K (ib i)))) (i 1).val
/-- The accumulated gradient of `v` after a point, from `D`. -/
def ptV (i : grid0.Coords) (q dy : Vec F S512x128 .bf16) (K : Vec F S2048x128 .bf16) (D : Vec F S2048x128 .f32) : Vec F S2048x128 .f32 :=
  ds i q dy k0_pay77 K (own_r i q (rowBlk K (ib i))) (putRow D (ib i) (own_d i q dy (rowBlk K (ib i)) (rowBlk D (ib i)))) (i 1).val
/-- What the second pass's loop carries at its end, given the two stacks. -/
abbrev p2 (i : grid0.Coords) (K : Vec F S2048x128 .bf16) (E G : Vec F S4x512x512 .f32) : FVec F S512x128 .f32 × FVec F S512x128 .f32 :=
  st3 k0_pay99 K E G (k0_pay100, k0_pay101) (i 1).val
/-- The gradient of `q` at a point, given the two stacks. -/
def ptQ (i : grid0.Coords) (K : Vec F S2048x128 .bf16) (E G : Vec F S4x512x512 .f32) : Vec F S512x128 .bf16 :=
  fin_q i (p2 i K E G) (rowBlk K (ib i)) (sqBlk G (ib i)) (sqBlk E (ib i))
/-- The accumulated gradient of `k` after a point, from `D`, given the two stacks. -/
def ptK (i : grid0.Coords) (q : Vec F S512x128 .bf16) (K : Vec F S2048x128 .bf16) (E G : Vec F S4x512x512 .f32) (D : Vec F S2048x128 .f32) : Vec F S2048x128 .f32 :=
  putRow (ks q k0_pay99 K E G (k0_pay100, k0_pay101) D (i 1).val) (ib i)
    (fin_k i q (p2 i K E G) (sqBlk G (ib i)) (sqBlk E (ib i)) (rowBlk (ks q k0_pay99 K E G (k0_pay100, k0_pay101) D (i 1).val) (ib i)))

end Cert.Proof.SB

end
-- ==== Proof.Loops.lean ====
/-
  The two counted loops of the stick-breaking backward kernel, each by an invariant that says what every buffer reads
  before trip `k` as a function (Model.lean) of what it read at loop entry.
-/
module

public import proofs.«01_k».proof.Proof.Model
public import Idealize.ShloMosaic.Lib.LoopRemainder
public import Idealize.ShloMosaic.Lib.Exec
public import Idealize.ShloMosaic.Lib.Tactic
public import Idealize.ShloMosaic.Lib.Pipeline.Kit

@[expose] public section

set_option maxRecDepth 16384
set_option maxHeartbeats 400000

noncomputable section

namespace Cert.Proof.SB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-! ## The loops' lengths and offsets -/

theorem trips1 : ∀ i : grid0.Coords, (k0_t1_loop i).trips = (i 1).val := by decide +kernel
theorem trips3 : ∀ i : grid0.Coords, (k0_t3_loop i).trips = (i 1).val := by decide +kernel
theorem off1_eq : ∀ i : grid0.Coords, k0_off1 i = ![512 * (ib i).val, 0] := by decide +kernel
theorem off2_eq : ∀ i : grid0.Coords, k0_off2 i = ![(ib i).val, 0, 0] := by decide +kernel
theorem off3_eq : ∀ (i : grid0.Coords) (k : Fin (k0_t1_loop i).trips), k0_off3 i k = ![512 * (bk i (k.val + 1)).val, 0] := by decide +kernel
theorem off4_eq : ∀ (i : grid0.Coords) (k : Fin (k0_t1_loop i).trips), k0_off4 i k = ![(bk i (k.val + 1)).val, 0, 0] := by decide +kernel
theorem off7_eq : ∀ (i : grid0.Coords) (k : Fin (k0_t3_loop i).trips), k0_off7 i k = ![512 * (fk k.val).val, 0] := by decide +kernel
theorem off8_eq : ∀ (i : grid0.Coords) (k : Fin (k0_t3_loop i).trips), k0_off8 i k = ![(fk k.val).val, 0, 0] := by decide +kernel

/-! ## Loads and stores of a block -/

section Blocks
variable {sp : Space}

/-- A load at a block of rows reads that block. -/
theorem readRow {e : EltTy} (M : Memref sig .tc sp S2048x128 e) (f : M.view.ty.Contents (Elt F)) {off : Fin 2 → ℕ} (j : Fin 4)
    (h : off = ![512 * j.val, 0]) (inb : ∀ a, off a + S512x128.size a ≤ S2048x128.size a) :
    M.view.readAt (Elt F) (Rect.unit (s := S2048x128) off S512x128.size inb).toLoadRect f = rowBlk (F := F) (M.view.read (Elt F) f) j :=
  View.readAt_unit M.view f inb h (row_inb j)

/-- A store over a block of rows replaces that block. -/
theorem writeRow {e : EltTy} (M : Memref sig .tc sp S2048x128 e) (f : M.view.ty.Contents (Elt F)) {off : Fin 2 → ℕ} (j : Fin 4)
    (h : off = ![512 * j.val, 0]) (inb : ∀ a, off a + S512x128.size a ≤ S2048x128.size a) (w : Vec F S512x128 e) (L : List (View.Piece (Elt F) S2048x128 e)) :
    M.view.read (Elt F) (M.view.writes (Elt F) f (⟨Rect.unit (s := S2048x128) off S512x128.size inb, w⟩ :: L))
      = putRow (F := F) (M.view.read (Elt F) (M.view.writes (Elt F) f L)) j w :=
  View.read_writes_cons_put M.view f inb w L h

/-- A load of a plane reads that plane. -/
theorem readSq (M : Memref sig .tc sp S4x512x512 .f32) (f : M.view.ty.Contents (Elt F)) {off : Fin 3 → ℕ} (j : Fin 4)
    (h : off = ![j.val, 0, 0]) (inb : ∀ a, off a + S1x512x512.size a ≤ S4x512x512.size a) :
    M.view.readAt (Elt F) (Rect.unit (s := S4x512x512) off S1x512x512.size inb).toLoadRect f = sqBlk (F := F) (M.view.read (Elt F) f) j :=
  View.readAt_unit M.view f inb h (sq_inb j)

/-- A store over a plane replaces that plane. -/
theorem writeSq (M : Memref sig .tc sp S4x512x512 .f32) (f : M.view.ty.Contents (Elt F)) {off : Fin 3 → ℕ} (j : Fin 4)
    (h : off = ![j.val, 0, 0]) (inb : ∀ a, off a + S1x512x512.size a ≤ S4x512x512.size a) (w : Vec F S1x512x512 .f32) (L : List (View.Piece (Elt F) S4x512x512 .f32)) :
    M.view.read (Elt F) (M.view.writes (Elt F) f (⟨Rect.unit (s := S4x512x512) off S1x512x512.size inb, w⟩ :: L))
      = putSq (F := F) (M.view.read (Elt F) (M.view.writes (Elt F) f L)) j w :=
  View.read_writes_cons_put M.view f inb w L h

end Blocks

/-! ## The loops -/

section Loops
variable (𝒱 : Variants) (c : Dev nD) (bd : Option 𝒱.V) (E : Set ℕ) (i : grid0.Coords)
  (arg2 : Memref sig .tc .vmem S512x128 .bf16) (harg2 : arg2.IsWhole) (arg3 : Memref sig .tc .vmem S2048x128 .bf16) (harg3 : arg3.IsWhole)
  (arg4 : Memref sig .tc .vmem S2048x128 .bf16) (harg4 : arg4.IsWhole) (arg5 : Memref sig .tc .vmem S512x128 .bf16) (harg5 : arg5.IsWhole)
  (arg6 : Memref sig .tc .vmem S512x128 .bf16) (harg6 : arg6.IsWhole) (arg7 : Memref sig .tc .vmem S2048x128 .bf16) (harg7 : arg7.IsWhole)
  (arg8 : Memref sig .tc .vmem S2048x128 .bf16) (harg8 : arg8.IsWhole) (arg9 : Memref sig .tc .vmem S4x512x512 .f32) (harg9 : arg9.IsWhole)
  (arg10 : Memref sig .tc .vmem S4x512x512 .f32) (harg10 : arg10.IsWhole) (arg11 : Memref sig .tc .vmem S2048x128 .f32) (harg11 : arg11.IsWhole)
  (arg12 : Memref sig .tc .vmem S2048x128 .f32) (harg12 : arg12.IsWhole)

/-- The first pass's loop: before trip `k` the two stacks and the gradient of `v` read what `es`, `ss` and `ds` say of
    their contents at loop entry, and the carried value is `runs`. -/
@[instance_reducible, sl_loop] def loop1 (arg1 : BitVec 32) (v0 v1 : Vec F S512x128 .bf16) (v12 : FVec F S128x256 .bf16) (v15 : BitVec 32) (v24 : IVec S512x512 1)
    (v39 : FVec F S512x512 .f32) (v86 : FVec F S512x128 .f32) (v88 : FVec F S512x512 .f32)
    (X3 : BufTy.Contents (Elt F) arg3.view.ty) (X4 : BufTy.Contents (Elt F) arg4.view.ty)
    (G9 : BufTy.Contents (Elt F) arg9.view.ty) (G10 : BufTy.Contents (Elt F) arg10.view.ty) (G12 : BufTy.Contents (Elt F) arg12.view.ty)
    (init : FVec F S512x128 .f32) :
    Idealize.ShloMosaic.LoopInv (M := 𝕄) Idealize.ShloMosaic.frame (wpE (defs₀ (F := F)) 𝒱 (c : Thread nD τ) bd) E
      (k0_t1_loop i).lb (k0_t1_loop i).ub (k0_t1_loop i).st (k0_t1_ok i) init
      (k0_t1_body (F := F) i arg2 harg2 arg3 harg3 arg4 harg4 arg5 harg5 arg6 harg6 arg7 harg7 arg8 harg8 arg9 harg9 arg10 harg10 arg11 harg11 arg12 harg12 arg1 v0 v1 v12 v15 v24 v39 v86 v88) where
  inv k acc := iprop((arg3.view.loc (c : Thread nD τ) ↦[arg3.view.set]{fullShare} X3) ∗ (arg4.view.loc (c : Thread nD τ) ↦[arg4.view.set]{fullShare} X4)
    ∗ (∃ f, (arg9.view.loc (c : Thread nD τ) ↦[arg9.view.set]{fullShare} f)
        ∗ ⌜arg9.view.read (Elt F) f = es i v0 v1 v12 (arg3.view.read (Elt F) X3) (arg4.view.read (Elt F) X4) init (arg9.view.read (Elt F) G9) k⌝)
    ∗ (∃ f, (arg10.view.loc (c : Thread nD τ) ↦[arg10.view.set]{fullShare} f)
        ∗ ⌜arg10.view.read (Elt F) f = ss i v0 (arg3.view.read (Elt F) X3) (arg10.view.read (Elt F) G10) k⌝)
    ∗ (∃ f, (arg12.view.loc (c : Thread nD τ) ↦[arg12.view.set]{fullShare} f)
        ∗ ⌜arg12.view.read (Elt F) f = ds i v0 v1 v12 (arg3.view.read (Elt F) X3) init (arg12.view.read (Elt F) G12) k⌝)
    ∗ ⌜acc = runs i v0 v12 (arg3.view.read (Elt F) X3) init k⌝)
  step k acc := by
    iintro ⟨H3, H4, ⟨%f9, H9, %h9⟩, ⟨%f10, H10, %h10⟩, ⟨%f12, H12, %h12⟩, %hacc⟩
    subst hacc
    unfold k0_t1_body
    sl_exec
    sl_step
    isplitl [H3]; · iexact H3
    isplitl [H4]; · iexact H4
    have e3 := readRow arg3 X3 (bk i (k.val + 1)) (off3_eq i k) (k0_off3_inb i k)
    have e4 := readRow arg4 X4 (bk i (k.val + 1)) (off3_eq i k) (k0_off3_inb i k)
    have e12 := readRow arg12 f12 (bk i (k.val + 1)) (off3_eq i k) (k0_off3_inb i k)
    isplitl [H9]
    · iexists _; isplitl; · iexact H9
      ipureintro
      refine (writeSq arg9 f9 (bk i (k.val + 1)) (off4_eq i k) (k0_off4_inb i k) _ []).trans ?_
      rw [View.writes_nil, h9]
      show _ = putSq _ _ (t1e _ _ _ _ _ _)
      rw [← e3, ← e4]
      rfl
    isplitl [H10]
    · iexists _; isplitl; · iexact H10
      ipureintro
      refine (writeSq arg10 f10 (bk i (k.val + 1)) (off4_eq i k) (k0_off4_inb i k) _ []).trans ?_
      rw [View.writes_nil, h10]
      show _ = putSq _ _ (t1s _ _)
      rw [← e3]
      rfl
    isplitl [H12]
    · iexists _; isplitl; · iexact H12
      ipureintro
      refine (writeRow arg12 f12 (bk i (k.val + 1)) (off3_eq i k) (k0_off3_inb i k) _ []).trans ?_
      rw [View.writes_nil]
      show _ = putRow (F := F) _ _ (t1d (F := F) _ _ _ _ _ (rowBlk (F := F) _ _))
      rw [← h12, ← e3, ← e12]
      rfl
    ipureintro
    show _ = t1r _ _ _ _
    rw [← e3]
    rfl

/-- The second pass's loop: before trip `k` the gradient of `k` reads what `ks` says of its contents at loop entry, and
    the carried values are `st3`. -/
@[instance_reducible, sl_loop] def loop3 (arg1 : BitVec 32) (v0 : Vec F S512x128 .bf16) (v128 : FVec F S128x256 .bf16) (v129 : FVec F S512x128 .f32)
    (X3 : BufTy.Contents (Elt F) arg3.view.ty) (G9 : BufTy.Contents (Elt F) arg9.view.ty) (G10 : BufTy.Contents (Elt F) arg10.view.ty)
    (G11 : BufTy.Contents (Elt F) arg11.view.ty) (init : FVec F S512x128 .f32 × FVec F S512x128 .f32) :
    Idealize.ShloMosaic.LoopInv (M := 𝕄) Idealize.ShloMosaic.frame (wpE (defs₀ (F := F)) 𝒱 (c : Thread nD τ) bd) E
      (k0_t3_loop i).lb (k0_t3_loop i).ub (k0_t3_loop i).st (k0_t3_ok i) init
      (k0_t3_body (F := F) i arg2 harg2 arg3 harg3 arg4 harg4 arg5 harg5 arg6 harg6 arg7 harg7 arg8 harg8 arg9 harg9 arg10 harg10 arg11 harg11 arg12 harg12 arg1 v0 v128 v129) where
  inv k acc := iprop((arg3.view.loc (c : Thread nD τ) ↦[arg3.view.set]{fullShare} X3) ∗ (arg9.view.loc (c : Thread nD τ) ↦[arg9.view.set]{fullShare} G9)
    ∗ (arg10.view.loc (c : Thread nD τ) ↦[arg10.view.set]{fullShare} G10)
    ∗ (∃ f, (arg11.view.loc (c : Thread nD τ) ↦[arg11.view.set]{fullShare} f)
        ∗ ⌜arg11.view.read (Elt F) f = ks v0 v128 (arg3.view.read (Elt F) X3) (arg9.view.read (Elt F) G9) (arg10.view.read (Elt F) G10) init (arg11.view.read (Elt F) G11) k⌝)
    ∗ ⌜acc = st3 v128 (arg3.view.read (Elt F) X3) (arg9.view.read (Elt F) G9) (arg10.view.read (Elt F) G10) init k⌝)
  step k acc := by
    iintro ⟨H3, H9, H10, ⟨%f11, H11, %h11⟩, %hacc⟩
    subst hacc
    unfold k0_t3_body
    sl_exec
    sl_step
    have e3 := readRow arg3 X3 (fk k.val) (off7_eq i k) (k0_off7_inb i k)
    have e9 := readSq arg9 G9 (fk k.val) (off8_eq i k) (k0_off8_inb i k)
    have e10 := readSq arg10 G10 (fk k.val) (off8_eq i k) (k0_off8_inb i k)
    have e11 := readRow arg11 f11 (fk k.val) (off7_eq i k) (k0_off7_inb i k)
    isplitl [H3]; · iexact H3
    isplitl [H9]; · iexact H9
    isplitl [H10]; · iexact H10
    isplitl [H11]
    · iexists _; isplitl; · iexact H11
      ipureintro
      refine (writeRow arg11 f11 (fk k.val) (off7_eq i k) (k0_off7_inb i k) _ []).trans ?_
      rw [View.writes_nil]
      show _ = putRow (F := F) _ _ (t3k (F := F) _ _ _ _ _ (rowBlk (F := F) _ _))
      rw [← h11, ← e9, ← e10, ← e11]
      rfl
    ipureintro
    show _ = (t3r _ _ _, t3q _ _ _ _ _ _)
    rw [← e9, ← e10, ← e3]
    rfl

end Loops

end Cert.Proof.SB

end
-- ==== Proof.Body.lean ====
/-
  One grid point of the stick-breaking backward kernel, run on whole staging buffers: what every buffer reads after it.
-/
module

public import proofs.«01_k».proof.Proof.Loops

@[expose] public section

set_option maxRecDepth 16384
set_option maxHeartbeats 1000000

noncomputable section

namespace Cert.Proof.SB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The condition of the kernel's first branch: the point is its head's first. -/
def cond1 (i : grid0.Coords) : BitVec 1 := Scalar.cmpi .ne (Scalar.extui (Scalar.cmpi .eq (BitVec.ofNat 32 (i 1).val) 0#32)) 0#32

section
variable (c : Dev nD) (i : grid0.Coords)
  (arg2 : Memref sig .tc .vmem S512x128 .bf16) (harg2 : arg2.IsWhole) (arg3 : Memref sig .tc .vmem S2048x128 .bf16) (harg3 : arg3.IsWhole)
  (arg4 : Memref sig .tc .vmem S2048x128 .bf16) (harg4 : arg4.IsWhole) (arg5 : Memref sig .tc .vmem S512x128 .bf16) (harg5 : arg5.IsWhole)
  (arg6 : Memref sig .tc .vmem S512x128 .bf16) (harg6 : arg6.IsWhole) (arg7 : Memref sig .tc .vmem S2048x128 .bf16) (harg7 : arg7.IsWhole)
  (arg8 : Memref sig .tc .vmem S2048x128 .bf16) (harg8 : arg8.IsWhole) (arg9 : Memref sig .tc .vmem S4x512x512 .f32) (harg9 : arg9.IsWhole)
  (arg10 : Memref sig .tc .vmem S4x512x512 .f32) (harg10 : arg10.IsWhole) (arg11 : Memref sig .tc .vmem S2048x128 .f32) (harg11 : arg11.IsWhole)
  (arg12 : Memref sig .tc .vmem S2048x128 .f32) (harg12 : arg12.IsWhole)
  (q dy : Vec F S512x128 .bf16) (K V : Vec F S2048x128 .bf16) (o7 o8 : Vec F S2048x128 .bf16) (Y9 Y10 : Vec F S4x512x512 .f32) (D11 D12 : Vec F S2048x128 .f32)

/-- A point that is neither its head's first nor its last: the gradients accumulated so far grow by this block's. -/
theorem body_mid (h1 : ¬ cond1 i = 1#1) (h2 : ¬ k0_cond2 i = 1#1) (E : Set ℕ) (R : PUnit → sProp 𝕄) :
    iprop(owns (c : Thread nD τ) arg2 fullShare q ∗ owns (c : Thread nD τ) arg3 fullShare K ∗ owns (c : Thread nD τ) arg4 fullShare V
        ∗ owns (c : Thread nD τ) arg5 fullShare dy ∗ (∃ d, owns (c : Thread nD τ) arg6 fullShare d) ∗ owns (c : Thread nD τ) arg7 fullShare o7 ∗ owns (c : Thread nD τ) arg8 fullShare o8
        ∗ owns (c : Thread nD τ) arg9 fullShare Y9 ∗ owns (c : Thread nD τ) arg10 fullShare Y10 ∗ owns (c : Thread nD τ) arg11 fullShare D11 ∗ owns (c : Thread nD τ) arg12 fullShare D12
        ∗ (iprop(owns (c : Thread nD τ) arg2 fullShare q ∗ owns (c : Thread nD τ) arg3 fullShare K ∗ owns (c : Thread nD τ) arg4 fullShare V
            ∗ owns (c : Thread nD τ) arg5 fullShare dy ∗ owns (c : Thread nD τ) arg6 fullShare (ptQ i K (p1e i q dy K V Y9) (p1s i q K Y10))
            ∗ owns (c : Thread nD τ) arg7 fullShare o7 ∗ owns (c : Thread nD τ) arg8 fullShare o8
            ∗ owns (c : Thread nD τ) arg9 fullShare (p1e i q dy K V Y9) ∗ owns (c : Thread nD τ) arg10 fullShare (p1s i q K Y10)
            ∗ owns (c : Thread nD τ) arg11 fullShare (ptK i q K (p1e i q dy K V Y9) (p1s i q K Y10) D11)
            ∗ owns (c : Thread nD τ) arg12 fullShare (ptV i q dy K D12)) -∗ R ⟨⟩))
      ⊢ wp frame (wpE (defs₀ (F := F)) Variants.none c none) E
          (cc0_sb_bwd i arg2 harg2 arg3 harg3 arg4 harg4 arg5 harg5 arg6 harg6 arg7 harg7 arg8 harg8 arg9 harg9 arg10 harg10 arg11 harg11 arg12 harg12) R := by
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩,
    ⟨%f9, %hf9, H9⟩, ⟨%f10, %hf10, H10⟩, ⟨%f11, %hf11, H11⟩, ⟨%f12, %hf12, H12⟩, Hk⟩
  sl_unfold [cc0_sb_bwd]
  unfold cond1 at h1
  sl_exec
  sl_step
  subst hf3 hf4 hf9 hf10 hf11 hf12
  have t1 : Scf.trips (k0_t1_loop i).lb (k0_t1_loop i).ub (k0_t1_loop i).st = (i 1).val := trips1 i
  have t3 : Scf.trips (k0_t3_loop i).lb (k0_t3_loop i).ub (k0_t3_loop i).st = (i 1).val := trips3 i
  have e2 := (View.readAt_full arg2.view f2 (off := ![0, 0]) inb_S512x128_S512x128_0_0).trans hf2
  have e5 := (View.readAt_full arg5.view f5 (off := ![0, 0]) inb_S512x128_S512x128_0_0).trans hf5
  have k3 := readRow arg3 f3 (ib i) (off1_eq i) (k0_off1_inb i)
  have k4 := readRow arg4 f4 (ib i) (off1_eq i) (k0_off1_inb i)
  have E9 : arg9.view.read (Elt F) fL0 = p1e i q dy (arg3.view.read (Elt F) f3) (arg4.view.read (Elt F) f4) (arg9.view.read (Elt F) f9) := by
    refine hL3.trans ?_
    rw [t1, writeSq arg9 f9 (ib i) (off2_eq i) (k0_off2_inb i), View.writes_nil]
    unfold p1e
    rw [← e2, ← e5, ← k3, ← k4]
    rfl
  have E10 : arg10.view.read (Elt F) fL1 = p1s i q (arg3.view.read (Elt F) f3) (arg10.view.read (Elt F) f10) := by
    refine hL5.trans ?_
    rw [t1, writeSq arg10 f10 (ib i) (off2_eq i) (k0_off2_inb i), View.writes_nil]
    unfold p1s
    rw [← e2, ← k3]
    rfl
  have E12 : arg12.view.read (Elt F) fL2 = ptV i q dy (arg3.view.read (Elt F) f3) (arg12.view.read (Elt F) f12) := by
    refine hL7.trans ?_
    rw [t1]
    rw [writeRow arg12 f12 (ib i) (off1_eq i) (k0_off1_inb i), View.writes_nil]
    unfold ptV
    rw [← e2, ← e5, ← k3, ← readRow arg12 f12 (ib i) (off1_eq i) (k0_off1_inb i)]
    rfl
  have E11 : arg11.view.read (Elt F) fL3 = ks q k0_pay99 (arg3.view.read (Elt F) f3) (arg9.view.read (Elt F) fL0) (arg10.view.read (Elt F) fL1) (k0_pay100, k0_pay101) (arg11.view.read (Elt F) f11) (i 1).val := by
    refine hL14.trans ?_
    rw [t3, ← e2]
    rfl
  have g9 := readSq arg9 fL0 (ib i) (off2_eq i) (k0_off2_inb i)
  have g10 := readSq arg10 fL1 (ib i) (off2_eq i) (k0_off2_inb i)
  have k11 := readRow arg11 fL3 (ib i) (off1_eq i) (k0_off1_inb i)
  have O11 : ∀ w, w = fin_k i (arg2.view.readAt (Elt F) (Rect.unit (s := S512x128) ![0, 0] S512x128.size inb_S512x128_S512x128_0_0).toLoadRect f2)
        (p2 i (arg3.view.read (Elt F) f3) (arg9.view.read (Elt F) fL0) (arg10.view.read (Elt F) fL1))
        (arg10.view.readAt (Elt F) (Rect.unit (s := S4x512x512) (k0_off2 i) S1x512x512.size (k0_off2_inb i)).toLoadRect fL1)
        (arg9.view.readAt (Elt F) (Rect.unit (s := S4x512x512) (k0_off2 i) S1x512x512.size (k0_off2_inb i)).toLoadRect fL0)
        (arg11.view.readAt (Elt F) (Rect.unit (s := S2048x128) (k0_off1 i) S512x128.size (k0_off1_inb i)).toLoadRect fL3) →
      arg11.view.read (Elt F) (arg11.view.writes (Elt F) fL3 [⟨Rect.unit (s := S2048x128) (k0_off1 i) S512x128.size (k0_off1_inb i), w⟩])
        = ptK i q (arg3.view.read (Elt F) f3) (p1e i q dy (arg3.view.read (Elt F) f3) (arg4.view.read (Elt F) f4) (arg9.view.read (Elt F) f9))
            (p1s i q (arg3.view.read (Elt F) f3) (arg10.view.read (Elt F) f10)) (arg11.view.read (Elt F) f11) := fun w hw => by
    subst hw
    rw [writeRow arg11 fL3 (ib i) (off1_eq i) (k0_off1_inb i), View.writes_nil, e2, g9, g10, k11, E11, E9, E10]
    rfl
  have O6 : ∀ w, w = fin_q i (p2 i (arg3.view.read (Elt F) f3) (arg9.view.read (Elt F) fL0) (arg10.view.read (Elt F) fL1))
        (arg3.view.readAt (Elt F) (Rect.unit (s := S2048x128) (k0_off1 i) S512x128.size (k0_off1_inb i)).toLoadRect f3)
        (arg10.view.readAt (Elt F) (Rect.unit (s := S4x512x512) (k0_off2 i) S1x512x512.size (k0_off2_inb i)).toLoadRect fL1)
        (arg9.view.readAt (Elt F) (Rect.unit (s := S4x512x512) (k0_off2 i) S1x512x512.size (k0_off2_inb i)).toLoadRect fL0) →
      arg6.view.read (Elt F) (arg6.view.writes (Elt F) f6 [⟨Rect.unit (s := S512x128) ![0, 0] S512x128.size inb_S512x128_S512x128_0_0, w⟩])
        = ptQ i (arg3.view.read (Elt F) f3) (p1e i q dy (arg3.view.read (Elt F) f3) (arg4.view.read (Elt F) f4) (arg9.view.read (Elt F) f9))
            (p1s i q (arg3.view.read (Elt F) f3) (arg10.view.read (Elt F) f10)) := fun w hw => by
    subst hw
    rw [View.read_writes_full arg6.view, k3, g9, g10, E9, E10]
    rfl
  iapply Hk
  isplitl [H2]; · iexists f2; isplitr; · ipureintro; exact hf2
                  iexact H2
  isplitl [H3]; · iexists f3; isplitr; · ipureintro; rfl
                  iexact H3
  isplitl [H4]; · iexists f4; isplitr; · ipureintro; rfl
                  iexact H4
  isplitl [H5]; · iexists f5; isplitr; · ipureintro; exact hf5
                  iexact H5
  isplitl [H6]
  · iexists _; isplitr; swap; · iexact H6
    ipureintro; exact O6 _ (by rw [show p2 i (arg3.view.read (Elt F) f3) (arg9.view.read (Elt F) fL0) (arg10.view.read (Elt F) fL1) = st3 k0_pay99 (arg3.view.read (Elt F) f3) (arg9.view.read (Elt F) fL0) (arg10.view.read (Elt F) fL1) (k0_pay100, k0_pay101) (Scf.trips (k0_t3_loop i).lb (k0_t3_loop i).ub (k0_t3_loop i).st) from by rw [t3]]; rfl)
  isplitl [H7]; · iexists _; isplitr; swap; · iexact H7
                  ipureintro; exact hf7
  isplitl [H8]; · iexists _; isplitr; swap; · iexact H8
                  ipureintro; exact hf8
  isplitl [H9]; · iexists fL0; isplitr; · ipureintro; exact E9
                  iexact H9
  isplitl [H10]; · iexists fL1; isplitr; · ipureintro; exact E10
                   iexact H10
  isplitl [H11]
  · iexists _; isplitr; swap; · iexact H11
    ipureintro; exact O11 _ (by rw [show p2 i (arg3.view.read (Elt F) f3) (arg9.view.read (Elt F) fL0) (arg10.view.read (Elt F) fL1) = st3 k0_pay99 (arg3.view.read (Elt F) f3) (arg9.view.read (Elt F) fL0) (arg10.view.read (Elt F) fL1) (k0_pay100, k0_pay101) (Scf.trips (k0_t3_loop i).lb (k0_t3_loop i).ub (k0_t3_loop i).st) from by rw [t3]]; rfl)
  iexists fL2; isplitr; · ipureintro; exact E12
  iexact H12

/-- The first point of a head: the accumulated gradients start from zero. -/
theorem body_first (h1 : cond1 i = 1#1) (h2 : ¬ k0_cond2 i = 1#1) (E : Set ℕ) (R : PUnit → sProp 𝕄) :
    iprop(owns (c : Thread nD τ) arg2 fullShare q ∗ owns (c : Thread nD τ) arg3 fullShare K ∗ owns (c : Thread nD τ) arg4 fullShare V
        ∗ owns (c : Thread nD τ) arg5 fullShare dy ∗ (∃ d, owns (c : Thread nD τ) arg6 fullShare d) ∗ owns (c : Thread nD τ) arg7 fullShare o7 ∗ owns (c : Thread nD τ) arg8 fullShare o8
        ∗ owns (c : Thread nD τ) arg9 fullShare Y9 ∗ owns (c : Thread nD τ) arg10 fullShare Y10 ∗ owns (c : Thread nD τ) arg11 fullShare D11 ∗ owns (c : Thread nD τ) arg12 fullShare D12
        ∗ (iprop(owns (c : Thread nD τ) arg2 fullShare q ∗ owns (c : Thread nD τ) arg3 fullShare K ∗ owns (c : Thread nD τ) arg4 fullShare V
            ∗ owns (c : Thread nD τ) arg5 fullShare dy ∗ owns (c : Thread nD τ) arg6 fullShare (ptQ i K (p1e i q dy K V Y9) (p1s i q K Y10))
            ∗ owns (c : Thread nD τ) arg7 fullShare o7 ∗ owns (c : Thread nD τ) arg8 fullShare o8
            ∗ owns (c : Thread nD τ) arg9 fullShare (p1e i q dy K V Y9) ∗ owns (c : Thread nD τ) arg10 fullShare (p1s i q K Y10)
            ∗ owns (c : Thread nD τ) arg11 fullShare (ptK i q K (p1e i q dy K V Y9) (p1s i q K Y10) k0_pay75)
            ∗ owns (c : Thread nD τ) arg12 fullShare (ptV i q dy K k0_pay76)) -∗ R ⟨⟩))
      ⊢ wp frame (wpE (defs₀ (F := F)) Variants.none c none) E
          (cc0_sb_bwd i arg2 harg2 arg3 harg3 arg4 harg4 arg5 harg5 arg6 harg6 arg7 harg7 arg8 harg8 arg9 harg9 arg10 harg10 arg11 harg11 arg12 harg12) R := by
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩,
    ⟨%f9, %hf9, H9⟩, ⟨%f10, %hf10, H10⟩, ⟨%f11, %hf11, H11⟩, ⟨%f12, %hf12, H12⟩, Hk⟩
  sl_unfold [cc0_sb_bwd]
  unfold cond1 at h1
  sl_exec
  sl_step
  subst hf3 hf4 hf9 hf10 hf11 hf12
  have t1 : Scf.trips (k0_t1_loop i).lb (k0_t1_loop i).ub (k0_t1_loop i).st = (i 1).val := trips1 i
  have t3 : Scf.trips (k0_t3_loop i).lb (k0_t3_loop i).ub (k0_t3_loop i).st = (i 1).val := trips3 i
  have e2 := (View.readAt_full arg2.view f2 (off := ![0, 0]) inb_S512x128_S512x128_0_0).trans hf2
  have e5 := (View.readAt_full arg5.view f5 (off := ![0, 0]) inb_S512x128_S512x128_0_0).trans hf5
  have k3 := readRow arg3 f3 (ib i) (off1_eq i) (k0_off1_inb i)
  have k4 := readRow arg4 f4 (ib i) (off1_eq i) (k0_off1_inb i)
  have E9 : arg9.view.read (Elt F) fL0 = p1e i q dy (arg3.view.read (Elt F) f3) (arg4.view.read (Elt F) f4) (arg9.view.read (Elt F) f9) := by
    refine hL3.trans ?_
    rw [t1, writeSq arg9 f9 (ib i) (off2_eq i) (k0_off2_inb i), View.writes_nil]
    unfold p1e
    rw [← e2, ← e5, ← k3, ← k4]
    rfl
  have E10 : arg10.view.read (Elt F) fL1 = p1s i q (arg3.view.read (Elt F) f3) (arg10.view.read (Elt F) f10) := by
    refine hL5.trans ?_
    rw [t1, writeSq arg10 f10 (ib i) (off2_eq i) (k0_off2_inb i), View.writes_nil]
    unfold p1s
    rw [← e2, ← k3]
    rfl
  have E12 : arg12.view.read (Elt F) fL2 = ptV i q dy (arg3.view.read (Elt F) f3) k0_pay76 := by
    refine hL7.trans ?_
    rw [t1]
    have z12 := View.read_writes_full (Val := Elt F) arg12.view arg12.view.junk (off := ![0, 0]) inb_S2048x128_S2048x128_0_0 (k0_pay76 (F := F)) []
    have y12 := readRow arg12 (arg12.view.writes (Elt F) arg12.view.junk [⟨Rect.unit (s := S2048x128) ![0, 0] S2048x128.size inb_S2048x128_S2048x128_0_0, k0_pay76 (F := F)⟩]) (ib i) (off1_eq i) (k0_off1_inb i)
    refine (congrArg (fun D => ds i _ _ k0_pay77 _ _ D (i 1).val) (writeRow arg12 arg12.view.junk (ib i) (off1_eq i) (k0_off1_inb i) _ _)).trans ?_
    unfold ptV
    rw [← e2, ← e5, ← k3, ← z12, ← y12]
    rfl
  have E11 : arg11.view.read (Elt F) fL3 = ks q k0_pay99 (arg3.view.read (Elt F) f3) (arg9.view.read (Elt F) fL0) (arg10.view.read (Elt F) fL1) (k0_pay100, k0_pay101) k0_pay75 (i 1).val := by
    refine hL14.trans ?_
    rw [t3, ← e2]
    rw [← View.read_writes_full (Val := Elt F) arg11.view arg11.view.junk (off := ![0, 0]) inb_S2048x128_S2048x128_0_0 (k0_pay75 (F := F)) []]
    rfl
  have g9 := readSq arg9 fL0 (ib i) (off2_eq i) (k0_off2_inb i)
  have g10 := readSq arg10 fL1 (ib i) (off2_eq i) (k0_off2_inb i)
  have k11 := readRow arg11 fL3 (ib i) (off1_eq i) (k0_off1_inb i)
  have O11 : ∀ w, w = fin_k i (arg2.view.readAt (Elt F) (Rect.unit (s := S512x128) ![0, 0] S512x128.size inb_S512x128_S512x128_0_0).toLoadRect f2)
        (p2 i (arg3.view.read (Elt F) f3) (arg9.view.read (Elt F) fL0) (arg10.view.read (Elt F) fL1))
        (arg10.view.readAt (Elt F) (Rect.unit (s := S4x512x512) (k0_off2 i) S1x512x512.size (k0_off2_inb i)).toLoadRect fL1)
        (arg9.view.readAt (Elt F) (Rect.unit (s := S4x512x512) (k0_off2 i) S1x512x512.size (k0_off2_inb i)).toLoadRect fL0)
        (arg11.view.readAt (Elt F) (Rect.unit (s := S2048x128) (k0_off1 i) S512x128.size (k0_off1_inb i)).toLoadRect fL3) →
      arg11.view.read (Elt F) (arg11.view.writes (Elt F) fL3 [⟨Rect.unit (s := S2048x128) (k0_off1 i) S512x128.size (k0_off1_inb i), w⟩])
        = ptK i q (arg3.view.read (Elt F) f3) (p1e i q dy (arg3.view.read (Elt F) f3) (arg4.view.read (Elt F) f4) (arg9.view.read (Elt F) f9))
            (p1s i q (arg3.view.read (Elt F) f3) (arg10.view.read (Elt F) f10)) k0_pay75 := fun w hw => by
    subst hw
    rw [writeRow arg11 fL3 (ib i) (off1_eq i) (k0_off1_inb i), View.writes_nil, e2, g9, g10, k11, E11, E9, E10]
    rfl
  have O6 : ∀ w, w = fin_q i (p2 i (arg3.view.read (Elt F) f3) (arg9.view.read (Elt F) fL0) (arg10.view.read (Elt F) fL1))
        (arg3.view.readAt (Elt F) (Rect.unit (s := S2048x128) (k0_off1 i) S512x128.size (k0_off1_inb i)).toLoadRect f3)
        (arg10.view.readAt (Elt F) (Rect.unit (s := S4x512x512) (k0_off2 i) S1x512x512.size (k0_off2_inb i)).toLoadRect fL1)
        (arg9.view.readAt (Elt F) (Rect.unit (s := S4x512x512) (k0_off2 i) S1x512x512.size (k0_off2_inb i)).toLoadRect fL0) →
      arg6.view.read (Elt F) (arg6.view.writes (Elt F) f6 [⟨Rect.unit (s := S512x128) ![0, 0] S512x128.size inb_S512x128_S512x128_0_0, w⟩])
        = ptQ i (arg3.view.read (Elt F) f3) (p1e i q dy (arg3.view.read (Elt F) f3) (arg4.view.read (Elt F) f4) (arg9.view.read (Elt F) f9))
            (p1s i q (arg3.view.read (Elt F) f3) (arg10.view.read (Elt F) f10)) := fun w hw => by
    subst hw
    rw [View.read_writes_full arg6.view, k3, g9, g10, E9, E10]
    rfl
  iapply Hk
  isplitl [H2]; · iexists f2; isplitr; · ipureintro; exact hf2
                  iexact H2
  isplitl [H3]; · iexists f3; isplitr; · ipureintro; rfl
                  iexact H3
  isplitl [H4]; · iexists f4; isplitr; · ipureintro; rfl
                  iexact H4
  isplitl [H5]; · iexists f5; isplitr; · ipureintro; exact hf5
                  iexact H5
  isplitl [H6]
  · iexists _; isplitr; swap; · iexact H6
    ipureintro; exact O6 _ (by rw [show p2 i (arg3.view.read (Elt F) f3) (arg9.view.read (Elt F) fL0) (arg10.view.read (Elt F) fL1) = st3 k0_pay99 (arg3.view.read (Elt F) f3) (arg9.view.read (Elt F) fL0) (arg10.view.read (Elt F) fL1) (k0_pay100, k0_pay101) (Scf.trips (k0_t3_loop i).lb (k0_t3_loop i).ub (k0_t3_loop i).st) from by rw [t3]]; rfl)
  isplitl [H7]; · iexists _; isplitr; swap; · iexact H7
                  ipureintro; exact hf7
  isplitl [H8]; · iexists _; isplitr; swap; · iexact H8
                  ipureintro; exact hf8
  isplitl [H9]; · iexists fL0; isplitr; · ipureintro; exact E9
                  iexact H9
  isplitl [H10]; · iexists fL1; isplitr; · ipureintro; exact E10
                   iexact H10
  isplitl [H11]
  · iexists _; isplitr; swap; · iexact H11
    ipureintro; exact O11 _ (by rw [show p2 i (arg3.view.read (Elt F) f3) (arg9.view.read (Elt F) fL0) (arg10.view.read (Elt F) fL1) = st3 k0_pay99 (arg3.view.read (Elt F) f3) (arg9.view.read (Elt F) fL0) (arg10.view.read (Elt F) fL1) (k0_pay100, k0_pay101) (Scf.trips (k0_t3_loop i).lb (k0_t3_loop i).ub (k0_t3_loop i).st) from by rw [t3]]; rfl)
  iexists fL2; isplitr; · ipureintro; exact E12
  iexact H12

/-- The last point of a head: the accumulated gradients are also written out, rounded. -/
theorem body_last (h1 : ¬ cond1 i = 1#1) (h2 : k0_cond2 i = 1#1) (E : Set ℕ) (R : PUnit → sProp 𝕄) :
    iprop(owns (c : Thread nD τ) arg2 fullShare q ∗ owns (c : Thread nD τ) arg3 fullShare K ∗ owns (c : Thread nD τ) arg4 fullShare V
        ∗ owns (c : Thread nD τ) arg5 fullShare dy ∗ (∃ d, owns (c : Thread nD τ) arg6 fullShare d) ∗ owns (c : Thread nD τ) arg7 fullShare o7 ∗ owns (c : Thread nD τ) arg8 fullShare o8
        ∗ owns (c : Thread nD τ) arg9 fullShare Y9 ∗ owns (c : Thread nD τ) arg10 fullShare Y10 ∗ owns (c : Thread nD τ) arg11 fullShare D11 ∗ owns (c : Thread nD τ) arg12 fullShare D12
        ∗ (iprop(owns (c : Thread nD τ) arg2 fullShare q ∗ owns (c : Thread nD τ) arg3 fullShare K ∗ owns (c : Thread nD τ) arg4 fullShare V
            ∗ owns (c : Thread nD τ) arg5 fullShare dy ∗ owns (c : Thread nD τ) arg6 fullShare (ptQ i K (p1e i q dy K V Y9) (p1s i q K Y10))
            ∗ owns (c : Thread nD τ) arg7 fullShare (k0_pay1 (ptK i q K (p1e i q dy K V Y9) (p1s i q K Y10) D11)) ∗ owns (c : Thread nD τ) arg8 fullShare (k0_pay2 (ptV i q dy K D12))
            ∗ owns (c : Thread nD τ) arg9 fullShare (p1e i q dy K V Y9) ∗ owns (c : Thread nD τ) arg10 fullShare (p1s i q K Y10)
            ∗ owns (c : Thread nD τ) arg11 fullShare (ptK i q K (p1e i q dy K V Y9) (p1s i q K Y10) D11)
            ∗ owns (c : Thread nD τ) arg12 fullShare (ptV i q dy K D12)) -∗ R ⟨⟩))
      ⊢ wp frame (wpE (defs₀ (F := F)) Variants.none c none) E
          (cc0_sb_bwd i arg2 harg2 arg3 harg3 arg4 harg4 arg5 harg5 arg6 harg6 arg7 harg7 arg8 harg8 arg9 harg9 arg10 harg10 arg11 harg11 arg12 harg12) R := by
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩,
    ⟨%f9, %hf9, H9⟩, ⟨%f10, %hf10, H10⟩, ⟨%f11, %hf11, H11⟩, ⟨%f12, %hf12, H12⟩, Hk⟩
  sl_unfold [cc0_sb_bwd]
  unfold cond1 at h1
  sl_exec
  sl_step
  subst hf3 hf4 hf9 hf10 hf11 hf12
  have t1 : Scf.trips (k0_t1_loop i).lb (k0_t1_loop i).ub (k0_t1_loop i).st = (i 1).val := trips1 i
  have t3 : Scf.trips (k0_t3_loop i).lb (k0_t3_loop i).ub (k0_t3_loop i).st = (i 1).val := trips3 i
  have e2 := (View.readAt_full arg2.view f2 (off := ![0, 0]) inb_S512x128_S512x128_0_0).trans hf2
  have e5 := (View.readAt_full arg5.view f5 (off := ![0, 0]) inb_S512x128_S512x128_0_0).trans hf5
  have k3 := readRow arg3 f3 (ib i) (off1_eq i) (k0_off1_inb i)
  have k4 := readRow arg4 f4 (ib i) (off1_eq i) (k0_off1_inb i)
  have E9 : arg9.view.read (Elt F) fL0 = p1e i q dy (arg3.view.read (Elt F) f3) (arg4.view.read (Elt F) f4) (arg9.view.read (Elt F) f9) := by
    refine hL3.trans ?_
    rw [t1, writeSq arg9 f9 (ib i) (off2_eq i) (k0_off2_inb i), View.writes_nil]
    unfold p1e
    rw [← e2, ← e5, ← k3, ← k4]
    rfl
  have E10 : arg10.view.read (Elt F) fL1 = p1s i q (arg3.view.read (Elt F) f3) (arg10.view.read (Elt F) f10) := by
    refine hL5.trans ?_
    rw [t1, writeSq arg10 f10 (ib i) (off2_eq i) (k0_off2_inb i), View.writes_nil]
    unfold p1s
    rw [← e2, ← k3]
    rfl
  have E12 : arg12.view.read (Elt F) fL2 = ptV i q dy (arg3.view.read (Elt F) f3) (arg12.view.read (Elt F) f12) := by
    refine hL7.trans ?_
    rw [t1]
    rw [writeRow arg12 f12 (ib i) (off1_eq i) (k0_off1_inb i), View.writes_nil]
    unfold ptV
    rw [← e2, ← e5, ← k3, ← readRow arg12 f12 (ib i) (off1_eq i) (k0_off1_inb i)]
    rfl
  have E11 : arg11.view.read (Elt F) fL3 = ks q k0_pay99 (arg3.view.read (Elt F) f3) (arg9.view.read (Elt F) fL0) (arg10.view.read (Elt F) fL1) (k0_pay100, k0_pay101) (arg11.view.read (Elt F) f11) (i 1).val := by
    refine hL14.trans ?_
    rw [t3, ← e2]
    rfl
  have g9 := readSq arg9 fL0 (ib i) (off2_eq i) (k0_off2_inb i)
  have g10 := readSq arg10 fL1 (ib i) (off2_eq i) (k0_off2_inb i)
  have k11 := readRow arg11 fL3 (ib i) (off1_eq i) (k0_off1_inb i)
  have O11 : ∀ w, w = fin_k i (arg2.view.readAt (Elt F) (Rect.unit (s := S512x128) ![0, 0] S512x128.size inb_S512x128_S512x128_0_0).toLoadRect f2)
        (p2 i (arg3.view.read (Elt F) f3) (arg9.view.read (Elt F) fL0) (arg10.view.read (Elt F) fL1))
        (arg10.view.readAt (Elt F) (Rect.unit (s := S4x512x512) (k0_off2 i) S1x512x512.size (k0_off2_inb i)).toLoadRect fL1)
        (arg9.view.readAt (Elt F) (Rect.unit (s := S4x512x512) (k0_off2 i) S1x512x512.size (k0_off2_inb i)).toLoadRect fL0)
        (arg11.view.readAt (Elt F) (Rect.unit (s := S2048x128) (k0_off1 i) S512x128.size (k0_off1_inb i)).toLoadRect fL3) →
      arg11.view.read (Elt F) (arg11.view.writes (Elt F) fL3 [⟨Rect.unit (s := S2048x128) (k0_off1 i) S512x128.size (k0_off1_inb i), w⟩])
        = ptK i q (arg3.view.read (Elt F) f3) (p1e i q dy (arg3.view.read (Elt F) f3) (arg4.view.read (Elt F) f4) (arg9.view.read (Elt F) f9))
            (p1s i q (arg3.view.read (Elt F) f3) (arg10.view.read (Elt F) f10)) (arg11.view.read (Elt F) f11) := fun w hw => by
    subst hw
    rw [writeRow arg11 fL3 (ib i) (off1_eq i) (k0_off1_inb i), View.writes_nil, e2, g9, g10, k11, E11, E9, E10]
    rfl
  have O6 : ∀ w, w = fin_q i (p2 i (arg3.view.read (Elt F) f3) (arg9.view.read (Elt F) fL0) (arg10.view.read (Elt F) fL1))
        (arg3.view.readAt (Elt F) (Rect.unit (s := S2048x128) (k0_off1 i) S512x128.size (k0_off1_inb i)).toLoadRect f3)
        (arg10.view.readAt (Elt F) (Rect.unit (s := S4x512x512) (k0_off2 i) S1x512x512.size (k0_off2_inb i)).toLoadRect fL1)
        (arg9.view.readAt (Elt F) (Rect.unit (s := S4x512x512) (k0_off2 i) S1x512x512.size (k0_off2_inb i)).toLoadRect fL0) →
      arg6.view.read (Elt F) (arg6.view.writes (Elt F) f6 [⟨Rect.unit (s := S512x128) ![0, 0] S512x128.size inb_S512x128_S512x128_0_0, w⟩])
        = ptQ i (arg3.view.read (Elt F) f3) (p1e i q dy (arg3.view.read (Elt F) f3) (arg4.view.read (Elt F) f4) (arg9.view.read (Elt F) f9))
            (p1s i q (arg3.view.read (Elt F) f3) (arg10.view.read (Elt F) f10)) := fun w hw => by
    subst hw
    rw [View.read_writes_full arg6.view, k3, g9, g10, E9, E10]
    rfl
  iapply Hk
  isplitl [H2]; · iexists f2; isplitr; · ipureintro; exact hf2
                  iexact H2
  isplitl [H3]; · iexists f3; isplitr; · ipureintro; rfl
                  iexact H3
  isplitl [H4]; · iexists f4; isplitr; · ipureintro; rfl
                  iexact H4
  isplitl [H5]; · iexists f5; isplitr; · ipureintro; exact hf5
                  iexact H5
  isplitl [H6]
  · iexists _; isplitr; swap; · iexact H6
    ipureintro; exact O6 _ (by rw [show p2 i (arg3.view.read (Elt F) f3) (arg9.view.read (Elt F) fL0) (arg10.view.read (Elt F) fL1) = st3 k0_pay99 (arg3.view.read (Elt F) f3) (arg9.view.read (Elt F) fL0) (arg10.view.read (Elt F) fL1) (k0_pay100, k0_pay101) (Scf.trips (k0_t3_loop i).lb (k0_t3_loop i).ub (k0_t3_loop i).st) from by rw [t3]]; rfl)
  isplitl [H7]; · iexists _; isplitr; swap; · iexact H7
                  ipureintro; refine (View.read_writes_full arg7.view f7 _ _ []).trans ?_
                  exact congrArg k0_pay1 ((View.readAt_full arg11.view _ (off := ![0, 0]) inb_S2048x128_S2048x128_0_0).trans (O11 _ (by rw [show p2 i (arg3.view.read (Elt F) f3) (arg9.view.read (Elt F) fL0) (arg10.view.read (Elt F) fL1) = st3 k0_pay99 (arg3.view.read (Elt F) f3) (arg9.view.read (Elt F) fL0) (arg10.view.read (Elt F) fL1) (k0_pay100, k0_pay101) (Scf.trips (k0_t3_loop i).lb (k0_t3_loop i).ub (k0_t3_loop i).st) from by rw [t3]]; rfl)))
  isplitl [H8]; · iexists _; isplitr; swap; · iexact H8
                  ipureintro; refine (View.read_writes_full arg8.view f8 _ _ []).trans ?_
                  exact congrArg k0_pay2 ((View.readAt_full arg12.view fL2 (off := ![0, 0]) inb_S2048x128_S2048x128_0_0).trans E12)
  isplitl [H9]; · iexists fL0; isplitr; · ipureintro; exact E9
                  iexact H9
  isplitl [H10]; · iexists fL1; isplitr; · ipureintro; exact E10
                   iexact H10
  isplitl [H11]
  · iexists _; isplitr; swap; · iexact H11
    ipureintro; exact O11 _ (by rw [show p2 i (arg3.view.read (Elt F) f3) (arg9.view.read (Elt F) fL0) (arg10.view.read (Elt F) fL1) = st3 k0_pay99 (arg3.view.read (Elt F) f3) (arg9.view.read (Elt F) fL0) (arg10.view.read (Elt F) fL1) (k0_pay100, k0_pay101) (Scf.trips (k0_t3_loop i).lb (k0_t3_loop i).ub (k0_t3_loop i).st) from by rw [t3]]; rfl)
  iexists fL2; isplitr; · ipureintro; exact E12
  iexact H12

end

end Cert.Proof.SB

end
-- ==== Proof.Stacks.lean ====
/-
  The two stacks a point fills: plane `bk i n` holds what the first pass stored for the key block `n` blocks before
  the query block, whatever the stacks held when the point began. So a point's results do not depend on that.
-/
module

public import proofs.«01_k».proof.Proof.Model

@[expose] public section

set_option maxRecDepth 16384

noncomputable section

namespace Cert.Proof.SB

open Idealize.ShloMosaic Cert.KernelIdeal Cert.KernelIdeal.Gen

variable {F : FTy → Type} [FloatOps F]

theorem sqBlk_put_same (Y : Vec F S4x512x512 .f32) (j : Fin 4) (w : Vec F S1x512x512 .f32) : sqBlk (putSq Y j w) j = w :=
  VecWindow.window_put_same Y _ _ (sq_inb j) w

theorem sqBlk_put_ne (Y : Vec F S4x512x512 .f32) (j j' : Fin 4) (h : j ≠ j') (w : Vec F S1x512x512 .f32) : sqBlk (putSq Y j w) j' = sqBlk Y j' :=
  VecWindow.window_put_of_disjoint Y _ _ _ _ (sq_inb j') w 0 (by
    have : j.val ≠ j'.val := fun e => h (Fin.ext e)
    show j'.val + 1 ≤ j.val ∨ j.val + 1 ≤ j'.val
    omega)

theorem rowBlk_put_same {e : EltTy} (X : Vec F S2048x128 e) (j : Fin 4) (w : Vec F S512x128 e) : rowBlk (putRow X j w) j = w :=
  VecWindow.window_put_same X _ _ (row_inb j) w

theorem rowBlk_put_ne {e : EltTy} (X : Vec F S2048x128 e) (j j' : Fin 4) (h : j ≠ j') (w : Vec F S512x128 e) : rowBlk (putRow X j w) j' = rowBlk X j' :=
  VecWindow.window_put_of_disjoint X _ _ _ _ (row_inb j') w 0 (by
    have : j.val ≠ j'.val := fun e => h (Fin.ext e)
    show 512 * j'.val + 512 ≤ 512 * j.val ∨ 512 * j.val + 512 ≤ 512 * j'.val
    omega)

variable (i : grid0.Coords) (q dy : Vec F S512x128 .bf16) (K V : Vec F S2048x128 .bf16)

theorem bk_zero : bk i 0 = ib i := rfl
theorem bk_ne {a b : ℕ} (ha : a ≤ (i 1).val) (hb : b ≤ (i 1).val) (h : a ≠ b) : bk i a ≠ bk i b := fun e => by
  have : (i 1).val - a = (i 1).val - b := congrArg Fin.val e
  omega

/-- What the first pass stores as `e` for the key block `n` blocks before the query block. -/
def eAt : ℕ → Vec F S1x512x512 .f32
  | 0 => own_e i q dy (rowBlk K (ib i)) (rowBlk V (ib i))
  | n + 1 => t1e q dy k0_pay77 (rowBlk K (bk i (n + 1))) (rowBlk V (bk i (n + 1))) (p1r i q K n)
/-- What it stores as `σ(z)` there. -/
def sAt : ℕ → Vec F S1x512x512 .f32
  | 0 => own_s q (rowBlk K (ib i))
  | n + 1 => t1s q (rowBlk K (bk i (n + 1)))

theorem es_at (Y : Vec F S4x512x512 .f32) : ∀ (k : ℕ), k ≤ (i 1).val → ∀ n, n ≤ k →
    sqBlk (es i q dy k0_pay77 K V (own_r i q (rowBlk K (ib i))) (putSq Y (ib i) (own_e i q dy (rowBlk K (ib i)) (rowBlk V (ib i)))) k) (bk i n) = eAt i q dy K V n
  | 0, hk, n, hn => by obtain rfl : n = 0 := by omega
                       exact sqBlk_put_same Y (ib i) _
  | k + 1, hk, n, hn => by
      show sqBlk (putSq _ (bk i (k + 1)) _) (bk i n) = _
      rcases Nat.lt_or_ge n (k + 1) with h | h
      · rw [sqBlk_put_ne _ _ _ (bk_ne i hk (by omega) (by omega)), es_at Y k (by omega) n (by omega)]
      · obtain rfl : n = k + 1 := by omega
        exact sqBlk_put_same _ _ _

theorem ss_at (Y : Vec F S4x512x512 .f32) : ∀ (k : ℕ), k ≤ (i 1).val → ∀ n, n ≤ k →
    sqBlk (ss i q K (putSq Y (ib i) (own_s q (rowBlk K (ib i)))) k) (bk i n) = sAt i q K n
  | 0, hk, n, hn => by obtain rfl : n = 0 := by omega
                       exact sqBlk_put_same Y (ib i) _
  | k + 1, hk, n, hn => by
      show sqBlk (putSq _ (bk i (k + 1)) _) (bk i n) = _
      rcases Nat.lt_or_ge n (k + 1) with h | h
      · rw [sqBlk_put_ne _ _ _ (bk_ne i hk (by omega) (by omega)), ss_at Y k (by omega) n (by omega)]
      · obtain rfl : n = k + 1 := by omega
        exact sqBlk_put_same _ _ _

/-- After the first pass, plane `bk i n` of the first stack is `eAt n`. -/
theorem p1e_at (Y : Vec F S4x512x512 .f32) (n : ℕ) (hn : n ≤ (i 1).val) : sqBlk (p1e i q dy K V Y) (bk i n) = eAt i q dy K V n :=
  es_at i q dy K V Y _ (Nat.le_refl _) n hn
/-- And of the second, `sAt n`. -/
theorem p1s_at (Y : Vec F S4x512x512 .f32) (n : ℕ) (hn : n ≤ (i 1).val) : sqBlk (p1s i q K Y) (bk i n) = sAt i q K n :=
  ss_at i q K Y _ (Nat.le_refl _) n hn

theorem fk_eq {k : ℕ} (hk : k ≤ (i 1).val) : fk k = bk i ((i 1).val - k) := Fin.ext (by
  have : (i 1).val < 4 := (i 1).isLt
  show k % 4 = (i 1).val - ((i 1).val - k)
  omega)

theorem p1e_fk (Y : Vec F S4x512x512 .f32) (k : ℕ) (hk : k ≤ (i 1).val) : sqBlk (p1e i q dy K V Y) (fk k) = eAt i q dy K V ((i 1).val - k) := by
  rw [fk_eq i hk]; exact p1e_at i q dy K V Y _ (by omega)
theorem p1s_fk (Y : Vec F S4x512x512 .f32) (k : ℕ) (hk : k ≤ (i 1).val) : sqBlk (p1s i q K Y) (fk k) = sAt i q K ((i 1).val - k) := by
  rw [fk_eq i hk]; exact p1s_at i q K Y _ (by omega)

/-! ## The second pass reads only those planes -/

theorem st3_congr (v128 : FVec F S128x256 .bf16) {E E' G G' : Vec F S4x512x512 .f32} (x : FVec F S512x128 .f32 × FVec F S512x128 .f32) :
    ∀ n, (∀ k < n, sqBlk E (fk k) = sqBlk E' (fk k)) → (∀ k < n, sqBlk G (fk k) = sqBlk G' (fk k)) → st3 v128 K E G x n = st3 v128 K E' G' x n
  | 0, _, _ => rfl
  | n + 1, hE, hG => by
      have ih := st3_congr v128 x n (fun k hk => hE k (by omega)) (fun k hk => hG k (by omega))
      unfold st3
      rw [ih, hE n (by omega), hG n (by omega)]

theorem ks_congr (v0 : Vec F S512x128 .bf16) (v128 : FVec F S128x256 .bf16) {E E' G G' : Vec F S4x512x512 .f32} (x : FVec F S512x128 .f32 × FVec F S512x128 .f32) (D : Vec F S2048x128 .f32) :
    ∀ n, (∀ k < n, sqBlk E (fk k) = sqBlk E' (fk k)) → (∀ k < n, sqBlk G (fk k) = sqBlk G' (fk k)) → ks v0 v128 K E G x D n = ks v0 v128 K E' G' x D n
  | 0, _, _ => rfl
  | n + 1, hE, hG => by
      have ih := ks_congr v0 v128 x D n (fun k hk => hE k (by omega)) (fun k hk => hG k (by omega))
      have is := st3_congr K v128 x n (fun k hk => hE k (by omega)) (fun k hk => hG k (by omega))
      unfold ks
      rw [ih, is, hE n (by omega), hG n (by omega)]

/-- A stack of zeros, to name the results by. -/
def Z : Vec F S4x512x512 .f32 := constant S4x512x512 .f32 0x00000000#32

/-- The gradient of `q` at a point. -/
def outQ : Vec F S512x128 .bf16 := ptQ i K (p1e i q dy K V Z) (p1s i q K Z)
/-- The accumulated gradient of `k` after a point, from `D`. -/
def outK (D : Vec F S2048x128 .f32) : Vec F S2048x128 .f32 := ptK i q K (p1e i q dy K V Z) (p1s i q K Z) D

theorem outQ_eq (Y9 Y10 : Vec F S4x512x512 .f32) : ptQ i K (p1e i q dy K V Y9) (p1s i q K Y10) = outQ i q dy K V := by
  unfold outQ ptQ p2
  rw [st3_congr K _ _ (i 1).val (E' := p1e i q dy K V Z) (G' := p1s i q K Z)
      (fun k hk => by rw [p1e_fk i q dy K V _ k (by omega), p1e_fk i q dy K V _ k (by omega)])
      (fun k hk => by rw [p1s_fk i q K _ k (by omega), p1s_fk i q K _ k (by omega)]),
    ← bk_zero, p1e_at i q dy K V _ 0 (by omega), p1e_at i q dy K V _ 0 (by omega), p1s_at i q K _ 0 (by omega), p1s_at i q K _ 0 (by omega)]

theorem outK_eq (Y9 Y10 : Vec F S4x512x512 .f32) (D : Vec F S2048x128 .f32) : ptK i q K (p1e i q dy K V Y9) (p1s i q K Y10) D = outK i q dy K V D := by
  unfold outK ptK p2
  rw [st3_congr K _ _ (i 1).val (E' := p1e i q dy K V Z) (G' := p1s i q K Z)
      (fun k hk => by rw [p1e_fk i q dy K V _ k (by omega), p1e_fk i q dy K V _ k (by omega)])
      (fun k hk => by rw [p1s_fk i q K _ k (by omega), p1s_fk i q K _ k (by omega)]),
    ks_congr K _ _ _ D (i 1).val (E' := p1e i q dy K V Z) (G' := p1s i q K Z)
      (fun k hk => by rw [p1e_fk i q dy K V _ k (by omega), p1e_fk i q dy K V _ k (by omega)])
      (fun k hk => by rw [p1s_fk i q K _ k (by omega), p1s_fk i q K _ k (by omega)]),
    ← bk_zero, p1e_at i q dy K V _ 0 (by omega), p1e_at i q dy K V _ 0 (by omega), p1s_at i q K _ 0 (by omega), p1s_at i q K _ 0 (by omega)]

end Cert.Proof.SB

end
-- ==== Proof.Run.lean ====
/-
  The run of the whole kernel, for any float values: every window's block at every point, the two accumulators point
  by point, the obligation the pipeline puts on the body at a point, and the run of @main from it.
-/
module

public import proofs.«01_k».proof.Proof.Body
public import proofs.«01_k».proof.Proof.Stacks
public import proofs.«01_k».proof.Proof.Gen.KernelIdeal.Frame

@[expose] public section

set_option maxRecDepth 16384

noncomputable section

namespace Cert.Proof.SB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Points -/

theorem coord1 : ∀ t : Fin grid0.N, (grid0.coords t 1).val = t.val % 4 := by decide +kernel
theorem coord0 : ∀ t : Fin grid0.N, (grid0.coords t 0).val = t.val / 4 := by decide +kernel
theorem cond1_iff : ∀ t : Fin grid0.N, cond1 (grid0.coords t) = 1#1 ↔ t.val % 4 = 0 := by decide +kernel
theorem cond2_iff : ∀ t : Fin grid0.N, k0_cond2 (grid0.coords t) = 1#1 ↔ t.val % 4 = 3 := by decide +kernel

/-- Point `n`. -/
def pt (n : ℕ) : Fin cfg0.N := ⟨n % grid0.N, Nat.mod_lt _ (by rw [N_0]; decide)⟩
theorem pt_val (t : Fin cfg0.N) : pt t.val = t := Fin.ext (Nat.mod_eq_of_lt t.isLt)

/-! ## Blocks and accumulators -/

/-- The blocks of `q`, `k`, `v` and `dy` at a point. -/
abbrev qB (c : Dev nD) (t : Fin cfg0.N) : Vec F S512x128 .bf16 := iblk m c 0 t
abbrev kB (c : Dev nD) (t : Fin cfg0.N) : Vec F S2048x128 .bf16 := iblk m c 1 t
abbrev vB (c : Dev nD) (t : Fin cfg0.N) : Vec F S2048x128 .bf16 := iblk m c 2 t
abbrev dyB (c : Dev nD) (t : Fin cfg0.N) : Vec F S512x128 .bf16 := iblk m c 3 t

/-- One point's step of the two accumulators. -/
def stepK (c : Dev nD) (t : Fin cfg0.N) (D : Vec F S2048x128 .f32) : Vec F S2048x128 .f32 :=
  outK (grid0.coords t) (qB m c t) (dyB m c t) (kB m c t) (vB m c t) D
def stepV (c : Dev nD) (t : Fin cfg0.N) (D : Vec F S2048x128 .f32) : Vec F S2048x128 .f32 :=
  ptV (grid0.coords t) (qB m c t) (dyB m c t) (kB m c t) D

/-- The accumulated gradient of `k` after point `n`: a head's first point starts from zero. -/
def accK (c : Dev nD) : ℕ → Vec F S2048x128 .f32
  | 0 => stepK m c (pt 0) k0_pay75
  | n + 1 => stepK m c (pt (n + 1)) (if (n + 1) % 4 = 0 then k0_pay75 else accK c n)
/-- The accumulated gradient of `v` after point `n`. -/
def accV (c : Dev nD) : ℕ → Vec F S2048x128 .f32
  | 0 => stepV m c (pt 0) k0_pay76
  | n + 1 => stepV m c (pt (n + 1)) (if (n + 1) % 4 = 0 then k0_pay76 else accV c n)

theorem accK_first (c : Dev nD) (t : Fin cfg0.N) (h : t.val % 4 = 0) : accK m c t.val = stepK m c t k0_pay75 := by
  have e := pt_val t
  generalize t.val = n at h e
  subst e
  cases n with
  | zero => rfl
  | succ n => show stepK m c _ (if (n + 1) % 4 = 0 then _ else _) = _; rw [if_pos h]
theorem accV_first (c : Dev nD) (t : Fin cfg0.N) (h : t.val % 4 = 0) : accV m c t.val = stepV m c t k0_pay76 := by
  have e := pt_val t
  generalize t.val = n at h e
  subst e
  cases n with
  | zero => rfl
  | succ n => show stepV m c _ (if (n + 1) % 4 = 0 then _ else _) = _; rw [if_pos h]
theorem accK_next (c : Dev nD) (t : Fin cfg0.N) (h : t.val % 4 ≠ 0) : accK m c t.val = stepK m c t (accK m c (t.val - 1)) := by
  have e := pt_val t
  generalize t.val = n at h e
  subst e
  cases n with
  | zero => exact absurd rfl h
  | succ n => show stepK m c _ (if (n + 1) % 4 = 0 then _ else _) = _; rw [if_neg h]; rfl
theorem accV_next (c : Dev nD) (t : Fin cfg0.N) (h : t.val % 4 ≠ 0) : accV m c t.val = stepV m c t (accV m c (t.val - 1)) := by
  have e := pt_val t
  generalize t.val = n at h e
  subst e
  cases n with
  | zero => exact absurd rfl h
  | succ n => show stepV m c _ (if (n + 1) % 4 = 0 then _ else _) = _; rw [if_neg h]; rfl

/-! ## The pipeline's proof data -/

/-- Between points: the stacks at any contents; the accumulators, inside a head, at what the point before left. -/
def inv (c : Dev nD) (n : ℕ) : sProp 𝕄 :=
  iprop((∃ f, owns (c : Thread nD τ) (Memref.whole cc0_scratch0) fullShare f)
    ∗ (∃ f, owns (c : Thread nD τ) (Memref.whole cc0_scratch1) fullShare f)
    ∗ (∃ f, ⌜n % 4 ≠ 0 → f = accK m c (n - 1)⌝ ∗ owns (c : Thread nD τ) (Memref.whole cc0_scratch2) fullShare f)
    ∗ (∃ f, ⌜n % 4 ≠ 0 → f = accV m c (n - 1)⌝ ∗ owns (c : Thread nD τ) (Memref.whole cc0_scratch3) fullShare f)
    ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outQ (grid0.coords t) (qB m c t) (dyB m c t) (kB m c t) (vB m c t)
    | ⟨5, _⟩ => k0_pay1 (accK m c t.val)
    | ⟨6, _⟩ => k0_pay2 (accV m c t.val)
  Φ t := inv m c t.val
  q w := Pipeline.shareOf spec0 w
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outQ (grid0.coords t) (qB m c t) (dyB m c t) (kB m c t) (vB m c t) := by dsimp only [dats]
theorem after0_5 (c : Dev nD) (t : Fin cfg0.N) : (dats m 0 c).after 5 t = k0_pay1 (accK m c t.val) := by dsimp only [dats]
theorem after0_6 (c : Dev nD) (t : Fin cfg0.N) : (dats m 0 c).after 6 t = k0_pay2 (accV m c t.val) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem Φ_castSucc (c : Dev nD) (t : Fin cfg0.N) : (dats m 0 c).Φ t.castSucc = inv m c t.val := rfl
theorem Φ_succ (c : Dev nD) (t : Fin cfg0.N) : (dats m 0 c).Φ t.succ = inv m c (t.val + 1) := rfl
theorem owes_succ (c : Dev nD) (t : Fin cfg0.N) : (dats m 0 c).owesAt () t.succ = (dats m 0 c).owesAt () t.castSucc := rfl

/-! ## The obligation -/

theorem idle5 (t : Fin cfg0.N) : idle0 5 (grid0.coords t) = !(k0_cond2 (grid0.coords t) == 1#1) := rfl
theorem noflush5 (t : Fin cfg0.N) (h : t.val % 4 ≠ 3) : (win0 5).flush t = false := by
  have := (flush0_5 t).not.mpr h; simpa using this
theorem noflush6 (t : Fin cfg0.N) (h : t.val % 4 ≠ 3) : (win0 6).flush t = false := by
  have := (flush0_6 t).not.mpr h; simpa using this

set_option maxHeartbeats 1000000 in
theorem body_obligation (c : Dev nD) : BodyObligationLoose (dats (F := F) m 0 c) (defs₀ (F := F)) Variants.none () Set.univ := fun t => by
  have c1 := cond1_iff t
  have c2 := cond2_iff t
  rw [bigSep_W0, bigSep_W0]
  sl_whnfR [defs₀, Defs.onTc]
  simp only [before0_0, before0_1, before0_2, before0_3]
  rw [Φ_castSucc, Φ_succ, owes_succ, after0_0, after0_1, after0_2, after0_3, after0_4, after0_5, after0_6, idle5]
  unfold inv
  rcases (by omega : t.val % 4 = 0 ∨ t.val % 4 = 3 ∨ (t.val % 4 ≠ 0 ∧ t.val % 4 ≠ 3)) with h | h | ⟨h, h'⟩
  · have b2 : k0_cond2 (grid0.coords t) ≠ 1#1 := fun e => by have := c2.mp e; omega
    rw [noflush5 t (by omega), noflush6 t (by omega), show (!(k0_cond2 (grid0.coords t) == 1#1)) = true from by simpa using b2]
    iintro ⟨⟨⟨%Y9, S0⟩, ⟨%Y10, S1⟩, ⟨%D11, -, S2⟩, ⟨%D12, -, S3⟩, Hr⟩, Ho, ⟨%d0, H0⟩, ⟨%d1, H1⟩, ⟨%d2, H2⟩, ⟨%d3, H3⟩, ⟨%d4, H4⟩, ⟨%d5, H5⟩, ⟨%d6, H6⟩⟩
    iapply (body_first c (grid0.coords t) _ _ _ _ _ _ _ _ _ _ _ _ _ _ _ _ _ _ _ _ _ _ (qB m c t) (dyB m c t) (kB m c t) (vB m c t) _ _ Y9 Y10 D11 D12 (c1.mpr h) b2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [S0]; · iexact S0
    isplitl [S1]; · iexact S1
    isplitl [S2]; · iexact S2
    isplitl [S3]; · iexact S3
    rw [outQ_eq, outK_eq]
    iintro ⟨H0, H1, H2, H3, H4, H5, H6, S0, S1, S2, S3⟩
    isplitl [S0 S1 S2 S3 Hr]
    · isplitl [S0]; · iexists _; iexact S0
      isplitl [S1]; · iexists _; iexact S1
      isplitl [S2]; · iexists _; isplitr; swap; · iexact S2
                      ipureintro; exact fun _ => (accK_first m c t h).symm
      isplitl [S3]; · iexists _; isplitr; swap; · iexact S3
                      ipureintro; exact fun _ => (accV_first m c t h).symm
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexists d5; iexact H5
    iexists d6; iexact H6
  · rw [show (!(k0_cond2 (grid0.coords t) == 1#1)) = false from by simpa using c2.mpr h]
    iintro ⟨⟨⟨%Y9, S0⟩, ⟨%Y10, S1⟩, ⟨%D11, %e11, S2⟩, ⟨%D12, %e12, S3⟩, Hr⟩, Ho, ⟨%d0, H0⟩, ⟨%d1, H1⟩, ⟨%d2, H2⟩, ⟨%d3, H3⟩, ⟨%d4, H4⟩, ⟨%d5, H5⟩, ⟨%d6, H6⟩⟩
    iapply (body_last c (grid0.coords t) _ _ _ _ _ _ _ _ _ _ _ _ _ _ _ _ _ _ _ _ _ _ (qB m c t) (dyB m c t) (kB m c t) (vB m c t) _ _ Y9 Y10 D11 D12 (fun e => by have := c1.mp e; omega) (c2.mpr h) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [S0]; · iexact S0
    isplitl [S1]; · iexact S1
    isplitl [S2]; · iexact S2
    isplitl [S3]; · iexact S3
    rw [outQ_eq, outK_eq, e11 (by omega), e12 (by omega), accK_next m c t (by omega), accV_next m c t (by omega)]
    iintro ⟨H0, H1, H2, H3, H4, H5, H6, S0, S1, S2, S3⟩
    isplitl [S0 S1 S2 S3 Hr]
    · isplitl [S0]; · iexists _; iexact S0
      isplitl [S1]; · iexists _; iexact S1
      isplitl [S2]; · iexists _; isplitr; swap; · iexact S2
                      ipureintro; exact fun hh => absurd (by omega) hh
      isplitl [S3]; · iexists _; isplitr; swap; · iexact S3
                      ipureintro; exact fun hh => absurd (by omega) hh
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have b2 : k0_cond2 (grid0.coords t) ≠ 1#1 := fun e => by have := c2.mp e; omega
    rw [noflush5 t h', noflush6 t h', show (!(k0_cond2 (grid0.coords t) == 1#1)) = true from by simpa using b2]
    iintro ⟨⟨⟨%Y9, S0⟩, ⟨%Y10, S1⟩, ⟨%D11, %e11, S2⟩, ⟨%D12, %e12, S3⟩, Hr⟩, Ho, ⟨%d0, H0⟩, ⟨%d1, H1⟩, ⟨%d2, H2⟩, ⟨%d3, H3⟩, ⟨%d4, H4⟩, ⟨%d5, H5⟩, ⟨%d6, H6⟩⟩
    iapply (body_mid c (grid0.coords t) _ _ _ _ _ _ _ _ _ _ _ _ _ _ _ _ _ _ _ _ _ _ (qB m c t) (dyB m c t) (kB m c t) (vB m c t) _ _ Y9 Y10 D11 D12 (fun e => by have := c1.mp e; omega) b2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [S0]; · iexact S0
    isplitl [S1]; · iexact S1
    isplitl [S2]; · iexact S2
    isplitl [S3]; · iexact S3
    rw [outQ_eq, outK_eq, e11 h, e12 h]
    iintro ⟨H0, H1, H2, H3, H4, H5, H6, S0, S1, S2, S3⟩
    isplitl [S0 S1 S2 S3 Hr]
    · isplitl [S0]; · iexists _; iexact S0
      isplitl [S1]; · iexists _; iexact S1
      isplitl [S2]; · iexists _; isplitr; swap; · iexact S2
                      ipureintro; exact fun _ => (accK_next m c t h).symm
      isplitl [S3]; · iexists _; isplitr; swap; · iexact S3
                      ipureintro; exact fun _ => (accV_next m c t h).symm
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexists d5; iexact H5
    iexists d6; iexact H6

/-! ## The run -/

theorem inv_in (c : Dev nD) : Pipeline.ΦA (U := UR sig nD τ) (Val := Elt F) spec0 c ⊢ (dats m 0 c).Φ 0 := by
  show _ ⊢ inv m c 0
  unfold Pipeline.ΦA inv
  rw [scopedRest0_eq]
  simp only [owns_whole]
  iintro ⟨⟨⟨%f0, S0⟩, ⟨%f1, S1⟩, ⟨%f2, S2⟩, ⟨%f3, S3⟩⟩, Hr⟩
  isplitl [S0]; · iexists f0; iexact S0
  isplitl [S1]; · iexists f1; iexact S1
  isplitl [S2]; · iexists f2; isplitr; swap; · iexact S2
                  ipureintro; exact fun h => absurd rfl h
  isplitl [S3]; · iexists f3; isplitr; swap; · iexact S3
                  ipureintro; exact fun h => absurd rfl h
  iexact Hr

theorem inv_out (c : Dev nD) : (dats m 0 c).Φ (Fin.last cfg0.N) ⊢ Pipeline.ΦA (U := UR sig nD τ) (Val := Elt F) spec0 c := by
  show inv m c _ ⊢ _
  unfold Pipeline.ΦA inv
  rw [scopedRest0_eq]
  simp only [owns_whole]
  iintro ⟨⟨%f0, S0⟩, ⟨%f1, S1⟩, ⟨%f2, -, S2⟩, ⟨%f3, -, S3⟩, Hr⟩
  isplitr [Hr]
  · isplitl [S0]; · iexists f0; iexact S0
    isplitl [S1]; · iexists f1; iexact S1
    isplitl [S2]; · iexists f2; iexact S2
    iexists f3; iexact S3
  iexact Hr

set_option backward.isDefEq.respectTransparency.types false in
/-- Every fair execution of @main from zero counters ends, with every array at what the proof data say and every
    counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => body_obligation m c) (hq := fun _ _ _ => rfl)
    (howed := fun _ _ => rfl) (V := V m) (hmain := hmain m Variants.none) (hA := fun _ _ => rfl)
    (hin := fun c => inv_in m c) (hout := fun c => inv_out m c)

/-- The arguments keep their contents and the counters are zero at the end. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_with_sems (frame_of m ρ (dats m) fun _ _ => rfl) (run_main (F := F) m ρ)

end Cert.Proof.SB

end
-- ==== Proof.Same.lean ====
/-
  The kernel as printed and its reading over the extended reals are the same text, so their body tables are equal.
-/
module

public import proofs.«01_k».proof.Proof.Gen.Kernel
public import proofs.«01_k».proof.Proof.Gen.KernelIdeal

@[expose] public section

namespace Cert.Proof.SB

open Idealize.ShloMosaic

variable {F : FTy → Type} [FloatOps F]

/-- The two tables of kernel bodies are equal. -/
theorem same_bodies : Kernel.defs₀ (F := F) = KernelIdeal.defs₀ (F := F) := by
  unfold Kernel.defs₀ KernelIdeal.defs₀
  refine congrArg Defs.onTc ?_
  funext l a
  match l, a with
  | 0, (t, s) => rfl
  | ⟨_ + 1, h⟩, _ => exact absurd h (Nat.not_lt.2 (Nat.le_add_left _ _))
/-- And so are the two programs' tables. -/
theorem same_defs : Kernel.defs (F := F) = KernelIdeal.defs (F := F) := by
  unfold Kernel.defs KernelIdeal.defs
  exact congrArg (Pipeline.defs KernelIdeal.pcfgs) same_bodies

end Cert.Proof.SB
-- ==== Proof.Reals.lean ====
/-
  Arrays of finite values, as functions of natural coordinates into the reals. Every operation of the kernel that is
  given such arrays gives one back: the lemmas below say which. Sums and products then are sums and products of reals.
-/
module

public import proofs.«01_k».proof.Proof.Gen.KernelIdeal.Skeleton
public import Idealize.ShloMosaic.Lib.Pointwise

@[expose] public section

set_option maxRecDepth 16384
set_option maxHeartbeats 1000000

noncomputable section

namespace Cert.Proof.SB

open Idealize.ShloMosaic

/-- The array of two axes whose element at row `r` and column `c` is the real `f r c`. -/
def M2 (a b : ℕ) (f : ℕ → ℕ → ℝ) : (⟨2, ![a, b]⟩ : Shape).Idx → EReal := fun i => ((f (i 0).val (i 1).val : ℝ) : EReal)

/-- Its element at an index. -/
theorem M2_at {a b : ℕ} (f : ℕ → ℕ → ℝ) (i : Fin a) (j : Fin b) : M2 a b f (ix2 i j) = ((f i.val j.val : ℝ) : EReal) := rfl

/-- It depends on `f` within the bounds only. -/
theorem M2_congr {a b : ℕ} {f g : ℕ → ℕ → ℝ} (h : ∀ r c, r < a → c < b → f r c = g r c) : M2 a b f = M2 a b g :=
  funext fun i => congrArg _ (h _ _ (i 0).isLt (i 1).isLt)

/-- A finite sum of reals is the same sum in the extended reals. -/
theorem coe_sum {n : ℕ} (f : Fin n → ℝ) : ∑ k, ((f k : ℝ) : EReal) = ((∑ k, f k : ℝ) : EReal) := by
  classical
  induction (Finset.univ : Finset (Fin n)) using Finset.induction_on with
  | empty => simp
  | insert a s ha ih => rw [Finset.sum_insert ha, Finset.sum_insert ha, ih, EReal.coe_add]

theorem coe_min (x y : ℝ) : ((min x y : ℝ) : EReal) = min (x : EReal) y := EReal.coe_strictMono.monotone.map_min
theorem coe_max (x y : ℝ) : ((max x y : ℝ) : EReal) = max (x : EReal) y := EReal.coe_strictMono.monotone.map_max

section Elementwise
variable {a b : ℕ} {φ ψ : FTy} (f g : ℕ → ℕ → ℝ)

theorem M2_add : addf (F := Ideal) (φ := φ) (M2 a b f) (M2 a b g) = M2 a b fun r c => f r c + g r c :=
  funext fun i => (EReal.coe_add _ _).symm
theorem M2_sub : subf (F := Ideal) (φ := φ) (M2 a b f) (M2 a b g) = M2 a b fun r c => f r c - g r c :=
  funext fun i => (EReal.coe_sub _ _).symm
theorem M2_mul : mulf (F := Ideal) (φ := φ) (M2 a b f) (M2 a b g) = M2 a b fun r c => f r c * g r c :=
  funext fun i => (EReal.coe_mul _ _).symm
theorem M2_min : minimumf (F := Ideal) (φ := φ) (M2 a b f) (M2 a b g) = M2 a b fun r c => min (f r c) (g r c) :=
  funext fun i => (coe_min _ _).symm
theorem M2_max : maximumf (F := Ideal) (φ := φ) (M2 a b f) (M2 a b g) = M2 a b fun r c => max (f r c) (g r c) :=
  funext fun i => (coe_max _ _).symm
theorem M2_abs : absf (F := Ideal) (φ := φ) (M2 a b f) = M2 a b fun r c => |f r c| :=
  funext fun i => (congrArg _ (EReal.coe_neg _).symm).trans (coe_max _ _).symm
theorem M2_exp : exp (F := Ideal) (φ := φ) (M2 a b f) = M2 a b fun r c => Real.exp (f r c) := rfl
theorem M2_log (h : ∀ r c, 0 < f r c) : log (F := Ideal) (φ := φ) (M2 a b f) = M2 a b fun r c => Real.log (f r c) :=
  funext fun i => if_neg (not_le.mpr (h _ _))
theorem M2_truncf (h) : truncf (F := Ideal) (φ := φ) ψ (M2 a b f) h = M2 a b f := rfl
theorem M2_extf (h) : extf (F := Ideal) (φ := φ) ψ (M2 a b f) h = M2 a b f := rfl
theorem M2_const (x : Ideal φ) (r : ℝ) (h : x = (r : EReal)) : broadcast (⟨2, ![a, b]⟩ : Shape) x = M2 a b fun _ _ => r :=
  funext fun _ => h
end Elementwise

/-! ## Constants -/

theorem ofBits_zero : (Scalar.ofBits (F := Ideal) .f32 0x00000000#32 : EReal) = ((0 : ℝ) : EReal) := by
  show Ideal.ofBits .f32 0x00000000#32 = _
  simp [Ideal.ofBits, Ideal.ieee, -EReal.coe_mul]
theorem ofBits_one : (Scalar.ofBits (F := Ideal) .f32 0x3F800000#32 : EReal) = ((1 : ℝ) : EReal) := by
  show Ideal.ofBits .f32 0x3F800000#32 = _
  simp [Ideal.ofBits, Ideal.ieee, -EReal.coe_mul]; norm_num
theorem ofBits_one16 : (Scalar.ofBits (F := Ideal) .bf16 0x3F80#16 : EReal) = ((1 : ℝ) : EReal) := by
  show Ideal.ofBits .bf16 0x3F80#16 = _
  simp [Ideal.ofBits, Ideal.ieee, -EReal.coe_mul]; norm_num
/-- The scale as both programs write it: the 32-bit float nearest to `1/√128`. -/
def c0 : ℝ := 11863283 / 134217728
theorem ofBits_c0 : (Scalar.ofBits (F := Ideal) .f32 0x3DB504F3#32 : EReal) = ((c0 : ℝ) : EReal) := by
  show Ideal.ofBits .f32 0x3DB504F3#32 = _
  simp [Ideal.ofBits, Ideal.ieee, -EReal.coe_mul, c0]; norm_num

theorem bc_zero {a b : ℕ} : broadcast (⟨2, ![a, b]⟩ : Shape) (Scalar.ofBits (F := Ideal) .f32 0x00000000#32) = M2 a b fun _ _ => 0 :=
  M2_const (φ := .f32) _ _ ofBits_zero
theorem bc_one {a b : ℕ} : broadcast (⟨2, ![a, b]⟩ : Shape) (Scalar.ofBits (F := Ideal) .f32 0x3F800000#32) = M2 a b fun _ _ => 1 :=
  M2_const (φ := .f32) _ _ ofBits_one
theorem bc_one16 {a b : ℕ} : broadcast (⟨2, ![a, b]⟩ : Shape) (Scalar.ofBits (F := Ideal) .bf16 0x3F80#16) = M2 a b fun _ _ => 1 :=
  M2_const (φ := .bf16) _ _ ofBits_one16
theorem bc_c0 {a b : ℕ} : broadcast (⟨2, ![a, b]⟩ : Shape) (Scalar.ofBits (F := Ideal) .f32 0x3DB504F3#32) = M2 a b fun _ _ => c0 :=
  M2_const (φ := .f32) _ _ ofBits_c0
theorem const_zero {a b : ℕ} : constant (F := Ideal) (⟨2, ![a, b]⟩ : Shape) .f32 0x00000000#32 = M2 a b fun _ _ => 0 :=
  funext fun _ => ofBits_zero

/-! ## Products, slices, pieces side by side -/

open Cert.KernelIdeal

theorem sum_range {n : ℕ} (f : ℕ → ℝ) : ∑ k : Fin n, ((f k.val : ℝ) : EReal) = ((∑ k ∈ Finset.range n, f k : ℝ) : EReal) := by
  rw [coe_sum, Finset.sum_range]

theorem mm_nt (f g h : ℕ → ℕ → ℝ) :
    matmul (F := Ideal) dot_S512x128_S512x128_S512x512_1_1_0_0_n_n (φ₁ := .bf16) (φ₂ := .bf16) none (M2 512 128 f) (M2 512 128 g) (M2 512 512 h)
      = M2 512 512 fun r c => h r c + ∑ k ∈ Finset.range 128, f r k * g c k := by
  funext j
  idx_vars j
  pointwise
  simp only [M2_at, ← EReal.coe_mul]
  rw [sum_range (fun k => f _ k * g _ k), ← EReal.coe_add]

theorem mm_tri (f g h : ℕ → ℕ → ℝ) :
    matmul (F := Ideal) dot_S512x128_S128x256_S512x256_1_0_0_1_n_n (φ₁ := .bf16) (φ₂ := .bf16) none (M2 512 128 f) (M2 128 256 g) (M2 512 256 h)
      = M2 512 256 fun r c => h r c + ∑ k ∈ Finset.range 128, f r k * g k c := by
  funext j
  idx_vars j
  pointwise
  simp only [M2_at, ← EReal.coe_mul]
  rw [sum_range (fun k => f _ k * g k _), ← EReal.coe_add]

theorem mm_nn (f g h : ℕ → ℕ → ℝ) :
    matmul (F := Ideal) dot_S512x512_S512x128_S512x128_1_0_0_1_n_n (φ₁ := .bf16) (φ₂ := .bf16) none (M2 512 512 f) (M2 512 128 g) (M2 512 128 h)
      = M2 512 128 fun r c => h r c + ∑ k ∈ Finset.range 512, f r k * g k c := by
  funext j
  idx_vars j
  pointwise
  simp only [M2_at, ← EReal.coe_mul]
  rw [sum_range (fun k => f _ k * g k _), ← EReal.coe_add]

theorem mm_tn (f g h : ℕ → ℕ → ℝ) :
    matmul (F := Ideal) dot_S512x512_S512x128_S512x128_0_0_1_1_n_n (φ₁ := .bf16) (φ₂ := .bf16) none (M2 512 512 f) (M2 512 128 g) (M2 512 128 h)
      = M2 512 128 fun r c => h r c + ∑ k ∈ Finset.range 512, f k r * g k c := by
  funext j
  idx_vars j
  pointwise
  simp only [M2_at, ← EReal.coe_mul]
  rw [sum_range (fun k => f k _ * g k _), ← EReal.coe_add]

theorem M2_slice {a b a' b' o p : ℕ} (f : ℕ → ℕ → ℝ) (h) :
    extractStridedSlice (α := EReal) (s := ⟨2, ![a, b]⟩) (⟨2, ![a', b']⟩ : Shape) ![o, p] (M2 a b f) h = M2 a' b' fun r c => f (o + r) (p + c) := rfl

/-- Four pieces of 128 columns side by side. -/
def cat4 (f0 f1 f2 f3 : ℕ → ℕ → ℝ) (r c : ℕ) : ℝ :=
  if c < 128 then f0 r c else if c < 256 then f1 r (c - 128) else if c < 384 then f2 r (c - 256) else f3 r (c - 384)

theorem M2_cat4 (f0 f1 f2 f3 : ℕ → ℕ → ℝ) (h) :
    concatenate (α := EReal) S512x512 1 [⟨S512x128, M2 512 128 f0⟩, ⟨S512x128, M2 512 128 f1⟩, ⟨S512x128, M2 512 128 f2⟩, ⟨S512x128, M2 512 128 f3⟩] h
      = M2 512 512 (cat4 f0 f1 f2 f3) := by
  funext j
  idx_vars j
  pointwise
  simp only [M2_at, cat4]
  split_ifs <;> first | rfl | omega

/-- The kernel's concatenation of four pieces, as a function of the pieces. -/
def catv (x0 x1 x2 x3 : S512x128.Idx → EReal) : S512x512.Idx → EReal :=
  concatenate (α := EReal) S512x512 1 [⟨S512x128, x0⟩, ⟨S512x128, x1⟩, ⟨S512x128, x2⟩, ⟨S512x128, x3⟩] Facts₀.concatenates_S512x128_S512x128_S512x128_S512x128_S512x512_d1
theorem catv_fold (x0 x1 x2 x3 : S512x128.Idx → EReal) (h) :
    concatenate (α := EReal) S512x512 1 [⟨S512x128, x0⟩, ⟨S512x128, x1⟩, ⟨S512x128, x2⟩, ⟨S512x128, x3⟩] h = catv x0 x1 x2 x3 := rfl
theorem catv_M2 (f0 f1 f2 f3 : ℕ → ℕ → ℝ) : catv (M2 512 128 f0) (M2 512 128 f1) (M2 512 128 f2) (M2 512 128 f3) = M2 512 512 (cat4 f0 f1 f2 f3) :=
  M2_cat4 f0 f1 f2 f3 _

theorem M2_cat2 (f0 f1 : ℕ → ℕ → ℝ) (h) :
    concatenate (α := EReal) S128x256 1 [⟨S128x128, M2 128 128 f0⟩, ⟨S128x128, M2 128 128 f1⟩] h
      = M2 128 256 fun r c => if c < 128 then f0 r c else f1 r (c - 128) := by
  funext j
  idx_vars j
  pointwise
  simp only [M2_at]
  split_ifs <;> first | rfl | omega

theorem M2_cast {a b : ℕ} (f : ℕ → ℕ → ℝ) (h) : shapeCast (α := EReal) (s := ⟨2, ![a, b]⟩) (⟨2, ![a, b]⟩ : Shape) (M2 a b f) h = M2 a b f := by
  funext i
  rw [shapeCast_self]

/-- A stack of one array of two axes. -/
def M3 (f : ℕ → ℕ → ℝ) : S1x512x512.Idx → EReal := fun i => ((f (i 1).val (i 2).val : ℝ) : EReal)
theorem M3_at (f : ℕ → ℕ → ℝ) (l : Fin 1) (i j : Fin 512) : M3 f (ix3 l i j) = ((f i.val j.val : ℝ) : EReal) := rfl

theorem cast_M2 (f : ℕ → ℕ → ℝ) (h) : shapeCast (α := EReal) (s := S512x512) S1x512x512 (M2 512 512 f) h = M3 f := by
  funext j
  idx_vars j
  pointwise
  rfl
theorem cast_M3 (f : ℕ → ℕ → ℝ) (h) : shapeCast (α := EReal) (s := S1x512x512) S512x512 (M3 f) h = M2 512 512 f := by
  funext j
  idx_vars j
  pointwise
  rfl

/-! ## Masks -/

/-- The mask that holds where `P` does. -/
def B2 (a b : ℕ) (P : ℕ → ℕ → Prop) [∀ r c, Decidable (P r c)] : IVec (⟨2, ![a, b]⟩ : Shape) 1 :=
  fun i => BitVec.ofBool (decide (P (i 0).val (i 1).val))

theorem B2_select {a b : ℕ} (P : ℕ → ℕ → Prop) [∀ r c, Decidable (P r c)] (f g : ℕ → ℕ → ℝ) :
    select (α := EReal) (B2 a b P) (M2 a b f) (M2 a b g) = M2 a b fun r c => if P r c then f r c else g r c := by
  funext i
  show (if BitVec.ofBool (decide (P (i 0).val (i 1).val)) = 1 then ((f (i 0).val (i 1).val : ℝ) : EReal) else ((g (i 0).val (i 1).val : ℝ) : EReal)) = _
  unfold M2
  by_cases h : P (i 0).val (i 1).val
  · simp [h]
  · simp [h]

/-- The four triangular constants. -/
def triGt (r c : ℕ) : ℝ := if c < 128 then (if c < r then 1 else 0) else 1
def triLt (r c : ℕ) : ℝ := if c < 128 then (if r < c then 1 else 0) else 1

open Cert.KernelIdeal.Gen

theorem toInt_nat {n : ℕ} (h : n < 2 ^ 31) : (BitVec.ofNat 32 n).toInt = (n : ℤ) := by
  have h1 : (BitVec.ofNat 32 n).toNat = n := by rw [BitVec.toNat_ofNat]; omega
  rw [BitVec.toInt_eq_toNat_of_lt (by omega), h1]
theorem slt_nat {m n : ℕ} (hm : m < 2 ^ 31) (hn : n < 2 ^ 31) : IntOp.cmpi .slt (BitVec.ofNat 32 m) (BitVec.ofNat 32 n) = BitVec.ofBool (decide (m < n)) := by
  show BitVec.ofBool ((BitVec.ofNat 32 m).slt (BitVec.ofNat 32 n)) = _
  rw [BitVec.slt_eq_decide, toInt_nat hm, toInt_nat hn]
  simp
theorem sgt_nat {m n : ℕ} (hm : m < 2 ^ 31) (hn : n < 2 ^ 31) : IntOp.cmpi .sgt (BitVec.ofNat 32 m) (BitVec.ofNat 32 n) = BitVec.ofBool (decide (n < m)) :=
  (show IntOp.cmpi .sgt _ _ = IntOp.cmpi .slt _ _ from rfl).trans (slt_nat hn hm)
/-- A mask bit read as a float is one or zero. -/
theorem bit_real (p : Prop) [Decidable p] : (FloatOps.sitofp (F := Ideal) .f32 (BitVec.setWidth 32 (BitVec.ofBool (decide p))) : EReal) = ((if p then 1 else 0 : ℝ) : EReal) := by
  show (((BitVec.setWidth 32 (BitVec.ofBool (decide p))).toInt : ℝ) : EReal) = _
  by_cases h : p
  · simp [h]
  · simp [h]

theorem pay77_eq : k0_pay77 (F := Ideal) = M2 128 256 triGt := by
  funext j
  idx_vars j
  pointwise [k0_pay77]
  rw [M2_at, triGt]
  split_ifs with h
  · rw [sgt_nat (by omega) (by omega), bit_real, if_pos (by assumption)]
  · rw [sgt_nat (by omega) (by omega), bit_real, if_neg (by assumption)]
  · rfl
theorem pay99_eq : k0_pay99 (F := Ideal) = M2 128 256 triLt := by
  funext j
  idx_vars j
  pointwise [k0_pay99]
  rw [M2_at, triLt]
  split_ifs with h
  · rw [slt_nat (by omega) (by omega), bit_real, if_pos (by assumption)]
  · rw [slt_nat (by omega) (by omega), bit_real, if_neg (by assumption)]
  · rfl

theorem word_at (i j : ℕ) : IntOp.addi (Scalar.muli (BitVec.ofNat 32 i) 512#32) (BitVec.ofNat 32 j) = BitVec.ofNat 32 (i * 512 + j) := by
  rw [BitVec.ofNat_add, BitVec.ofNat_mul]; rfl

theorem pay79_eq (i : grid0.Coords) : k0_pay79 i = B2 512 512 fun r c => c < r := by
  funext j
  idx_vars j
  have hi : (i 1).val < 4 := (i 1).isLt
  pointwise [k0_pay79, B2]
  rw [word_at, word_at, slt_nat (by omega) (by omega)]
  simp

end Cert.Proof.SB

end
-- ==== Proof.KernelReal.lean ====
/-
  What one grid point computes when its blocks hold finite values: the real functions behind each payload.
-/
module

public import proofs.«01_k».proof.Proof.Reals
public import proofs.«01_k».proof.Proof.Stacks

@[expose] public section

set_option maxRecDepth 16384
set_option maxHeartbeats 1000000

noncomputable section

namespace Cert.Proof.SB

open Idealize.ShloMosaic Cert.KernelIdeal Cert.KernelIdeal.Gen

/-! ## The functions of the logit -/

/-- `log (1 + e^{-|z|})`. -/
def lw (z : ℝ) : ℝ := Real.log (1 + Real.exp (0 - |z|))
/-- `log σ(z)`, as the kernel computes it. -/
def ls (z : ℝ) : ℝ := min z 0 - lw z
/-- `log σ(-z)`, as the kernel computes it. -/
def lk (z : ℝ) : ℝ := 0 - max z 0 - lw z
/-- The logit of query row `r` and key row `c`. -/
def zl (Q K : ℕ → ℕ → ℝ) (r c : ℕ) : ℝ := (∑ d ∈ Finset.range 128, Q r d * K c d) * c0
/-- The product of two rows. -/
def dotp (D V : ℕ → ℕ → ℝ) (r c : ℕ) : ℝ := ∑ d ∈ Finset.range 128, D r d * V c d

theorem M2_log1 {a b : ℕ} (f : ℕ → ℕ → ℝ) :
    log (F := Ideal) (φ := .f32) (M2 a b fun r c => 1 + Real.exp (f r c)) = M2 a b fun r c => Real.log (1 + Real.exp (f r c)) :=
  M2_log _ fun r c => by positivity

/-! ## Sums over groups of 128 -/

theorem gt_hi (k c : ℕ) : triGt k (128 + c) = 1 := if_neg (by omega)
theorem lt_hi (k c : ℕ) : triLt k (128 + c) = 1 := if_neg (by omega)
theorem gt_lo (f : ℕ → ℝ) {c : ℕ} (h : c < 128) : ∑ k ∈ Finset.range 128, f k * triGt k c = ∑ k ∈ Finset.Ico (c + 1) 128, f k := by
  simp only [triGt, if_pos h, mul_ite, mul_one, mul_zero]
  rw [← Finset.sum_filter]
  refine Finset.sum_congr (Finset.ext fun k => ?_) fun _ _ => rfl
  simp only [Finset.mem_filter, Finset.mem_range, Finset.mem_Ico]; omega
theorem lt_lo (f : ℕ → ℝ) {c : ℕ} (h : c < 128) : ∑ k ∈ Finset.range 128, f k * triLt k c = ∑ k ∈ Finset.range c, f k := by
  simp only [triLt, if_pos h, mul_ite, mul_one, mul_zero]
  rw [← Finset.sum_filter]
  refine Finset.sum_congr (Finset.ext fun k => ?_) fun _ _ => rfl
  simp only [Finset.mem_filter, Finset.mem_range]; omega
theorem grp (X : ℕ → ℝ) (o : ℕ) : ∑ k ∈ Finset.range 128, X (o + k) = ∑ s ∈ Finset.Ico o (o + 128), X s := by
  rw [Finset.sum_Ico_eq_sum_range, Nat.add_sub_cancel_left]
theorem grp_hi (X : ℕ → ℝ) (o a : ℕ) : ∑ k ∈ Finset.Ico a 128, X (o + k) = ∑ s ∈ Finset.Ico (o + a) (o + 128), X s := by
  rw [Finset.sum_Ico_add, Nat.add_comm a o, Nat.add_comm 128 o]
theorem grp_lo (X : ℕ → ℝ) (o a : ℕ) : ∑ k ∈ Finset.range a, X (o + k) = ∑ s ∈ Finset.Ico o (o + a), X s := by
  rw [Finset.sum_Ico_eq_sum_range, Nat.add_sub_cancel_left]
theorem join (X : ℕ → ℝ) (a b c : ℕ) (h : a ≤ b) (h' : b ≤ c) : ∑ s ∈ Finset.Ico a c, X s = ∑ s ∈ Finset.Ico a b, X s + ∑ s ∈ Finset.Ico b c, X s :=
  (Finset.sum_Ico_consecutive X h h').symm

/-- The four groups add up to the block. -/
theorem all_groups (X : ℕ → ℝ) : ∑ s ∈ Finset.range 512, X s
    = ∑ s ∈ Finset.Ico 0 128, X s + ∑ s ∈ Finset.Ico 128 256, X s + ∑ s ∈ Finset.Ico 256 384, X s + ∑ s ∈ Finset.Ico 384 512, X s := by
  rw [Finset.range_eq_Ico, join X 0 128 512 (by omega) (by omega), join X 128 256 512 (by omega) (by omega), join X 256 384 512 (by omega) (by omega)]
  ring

/-- The first pass's sums: of the keys after `c` within the block, and `R`. -/
theorem cat_gt (X : ℕ → ℕ → ℝ) (R : ℕ → ℝ) (r c : ℕ) (h : c < 512) :
    cat4 (fun r c => ∑ k ∈ Finset.range 128, X r k * triGt k c + (R r + ∑ x ∈ Finset.range 128, X r (384 + x) * triGt x (128 + c) + ∑ x ∈ Finset.range 128, X r (256 + x) * triGt x (128 + c) + ∑ x ∈ Finset.range 128, X r (128 + x) * triGt x (128 + c)))
      (fun r c => ∑ k ∈ Finset.range 128, X r (128 + k) * triGt k c + (R r + ∑ x ∈ Finset.range 128, X r (384 + x) * triGt x (128 + c) + ∑ x ∈ Finset.range 128, X r (256 + x) * triGt x (128 + c)))
      (fun r c => ∑ k ∈ Finset.range 128, X r (256 + k) * triGt k c + (R r + ∑ x ∈ Finset.range 128, X r (384 + x) * triGt x (128 + c)))
      (fun r c => ∑ k ∈ Finset.range 128, X r (384 + k) * triGt k c + R r) r c
      = ∑ s ∈ Finset.Ico (c + 1) 512, X r s + R r := by
  simp only [cat4, gt_hi, mul_one]
  split_ifs with h0 h1 h2
  · rw [gt_lo (fun k => X r k) h0, grp, grp, grp, join _ (c + 1) 128 512 (by omega) (by omega), join _ 128 256 512 (by omega) (by omega), join _ 256 384 512 (by omega) (by omega)]
    ring
  · rw [gt_lo (fun k => X r (128 + k)) (by omega), grp_hi, grp, grp, show 128 + (c - 128 + 1) = c + 1 from by omega, join _ (c + 1) 256 512 (by omega) (by omega), join _ 256 384 512 (by omega) (by omega)]
    ring
  · rw [gt_lo (fun k => X r (256 + k)) (by omega), grp_hi, grp, show 256 + (c - 256 + 1) = c + 1 from by omega, join _ (c + 1) 384 512 (by omega) (by omega)]
    ring
  · rw [gt_lo (fun k => X r (384 + k)) (by omega), grp_hi, show 384 + (c - 384 + 1) = c + 1 from by omega]

/-- The running sums after a block, in either pass. -/
theorem sum_gt (X : ℕ → ℝ) (R : ℝ) (c : ℕ) :
    R + ∑ x ∈ Finset.range 128, X (384 + x) * triGt x (128 + c) + ∑ x ∈ Finset.range 128, X (256 + x) * triGt x (128 + c) + ∑ x ∈ Finset.range 128, X (128 + x) * triGt x (128 + c) + ∑ x ∈ Finset.range 128, X x * triGt x (128 + c)
      = R + ∑ s ∈ Finset.range 512, X s := by
  simp only [gt_hi, mul_one]
  rw [grp, grp, grp, all_groups, Finset.range_eq_Ico]
  ring

/-- The second pass's sums: of the keys before `c` within the block, and `R`. -/
theorem cat_lt (X : ℕ → ℕ → ℝ) (R : ℕ → ℝ) (r c : ℕ) (h : c < 512) :
    cat4 (fun r c => ∑ k ∈ Finset.range 128, X r k * triLt k c + R r)
      (fun r c => ∑ k ∈ Finset.range 128, X r (128 + k) * triLt k c + (R r + ∑ x ∈ Finset.range 128, X r x * triLt x (128 + c)))
      (fun r c => ∑ k ∈ Finset.range 128, X r (256 + k) * triLt k c + (R r + ∑ x ∈ Finset.range 128, X r x * triLt x (128 + c) + ∑ x ∈ Finset.range 128, X r (128 + x) * triLt x (128 + c)))
      (fun r c => ∑ k ∈ Finset.range 128, X r (384 + k) * triLt k c + (R r + ∑ x ∈ Finset.range 128, X r x * triLt x (128 + c) + ∑ x ∈ Finset.range 128, X r (128 + x) * triLt x (128 + c) + ∑ x ∈ Finset.range 128, X r (256 + x) * triLt x (128 + c))) r c
      = ∑ s ∈ Finset.range c, X r s + R r := by
  simp only [cat4, lt_hi, mul_one]
  split_ifs with h0 h1 h2
  · rw [lt_lo (fun k => X r k) h0]
  · rw [lt_lo (fun k => X r (128 + k)) (by omega), grp_lo, Finset.range_eq_Ico, Finset.range_eq_Ico, show 128 + (c - 128) = c from by omega, join _ 0 128 c (by omega) (by omega)]
    ring
  · rw [lt_lo (fun k => X r (256 + k)) (by omega), grp_lo, grp, Finset.range_eq_Ico, Finset.range_eq_Ico, show 256 + (c - 256) = c from by omega, join _ 0 128 c (by omega) (by omega), join _ 128 256 c (by omega) (by omega)]
    ring
  · rw [lt_lo (fun k => X r (384 + k)) (by omega), grp_lo, grp, grp, Finset.range_eq_Ico, Finset.range_eq_Ico, show 384 + (c - 384) = c from by omega, join _ 0 128 c (by omega) (by omega), join _ 128 256 c (by omega) (by omega), join _ 256 384 c (by omega) (by omega)]
    ring
theorem sum_lt (X : ℕ → ℝ) (R : ℝ) (c : ℕ) :
    R + ∑ x ∈ Finset.range 128, X x * triLt x (128 + c) + ∑ x ∈ Finset.range 128, X (128 + x) * triLt x (128 + c) + ∑ x ∈ Finset.range 128, X (256 + x) * triLt x (128 + c) + ∑ x ∈ Finset.range 128, X (384 + x) * triLt x (128 + c)
      = R + ∑ s ∈ Finset.range 512, X s := by
  simp only [lt_hi, mul_one]
  rw [grp, grp, grp, all_groups, Finset.range_eq_Ico]
  ring

variable (Q K V D : ℕ → ℕ → ℝ) (R : ℕ → ℝ)

theorem pay5_eq : k0_pay5 (F := Ideal) (M2 512 128 Q) (M2 512 128 K) = M2 512 512 fun r c => ls (zl Q K r c) := by
  simp only [k0_pay5, k0_pay4, k0_pay3, bc_zero, bc_one, bc_c0, const_zero, mm_nt, M2_add, M2_sub, M2_mul, M2_min, M2_max, M2_abs, M2_exp, M2_log1, zero_add]
  rfl
theorem pay6_eq : k0_pay6 (F := Ideal) (M2 512 128 Q) (M2 512 128 K) = M2 512 512 fun r c => lk (zl Q K r c) := by
  simp only [k0_pay6, k0_pay4, k0_pay3, bc_zero, bc_one, bc_c0, const_zero, mm_nt, M2_add, M2_sub, M2_mul, M2_min, M2_max, M2_abs, M2_exp, M2_log1, zero_add]
  rfl
theorem pay7_eq : k0_pay7 (F := Ideal) (M2 512 128 Q) (M2 512 128 K) = M2 512 512 fun r c => lk (zl Q K r c) := by
  simp only [k0_pay7, pay6_eq, M2_truncf]
theorem pay8_eq : k0_pay8 (F := Ideal) (M2 512 128 Q) (M2 512 128 K) = M2 512 512 fun r c => 0 := by
  simp only [k0_pay8, pay6_eq, pay7_eq, M2_truncf, M2_extf, M2_sub, sub_self]

theorem t1r_eq : t1r (F := Ideal) (M2 512 128 Q) (M2 128 256 triGt) (M2 512 128 K) (M2 512 128 fun r _ => R r)
    = M2 512 128 fun r _ => R r + ∑ s ∈ Finset.range 512, lk (zl Q K r s) := by
  simp only [t1r, k0_pay9, k0_pay11, k0_pay12, k0_pay14, k0_pay15, k0_pay16, k0_pay17, k0_pay18, k0_pay19, pay7_eq, pay8_eq, const_zero, mm_tri, M2_slice, M2_add, zero_mul, Finset.sum_const_zero, add_zero, zero_add]
  exact M2_congr fun r c hr hc => sum_gt (fun s => lk (zl Q K r s)) (R r) c
theorem pay20_eq : k0_pay20 (F := Ideal) (M2 128 256 triGt) (k0_pay5 (M2 512 128 Q) (M2 512 128 K)) (k0_pay7 (M2 512 128 Q) (M2 512 128 K)) (k0_pay8 (M2 512 128 Q) (M2 512 128 K))
      (k0_pay10 (M2 512 128 Q) (M2 128 256 triGt) (M2 512 128 fun r _ => R r) (M2 512 128 K)) (k0_pay11 (M2 512 128 Q) (M2 128 256 triGt) (M2 512 128 fun r _ => R r) (M2 512 128 K))
      (k0_pay13 (M2 512 128 Q) (M2 128 256 triGt) (M2 512 128 fun r _ => R r) (M2 512 128 K)) (k0_pay14 (M2 512 128 Q) (M2 128 256 triGt) (M2 512 128 K))
    = M2 512 512 fun r c => Real.exp (ls (zl Q K r c) + (∑ s ∈ Finset.Ico (c + 1) 512, lk (zl Q K r s) + R r)) := by
  simp only [k0_pay20, k0_pay9, k0_pay10, k0_pay11, k0_pay12, k0_pay13, k0_pay14, k0_pay15, k0_pay16, k0_pay17, k0_pay18, k0_pay19, pay5_eq, pay7_eq, pay8_eq, const_zero, mm_tri, mm_nt, M2_slice, M2_add, M2_mul, M2_exp, catv_fold, catv_M2, cast_M2, zero_mul, Finset.sum_const_zero, add_zero, zero_add]
  exact M2_congr fun r c hr hc => congrArg (fun x => Real.exp (ls (zl Q K r c) + x)) (cat_gt (fun r s => lk (zl Q K r s)) R r c hc)
theorem t1e_eq : t1e (F := Ideal) (M2 512 128 Q) (M2 512 128 D) (M2 128 256 triGt) (M2 512 128 K) (M2 512 128 V) (M2 512 128 fun r _ => R r)
    = M3 fun r c => Real.exp (ls (zl Q K r c) + (∑ s ∈ Finset.Ico (c + 1) 512, lk (zl Q K r s) + R r)) * dotp D V r c := by
  simp only [t1e, k0_pay21, pay20_eq, const_zero, mm_nt, M2_mul, cast_M2, zero_add]
  rfl
theorem t1s_eq : t1s (F := Ideal) (M2 512 128 Q) (M2 512 128 K) = M3 fun r c => Real.exp (ls (zl Q K r c)) := by
  simp only [t1s, k0_pay22, pay5_eq, M2_exp, cast_M2]
theorem t1d_eq (G : ℕ → ℕ → ℝ) : t1d (F := Ideal) (M2 512 128 Q) (M2 512 128 D) (M2 128 256 triGt) (M2 512 128 K) (M2 512 128 fun r _ => R r) (M2 512 128 G)
    = M2 512 128 fun c d => G c d + ∑ r ∈ Finset.range 512, Real.exp (ls (zl Q K r c) + (∑ s ∈ Finset.Ico (c + 1) 512, lk (zl Q K r s) + R r)) * D r d := by
  simp only [t1d, k0_pay23, pay20_eq, const_zero, mm_tn, M2_add, M2_truncf, shapeCast_id, zero_add]

/-! ## The query block's own key block -/

/-- `log σ(-z)` of the keys before the query, zero elsewhere. -/
def lko (Q K : ℕ → ℕ → ℝ) (r c : ℕ) : ℝ := if c < r then lk (zl Q K r c) else 0
/-- The weights of the own key block. -/
def ao (Q K : ℕ → ℕ → ℝ) (r c : ℕ) : ℝ := if c < r then Real.exp (ls (zl Q K r c) + ∑ s ∈ Finset.Ico (c + 1) 512, lko Q K r s) else 0

theorem pay80_eq : k0_pay80 (F := Ideal) (M2 512 128 Q) (M2 512 128 K) = M2 512 512 fun r c => zl Q K r c := by
  simp only [k0_pay80, bc_c0, const_zero, mm_nt, M2_mul, zero_add]
  rfl
theorem pay81_eq : k0_pay81 (F := Ideal) (M2 512 128 Q) (M2 512 128 K) = M2 512 512 fun r c => lw (zl Q K r c) := by
  simp only [k0_pay81, pay80_eq, bc_zero, bc_one, M2_add, M2_sub, M2_abs, M2_exp, M2_log1]
  rfl
theorem pay82_eq : k0_pay82 (F := Ideal) (M2 512 128 Q) (M2 512 128 K) = M2 512 512 fun r c => ls (zl Q K r c) := by
  simp only [k0_pay82, pay80_eq, pay81_eq, bc_zero, M2_sub, M2_min]
  rfl
theorem pay83_eq : k0_pay83 (F := Ideal) (B2 512 512 fun r c => c < r) (M2 512 512 fun r c => zl Q K r c) (M2 512 512 fun r c => lw (zl Q K r c)) = M2 512 512 fun r c => lko Q K r c := by
  simp only [k0_pay83, bc_zero, M2_sub, M2_max, B2_select]
  rfl
theorem own_r_eq (i : grid0.Coords) : own_r (F := Ideal) i (M2 512 128 Q) (M2 512 128 K) = M2 512 128 fun r _ => ∑ s ∈ Finset.range 512, lko Q K r s := by
  simp only [own_r, pay77_eq, pay79_eq, pay80_eq, pay81_eq, k0_pay78, k0_pay84, k0_pay85, k0_pay86, k0_pay87, k0_pay88, k0_pay89, k0_pay90, k0_pay91, k0_pay92, k0_pay93, pay83_eq, bc_zero, const_zero, mm_tri, M2_slice, M2_add, M2_sub, M2_truncf, M2_extf, sub_self, zero_mul, Finset.sum_const_zero, add_zero]
  exact M2_congr fun r c hr hc => by
    have := sum_gt (fun s => lko Q K r s) 0 c
    simp only [zero_add] at this ⊢
    exact this
theorem own_a_eq (i : grid0.Coords) : own_a (F := Ideal) i (M2 512 128 Q) (M2 512 128 K) = M2 512 512 fun r c => ls (zl Q K r c) + ∑ s ∈ Finset.Ico (c + 1) 512, lko Q K r s := by
  simp only [own_a, pay77_eq, pay79_eq, pay80_eq, pay81_eq, pay82_eq, k0_pay78, k0_pay84, k0_pay85, k0_pay86, k0_pay87, k0_pay88, k0_pay89, k0_pay90, k0_pay91, k0_pay92, k0_pay94, pay83_eq, bc_zero, const_zero, mm_tri, M2_slice, M2_add, M2_sub, M2_truncf, M2_extf, catv_fold, catv_M2, sub_self, zero_mul, Finset.sum_const_zero, add_zero]
  exact M2_congr fun r c hr hc => by
    have := cat_gt (fun r s => lko Q K r s) (fun _ => 0) r c hc
    simp only [zero_add, add_zero] at this ⊢
    rw [this]
theorem pay95_eq (i : grid0.Coords) : k0_pay95 (F := Ideal) (k0_pay79 i) (own_a i (M2 512 128 Q) (M2 512 128 K)) = M2 512 512 (ao Q K) := by
  simp only [k0_pay95, own_a_eq, pay79_eq, bc_zero, M2_exp, B2_select]
  rfl
theorem own_e_eq (i : grid0.Coords) : own_e (F := Ideal) i (M2 512 128 Q) (M2 512 128 D) (M2 512 128 K) (M2 512 128 V) = M3 fun r c => ao Q K r c * dotp D V r c := by
  simp only [own_e, k0_pay96, pay95_eq, const_zero, mm_nt, M2_mul, cast_M2, zero_add]
  rfl
theorem own_s_eq : own_s (F := Ideal) (M2 512 128 Q) (M2 512 128 K) = M3 fun r c => Real.exp (ls (zl Q K r c)) := by
  simp only [own_s, k0_pay97, pay82_eq, M2_exp, cast_M2]
theorem own_d_eq (i : grid0.Coords) (G : ℕ → ℕ → ℝ) : own_d (F := Ideal) i (M2 512 128 Q) (M2 512 128 D) (M2 512 128 K) (M2 512 128 G)
    = M2 512 128 fun c d => G c d + ∑ r ∈ Finset.range 512, ao Q K r c * D r d := by
  simp only [own_d, k0_pay98, pay95_eq, const_zero, mm_tn, M2_add, M2_truncf, shapeCast_id, zero_add]

/-! ## The second pass -/

variable (E S G : ℕ → ℕ → ℝ)

/-- The gradient of the logit of a key block before the query block. -/
def dzb (E S : ℕ → ℕ → ℝ) (R : ℕ → ℝ) (r c : ℕ) : ℝ := (E r c * (1 - S r c) - S r c * (∑ s ∈ Finset.range c, E r s + R r)) * c0
/-- The gradient of the logit of the own key block. -/
def dzo (E S : ℕ → ℕ → ℝ) (R : ℕ → ℝ) (r c : ℕ) : ℝ := (if c < r then E r c * (1 - S r c) - S r c * (∑ s ∈ Finset.range c, E r s + R r) else 0) * c0

theorem t3r_eq : t3r (F := Ideal) (M2 128 256 triLt) (M2 512 128 fun r _ => R r) (M3 E) = M2 512 128 fun r _ => R r + ∑ s ∈ Finset.range 512, E r s := by
  simp only [t3r, k0_pay103, k0_pay102, k0_pay57, k0_pay58, k0_pay59, k0_pay54, k0_pay55, k0_pay51, k0_pay52, k0_pay49, k0_pay47, k0_pay48, k0_pay46, cast_M3, const_zero, mm_tri, M2_slice, M2_add, M2_sub, M2_truncf, M2_extf, sub_self, zero_mul, Finset.sum_const_zero, add_zero, zero_add]
  exact M2_congr fun r c hr hc => sum_lt (fun s => E r s) (R r) c
theorem pay104_eq : k0_pay104 (F := Ideal) (k0_pay45 (M3 S)) (k0_pay46 (M3 E)) (k0_pay50 (M2 128 256 triLt) (M2 512 128 fun r _ => R r) (M3 E)) (k0_pay53 (M2 128 256 triLt) (M2 512 128 fun r _ => R r) (M3 E))
      (k0_pay56 (M2 128 256 triLt) (M2 512 128 fun r _ => R r) (M3 E)) (k0_pay57 (M2 128 256 triLt) (M2 512 128 fun r _ => R r) (M3 E)) (k0_pay58 (M2 128 256 triLt) (M3 E)) (k0_pay59 (M2 128 256 triLt) (M3 E))
    = M2 512 512 (dzb E S R) := by
  simp only [k0_pay104, k0_pay102, k0_pay50, k0_pay53, k0_pay56, k0_pay57, k0_pay58, k0_pay59, k0_pay54, k0_pay55, k0_pay51, k0_pay52, k0_pay49, k0_pay47, k0_pay48, k0_pay46, k0_pay45, cast_M3, bc_one, bc_c0, const_zero, mm_tri, M2_slice, M2_add, M2_sub, M2_mul, M2_truncf, M2_extf, catv_fold, catv_M2, sub_self, zero_mul, Finset.sum_const_zero, add_zero, zero_add]
  exact M2_congr fun r c hr hc => by rw [cat_lt (fun r s => E r s) R r c hc, dzb]
theorem t3q_eq : t3q (F := Ideal) (M2 128 256 triLt) (M2 512 128 fun r _ => R r) (M2 512 128 G) (M2 512 128 K) (M3 S) (M3 E)
    = M2 512 128 fun r d => G r d + ∑ c ∈ Finset.range 512, dzb E S R r c * K c d := by
  simp only [t3q, k0_pay106, pay104_eq, const_zero, mm_nn, M2_add, zero_add]
theorem t3k_eq : t3k (F := Ideal) (M2 512 128 Q) (M2 128 256 triLt) (M2 512 128 fun r _ => R r) (M3 S) (M3 E) (M2 512 128 G)
    = M2 512 128 fun c d => G c d + ∑ r ∈ Finset.range 512, dzb E S R r c * Q r d := by
  simp only [t3k, k0_pay105, pay104_eq, const_zero, mm_tn, M2_add, shapeCast_id, zero_add]

theorem mask_eq {i : ℕ} (hi : i < 4) : cmpi .slt (addi (broadcast S512x512 (Scalar.muli (BitVec.ofNat 32 i) 512#32)) (iota .tc S512x512 32 [1] Facts₀.iota_S512x512_d1_w32))
      (addi (broadcast S512x512 (Scalar.muli (BitVec.ofNat 32 i) 512#32)) (iota .tc S512x512 32 [0] Facts₀.iota_S512x512_d0_w32)) = B2 512 512 fun r c => c < r := by
  funext j
  idx_vars j
  pointwise [B2]
  rw [word_at, word_at, slt_nat (by omega) (by omega)]
  simp
theorem pay124_eq {i : ℕ} (hi : i < 4) : k0_pay124 (F := Ideal) (BitVec.ofNat 32 i) (M2 128 256 triLt) (k0_pay112 (M3 S)) (k0_pay113 (M3 E)) (k0_pay114 (M3 E)) (k0_pay115 (M3 E)) (k0_pay117 (M2 128 256 triLt) (M2 512 128 fun r _ => R r) (M3 E))
      (k0_pay120 (M2 128 256 triLt) (M2 512 128 fun r _ => R r) (M3 E)) (k0_pay121 (M2 128 256 triLt) (M2 512 128 fun r _ => R r) (M3 E)) (k0_pay122 (M2 128 256 triLt) (M3 E)) (k0_pay123 (M3 E)) (M2 512 256 fun _ _ => 0)
    = M2 512 512 (dzo E S R) := by
  simp only [k0_pay124, k0_pay112, k0_pay113, k0_pay114, k0_pay115, k0_pay116, k0_pay117, k0_pay118, k0_pay119, k0_pay120, k0_pay121, k0_pay122, k0_pay123, mask_eq hi, cast_M3, bc_zero, bc_one, bc_c0, const_zero, mm_tri, M2_slice, M2_add, M2_sub, M2_mul, M2_truncf, M2_extf, catv_fold, catv_M2, B2_select, sub_self, zero_mul, Finset.sum_const_zero, add_zero, zero_add]
  exact M2_congr fun r c hr hc => by rw [cat_lt (fun r s => E r s) R r c hc, dzo]
theorem fin_q_eq (i : grid0.Coords) : fin_q (F := Ideal) i (M2 512 128 fun r _ => R r, M2 512 128 G) (M2 512 128 K) (M3 S) (M3 E)
    = M2 512 128 fun r d => G r d + ∑ c ∈ Finset.range 512, dzo E S R r c * K c d := by
  have hi : (i 1).val < 4 := (i 1).isLt
  simp only [fin_q, pay99_eq, k0_pay126, pay124_eq R E S hi, const_zero, mm_nn, M2_add, M2_truncf, zero_add]
theorem fin_k_eq (i : grid0.Coords) (G' : ℕ → ℕ → ℝ) : fin_k (F := Ideal) i (M2 512 128 Q) (M2 512 128 fun r _ => R r, M2 512 128 G') (M3 S) (M3 E) (M2 512 128 G)
    = M2 512 128 fun c d => G c d + ∑ r ∈ Finset.range 512, dzo E S R r c * Q r d := by
  have hi : (i 1).val < 4 := (i 1).isLt
  simp only [fin_k, pay99_eq, k0_pay125, pay124_eq R E S hi, const_zero, mm_tn, M2_add, shapeCast_id, zero_add]

end Cert.Proof.SB

end
-- ==== Proof.PointReal.lean ====
/-
  A whole grid point over finite values. `Q`, `K`, `V` and `D` are one head's queries, keys, values and incoming
  gradients, by row and lane. A point of query block `b` gives the gradient of its 512 queries, and adds to the
  accumulated gradients of all keys and values what its queries contribute.
-/
module

public import proofs.«01_k».proof.Proof.KernelReal

@[expose] public section

set_option maxRecDepth 16384
set_option maxHeartbeats 1000000

noncomputable section

namespace Cert.Proof.SB

open Idealize.ShloMosaic Cert.KernelIdeal Cert.KernelIdeal.Gen

variable (Q K V D : ℕ → ℕ → ℝ)

/-! ## The mathematics of one head -/

/-- `log (1 - β)` of query `t` and key `s`: zero from the query on. -/
def keep (t s : ℕ) : ℝ := if s < t then lk (zl Q K t s) else 0
/-- The attention weight: `β` at `s` times the product of `1 - β` over the keys between. -/
def wt (t s : ℕ) : ℝ := if s < t then Real.exp (ls (zl Q K t s) + ∑ j ∈ Finset.Ico (s + 1) 2048, keep Q K t j) else 0
/-- The weight times its gradient `dy · v`. -/
def ee (t s : ℕ) : ℝ := wt Q K t s * dotp D V t s
/-- The gradient of the unscaled logit. -/
def dz (t s : ℕ) : ℝ :=
  if s < t then (ee Q K V D t s * (1 - Real.exp (ls (zl Q K t s))) - Real.exp (ls (zl Q K t s)) * ∑ j ∈ Finset.range s, ee Q K V D t j) * c0 else 0

theorem keep_zero {t s : ℕ} (h : t ≤ s) : keep Q K t s = 0 := if_neg (by omega)
theorem wt_zero {t s : ℕ} (h : t ≤ s) : wt Q K t s = 0 := if_neg (by omega)
theorem ee_zero {t s : ℕ} (h : t ≤ s) : ee Q K V D t s = 0 := by rw [ee, wt_zero Q K h, zero_mul]
theorem dz_zero {t s : ℕ} (h : t ≤ s) : dz Q K V D t s = 0 := if_neg (by omega)

theorem blk_sum (X : ℕ → ℝ) (o : ℕ) : ∑ s ∈ Finset.range 512, X (o + s) = ∑ s ∈ Finset.Ico o (o + 512), X s := by
  rw [Finset.sum_Ico_eq_sum_range, Nat.add_sub_cancel_left]
theorem blk_hi (X : ℕ → ℝ) (o a : ℕ) : ∑ s ∈ Finset.Ico a 512, X (o + s) = ∑ s ∈ Finset.Ico (o + a) (o + 512), X s := by
  rw [Finset.sum_Ico_add, Nat.add_comm a o, Nat.add_comm 512 o]
theorem blk_lo (X : ℕ → ℝ) (o a : ℕ) : ∑ s ∈ Finset.range a, X (o + s) = ∑ s ∈ Finset.Ico o (o + a), X s := by
  rw [Finset.sum_Ico_eq_sum_range, Nat.add_sub_cancel_left]
theorem ico_zero (X : ℕ → ℝ) (a b : ℕ) (h : ∀ s, a ≤ s → X s = 0) : ∑ s ∈ Finset.Ico a b, X s = 0 :=
  Finset.sum_eq_zero fun s hs => h s (Finset.mem_Ico.mp hs).1

/-! ## Blocks of arrays of finite values -/

theorem rowBlk_M2 (f : ℕ → ℕ → ℝ) (j : Fin 4) : rowBlk (F := Ideal) (e := .bf16) (M2 2048 128 f) j = M2 512 128 fun r c => f (512 * j.val + r) c := by
  funext x
  show M2 2048 128 f _ = _
  unfold M2
  show ((f (512 * j.val + 1 * (x 0).val) (0 + 1 * (x 1).val) : ℝ) : EReal) = _
  rw [Nat.zero_add, Nat.one_mul, Nat.one_mul]
theorem rowBlk_M2' (f : ℕ → ℕ → ℝ) (j : Fin 4) : rowBlk (F := Ideal) (e := .f32) (M2 2048 128 f) j = M2 512 128 fun r c => f (512 * j.val + r) c :=
  rowBlk_M2 f j
theorem putRow_M2 (f w : ℕ → ℕ → ℝ) (j : Fin 4) : putRow (F := Ideal) (e := .f32) (M2 2048 128 f) j (M2 512 128 w)
    = M2 2048 128 fun s d => if 512 * j.val ≤ s ∧ s < 512 * j.val + 512 then w (s - 512 * j.val) d else f s d := by
  funext x
  unfold putRow VecWindow.put
  have h1 : (x 1).val < 128 := (x 1).isLt
  split <;> rename_i hh
  · have h : 512 * j.val ≤ (x 0).val ∧ (x 0).val < 512 * j.val + 512 := hh 0
    unfold M2
    beta_reduce
    rw [if_pos h]
    rfl
  · have h : ¬ (512 * j.val ≤ (x 0).val ∧ (x 0).val < 512 * j.val + 512) := fun h => hh fun a => by
      match a with
      | ⟨0, _⟩ => exact h
      | ⟨1, _⟩ => exact ⟨Nat.zero_le _, by show (x 1).val < 0 + 128; omega⟩
    unfold M2
    beta_reduce
    rw [if_neg h]

theorem M3_congr {f g : ℕ → ℕ → ℝ} (h : ∀ r c, r < 512 → c < 512 → f r c = g r c) : M3 f = M3 g :=
  funext fun i => congrArg _ (h _ _ (i 1).isLt (i 2).isLt)

/-! ## The first pass -/

section Point
variable (i : grid0.Coords)

/-- The query block of a point, of the queries or of the incoming gradients. -/
abbrev qb (i : grid0.Coords) (Q : ℕ → ℕ → ℝ) : (⟨2, ![512, 128]⟩ : Shape).Idx → EReal := M2 512 128 fun r d => Q (512 * (i 1).val + r) d

theorem lko_keep (b r c : ℕ) : lko (fun r d => Q (512 * b + r) d) (fun r d => K (512 * b + r) d) r c = keep Q K (512 * b + r) (512 * b + c) := by
  unfold lko keep
  exact if_congr (by omega) rfl rfl

theorem ib_val : (ib i).val = (i 1).val := rfl
theorem bk_val (n : ℕ) : (bk i n).val = (i 1).val - n := rfl

/-- The running sums: `log (1 - β)` over the keys from the last block on. -/
theorem runs_real : ∀ n, n ≤ (i 1).val → p1r (F := Ideal) i (qb i Q) (M2 2048 128 K) n
    = M2 512 128 fun r _ => ∑ s ∈ Finset.Ico (512 * ((i 1).val - n)) 2048, keep Q K (512 * (i 1).val + r) s
  | 0, _ => by
      have hi : (i 1).val < 4 := (i 1).isLt
      show own_r i _ _ = _
      rw [rowBlk_M2, own_r_eq]
      refine M2_congr fun r _ hr _ => ?_
      rw [ib_val]
      simp only [lko_keep, blk_sum (fun s => keep Q K (512 * (i 1).val + r) s), Nat.sub_zero]
      rw [join _ (512 * (i 1).val) (512 * (i 1).val + 512) 2048 (by omega) (by omega), ico_zero _ (512 * (i 1).val + 512) 2048 fun s hs => keep_zero Q K (by omega), add_zero]
  | n + 1, hn => by
      have hi : (i 1).val < 4 := (i 1).isLt
      show t1r _ _ _ (p1r i _ _ n) = _
      rw [runs_real n (by omega), rowBlk_M2, pay77_eq, t1r_eq]
      refine M2_congr fun r _ hr _ => ?_
      rw [bk_val, join _ (512 * ((i 1).val - (n + 1))) (512 * ((i 1).val - n)) 2048 (by omega) (by omega), add_comm,
        show 512 * ((i 1).val - n) = 512 * ((i 1).val - (n + 1)) + 512 from by omega, ← blk_sum]
      exact congrArg (fun x : ℝ => x + _) (Finset.sum_congr rfl fun s hs => by
        have := Finset.mem_range.mp hs
        exact (if_pos (by omega)).symm)

/-- The weights of a key block before the query block. -/
theorem wt_blk (b n r c : ℕ) (hb : b < 4) (hn : n + 1 ≤ b) (hc : c < 512) :
    Real.exp (ls (zl Q K (512 * b + r) (512 * (b - (n + 1)) + c)) + (∑ s ∈ Finset.Ico (c + 1) 512, lk (zl Q K (512 * b + r) (512 * (b - (n + 1)) + s))
        + ∑ s ∈ Finset.Ico (512 * (b - n)) 2048, keep Q K (512 * b + r) s)) = wt Q K (512 * b + r) (512 * (b - (n + 1)) + c) := by
  have e : ∑ s ∈ Finset.Ico (c + 1) 512, lk (zl Q K (512 * b + r) (512 * (b - (n + 1)) + s))
      = ∑ s ∈ Finset.Ico (512 * (b - (n + 1)) + c + 1) (512 * (b - n)), keep Q K (512 * b + r) s := by
    rw [show 512 * (b - n) = 512 * (b - (n + 1)) + 512 from by omega, show 512 * (b - (n + 1)) + c + 1 = 512 * (b - (n + 1)) + (c + 1) from rfl,
      ← blk_hi (fun s => keep Q K (512 * b + r) s)]
    exact Finset.sum_congr rfl fun s hs => by
      have := Finset.mem_Ico.mp hs
      exact (if_pos (by omega)).symm
  rw [wt, if_pos (by omega), e, ← join _ _ (512 * (b - n)) 2048 (by omega) (by omega)]
/-- The weights of the own key block. -/
theorem wt_own (b r c : ℕ) (hb : b < 4) (hr : r < 512) (hc : c < 512) :
    ao (fun r d => Q (512 * b + r) d) (fun r d => K (512 * b + r) d) r c = wt Q K (512 * b + r) (512 * b + c) := by
  rw [ao, wt]
  refine if_congr (by omega) ?_ rfl
  · simp only [lko_keep]
    rw [blk_hi (fun s => keep Q K (512 * b + r) s), join _ (512 * b + c + 1) (512 * b + 512) 2048 (by omega) (by omega),
      ico_zero _ (512 * b + 512) 2048 fun s hs => keep_zero Q K (by omega), add_zero]
    rfl

theorem eAt_real : ∀ n, n ≤ (i 1).val → eAt (F := Ideal) i (qb i Q) (qb i D) (M2 2048 128 K) (M2 2048 128 V) n
    = M3 fun r c => ee Q K V D (512 * (i 1).val + r) (512 * ((i 1).val - n) + c)
  | 0, _ => by
      have hi : (i 1).val < 4 := (i 1).isLt
      show own_e i _ _ _ _ = _
      rw [rowBlk_M2, rowBlk_M2, own_e_eq]
      refine M3_congr fun r c hr hc => ?_
      rw [ib_val, wt_own Q K _ r c hi hr hc]
      rfl
  | n + 1, hn => by
      have hi : (i 1).val < 4 := (i 1).isLt
      show t1e _ _ _ _ _ (p1r i _ _ n) = _
      rw [runs_real Q K i n (by omega), rowBlk_M2, rowBlk_M2, pay77_eq, t1e_eq]
      refine M3_congr fun r c hr hc => ?_
      rw [bk_val, ee, ← wt_blk Q K _ n r c hi hn hc]
      rfl
theorem sAt_real : ∀ n, sAt (F := Ideal) i (qb i Q) (M2 2048 128 K) n
    = M3 fun r c => Real.exp (ls (zl Q K (512 * (i 1).val + r) (512 * ((i 1).val - n) + c)))
  | 0 => by
      show own_s _ _ = _
      rw [rowBlk_M2, own_s_eq]
      rfl
  | n + 1 => by
      show t1s _ _ = _
      rw [rowBlk_M2, t1s_eq]
      rfl

/-- What a point's queries add to the gradient of value `s`. -/
def addV (b s d : ℕ) : ℝ := ∑ r ∈ Finset.range 512, wt Q K (512 * b + r) s * D (512 * b + r) d
theorem addV_zero {b s d : ℕ} (h : 512 * b + 512 ≤ s) : addV Q K D b s d = 0 :=
  Finset.sum_eq_zero fun r hr => by
    have := Finset.mem_range.mp hr
    rw [wt_zero Q K (by omega), zero_mul]

theorem ds_real (G : ℕ → ℕ → ℝ) : ∀ n, n ≤ (i 1).val →
    ds (F := Ideal) i (qb i Q) (qb i D) k0_pay77 (M2 2048 128 K) (own_r i (qb i Q) (rowBlk (M2 2048 128 K) (ib i)))
      (putRow (M2 2048 128 G) (ib i) (own_d i (qb i Q) (qb i D) (rowBlk (M2 2048 128 K) (ib i)) (rowBlk (M2 2048 128 G) (ib i)))) n
    = M2 2048 128 fun s d => if 512 * ((i 1).val - n) ≤ s then G s d + addV Q K D (i 1).val s d else G s d
  | 0, _ => by
      have hi : (i 1).val < 4 := (i 1).isLt
      show putRow _ _ _ = _
      rw [rowBlk_M2, rowBlk_M2', own_d_eq, putRow_M2]
      refine M2_congr fun s d hs hd => ?_
      rw [ib_val, Nat.sub_zero]
      split_ifs with h h'
      · rw [show 512 * (i 1).val + (s - 512 * (i 1).val) = s from by omega]
        refine congrArg (fun x : ℝ => G s d + x) (Finset.sum_congr rfl fun r hr => ?_)
        rw [wt_own Q K _ r _ hi (Finset.mem_range.mp hr) (by omega), show 512 * (i 1).val + (s - 512 * (i 1).val) = s from by omega]
      · omega
      · rw [addV_zero Q K D (by omega), add_zero]
      · rfl
  | n + 1, hn => by
      have hi : (i 1).val < 4 := (i 1).isLt
      show putRow (ds i _ _ _ _ _ _ n) _ (t1d _ _ _ _ (p1r i _ _ n) (rowBlk (ds i _ _ _ _ _ _ n) _)) = _
      rw [ds_real G n (by omega), runs_real Q K i n (by omega), rowBlk_M2, rowBlk_M2', pay77_eq, t1d_eq, putRow_M2]
      refine M2_congr fun s d hs hd => ?_
      rw [bk_val]
      by_cases h : 512 * ((i 1).val - (n + 1)) ≤ s ∧ s < 512 * ((i 1).val - (n + 1)) + 512
      · rw [if_pos h, if_pos h.1, show 512 * ((i 1).val - (n + 1)) + (s - 512 * ((i 1).val - (n + 1))) = s from by omega, if_neg (by omega)]
        refine congrArg (fun x : ℝ => G s d + x) (Finset.sum_congr rfl fun r hr => ?_)
        have e := wt_blk Q K (i 1).val n r (s - 512 * ((i 1).val - (n + 1))) hi hn (by omega)
        rw [show 512 * ((i 1).val - (n + 1)) + (s - 512 * ((i 1).val - (n + 1))) = s from by omega] at e
        rw [← e]
        simp only [zl, show 512 * ((i 1).val - (n + 1)) + (s - 512 * ((i 1).val - (n + 1))) = s from by omega]
      · rw [if_neg h]
        split_ifs <;> first | rfl | omega

/-- After a point the accumulated gradient of `v` has the point's queries' part added. -/
theorem ptV_real (G : ℕ → ℕ → ℝ) : ptV (F := Ideal) i (qb i Q) (qb i D) (M2 2048 128 K) (M2 2048 128 G)
    = M2 2048 128 fun s d => G s d + addV Q K D (i 1).val s d := by
  unfold ptV
  rw [ds_real Q K D i G _ (Nat.le_refl _)]
  exact M2_congr fun s d _ _ => if_pos (by omega)

/-! ## The second pass -/

/-- The two stacks hold, at key block `k`, the weights' gradients and the values `σ(z)`. -/
def Stacked (i : grid0.Coords) (E S : Vec Ideal S4x512x512 .f32) : Prop := ∀ k, k ≤ (i 1).val →
  sqBlk E (fk k) = (M3 fun r c => ee Q K V D (512 * (i 1).val + r) (512 * k + c)) ∧
  sqBlk S (fk k) = (M3 fun r c => Real.exp (ls (zl Q K (512 * (i 1).val + r) (512 * k + c))))

theorem stacked_first : Stacked Q K V D i (p1e i (qb i Q) (qb i D) (M2 2048 128 K) (M2 2048 128 V) Z) (p1s i (qb i Q) (M2 2048 128 K) Z) := fun k hk => by
  rw [p1e_fk _ _ _ _ _ _ _ hk, p1s_fk _ _ _ _ _ hk, eAt_real Q K V D i _ (by omega), sAt_real Q K i _, show (i 1).val - ((i 1).val - k) = k from by omega]
  exact ⟨rfl, rfl⟩

theorem fk_val {k : ℕ} (h : k < 4) : (fk k).val = k := Nat.mod_eq_of_lt h

theorem pre_blk (X : ℕ → ℝ) (o c : ℕ) : ∑ s ∈ Finset.range c, X (o + s) + ∑ j ∈ Finset.range o, X j = ∑ j ∈ Finset.range (o + c), X j := by
  rw [blk_lo, add_comm, Finset.sum_range_add_sum_Ico _ (by omega)]

/-- A key block before the query block: the gradient of the unscaled logits. -/
theorem dz_blk (b k r c : ℕ) (hk : k + 1 ≤ b) (hc : c < 512) :
    dzb (fun r c => ee Q K V D (512 * b + r) (512 * k + c)) (fun r c => Real.exp (ls (zl Q K (512 * b + r) (512 * k + c))))
      (fun r => ∑ j ∈ Finset.range (512 * k), ee Q K V D (512 * b + r) j) r c = dz Q K V D (512 * b + r) (512 * k + c) := by
  rw [dzb, dz, if_pos (by omega), pre_blk (fun s => ee Q K V D (512 * b + r) s)]
theorem dz_own (b r c : ℕ) (hr : r < 512) :
    dzo (fun r c => ee Q K V D (512 * b + r) (512 * b + c)) (fun r c => Real.exp (ls (zl Q K (512 * b + r) (512 * b + c))))
      (fun r => ∑ j ∈ Finset.range (512 * b), ee Q K V D (512 * b + r) j) r c = dz Q K V D (512 * b + r) (512 * b + c) := by
  rw [dzo, dz, pre_blk (fun s => ee Q K V D (512 * b + r) s), ite_mul, zero_mul]
  exact if_congr (by omega) rfl rfl

theorem st3_real {E S : Vec Ideal S4x512x512 .f32} (h : Stacked Q K V D i E S) : ∀ k, k ≤ (i 1).val →
    st3 (F := Ideal) k0_pay99 (M2 2048 128 K) E S (k0_pay100, k0_pay101) k
    = (M2 512 128 fun r _ => ∑ j ∈ Finset.range (512 * k), ee Q K V D (512 * (i 1).val + r) j,
       M2 512 128 fun r d => ∑ s ∈ Finset.range (512 * k), dz Q K V D (512 * (i 1).val + r) s * K s d)
  | 0, _ => by
      simp only [Nat.mul_zero, Finset.range_zero, Finset.sum_empty]
      show (k0_pay100, k0_pay101) = _
      rw [k0_pay100, k0_pay101, bc_zero]
  | k + 1, hk => by
      have hi : (i 1).val < 4 := (i 1).isLt
      show (t3r _ (st3 _ _ _ _ _ k).1 _, t3q _ (st3 _ _ _ _ _ k).1 (st3 _ _ _ _ _ k).2 _ _ _) = _
      rw [st3_real h k (by omega), (h k (by omega)).1, (h k (by omega)).2, rowBlk_M2, pay99_eq, fk_val (by omega)]
      dsimp only
      rw [t3r_eq, t3q_eq]
      refine congrArg₂ Prod.mk (M2_congr fun r d hr hd => ?_) (M2_congr fun r d hr hd => ?_)
      · rw [add_comm, pre_blk (fun s => ee Q K V D (512 * (i 1).val + r) s)]
        rfl
      · rw [show 512 * (k + 1) = 512 * k + 512 from rfl, ← pre_blk (fun s => dz Q K V D (512 * (i 1).val + r) s * K s d), add_comm]
        refine congrArg (fun x : ℝ => x + _) (Finset.sum_congr rfl fun c hc => ?_)
        rw [dz_blk Q K V D (i 1).val k r c (by omega) (Finset.mem_range.mp hc)]

/-- What a point's queries add to the gradient of key `s`. -/
def addK (b s d : ℕ) : ℝ := ∑ r ∈ Finset.range 512, dz Q K V D (512 * b + r) s * Q (512 * b + r) d
theorem addK_zero {b s d : ℕ} (h : 512 * b + 512 ≤ s) : addK Q K V D b s d = 0 :=
  Finset.sum_eq_zero fun r hr => by
    have := Finset.mem_range.mp hr
    rw [dz_zero Q K V D (by omega), zero_mul]

theorem ks_real {E S : Vec Ideal S4x512x512 .f32} (h : Stacked Q K V D i E S) (G : ℕ → ℕ → ℝ) : ∀ k, k ≤ (i 1).val →
    ks (F := Ideal) (qb i Q) k0_pay99 (M2 2048 128 K) E S (k0_pay100, k0_pay101) (M2 2048 128 G) k
    = M2 2048 128 fun s d => if s < 512 * k then G s d + addK Q K V D (i 1).val s d else G s d
  | 0, _ => by
      show M2 2048 128 G = _
      exact M2_congr fun s d _ _ => (if_neg (by omega)).symm
  | k + 1, hk => by
      have hi : (i 1).val < 4 := (i 1).isLt
      show putRow (ks _ _ _ _ _ _ _ k) _ (t3k _ _ (st3 _ _ _ _ _ k).1 _ _ (rowBlk (ks _ _ _ _ _ _ _ k) _)) = _
      rw [ks_real h G k (by omega), st3_real Q K V D i h k (by omega), (h k (by omega)).1, (h k (by omega)).2, rowBlk_M2', pay99_eq, fk_val (by omega)]
      dsimp only
      rw [t3k_eq, putRow_M2]
      refine M2_congr fun s d hs hd => ?_
      rw [fk_val (by omega)]
      by_cases h : 512 * k ≤ s ∧ s < 512 * k + 512
      · rw [if_pos h, if_pos (show s < 512 * (k + 1) from by omega), show 512 * k + (s - 512 * k) = s from by omega, if_neg (by omega)]
        refine congrArg (fun x : ℝ => G s d + x) (Finset.sum_congr rfl fun r hr => ?_)
        rw [dz_blk Q K V D (i 1).val k r _ (by omega) (by omega), show 512 * k + (s - 512 * k) = s from by omega]
      · rw [if_neg h]
        split_ifs <;> first | rfl | omega

theorem ib_fk : ib i = fk (i 1).val := Fin.ext (fk_val (i 1).isLt).symm

/-- The gradient of a point's queries. -/
theorem outQ_real : outQ (F := Ideal) i (qb i Q) (qb i D) (M2 2048 128 K) (M2 2048 128 V)
    = M2 512 128 fun r d => ∑ s ∈ Finset.range 2048, dz Q K V D (512 * (i 1).val + r) s * K s d := by
  have hi : (i 1).val < 4 := (i 1).isLt
  have h := stacked_first Q K V D i
  unfold outQ ptQ p2
  rw [st3_real Q K V D i h _ (Nat.le_refl _), rowBlk_M2, ib_fk, (h _ (Nat.le_refl _)).1, (h _ (Nat.le_refl _)).2, fin_q_eq]
  refine M2_congr fun r d hr hd => ?_
  rw [fk_val hi, ← Finset.sum_range_add_sum_Ico _ (show 512 * (i 1).val + 512 ≤ 2048 from by omega),
    ico_zero _ _ _ (fun s hs => by rw [dz_zero Q K V D (by omega), zero_mul]), add_zero,
    ← pre_blk (fun s => dz Q K V D (512 * (i 1).val + r) s * K s d), add_comm]
  refine congrArg (fun x : ℝ => x + _) (Finset.sum_congr rfl fun c hc => ?_)
  rw [dz_own Q K V D (i 1).val r c hr]

/-- After a point the accumulated gradient of `k` has the point's queries' part added. -/
theorem outK_real (G : ℕ → ℕ → ℝ) : outK (F := Ideal) i (qb i Q) (qb i D) (M2 2048 128 K) (M2 2048 128 V) (M2 2048 128 G)
    = M2 2048 128 fun s d => G s d + addK Q K V D (i 1).val s d := by
  have hi : (i 1).val < 4 := (i 1).isLt
  have h := stacked_first Q K V D i
  unfold outK ptK p2
  rw [st3_real Q K V D i h _ (Nat.le_refl _), ks_real Q K V D i h G _ (Nat.le_refl _), rowBlk_M2', ib_fk, (h _ (Nat.le_refl _)).1, (h _ (Nat.le_refl _)).2, fin_k_eq, putRow_M2]
  refine M2_congr fun s d hs hd => ?_
  rw [fk_val hi]
  by_cases h : 512 * (i 1).val ≤ s ∧ s < 512 * (i 1).val + 512
  · rw [if_pos h, show 512 * (i 1).val + (s - 512 * (i 1).val) = s from by omega, if_neg (by omega)]
    refine congrArg (fun x : ℝ => G s d + x) (Finset.sum_congr rfl fun r hr => ?_)
    rw [dz_own Q K V D (i 1).val r _ (Finset.mem_range.mp hr), show 512 * (i 1).val + (s - 512 * (i 1).val) = s from by omega]
  · rw [if_neg h]
    split_ifs with h'
    · rfl
    · rw [addK_zero Q K V D (by omega), add_zero]

end Point

end Cert.Proof.SB

end
-- ==== Proof.ArrayReal.lean ====
/-
  The kernel's three result arrays over finite arguments. `X` and `Y` are the two arguments, `qkv` and `dy`, as arrays
  of reals: head `h` of the queries, keys and values is 128 columns of `X`, and of the incoming gradients of `Y`.
-/
module

public import proofs.«01_k».proof.Proof.PointReal
public import proofs.«01_k».proof.Proof.Run
public import Idealize.ShloMosaic.Lib.Pipeline.ValueKit

@[expose] public section

set_option maxRecDepth 16384
set_option maxHeartbeats 1000000

noncomputable section

namespace Cert.Proof.SB

open Idealize.ShloMosaic Idealize.ShloMosaic.TcCoe Cert.KernelIdeal Cert.KernelIdeal.Gen
open Idealize.SL

variable (X Y : ℕ → ℕ → ℝ)

/-- Head `h` of part `o` of the columns: queries, keys and values are parts 0, 1 and 2. -/
def hd (X : ℕ → ℕ → ℝ) (o h r d : ℕ) : ℝ := X r (1024 * o + 128 * h + d)

/-- One head's gradient of the unscaled logits. -/
abbrev hz (h : ℕ) : ℕ → ℕ → ℝ := dz (hd X 0 h) (hd X 1 h) (hd X 2 h) (hd Y 0 h)
/-- One head's attention weights. -/
abbrev hw (h : ℕ) : ℕ → ℕ → ℝ := wt (hd X 0 h) (hd X 1 h)

/-- The gradient of the queries, by row and column. -/
def gq (r c : ℕ) : ℝ := ∑ s ∈ Finset.range 2048, hz X Y (c / 128) r s * hd X 1 (c / 128) s (c % 128)
/-- The gradient of the keys. -/
def gk (s c : ℕ) : ℝ := ∑ r ∈ Finset.range 2048, hz X Y (c / 128) r s * hd X 0 (c / 128) r (c % 128)
/-- The gradient of the values. -/
def gv (s c : ℕ) : ℝ := ∑ r ∈ Finset.range 2048, hw X (c / 128) r s * hd Y 0 (c / 128) r (c % 128)

theorem idx0 : ∀ t : Fin cfg0.N, win0_0.index t = ![t.val % 4, t.val / 4] := (by decide +kernel : ∀ t : Fin grid0.N, win0_0.index t = ![t.val % 4, t.val / 4])
theorem idx1 : ∀ t : Fin cfg0.N, win0_1.index t = ![0, 8 + t.val / 4] := (by decide +kernel : ∀ t : Fin grid0.N, win0_1.index t = ![0, 8 + t.val / 4])
theorem idx2 : ∀ t : Fin cfg0.N, win0_2.index t = ![0, 16 + t.val / 4] := (by decide +kernel : ∀ t : Fin grid0.N, win0_2.index t = ![0, 16 + t.val / 4])
theorem idx3 : ∀ t : Fin cfg0.N, win0_3.index t = ![t.val % 4, t.val / 4] := (by decide +kernel : ∀ t : Fin grid0.N, win0_3.index t = ![t.val % 4, t.val / 4])
theorem idx4 : ∀ t : Fin cfg0.N, win0_4.index t = ![t.val % 4, t.val / 4] := (by decide +kernel : ∀ t : Fin grid0.N, win0_4.index t = ![t.val % 4, t.val / 4])
theorem idx5 : ∀ t : Fin cfg0.N, win0_5.index t = ![0, t.val / 4] := (by decide +kernel : ∀ t : Fin grid0.N, win0_5.index t = ![0, t.val / 4])
theorem idx6 : ∀ t : Fin cfg0.N, win0_6.index t = ![0, t.val / 4] := (by decide +kernel : ∀ t : Fin grid0.N, win0_6.index t = ![0, t.val / 4])

variable (m : (ℓ : Loc nD τ sig) → Buf (Elt Ideal) ℓ) (c : Dev nD)

section Blocks
variable (hX : m ((c : Thread nD τ).loc main_arg0) = M2 2048 6144 X) (hY : m ((c : Thread nD τ).loc main_arg1) = M2 2048 1024 Y)

theorem coe_at (f : ℕ → ℕ → ℝ) {a b a' b' : ℕ} (h : a = a') (h' : b = b') : ((f a b : ℝ) : EReal) = ((f a' b' : ℝ) : EReal) := by rw [h, h']

include hX in
theorem qB_real (t : Fin cfg0.N) : qB m c t = qb (grid0.coords t) (hd X 0 (t.val / 4)) := by
  funext y
  show iblk m c 0 t y = _
  blk_simp [iblk]
  rw [show V m c main_arg0 = M2 2048 6144 X from hX]
  unfold qb M2 hd
  blk_simp [idx0]
  exact coe_at X (by rw [coord1 t]; omega) (by omega)
include hX in
theorem kB_real (t : Fin cfg0.N) : kB m c t = M2 2048 128 (hd X 1 (t.val / 4)) := by
  funext y
  show iblk m c 1 t y = _
  blk_simp [iblk]
  rw [show V m c main_arg0 = M2 2048 6144 X from hX]
  unfold M2 hd
  blk_simp [idx1]
  exact coe_at X (by omega) (by omega)
include hX in
theorem vB_real (t : Fin cfg0.N) : vB m c t = M2 2048 128 (hd X 2 (t.val / 4)) := by
  funext y
  show iblk m c 2 t y = _
  blk_simp [iblk]
  rw [show V m c main_arg0 = M2 2048 6144 X from hX]
  unfold M2 hd
  blk_simp [idx2]
  exact coe_at X (by omega) (by omega)
include hY in
theorem dyB_real (t : Fin cfg0.N) : dyB m c t = qb (grid0.coords t) (hd Y 0 (t.val / 4)) := by
  funext y
  show iblk m c 3 t y = _
  blk_simp [iblk]
  rw [show V m c main_arg1 = M2 2048 1024 Y from hY]
  unfold qb M2 hd
  blk_simp [idx3]
  exact coe_at Y (by rw [coord1 t]; omega) (by omega)

/-! ## The accumulators -/

theorem pay75_zero : k0_pay75 (F := Ideal) = M2 2048 128 fun _ _ => 0 := by
  rw [k0_pay75, bc_zero, shapeCast_id]
theorem pay76_zero : k0_pay76 (F := Ideal) = M2 2048 128 fun _ _ => 0 := by
  rw [k0_pay76, bc_zero, shapeCast_id]

/-- The sum over the rows of the first `b` query blocks, one more block added. -/
theorem rows_next (f : ℕ → ℝ) (b : ℕ) : ∑ r ∈ Finset.range (512 * b), f r + ∑ r ∈ Finset.range 512, f (512 * b + r) = ∑ r ∈ Finset.range (512 * (b + 1)), f r := by
  rw [add_comm, pre_blk f]
  rfl

include hX hY
theorem accK_real : ∀ (n : ℕ) (t : Fin cfg0.N), t.val = n → accK m c t.val = M2 2048 128 fun s d =>
    ∑ r ∈ Finset.range (512 * (t.val % 4 + 1)), hz X Y (t.val / 4) r s * hd X 0 (t.val / 4) r d := by
  intro n
  induction n with
  | zero =>
    intro t ht
    rw [accK_first m c t (by omega), stepK, qB_real X m c hX, kB_real X m c hX, vB_real X m c hX, dyB_real Y m c hY, pay75_zero, outK_real]
    refine M2_congr fun s d _ _ => ?_
    rw [← rows_next, coord1 t, show t.val % 4 = 0 from by omega]
    rfl
  | succ n ih =>
    intro t ht
    by_cases h : t.val % 4 = 0
    · rw [accK_first m c t h, stepK, qB_real X m c hX, kB_real X m c hX, vB_real X m c hX, dyB_real Y m c hY, pay75_zero, outK_real]
      refine M2_congr fun s d _ _ => ?_
      rw [← rows_next, coord1 t, h]
      rfl
    · have e := ih ⟨n, by have := t.isLt; omega⟩ rfl
      dsimp only at e
      rw [accK_next m c t h, stepK, qB_real X m c hX, kB_real X m c hX, vB_real X m c hX, dyB_real Y m c hY, show t.val - 1 = n from by omega, e, outK_real]
      refine M2_congr fun s d _ _ => ?_
      rw [show n % 4 + 1 = t.val % 4 from by omega, show n / 4 = t.val / 4 from by omega, ← rows_next, coord1 t]
      rfl

theorem accV_real : ∀ (n : ℕ) (t : Fin cfg0.N), t.val = n → accV m c t.val = M2 2048 128 fun s d =>
    ∑ r ∈ Finset.range (512 * (t.val % 4 + 1)), hw X (t.val / 4) r s * hd Y 0 (t.val / 4) r d := by
  intro n
  induction n with
  | zero =>
    intro t ht
    rw [accV_first m c t (by omega), stepV, qB_real X m c hX, kB_real X m c hX, dyB_real Y m c hY, pay76_zero, ptV_real]
    refine M2_congr fun s d _ _ => ?_
    rw [← rows_next, coord1 t, show t.val % 4 = 0 from by omega]
    rfl
  | succ n ih =>
    intro t ht
    by_cases h : t.val % 4 = 0
    · rw [accV_first m c t h, stepV, qB_real X m c hX, kB_real X m c hX, dyB_real Y m c hY, pay76_zero, ptV_real]
      refine M2_congr fun s d _ _ => ?_
      rw [← rows_next, coord1 t, h]
      rfl
    · have e := ih ⟨n, by have := t.isLt; omega⟩ rfl
      dsimp only at e
      rw [accV_next m c t h, stepV, qB_real X m c hX, kB_real X m c hX, dyB_real Y m c hY, show t.val - 1 = n from by omega, e, ptV_real]
      refine M2_congr fun s d _ _ => ?_
      rw [show n % 4 + 1 = t.val % 4 from by omega, show n / 4 = t.val / 4 from by omega, ← rows_next, coord1 t]
      rfl

/-! ## The result arrays -/

/-- The kernel's first result is the gradient of the queries. -/
theorem final_q : (dats m 0 c).arrAt 4 cfg0.N = M2 2048 1024 (gq X Y) := by
  refine (dats m 0 c).arrAt_eq_of_covers 4 _ (by decide +kernel) fun t hf y => ?_
  blk_simp
  rw [after0_4, qB_real X m c hX, kB_real X m c hX, vB_real X m c hX, dyB_real Y m c hY, outQ_real]
  have h1 : (y 1).val < 128 := (y 1).isLt
  unfold M2 gq
  blk_simp [idx4]
  refine congrArg _ ?_
  rw [coord1 t, show (t.val / 4 * 128 + (y 1).val) / 128 = t.val / 4 from by omega, show (t.val / 4 * 128 + (y 1).val) % 128 = (y 1).val from by omega,
    Nat.mul_comm 512]

/-- The second is the gradient of the keys. -/
theorem final_k : (dats m 0 c).arrAt 5 cfg0.N = M2 2048 1024 (gk X Y) := by
  refine (dats m 0 c).arrAt_eq_of_covers 5 _ (by decide +kernel) fun t hf y => ?_
  have h3 := (flush0_5 t).mp hf
  blk_simp
  rw [after0_5, accK_real X Y m c hX hY _ t rfl, h3, k0_pay1, M2_truncf]
  have h1 : (y 1).val < 128 := (y 1).isLt
  unfold M2 gk
  blk_simp [idx5]
  refine congrArg _ ?_
  rw [show (t.val / 4 * 128 + (y 1).val) / 128 = t.val / 4 from by omega, show (t.val / 4 * 128 + (y 1).val) % 128 = (y 1).val from by omega]

/-- The third is the gradient of the values. -/
theorem final_v : (dats m 0 c).arrAt 6 cfg0.N = M2 2048 1024 (gv X Y) := by
  refine (dats m 0 c).arrAt_eq_of_covers 6 _ (by decide +kernel) fun t hf y => ?_
  have h3 := (flush0_6 t).mp hf
  blk_simp
  rw [after0_6, accV_real X Y m c hX hY _ t rfl, h3, k0_pay2, M2_truncf]
  have h1 : (y 1).val < 128 := (y 1).isLt
  unfold M2 gv
  blk_simp [idx6]
  refine congrArg _ ?_
  rw [show (t.val / 4 * 128 + (y 1).val) / 128 = t.val / 4 from by omega, show (t.val / 4 * 128 + (y 1).val) % 128 = (y 1).val from by omega]

end Blocks

end Cert.Proof.SB

end
-- ==== Proof.RefOps.lean ====
/-
  Arrays of three axes of finite values, as functions of natural coordinates into the reals, and what each operation of the
  reference makes of them: elementwise operations, masks, products over one axis, transposes, splits of a row into heads, and
  the two cumulative sums along the last axis.
-/
module

public import proofs.«01_k».proof.Proof.Gen.ReferenceIdeal
public import proofs.«01_k».proof.Proof.KernelReal

@[expose] public section

set_option maxRecDepth 16384
set_option maxHeartbeats 1000000

noncomputable section

namespace Cert.Proof.SB

open Idealize.ShloMosaic

/-- The array of three axes whose element at `(i, j, k)` is the real `f i j k`. -/
def T3 (a b c : ℕ) (f : ℕ → ℕ → ℕ → ℝ) : (⟨3, ![a, b, c]⟩ : Shape).Idx → EReal :=
  fun i => ((f (i 0).val (i 1).val (i 2).val : ℝ) : EReal)

theorem T3_at {a b c : ℕ} (f : ℕ → ℕ → ℕ → ℝ) (i : Fin a) (j : Fin b) (k : Fin c) : T3 a b c f (ix3 i j k) = ((f i.val j.val k.val : ℝ) : EReal) := rfl

/-- It depends on `f` within the bounds only. -/
theorem T3_congr {a b c : ℕ} {f g : ℕ → ℕ → ℕ → ℝ} (h : ∀ i j k, i < a → j < b → k < c → f i j k = g i j k) : T3 a b c f = T3 a b c g :=
  funext fun i => congrArg _ (h _ _ _ (i 0).isLt (i 1).isLt (i 2).isLt)

section Elementwise
variable {a b c : ℕ} {φ ψ : FTy} (f g : ℕ → ℕ → ℕ → ℝ)

theorem T3_add : addf (F := Ideal) (φ := φ) (T3 a b c f) (T3 a b c g) = T3 a b c fun i j k => f i j k + g i j k :=
  funext fun _ => (EReal.coe_add _ _).symm
theorem T3_sub : subf (F := Ideal) (φ := φ) (T3 a b c f) (T3 a b c g) = T3 a b c fun i j k => f i j k - g i j k :=
  funext fun _ => (EReal.coe_sub _ _).symm
theorem T3_mul : mulf (F := Ideal) (φ := φ) (T3 a b c f) (T3 a b c g) = T3 a b c fun i j k => f i j k * g i j k :=
  funext fun _ => (EReal.coe_mul _ _).symm
theorem T3_max : maximumf (F := Ideal) (φ := φ) (T3 a b c f) (T3 a b c g) = T3 a b c fun i j k => max (f i j k) (g i j k) :=
  funext fun _ => (coe_max _ _).symm
theorem T3_neg : Host.negf (F := Ideal) (φ := φ) (T3 a b c f) = T3 a b c fun i j k => -f i j k :=
  funext fun _ => (EReal.coe_neg _).symm
theorem T3_abs : Host.absf (F := Ideal) (φ := φ) (T3 a b c f) = T3 a b c fun i j k => |f i j k| :=
  funext fun _ => (congrArg _ (EReal.coe_neg _).symm).trans (coe_max _ _).symm
theorem T3_exp : Host.exp (F := Ideal) (φ := φ) (T3 a b c f) = T3 a b c fun i j k => Real.exp (f i j k) := rfl
theorem T3_log1p : Host.log1p (F := Ideal) (φ := φ) (T3 a b c fun i j k => Real.exp (f i j k)) = T3 a b c fun i j k => Real.log (1 + Real.exp (f i j k)) :=
  funext fun i => (congrArg Ideal.log (EReal.coe_add 1 (Real.exp (f (i 0).val (i 1).val (i 2).val))).symm).trans
    (if_neg (not_le.mpr (add_pos one_pos (Real.exp_pos _))))

/-- No finite value differs from itself. -/
theorem T3_une (x y : (⟨3, ![a, b, c]⟩ : Shape).Idx → EReal) : select (α := EReal) (cmpf (F := Ideal) (φ := φ) .une (T3 a b c f) (T3 a b c f)) x y = y := by
  funext i
  show (if BitVec.ofBool (decide (T3 a b c f i ≠ T3 a b c f i)) = 1 then x i else y i) = y i
  simp

/-- No finite value is the infinity. -/
theorem T3_oeq (z x y : (⟨3, ![a, b, c]⟩ : Shape).Idx → EReal) (hz : z = fun _ => (⊤ : EReal)) :
    select (α := EReal) (cmpf (F := Ideal) (φ := φ) .oeq (T3 a b c f) z) x y = y := by
  subst hz
  funext i
  show (if BitVec.ofBool (decide (T3 a b c f i = ⊤)) = 1 then x i else y i) = y i
  simp [T3]

end Elementwise

/-- The mask of three axes that holds at `(i, j, k)` when `P i j k`. -/
def B3 (a b c : ℕ) (P : ℕ → ℕ → ℕ → Prop) [∀ i j k, Decidable (P i j k)] : IVec (⟨3, ![a, b, c]⟩ : Shape) 1 :=
  fun i => BitVec.ofBool (decide (P (i 0).val (i 1).val (i 2).val))

theorem B3_select {a b c : ℕ} (P : ℕ → ℕ → ℕ → Prop) [∀ i j k, Decidable (P i j k)] (f g : ℕ → ℕ → ℕ → ℝ) :
    select (α := EReal) (B3 a b c P) (T3 a b c f) (T3 a b c g) = T3 a b c fun i j k => if P i j k then f i j k else g i j k := by
  funext i
  show (if BitVec.ofBool (decide (P (i 0).val (i 1).val (i 2).val)) = 1 then ((f (i 0).val (i 1).val (i 2).val : ℝ) : EReal) else ((g (i 0).val (i 1).val (i 2).val : ℝ) : EReal)) = _
  unfold T3
  by_cases h : P (i 0).val (i 1).val (i 2).val
  · simp [h]
  · simp [h]

open Cert.ReferenceIdeal Cert.ReferenceIdeal.Facts₀

/-! ## Constants and the mask -/

theorem b_zero (d : Fin 0 → Fin 3) (h) : broadcastInDim (s := S_) S8x2048x2048 d h (constant (F := Ideal) S_ .f32 0x00000000#32) = T3 8 2048 2048 fun _ _ _ => 0 :=
  funext fun _ => ofBits_zero
theorem b_c0 (d : Fin 0 → Fin 3) (h) : broadcastInDim (s := S_) S8x2048x2048 d h (constant (F := Ideal) S_ .f32 0x3DB504F3#32) = T3 8 2048 2048 fun _ _ _ => c0 :=
  funext fun _ => ofBits_c0
theorem b_inf (d : Fin 0 → Fin 3) (h) : broadcastInDim (s := S_) S8x2048x2048 d h (constant (F := Ideal) S_ .f32 0x7F800000#32) = fun _ => (⊤ : EReal) := by
  funext i
  show Ideal.ofBits .f32 0x7F800000#32 = _
  simp [Ideal.ofBits, Ideal.ieee]
theorem z_init (d : Fin 0 → Fin 0) (h) : broadcastInDim (s := S_) S_ d h (constant (F := Ideal) S_ .f32 0x00000000#32) = fun _ => ((0 : ℝ) : EReal) :=
  funext fun _ => ofBits_zero

/-- The mask "the key comes before the query", the same for every head. -/
theorem past_eq (d : Fin 2 → Fin 3) (d₁ d₂ : Fin 2 → Fin 2) (d₃ d₄ : Fin 1 → Fin 2) (h h₁ h₂ h₃ h₄) (hd : d = ![1, 2]) (hd₁ : d₁ = ![0, 1])
    (hd₂ : d₂ = ![0, 1]) (hd₃ : d₃ = ![1]) (hd₄ : d₄ = ![0]) :
    broadcastInDim (s := S2048x2048) S8x2048x2048 d h
      (cmpi .slt (broadcastInDim (s := S1x2048) S2048x2048 d₁ h₁ (broadcastInDim (s := S2048) S1x2048 d₃ h₃ (iotaInDim S2048 32 0)))
        (broadcastInDim (s := S2048x1) S2048x2048 d₂ h₂ (broadcastInDim (s := S2048) S2048x1 d₄ h₄ (iotaInDim S2048 32 0))))
      = B3 8 2048 2048 fun _ t s => s < t := by
  subst hd hd₁ hd₂ hd₃ hd₄
  funext j
  idx_vars j
  pointwise
  exact slt_nat (by omega) (by omega)

/-! ## Rows split into heads, and back -/

theorem split_eq (f : ℕ → ℕ → ℝ) (h) : shapeCast (α := EReal) (s := S2048x1024) S2048x8x128 (M2 2048 1024 f) h
    = T3 2048 8 128 fun r h d => f r (128 * h + d) := by
  funext j
  idx_vars j
  pointwise
  show ((f j0.val (j1.val * 128 + j2.val) : ℝ) : EReal) = ((f j0.val (128 * j1.val + j2.val) : ℝ) : EReal)
  rw [mul_comm]

theorem merge_eq (f : ℕ → ℕ → ℕ → ℝ) (h) : shapeCast (α := EReal) (s := S2048x8x128) S2048x1024 (T3 2048 8 128 f) h
    = M2 2048 1024 fun r c => f r (c / 128) (c % 128) := by
  funext j
  idx_vars j
  pointwise
  rfl

/-! ## Products and transposes -/

theorem dot_qk (f g : ℕ → ℕ → ℕ → ℝ) :
    Host.dotGeneral (F := Ideal) (φ₁ := .f32) (φ₂ := .f32) dot_S2048x8x128_S2048x8x128_S8x2048x2048_2_2_0_0_1_1 none (T3 2048 8 128 f) (T3 2048 8 128 g)
      = T3 8 2048 2048 fun h t s => ∑ d ∈ Finset.range 128, f t h d * g s h d := by
  funext j
  idx_vars j
  pointwise
  simp only [T3_at, ← EReal.coe_mul]
  rw [sum_range (fun d => f _ _ d * g _ _ d)]

theorem dot_dv (f g : ℕ → ℕ → ℕ → ℝ) :
    Host.dotGeneral (F := Ideal) (φ₁ := .f32) (φ₂ := .f32) dot_S8x128x2048_S2048x8x128_S8x2048x2048_1_2_2_0_0_1 none (T3 8 128 2048 f) (T3 2048 8 128 g)
      = T3 8 2048 2048 fun h t s => ∑ d ∈ Finset.range 128, f h d t * g s h d := by
  funext j
  idx_vars j
  pointwise
  simp only [T3_at, ← EReal.coe_mul]
  rw [sum_range (fun d => f _ d _ * g _ _ d)]

theorem dot_av (f g : ℕ → ℕ → ℕ → ℝ) :
    Host.dotGeneral (F := Ideal) (φ₁ := .f32) (φ₂ := .f32) dot_S8x128x2048_S8x2048x2048_S8x128x2048_2_1_1_2_0_0 none (T3 8 128 2048 f) (T3 8 2048 2048 g)
      = T3 8 128 2048 fun h d s => ∑ t ∈ Finset.range 2048, f h d t * g h t s := by
  funext j
  idx_vars j
  pointwise
  simp only [T3_at, ← EReal.coe_mul]
  rw [sum_range (fun t => f _ _ t * g _ t _)]

theorem dot_dk (f g : ℕ → ℕ → ℕ → ℝ) :
    Host.dotGeneral (F := Ideal) (φ₁ := .f32) (φ₂ := .f32) dot_S8x2048x2048_S2048x8x128_S8x2048x128_1_0_2_2_0_1 none (T3 8 2048 2048 f) (T3 2048 8 128 g)
      = T3 8 2048 128 fun h s d => ∑ t ∈ Finset.range 2048, f h t s * g t h d := by
  funext j
  idx_vars j
  pointwise
  simp only [T3_at, ← EReal.coe_mul]
  rw [sum_range (fun t => f _ t _ * g t _ _)]

theorem dot_dq (f g : ℕ → ℕ → ℕ → ℝ) :
    Host.dotGeneral (F := Ideal) (φ₁ := .f32) (φ₂ := .f32) dot_S8x2048x2048_S2048x8x128_S8x2048x128_2_0_1_2_0_1 none (T3 8 2048 2048 f) (T3 2048 8 128 g)
      = T3 8 2048 128 fun h t d => ∑ s ∈ Finset.range 2048, f h t s * g s h d := by
  funext j
  idx_vars j
  pointwise
  simp only [T3_at, ← EReal.coe_mul]
  rw [sum_range (fun s => f _ _ s * g s _ _)]

theorem tr_120 (f : ℕ → ℕ → ℕ → ℝ) (h) : transpose (α := EReal) (s := S2048x8x128) S8x128x2048 [1, 2, 0] (T3 2048 8 128 f) h = T3 8 128 2048 fun i d t => f t i d := by
  funext j
  idx_vars j
  pointwise
  rfl
theorem tr_201 (f : ℕ → ℕ → ℕ → ℝ) (h) : transpose (α := EReal) (s := S8x128x2048) S2048x8x128 [2, 0, 1] (T3 8 128 2048 f) h = T3 2048 8 128 fun t i d => f i d t := by
  funext j
  idx_vars j
  pointwise
  rfl
theorem tr_102 (f : ℕ → ℕ → ℕ → ℝ) (h) : transpose (α := EReal) (s := S8x2048x128) S2048x8x128 [1, 0, 2] (T3 8 2048 128 f) h = T3 2048 8 128 fun t i d => f i t d := by
  funext j
  idx_vars j
  pointwise
  rfl

/-! ## The cumulative sums along the last axis -/

/-- A fold that adds a real at each step is the sum of those reals. -/
theorem foldl_real {ι : Type} (l : List ι) (f : EReal → ι → EReal) (g : ι → ℝ) (h : ∀ r n, f r n = r + (g n : EReal)) (x : ℝ) :
    l.foldl f (x : EReal) = ((x + (l.map g).sum : ℝ) : EReal) := by
  induction l generalizing x with
  | nil => simp
  | cons n l ih => rw [List.foldl_cons, h, ← EReal.coe_add, ih, List.map_cons, List.sum_cons, add_assoc]

theorem win_numel : (⟨3, ![1, 1, 2048]⟩ : Shape).numel = 2048 := by
  simp [Shape.numel, Fin.prod_univ_succ]

theorem win_coords (n : Fin (⟨3, ![1, 1, 2048]⟩ : Shape).numel) :
    ((⟨3, ![1, 1, 2048]⟩ : Shape).rowMajor.symm n 0).val = 0 ∧ ((⟨3, ![1, 1, 2048]⟩ : Shape).rowMajor.symm n 1).val = 0
      ∧ ((⟨3, ![1, 1, 2048]⟩ : Shape).rowMajor.symm n 2).val = n.val := by
  have e := Shape.rowMajor_val_three ((⟨3, ![1, 1, 2048]⟩ : Shape).rowMajor.symm n)
  rw [Equiv.apply_symm_apply] at e
  have h0 : ((⟨3, ![1, 1, 2048]⟩ : Shape).rowMajor.symm n 0).val < 1 := ((⟨3, ![1, 1, 2048]⟩ : Shape).rowMajor.symm n 0).isLt
  have h1 : ((⟨3, ![1, 1, 2048]⟩ : Shape).rowMajor.symm n 1).val < 1 := ((⟨3, ![1, 1, 2048]⟩ : Shape).rowMajor.symm n 1).isLt
  refine ⟨by omega, by omega, ?_⟩
  rw [e, Nat.lt_one_iff.mp h0, Nat.lt_one_iff.mp h1]
  simp

theorem win_sum (g : ℕ → ℝ) : ((List.finRange (⟨3, ![1, 1, 2048]⟩ : Shape).numel).map fun n => g n.val).sum = ∑ n ∈ Finset.range 2048, g n := by
  rw [← Fin.sum_univ_def, ← Finset.sum_range (fun n => g n), win_numel]

/-- The window padded by 2047 at the front: position `s` holds the sum of the elements up to and with `s`. -/
theorem cum_lo (f : ℕ → ℕ → ℕ → ℝ) (w st lo hi : Fin 3 → ℕ) (init : (S_ : Shape).Idx → EReal) (hw : w = ![1, 1, 2048]) (hst : st = ![1, 1, 1])
    (hlo : lo = ![0, 0, 2047]) (hhi : hi = ![0, 0, 0]) (hini : init = fun _ => ((0 : ℝ) : EReal)) (h hu) :
    Host.reduceWindowAdd (F := Ideal) (φ := .f32) (s := S8x2048x2048) (t := S8x2048x2048) w st lo hi (T3 8 2048 2048 f) init h hu
      = T3 8 2048 2048 fun i t s => ∑ j ∈ Finset.range (s + 1), f i t j := by
  subst hw hst hlo hhi hini
  funext j
  idx_vars j
  unfold Host.reduceWindowAdd
  rw [Ideal.hostReduceWindowAdd_def]
  unfold Ideal.hostReduceWindowAdd Host.reduceWindow
  refine (foldl_real _ _ (fun n => if 2047 ≤ j2.val + n.val then f j0.val j1.val (j2.val + n.val - 2047) else 0) (fun r n => ?_) 0).trans ?_
  · obtain ⟨h0, h1, h2⟩ := win_coords n
    have hn : n.val < 2048 := lt_of_lt_of_eq n.isLt win_numel
    dsimp only
    refine congrArg (fun x => r + x) ?_
    split
    · next hin =>
      have q : 2047 ≤ j2.val * 1 + ((⟨3, ![1, 1, 2048]⟩ : Shape).rowMajor.symm n 2).val
          ∧ j2.val * 1 + ((⟨3, ![1, 1, 2048]⟩ : Shape).rowMajor.symm n 2).val - 2047 < 2048 := hin 2
      rw [h2] at q
      rw [if_pos (by omega)]
      show ((f (j0.val * 1 + ((⟨3, ![1, 1, 2048]⟩ : Shape).rowMajor.symm n 0).val - 0) (j1.val * 1 + ((⟨3, ![1, 1, 2048]⟩ : Shape).rowMajor.symm n 1).val - 0)
        (j2.val * 1 + ((⟨3, ![1, 1, 2048]⟩ : Shape).rowMajor.symm n 2).val - 2047) : ℝ) : EReal) = _
      rw [h0, h1, h2, Nat.mul_one, Nat.mul_one, Nat.mul_one, Nat.add_zero, Nat.add_zero, Nat.sub_zero, Nat.sub_zero]
    · next hin =>
      rw [if_neg fun hle => hin fun a => by
        match a with
        | ⟨0, _⟩ =>
          show 0 ≤ j0.val * 1 + ((⟨3, ![1, 1, 2048]⟩ : Shape).rowMajor.symm n 0).val ∧ j0.val * 1 + ((⟨3, ![1, 1, 2048]⟩ : Shape).rowMajor.symm n 0).val - 0 < 8
          omega
        | ⟨1, _⟩ =>
          show 0 ≤ j1.val * 1 + ((⟨3, ![1, 1, 2048]⟩ : Shape).rowMajor.symm n 1).val ∧ j1.val * 1 + ((⟨3, ![1, 1, 2048]⟩ : Shape).rowMajor.symm n 1).val - 0 < 2048
          omega
        | ⟨2, _⟩ =>
          show 2047 ≤ j2.val * 1 + ((⟨3, ![1, 1, 2048]⟩ : Shape).rowMajor.symm n 2).val
            ∧ j2.val * 1 + ((⟨3, ![1, 1, 2048]⟩ : Shape).rowMajor.symm n 2).val - 2047 < 2048
          omega]
  · rw [win_sum (fun n => if 2047 ≤ j2.val + n then f j0.val j1.val (j2.val + n - 2047) else 0), zero_add, T3_at]
    refine congrArg (fun x : ℝ => (x : EReal)) ?_
    have e : 2048 = (2047 - j2.val) + (j2.val + 1) := by omega
    refine (congrArg (fun N => ∑ n ∈ Finset.range N, if 2047 ≤ j2.val + n then f j0.val j1.val (j2.val + n - 2047) else 0) e).trans ?_
    rw [Finset.sum_range_add, Finset.sum_eq_zero (s := Finset.range (2047 - j2.val)) fun n hn => if_neg (by have := Finset.mem_range.mp hn; omega), zero_add]
    refine Finset.sum_congr rfl fun n hn => ?_
    have := Finset.mem_range.mp hn
    rw [if_pos (by omega)]
    exact congrArg (f j0.val j1.val) (by omega)

/-- The window padded by 2047 at the back: position `s` holds the sum of the elements from `s` on. -/
theorem cum_hi (f : ℕ → ℕ → ℕ → ℝ) (w st lo hi : Fin 3 → ℕ) (init : (S_ : Shape).Idx → EReal) (hw : w = ![1, 1, 2048]) (hst : st = ![1, 1, 1])
    (hlo : lo = ![0, 0, 0]) (hhi : hi = ![0, 0, 2047]) (hini : init = fun _ => ((0 : ℝ) : EReal)) (h hu) :
    Host.reduceWindowAdd (F := Ideal) (φ := .f32) (s := S8x2048x2048) (t := S8x2048x2048) w st lo hi (T3 8 2048 2048 f) init h hu
      = T3 8 2048 2048 fun i t s => ∑ j ∈ Finset.Ico s 2048, f i t j := by
  subst hw hst hlo hhi hini
  funext j
  idx_vars j
  unfold Host.reduceWindowAdd
  rw [Ideal.hostReduceWindowAdd_def]
  unfold Ideal.hostReduceWindowAdd Host.reduceWindow
  refine (foldl_real _ _ (fun n => if j2.val + n.val < 2048 then f j0.val j1.val (j2.val + n.val) else 0) (fun r n => ?_) 0).trans ?_
  · obtain ⟨h0, h1, h2⟩ := win_coords n
    have hn : n.val < 2048 := lt_of_lt_of_eq n.isLt win_numel
    dsimp only
    refine congrArg (fun x => r + x) ?_
    split
    · next hin =>
      have q : 0 ≤ j2.val * 1 + ((⟨3, ![1, 1, 2048]⟩ : Shape).rowMajor.symm n 2).val
          ∧ j2.val * 1 + ((⟨3, ![1, 1, 2048]⟩ : Shape).rowMajor.symm n 2).val - 0 < 2048 := hin 2
      rw [h2] at q
      rw [if_pos (by omega)]
      show ((f (j0.val * 1 + ((⟨3, ![1, 1, 2048]⟩ : Shape).rowMajor.symm n 0).val - 0) (j1.val * 1 + ((⟨3, ![1, 1, 2048]⟩ : Shape).rowMajor.symm n 1).val - 0)
        (j2.val * 1 + ((⟨3, ![1, 1, 2048]⟩ : Shape).rowMajor.symm n 2).val - 0) : ℝ) : EReal) = _
      rw [h0, h1, h2, Nat.mul_one, Nat.mul_one, Nat.mul_one, Nat.add_zero, Nat.add_zero, Nat.sub_zero, Nat.sub_zero, Nat.sub_zero]
    · next hin =>
      rw [if_neg fun hle => hin fun a => by
        match a with
        | ⟨0, _⟩ =>
          show 0 ≤ j0.val * 1 + ((⟨3, ![1, 1, 2048]⟩ : Shape).rowMajor.symm n 0).val ∧ j0.val * 1 + ((⟨3, ![1, 1, 2048]⟩ : Shape).rowMajor.symm n 0).val - 0 < 8
          omega
        | ⟨1, _⟩ =>
          show 0 ≤ j1.val * 1 + ((⟨3, ![1, 1, 2048]⟩ : Shape).rowMajor.symm n 1).val ∧ j1.val * 1 + ((⟨3, ![1, 1, 2048]⟩ : Shape).rowMajor.symm n 1).val - 0 < 2048
          omega
        | ⟨2, _⟩ =>
          show 0 ≤ j2.val * 1 + ((⟨3, ![1, 1, 2048]⟩ : Shape).rowMajor.symm n 2).val
            ∧ j2.val * 1 + ((⟨3, ![1, 1, 2048]⟩ : Shape).rowMajor.symm n 2).val - 0 < 2048
          omega]
  · rw [win_sum (fun n => if j2.val + n < 2048 then f j0.val j1.val (j2.val + n) else 0), zero_add, T3_at]
    refine congrArg (fun x : ℝ => (x : EReal)) ?_
    have e : 2048 = (2048 - j2.val) + j2.val := by omega
    rw [Finset.sum_Ico_eq_sum_range]
    refine (congrArg (fun N => ∑ n ∈ Finset.range N, if j2.val + n < 2048 then f j0.val j1.val (j2.val + n) else 0) e).trans ?_
    rw [Finset.sum_range_add, Finset.sum_eq_zero (s := Finset.range j2.val) fun n hn => if_neg (by omega), add_zero]
    refine Finset.sum_congr rfl fun n hn => ?_
    have := Finset.mem_range.mp hn
    rw [if_pos (by omega)]

end Cert.Proof.SB
-- ==== Proof.RefReal.lean ====
/-
  The reference on finite arguments: its three results are the arrays `gq`, `gk` and `gv`, the same ones the kernel writes.
-/
module

public import proofs.«01_k».proof.Proof.Gen.ReferenceIdeal.Run
public import proofs.«01_k».proof.Proof.RefOps
public import proofs.«01_k».proof.Proof.ArrayReal

@[expose] public section

set_option maxRecDepth 16384
set_option maxHeartbeats 4000000

noncomputable section

namespace Cert.Proof.SB

open Idealize.ShloMosaic Cert.ReferenceIdeal Cert.ReferenceIdeal.Value

/-! ## The real identities -/

/-- `softplus` as the reference computes it. -/
def sp (x : ℝ) : ℝ := max x 0 + Real.log (1 + Real.exp (-|x - 0|))

theorem sp_fold (x : ℝ) : max x 0 + Real.log (1 + Real.exp (-|x - 0|)) = sp x := rfl

theorem max_add (z : ℝ) : max z 0 + min z 0 = z := by rw [max_add_min, add_zero]

theorem ls_of_sp (z : ℝ) : -sp (-z) = ls z := by
  have h : max (-z) 0 = -min z 0 := by
    have := max_neg_neg z 0
    rwa [neg_zero] at this
  unfold sp ls lw
  rw [sub_zero, abs_neg, zero_sub, h]
  ring

theorem lk_of_sp (z : ℝ) : -sp z = lk z := by
  unfold sp lk lw
  rw [sub_zero, zero_sub, zero_sub, neg_add, sub_eq_add_neg]

theorem sig_of_sp (z : ℝ) : z - sp z = ls z := by
  have := max_add z
  unfold sp ls lw
  rw [sub_zero, zero_sub]
  linarith

theorem sig_neg (z : ℝ) : -z - sp (-z) = lk z := by
  rw [sub_eq_add_neg, ls_of_sp]
  have := max_add z
  unfold ls lk
  linarith

/-- The two sides of the sigmoid sum to one. -/
theorem exp_lk (z : ℝ) : Real.exp (lk z) = 1 - Real.exp (ls z) := by
  have p : 0 < 1 + Real.exp (0 - |z|) := add_pos one_pos (Real.exp_pos _)
  have l : Real.exp (lw z) = 1 + Real.exp (0 - |z|) := Real.exp_log p
  have e : Real.exp (0 - max z 0) + Real.exp (min z 0) = 1 + Real.exp (0 - |z|) := by
    rcases le_total 0 z with h | h
    · rw [max_eq_left h, min_eq_right h, Real.exp_zero, abs_of_nonneg h, add_comm]
    · rw [max_eq_right h, min_eq_left h, sub_zero, Real.exp_zero, abs_of_nonpos h, zero_sub, neg_neg]
  unfold lk ls
  rw [Real.exp_sub (0 - max z 0), Real.exp_sub (min z 0), l, eq_sub_iff_add_eq, ← add_div, e, div_self p.ne']

/-! ## The three heads of columns -/

section
variable (X Y : ℕ → ℕ → ℝ)

theorem col_q (h₁ h₂) : shapeCast (α := EReal) (s := S2048x1024) S2048x8x128 (extractStridedSlice (α := EReal) (s := S2048x6144) S2048x1024 ![0, 0] (M2 2048 6144 X) h₁) h₂
    = T3 2048 8 128 fun r h d => hd X 0 h r d := by
  rw [M2_slice, split_eq]
  refine T3_congr fun r h d _ _ _ => ?_
  exact congrArg₂ X (by omega) (by omega)

theorem col_k (h₁ h₂) : shapeCast (α := EReal) (s := S2048x1024) S2048x8x128 (extractStridedSlice (α := EReal) (s := S2048x6144) S2048x1024 ![0, 1024] (M2 2048 6144 X) h₁) h₂
    = T3 2048 8 128 fun r h d => hd X 1 h r d := by
  rw [M2_slice, split_eq]
  refine T3_congr fun r h d _ _ _ => ?_
  exact congrArg₂ X (by omega) (by omega)

theorem col_v (h₁ h₂) : shapeCast (α := EReal) (s := S2048x1024) S2048x8x128 (extractStridedSlice (α := EReal) (s := S2048x6144) S2048x1024 ![0, 2048] (M2 2048 6144 X) h₁) h₂
    = T3 2048 8 128 fun r h d => hd X 2 h r d := by
  rw [M2_slice, split_eq]
  refine T3_congr fun r h d _ _ _ => ?_
  exact congrArg₂ X (by omega) (by omega)

theorem col_y (h₂) : shapeCast (α := EReal) (s := S2048x1024) S2048x8x128 (M2 2048 1024 Y) h₂ = T3 2048 8 128 fun r h d => hd Y 0 h r d := by
  rw [split_eq]
  refine T3_congr fun r h d _ _ _ => ?_
  exact congrArg₂ Y (by omega) (by omega)

/-- A score, scaled. -/
theorem zl_fold (h t s : ℕ) : (∑ d ∈ Finset.range 128, hd X 0 h t d * hd X 1 h s d) * c0 = zl (hd X 0 h) (hd X 1 h) t s := rfl

/-- The gradient that reaches a weight. -/
theorem dotp_fold (h t s : ℕ) : ∑ d ∈ Finset.range 128, hd Y 0 h t d * hd X 2 h s d = dotp (hd Y 0 h) (hd X 2 h) t s := rfl

theorem keep_fold (Q K : ℕ → ℕ → ℝ) (t s : ℕ) : (if s < t then lk (zl Q K t s) else 0) = keep Q K t s := rfl

/-- What the later keys of a row contribute, from the sum that has the key itself too. -/
theorem after_fold (Q K : ℕ → ℕ → ℝ) (t s : ℕ) (hs : s < 2048) :
    ∑ j ∈ Finset.Ico s 2048, keep Q K t j - keep Q K t s = ∑ j ∈ Finset.Ico (s + 1) 2048, keep Q K t j := by
  rw [Finset.sum_eq_sum_Ico_succ_bot hs]
  ring

end

/-- A weight times its gradient, as the reference has it: the gradient is masked, the weight is not. -/
def re (Q K V D : ℕ → ℕ → ℝ) (t s : ℕ) : ℝ :=
  (if s < t then dotp D V t s else 0) * Real.exp (ls (zl Q K t s) + (∑ j ∈ Finset.Ico s 2048, keep Q K t j - keep Q K t s))

theorem re_eq (Q K V D : ℕ → ℕ → ℝ) (t s : ℕ) (hs : s < 2048) : re Q K V D t s = ee Q K V D t s := by
  unfold re ee wt
  rw [after_fold _ _ _ _ hs]
  split_ifs
  · exact mul_comm _ _
  · rw [zero_mul, zero_mul]

/-- The gradient of the unscaled logit, as the reference has it. -/
theorem dz_fold (Q K V D : ℕ → ℕ → ℝ) (t s : ℕ) (hs : s < 2048) :
    (-(-re Q K V D t s * (1 - Real.exp (ls (zl Q K t s))))
        + - -((-if s < t then -re Q K V D t s + ∑ j ∈ Finset.range (s + 1), re Q K V D t j else 0) * Real.exp (ls (zl Q K t s)))) * c0
      = dz Q K V D t s := by
  have e : ∑ j ∈ Finset.range (s + 1), re Q K V D t j = ∑ j ∈ Finset.range s, ee Q K V D t j + ee Q K V D t s := by
    rw [Finset.sum_range_succ, re_eq _ _ _ _ _ _ hs]
    congr 1
    exact Finset.sum_congr rfl fun j hj => re_eq _ _ _ _ _ _ (by have := Finset.mem_range.mp hj; omega)
  rw [e, re_eq _ _ _ _ _ _ hs]
  unfold dz
  split_ifs with h
  · ring
  · rw [ee_zero _ _ _ _ (by omega)]
    ring

/-! ## The three results -/

theorem lk_neg (z : ℝ) : lk (-z) = ls z := by rw [← lk_of_sp, ls_of_sp]
theorem ls_neg (z : ℝ) : ls (-z) = lk z := by rw [← ls_of_sp, neg_neg, lk_of_sp]

/-- The reference's gradient of the values. -/
theorem out_v (X Y : ℕ → ℕ → ℝ) (m : (ℓ : Loc nD τ sig) → Buf (Elt Ideal) ℓ) (c : Dev nD)
    (hX : m ((c.tc : Thread nD τ).loc main_arg0) = M2 2048 6144 X) (hY : m ((c.tc : Thread nD τ).loc main_arg1) = M2 2048 1024 Y) :
    res_out2 m c = M2 2048 1024 (gv X Y) := by
  unfold res_out2 res_main_v55
  rw [hX, hY]
  simp only [M2_extf, col_q, col_k, col_v, col_y, dot_qk, b_c0, b_zero, b_inf, z_init, id_eq, T3_mul, T3_neg, T3_sub, T3_add, T3_max, T3_abs, T3_exp, T3_log1p, T3_une,
    past_eq _ _ _ _ _ _ _ _ _ _ rfl rfl rfl rfl rfl, B3_select, cum_hi _ _ _ _ _ _ rfl rfl rfl rfl rfl,
    zl_fold, sp_fold, neg_neg, ls_of_sp, lk_of_sp, lk_neg, ls_neg, keep_fold]
  erw [tr_120]
  simp only [dot_av]
  erw [tr_201, merge_eq, M2_truncf]
  refine (M2_congr (g := gv X Y) fun s c hs hc => Finset.sum_congr rfl fun t _ => ?_)
  rw [mul_comm]
  refine congrArg₂ (· * ·) (if_congr Iff.rfl ?_ rfl) rfl
  rw [after_fold _ _ _ _ hs]

/-- The reference's gradient of the keys. -/
theorem out_k (X Y : ℕ → ℕ → ℝ) (m : (ℓ : Loc nD τ sig) → Buf (Elt Ideal) ℓ) (c : Dev nD)
    (hX : m ((c.tc : Thread nD τ).loc main_arg0) = M2 2048 6144 X) (hY : m ((c.tc : Thread nD τ).loc main_arg1) = M2 2048 1024 Y) :
    res_out1 m c = M2 2048 1024 (gk X Y) := by
  unfold res_out1 res_main_v53
  rw [hX, hY]
  simp only [M2_extf, col_q, col_k, col_v, col_y, dot_qk, b_c0, b_zero, b_inf, z_init, id_eq, T3_mul, T3_neg, T3_sub, T3_add, T3_max, T3_abs, T3_exp, T3_log1p, T3_une, T3_oeq _ _ _ _ rfl,
    past_eq _ _ _ _ _ _ _ _ _ _ rfl rfl rfl rfl rfl, B3_select, cum_hi _ _ _ _ _ _ rfl rfl rfl rfl rfl,
    zl_fold, sp_fold, neg_neg, sig_of_sp, sig_neg, ls_of_sp, lk_of_sp, lk_neg, ls_neg, exp_lk, keep_fold]
  erw [tr_120]
  simp only [dot_dv, dotp_fold, B3_select, T3_mul, cum_lo _ _ _ _ _ _ rfl rfl rfl rfl rfl, T3_neg, T3_add, dot_dk]
  erw [tr_102, merge_eq, M2_truncf]
  refine M2_congr (g := gk X Y) fun s c hs hc => Finset.sum_congr rfl fun t _ => ?_
  exact congrArg (· * _) (dz_fold (hd X 0 (c / 128)) (hd X 1 (c / 128)) (hd X 2 (c / 128)) (hd Y 0 (c / 128)) t s hs)

/-- The reference's gradient of the queries. -/
theorem out_q (X Y : ℕ → ℕ → ℝ) (m : (ℓ : Loc nD τ sig) → Buf (Elt Ideal) ℓ) (c : Dev nD)
    (hX : m ((c.tc : Thread nD τ).loc main_arg0) = M2 2048 6144 X) (hY : m ((c.tc : Thread nD τ).loc main_arg1) = M2 2048 1024 Y) :
    res_out0 m c = M2 2048 1024 (gq X Y) := by
  unfold res_out0 res_main_v51
  rw [hX, hY]
  simp only [M2_extf, col_q, col_k, col_v, col_y, dot_qk, b_c0, b_zero, b_inf, z_init, id_eq, T3_mul, T3_neg, T3_sub, T3_add, T3_max, T3_abs, T3_exp, T3_log1p, T3_une, T3_oeq _ _ _ _ rfl,
    past_eq _ _ _ _ _ _ _ _ _ _ rfl rfl rfl rfl rfl, B3_select, cum_hi _ _ _ _ _ _ rfl rfl rfl rfl rfl,
    zl_fold, sp_fold, neg_neg, sig_of_sp, sig_neg, ls_of_sp, lk_of_sp, lk_neg, ls_neg, exp_lk, keep_fold]
  erw [tr_120]
  simp only [dot_dv, dotp_fold, B3_select, T3_mul, cum_lo _ _ _ _ _ _ rfl rfl rfl rfl rfl, T3_neg, T3_add, dot_dq]
  erw [tr_102, merge_eq, M2_truncf]
  refine M2_congr (g := gq X Y) fun t c ht hc => Finset.sum_congr rfl fun s hs => ?_
  exact congrArg (· * _) (dz_fold (hd X 0 (c / 128)) (hd X 1 (c / 128)) (hd X 2 (c / 128)) (hd Y 0 (c / 128)) t s (Finset.mem_range.mp hs))

end Cert.Proof.SB
-- ==== Proof.Finite.lean ====
/-
  The precondition read back: when it holds, every element of both arguments is a real number.
-/
module

public import proofs.«01_k».proof.Pre_finite
public import proofs.«01_k».proof.Proof.Reals
public import Idealize.ShloMosaic.Lib.ReduceAll

@[expose] public section

set_option maxRecDepth 16384

noncomputable section

namespace Cert.Proof.SB

open Idealize.ShloMosaic

/-- The side conditions the precondition's operations take. -/
theorem pre_facts : Cert.Pre_finite.Facts where
  bitsLt_bf16_f32 := by decide
  bcast_S_S2048x6144 := by decide
  reducesTo_S2048x6144_S_d0_1 := by decide
  h_S_ := by decide
  bcast_S_S2048x1024 := by decide
  reducesTo_S2048x1024_S_d0_1 := by decide

/-- An array of two axes none of whose elements is infinite is an array of reals. -/
theorem exists_M2 {a b : ℕ} (x : (⟨2, ![a, b]⟩ : Shape).Idx → EReal) (h : ∀ i, x i ≠ ⊤ ∧ x i ≠ ⊥) : ∃ f : ℕ → ℕ → ℝ, x = M2 a b f := by
  refine ⟨fun r c => if hr : r < a then if hc : c < b then (x (ix2 ⟨r, hr⟩ ⟨c, hc⟩)).toReal else 0 else 0, ?_⟩
  funext j
  have h0 : (j 0).val < a := (j 0).isLt
  have h1 : (j 1).val < b := (j 1).isLt
  unfold M2
  beta_reduce
  rw [dif_pos h0, dif_pos h1, EReal.coe_toReal (h _).1 (h _).2]
  exact congrArg x (eq_ix2 j)

/-- A value whose magnitude compares below the infinity is finite. -/
theorem finite_of_lt (x y : EReal) (hy : y = ⊤) (h : BitVec.ofBool (decide (max x (-x) < y)) = 1#1) : x ≠ ⊤ ∧ x ≠ ⊥ := by
  subst hy
  constructor
  · rintro rfl
    simp at h
  · rintro rfl
    simp at h

theorem ofBits_inf : (Scalar.ofBits (F := Ideal) .f32 0x7F800000#32 : EReal) = ⊤ := by
  show Ideal.ofBits .f32 0x7F800000#32 = _
  simp [Ideal.ofBits, Ideal.ieee]

/-- Under the precondition both arguments are arrays of reals. -/
theorem reals_of_pre [Cert.Pre_finite.Facts] (x : FVec Ideal Cert.Pre_finite.S2048x6144 .bf16) (y : FVec Ideal Cert.Pre_finite.S2048x1024 .bf16)
    (h : Cert.Pre_finite.fn (F := Ideal) x y = fun _ => 1#1) :
    (∃ X, x = M2 2048 6144 X) ∧ ∃ Y, y = M2 2048 1024 Y := by
  have : Subsingleton Cert.Pre_finite.S_.Idx := ⟨fun i j => funext fun a => a.elim0⟩
  obtain ⟨h1, h2⟩ := IntOp.andi_eq_one.1 (congrFun h (fun a => a.elim0))
  refine ⟨exists_M2 x fun i => ?_, exists_M2 y fun i => ?_⟩
  · exact finite_of_lt (x i) _ ofBits_inf (Host.reduce_andi_all _ _ _ _ _ h1 i)
  · exact finite_of_lt (y i) _ ofBits_inf (Host.reduce_andi_all _ _ _ _ _ h2 i)

end Cert.Proof.SB

end
-- ==== Proof.Products.DwFfnIn.lean ====
/-
  The gradient of `w_ffn_in`.
-/
module

public import proofs.«01_k».proof.Defs
public import proofs.«01_k».proof.Proof.Gen.Kernel2Ideal.Value
public import proofs.«01_k».proof.Proof.Gen.Reference2Ideal.Run
public import Idealize.ShloMosaic.Lib.Pipeline.ValueKit

@[expose] public section

set_option maxRecDepth 16384
set_option maxHeartbeats 1000000

noncomputable section

namespace Cert.Proof.DwFfnIn

open Idealize.ShloMosaic Idealize.ShloMosaic.TcCoe Idealize.SL Idealize.SL.Sem
open Cert.Kernel2Ideal Cert.Kernel2Ideal.Gen

variable (m : (ℓ : Loc nD τ sig) → Buf (Elt Ideal) ℓ) (c : Dev nD)

theorem idx0 : ∀ t : Fin cfg0.N, win0_0.index t = ![0, 0] := (by decide +kernel : ∀ t : Fin grid0.N, win0_0.index t = ![0, 0])
theorem idx1 : ∀ t : Fin cfg0.N, win0_1.index t = ![0, t.val] := (by decide +kernel : ∀ t : Fin grid0.N, win0_1.index t = ![0, t.val])
theorem idx2 : ∀ t : Fin cfg0.N, win0_2.index t = ![0, t.val] := (by decide +kernel : ∀ t : Fin grid0.N, win0_2.index t = ![0, t.val])
theorem idx3 : ∀ t : Fin cfg0.N, win0_3.index t = ![0, t.val] := (by decide +kernel : ∀ t : Fin grid0.N, win0_3.index t = ![0, t.val])

/-- The reference's result: every entry is the sum of the products of a column of the first argument and a column of the second. -/
abbrev ref (X : FVec Ideal Cert.Reference2Ideal.S2048x2048 .f32) (Y : FVec Ideal Cert.Reference2Ideal.S2048x11264 .f32) : FVec Ideal Cert.Reference2Ideal.S2048x11264 .f32 :=
  transpose Cert.Reference2Ideal.S2048x11264 [1, 0] (Host.dotGeneral Cert.Reference2Ideal.dot_S2048x11264_S2048x2048_S11264x2048_0_0_1_1_n_n none Y X) Cert.Reference2Ideal.Gen.transposes_S11264x2048_S2048x11264_1_0

/-- The first result is the reference's. -/
theorem final2 : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, ref]
  refine Fin.sum_fin_congr fun k => (mul_comm (G := EReal) _ _).trans ?_
  blk_point [iblk, V, idx0 t, idx1 t, idx2 t]

/-- So is the second: the same entries in the other format. -/
theorem final3 : (dats m 0 c).arrAt 3 cfg0.N = truncf .bf16 (ref (m ((c : Thread nD τ).loc main_arg0)) (m ((c : Thread nD τ).loc main_arg1))) Cert.Reference2Ideal.Gen.bitsLt_bf16_f32 := by
  refine (dats m 0 c).arrAt_eq_of_covers 3 _ (by decide +kernel) fun t hf y => ?_
  blk_simp
  rw [after0_3]
  frame_out
  pointwise [k0_pay1, k0_pay2, ref]
  refine Fin.sum_fin_congr fun k => (mul_comm (G := EReal) _ _).trans ?_
  blk_point [iblk, V, idx0 t, idx1 t, idx3 t]

/-- The reference runs to the end, keeps its arguments and leaves every counter at zero. -/
theorem frame_reference : Cert.quiescent_Reference2Ideal := fun m ρ _ =>
  (θ_run Cert.Reference2Ideal.defs _ _).mono (fun r h => ⟨fun c => (h c).2.2, sem_eq_zero_of_no_sems (by decide) r.2⟩) (Cert.Reference2Ideal.Value.run m ρ)

/-- On the same arguments the kernel and the reference end with the same results. -/
theorem same : Cert.algebraic_Kernel2Ideal_Reference2Ideal (hKernel2Ideal := Cert.Kernel2Ideal.Gen.facts) (hReference2Ideal := Cert.Reference2Ideal.Gen.facts) :=
  fun m ρ m' ρ' _ hargs => ⟨fun c => ref (m ((c : Thread nD τ).loc main_arg0)) (m ((c : Thread nD τ).loc main_arg1)), fun c => truncf .bf16 (ref (m ((c : Thread nD τ).loc main_arg0)) (m ((c : Thread nD τ).loc main_arg1))) Cert.Reference2Ideal.Gen.bitsLt_bf16_f32,
    (θ_run Cert.Kernel2Ideal.defs _ _).mono (fun r h c => ⟨((h c).1).trans (final2 m c), ((h c).2.1).trans (final3 m c), (h c).2.2⟩) (Cert.Kernel2Ideal.Value.run_blocks m ρ),
    (θ_run Cert.Reference2Ideal.defs _ _).mono (fun r h c => ⟨((h c).1).trans (by rw [(hargs c).1, (hargs c).2]; rfl), ((h c).2.1).trans (by rw [(hargs c).1, (hargs c).2]; rfl), (h c).2.2⟩) (Cert.Reference2Ideal.Value.run m' ρ')⟩

end Cert.Proof.DwFfnIn

end
-- ==== Proof.Products.DhFfn.lean ====
/-
  The gradient of the input of `w_ffn_in`.
-/
module

public import proofs.«01_k».proof.Defs
public import proofs.«01_k».proof.Proof.Gen.Kernel3Ideal.Value
public import proofs.«01_k».proof.Proof.Gen.Reference3Ideal.Run
public import Idealize.ShloMosaic.Lib.Pipeline.ValueKit

@[expose] public section

set_option maxRecDepth 16384
set_option maxHeartbeats 1000000

noncomputable section

namespace Cert.Proof.DhFfn

open Idealize.ShloMosaic Idealize.ShloMosaic.TcCoe Idealize.SL Idealize.SL.Sem
open Cert.Kernel3Ideal Cert.Kernel3Ideal.Gen

variable (m : (ℓ : Loc nD τ sig) → Buf (Elt Ideal) ℓ) (c : Dev nD)

theorem idx0 : ∀ t : Fin cfg0.N, win0_0.index t = ![t.val / 8, t.val % 4] := (by decide +kernel : ∀ t : Fin grid0.N, win0_0.index t = ![t.val / 8, t.val % 4])
theorem idx1 : ∀ t : Fin cfg0.N, win0_1.index t = ![t.val / 4 % 2, t.val % 4] := (by decide +kernel : ∀ t : Fin grid0.N, win0_1.index t = ![t.val / 4 % 2, t.val % 4])
theorem idx2 : ∀ t : Fin cfg0.N, win0_2.index t = ![t.val / 8, t.val / 4 % 2] := (by decide +kernel : ∀ t : Fin grid0.N, win0_2.index t = ![t.val / 8, t.val / 4 % 2])

/-- The reference's result: every entry is the sum over the columns of the products of the two arguments' entries. -/
abbrev ref (G : FVec Ideal Cert.Reference3Ideal.S2048x11264 .f32) (W : FVec Ideal Cert.Reference3Ideal.S2048x11264 .f32) : FVec Ideal Cert.Reference3Ideal.S2048x2048 .f32 :=
  Host.dotGeneral Cert.Reference3Ideal.dot_S2048x11264_S2048x11264_S2048x2048_1_1_0_0_n_n none G W

/-- One step's product of two blocks. -/
theorem part (a b : Vec Ideal S1024x2816 .bf16) (j) : k0_pay1 (F := Ideal) a b j = ∑ k : Fin 2816, a (ix2 (j 0) k) * b (ix2 (j 1) k) := by
  pointwise [k0_pay1]
theorem first (a b : Vec Ideal S1024x2816 .bf16) (j) : k0_pay2 (F := Ideal) a b j = 0 + ∑ k : Fin 2816, a (ix2 (j 0) k) * b (ix2 (j 1) k) := by
  rw [zero_add, ← part, k0_pay2, shapeCast_id]
theorem next (a b : Vec Ideal S1024x2816 .bf16) (s : Vec Ideal S1024x1024 .f32) (j) : k0_pay3 (F := Ideal) a b s j = s j + ∑ k : Fin 2816, a (ix2 (j 0) k) * b (ix2 (j 1) k) := by
  rw [← part, k0_pay3, shapeCast_id]
  rfl

/-- The result is the reference's. -/
theorem final2 : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  have h3 := (flush0_2 t).mp hf
  have e : (outsAt0 m c t.val t.isLt).1 = (outsAt0 m c t.val t.isLt).2 := by
    rw [outsAt0_C m c t (by omega) (by omega) h3]
    frame_out
  rw [after0_2, e, Pipeline.eq_sum_fin_of_reset_step_apply_of_flush (fun n h => (outsAt0 m c n h).2) 4 (fun _ => 0) _
    (fun t h j => by rw [outsAt0_A m c t h (by omega) (by omega)]; frame_out; rw [first])
    (fun t h j => by
      by_cases h3 : t.val % 4 = 3
      · rw [outsAt0_C m c t h (by omega) h3]; frame_out; rw [next]; erw [Memref.IsWhole.read_unread]
      · rw [outsAt0_B m c t h (by omega) h3]; frame_out; rw [next]; erw [Memref.IsWhole.read_unread])
    t h3 _, zero_add]
  pointwise [ref]
  refine Fin.sum_mul_add_congr fun s k hl => ?_
  blk_point [iblk, V, idx2 t, idx0 ⟨_, Pipeline.run_point_lt_of_flush t h3 s⟩, idx1 ⟨_, Pipeline.run_point_lt_of_flush t h3 s⟩]

/-- The reference runs to the end, keeps its arguments and leaves every counter at zero. -/
theorem frame_reference : Cert.quiescent_Reference3Ideal := fun m ρ _ =>
  (θ_run Cert.Reference3Ideal.defs _ _).mono (fun r h => ⟨fun c => (h c).2, sem_eq_zero_of_no_sems (by decide) r.2⟩) (Cert.Reference3Ideal.Value.run m ρ)

/-- On the same arguments the kernel and the reference end with the same results. -/
theorem same : Cert.algebraic_Kernel3Ideal_Reference3Ideal (hKernel3Ideal := Cert.Kernel3Ideal.Gen.facts) (hReference3Ideal := Cert.Reference3Ideal.Gen.facts) :=
  fun m ρ m' ρ' _ hargs => ⟨fun c => ref (m ((c : Thread nD τ).loc main_arg0)) (m ((c : Thread nD τ).loc main_arg1)),
    (θ_run Cert.Kernel3Ideal.defs _ _).mono (fun r h c => ⟨((h c).1).trans (final2 m c), (h c).2⟩) (Cert.Kernel3Ideal.Value.run_blocks m ρ),
    (θ_run Cert.Reference3Ideal.defs _ _).mono (fun r h c => ⟨((h c).1).trans (by rw [(hargs c).1, (hargs c).2]; rfl), (h c).2⟩) (Cert.Reference3Ideal.Value.run m' ρ')⟩

end Cert.Proof.DhFfn

end
-- ==== Proof.Products.DwIn.lean ====
/-
  The gradient of `w_in`.
-/
module

public import proofs.«01_k».proof.Defs
public import proofs.«01_k».proof.Proof.Gen.Kernel4Ideal.Value
public import proofs.«01_k».proof.Proof.Gen.Reference4Ideal.Run
public import Idealize.ShloMosaic.Lib.Pipeline.ValueKit

@[expose] public section

set_option maxRecDepth 16384
set_option maxHeartbeats 1000000

noncomputable section

namespace Cert.Proof.DwIn

open Idealize.ShloMosaic Idealize.ShloMosaic.TcCoe Idealize.SL Idealize.SL.Sem
open Cert.Kernel4Ideal Cert.Kernel4Ideal.Gen

variable (m : (ℓ : Loc nD τ sig) → Buf (Elt Ideal) ℓ) (c : Dev nD)

theorem idx0 : ∀ t : Fin cfg0.N, win0_0.index t = ![0, 0] := (by decide +kernel : ∀ t : Fin grid0.N, win0_0.index t = ![0, 0])
theorem idx1 : ∀ t : Fin cfg0.N, win0_1.index t = ![0, t.val] := (by decide +kernel : ∀ t : Fin grid0.N, win0_1.index t = ![0, t.val])
theorem idx2 : ∀ t : Fin cfg0.N, win0_2.index t = ![0, t.val] := (by decide +kernel : ∀ t : Fin grid0.N, win0_2.index t = ![0, t.val])
theorem idx3 : ∀ t : Fin cfg0.N, win0_3.index t = ![0, t.val] := (by decide +kernel : ∀ t : Fin grid0.N, win0_3.index t = ![0, t.val])

/-- The reference's result: every entry is the sum of the products of a column of the first argument and a column of the second. -/
abbrev ref (X : FVec Ideal Cert.Reference4Ideal.S2048x2048 .f32) (Y : FVec Ideal Cert.Reference4Ideal.S2048x10240 .f32) : FVec Ideal Cert.Reference4Ideal.S2048x10240 .f32 :=
  transpose Cert.Reference4Ideal.S2048x10240 [1, 0] (Host.dotGeneral Cert.Reference4Ideal.dot_S2048x10240_S2048x2048_S10240x2048_0_0_1_1_n_n none Y X) Cert.Reference4Ideal.Gen.transposes_S10240x2048_S2048x10240_1_0

/-- The first result is the reference's. -/
theorem final2 : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, ref]
  refine Fin.sum_fin_congr fun k => (mul_comm (G := EReal) _ _).trans ?_
  blk_point [iblk, V, idx0 t, idx1 t, idx2 t]

/-- So is the second: the same entries in the other format. -/
theorem final3 : (dats m 0 c).arrAt 3 cfg0.N = truncf .bf16 (ref (m ((c : Thread nD τ).loc main_arg0)) (m ((c : Thread nD τ).loc main_arg1))) Cert.Reference4Ideal.Gen.bitsLt_bf16_f32 := by
  refine (dats m 0 c).arrAt_eq_of_covers 3 _ (by decide +kernel) fun t hf y => ?_
  blk_simp
  rw [after0_3]
  frame_out
  pointwise [k0_pay1, k0_pay2, ref]
  refine Fin.sum_fin_congr fun k => (mul_comm (G := EReal) _ _).trans ?_
  blk_point [iblk, V, idx0 t, idx1 t, idx3 t]

/-- The reference runs to the end, keeps its arguments and leaves every counter at zero. -/
theorem frame_reference : Cert.quiescent_Reference4Ideal := fun m ρ _ =>
  (θ_run Cert.Reference4Ideal.defs _ _).mono (fun r h => ⟨fun c => (h c).2.2, sem_eq_zero_of_no_sems (by decide) r.2⟩) (Cert.Reference4Ideal.Value.run m ρ)

/-- On the same arguments the kernel and the reference end with the same results. -/
theorem same : Cert.algebraic_Kernel4Ideal_Reference4Ideal (hKernel4Ideal := Cert.Kernel4Ideal.Gen.facts) (hReference4Ideal := Cert.Reference4Ideal.Gen.facts) :=
  fun m ρ m' ρ' _ hargs => ⟨fun c => ref (m ((c : Thread nD τ).loc main_arg0)) (m ((c : Thread nD τ).loc main_arg1)), fun c => truncf .bf16 (ref (m ((c : Thread nD τ).loc main_arg0)) (m ((c : Thread nD τ).loc main_arg1))) Cert.Reference4Ideal.Gen.bitsLt_bf16_f32,
    (θ_run Cert.Kernel4Ideal.defs _ _).mono (fun r h c => ⟨((h c).1).trans (final2 m c), ((h c).2.1).trans (final3 m c), (h c).2.2⟩) (Cert.Kernel4Ideal.Value.run_blocks m ρ),
    (θ_run Cert.Reference4Ideal.defs _ _).mono (fun r h c => ⟨((h c).1).trans (by rw [(hargs c).1, (hargs c).2]; rfl), ((h c).2.1).trans (by rw [(hargs c).1, (hargs c).2]; rfl), (h c).2.2⟩) (Cert.Reference4Ideal.Value.run m' ρ')⟩

end Cert.Proof.DwIn

end
-- ==== Proof.Products.DhMix.lean ====
/-
  The gradient of the input of `w_in`: two calls, the second in place over the result of the first.
-/
module

public import proofs.«01_k».proof.Defs
public import proofs.«01_k».proof.Proof.Gen.Kernel5Ideal.Frame
public import proofs.«01_k».proof.Proof.Gen.Reference5Ideal.Run
public import Idealize.ShloMosaic.Lib.Pipeline.ValueKit

@[expose] public section

set_option maxRecDepth 16384
set_option maxHeartbeats 1000000

noncomputable section

namespace Cert.Proof.DhMix

open Idealize.ShloMosaic Idealize.ShloMosaic.TcCoe Idealize.ShloMosaic.Rounds Idealize.SL Idealize.SL.RA Idealize.SL.BI Idealize.SL.ProofMode Idealize.SL.Sem
open scoped Idealize.SL.BI
open Idealize.SL.BI.BIBase
open Cert.Kernel5Ideal Cert.Kernel5Ideal.Gen

local notation "𝕄" => MT nD τ sig Unit (Elt Ideal) ℕ (UR sig nD τ) ℕ

section values
variable (V : (c : Dev nD) → (b : Ref sig .tc) → Buf (Elt Ideal) ((c : Thread nD τ).loc b)) (c : Dev nD)

theorem top0 : ∀ t : Fin cfg0.N, win0_0.index t = ![t.val / 8, 0] := (by decide +kernel : ∀ t : Fin grid0.N, win0_0.index t = ![t.val / 8, 0])
theorem top1 : ∀ t : Fin cfg0.N, win0_1.index t = ![t.val % 8, 0] := (by decide +kernel : ∀ t : Fin grid0.N, win0_1.index t = ![t.val % 8, 0])
theorem top2 : ∀ t : Fin cfg0.N, win0_2.index t = ![t.val / 8, t.val % 8] := (by decide +kernel : ∀ t : Fin grid0.N, win0_2.index t = ![t.val / 8, t.val % 8])
theorem bottom0 : ∀ t : Fin cfg1.N, win1_0.index t = ![t.val / 8 + 2, 0] := (by decide +kernel : ∀ t : Fin grid1.N, win1_0.index t = ![t.val / 8 + 2, 0])
theorem bottom1 : ∀ t : Fin cfg1.N, win1_1.index t = ![t.val % 8, 0] := (by decide +kernel : ∀ t : Fin grid1.N, win1_1.index t = ![t.val % 8, 0])
theorem bottom2 : ∀ t : Fin cfg1.N, win1_2.index t = ![t.val / 8 + 2, t.val % 8] := (by decide +kernel : ∀ t : Fin grid1.N, win1_2.index t = ![t.val / 8 + 2, t.val % 8])

/-- The reference's result: every entry is the sum of the products of a row of the first argument and a row of the second. -/
abbrev ref (X : FVec Ideal Cert.Reference5Ideal.S2048x10240 .f32) (Y : FVec Ideal Cert.Reference5Ideal.S2048x10240 .f32) : FVec Ideal Cert.Reference5Ideal.S2048x2048 .f32 :=
  Host.dotGeneral Cert.Reference5Ideal.dot_S2048x10240_S2048x10240_S2048x2048_1_1_0_0_n_n none X Y

/-- The first call writes the upper half of its result's rows. -/
theorem top : (dat0 V c).arrAt 2 cfg0.N = fun i => if (i 0 : ℕ) / 512 < 2 then ref (V c main_arg0) (V c main_arg1) i else V c main_v0 i := by
  refine (dat0 V c).arrAt_eq_of_coversWhere 2 _ (fun β => β (0 : Fin _) < 2) (by decide +kernel) (fun t hf y => ?_) (fun j => Iff.rfl)
  blk_simp
  rw [after0_2]
  frame_out
  pointwise [k0_pay1, ref]
  refine Fin.sum_fin_congr fun k => ?_
  blk_point [iblk0, top0 t, top1 t, top2 t]

/-- The second call writes the lower half and keeps the upper one. -/
theorem bottom : (dat1 V c).arrAt 2 cfg1.N = fun i => if 2 ≤ (i 0 : ℕ) / 512 then ref (V c main_arg0) (V c main_arg1) i else V c main_v1 i := by
  refine (dat1 V c).arrAt_eq_of_coversWhere 2 _ (fun β => 2 ≤ β (0 : Fin _)) (by decide +kernel) (fun t hf y => ?_) (fun j => Iff.rfl)
  blk_simp
  rw [after1_2]
  unfold outsAt1
  frame_out
  pointwise [k1_pay1, ref]
  refine Fin.sum_fin_congr fun k => ?_
  blk_point [iblk1, bottom0 t, bottom1 t, bottom2 t]

end values

variable (m : (ℓ : Loc nD τ sig) → Buf (Elt Ideal) ℓ) (ρ : Dev nD → PrngReg)

/-- Between the two calls the result's buffer holds what the first call left. -/
theorem between (c : Dev nD) : V2 m ρ c main_v1 = (dat0 (V0 m ρ) c).arrAt 2 cfg0.N := by
  refine Eq.trans ?_ (W1_arr m ρ c 2)
  show StableHlo.after hostOps1 (W1 m ρ c) (Proc.devRef .tc main_v1) = W1 m ρ c (Proc.devRef .tc main_v0)
  after_results
  rfl

/-- After both calls the result is the reference's. -/
theorem final (c : Dev nD) : W3 m ρ c (Proc.devRef .tc main_v1) = ref (m ((c : Thread nD τ).loc main_arg0)) (m ((c : Thread nD τ).loc main_arg1)) := by
  refine (W3_arr m ρ c 2).trans ?_
  rw [bottom, between, top]
  funext i
  have h0 : V2 m ρ c main_arg0 = m ((c : Thread nD τ).loc main_arg0) := W2_args m ρ c main_arg0 (by decide)
  have h1 : V2 m ρ c main_arg1 = m ((c : Thread nD τ).loc main_arg1) := W2_args m ρ c main_arg1 (by decide)
  rw [h0, h1]
  by_cases h : 2 ≤ (i 0 : ℕ) / 512
  · exact if_pos h
  · exact (if_neg h).trans (if_pos (Nat.lt_of_not_le h))

set_option backward.isDefEq.respectTransparency.types false in
/-- The run of both calls: the result at the two pipelines' contents, the arguments unchanged. -/
theorem run : θ_run defs (onTc (τ := τ) (main (F := Ideal))) ⟨m, fun _ => 0, ρ⟩ (fun r => ∀ c : Dev nD,
      r.2.mem ((c.tc : Thread nD τ).loc main_v1) = W3 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c => ⟨h c _ (mem_uc main_v1 (by decide)),
      (h c _ (mem_uc main_arg0 (by decide))).trans (W3_main_arg0 m ρ c),
      (h c _ (mem_uc main_arg1 (by decide))).trans (W3_main_arg1 m ρ c)⟩)

/-- The reference runs to the end, keeps its arguments and leaves every counter at zero. -/
theorem frame_reference : Cert.quiescent_Reference5Ideal := fun m ρ _ =>
  (θ_run Cert.Reference5Ideal.defs _ _).mono (fun r h => ⟨fun c => (h c).2, sem_eq_zero_of_no_sems (by decide) r.2⟩) (Cert.Reference5Ideal.Value.run m ρ)

/-- On the same arguments the kernel and the reference end with the same results. -/
theorem same : Cert.algebraic_Kernel5Ideal_Reference5Ideal (hKernel5Ideal := Cert.Kernel5Ideal.Gen.facts) (hReference5Ideal := Cert.Reference5Ideal.Gen.facts) :=
  fun m ρ m' ρ' _ hargs => ⟨fun c => ref (m ((c : Thread nD τ).loc main_arg0)) (m ((c : Thread nD τ).loc main_arg1)),
    (θ_run Cert.Kernel5Ideal.defs _ _).mono (fun r h c => ⟨((h c).1).trans (final m ρ c), (h c).2⟩) (run m ρ),
    (θ_run Cert.Reference5Ideal.defs _ _).mono (fun r h c => ⟨((h c).1).trans (by rw [(hargs c).1, (hargs c).2]; rfl), (h c).2⟩) (Cert.Reference5Ideal.Value.run m' ρ')⟩

end Cert.Proof.DhMix

end
-- ==== Proof.Products.DwFfnOut.lean ====
/-
  The gradient of `w_ffn_out`.
-/
module

public import proofs.«01_k».proof.Defs
public import proofs.«01_k».proof.Proof.Gen.Kernel6Ideal.Value
public import proofs.«01_k».proof.Proof.Gen.Reference6Ideal.Run
public import Idealize.ShloMosaic.Lib.Pipeline.ValueKit

@[expose] public section

set_option maxRecDepth 16384
set_option maxHeartbeats 1000000

noncomputable section

namespace Cert.Proof.DwFfnOut

open Idealize.ShloMosaic Idealize.ShloMosaic.TcCoe Idealize.SL Idealize.SL.Sem
open Cert.Kernel6Ideal Cert.Kernel6Ideal.Gen

variable (m : (ℓ : Loc nD τ sig) → Buf (Elt Ideal) ℓ) (c : Dev nD)

theorem idx0 : ∀ t : Fin cfg0.N, win0_0.index t = ![0, t.val] := (by decide +kernel : ∀ t : Fin grid0.N, win0_0.index t = ![0, t.val])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])

/-- The reference's result: every entry is the sum of the products of a column of the first argument and a column of the second. -/
abbrev ref (X : FVec Ideal Cert.Reference6Ideal.S2048x5632 .f32) (Y : FVec Ideal Cert.Reference6Ideal.S2048x2048 .f32) : FVec Ideal Cert.Reference6Ideal.S5632x2048 .f32 :=
  transpose Cert.Reference6Ideal.S5632x2048 [1, 0] (Host.dotGeneral Cert.Reference6Ideal.dot_S2048x2048_S2048x5632_S2048x5632_0_0_1_1_n_n none Y X) Cert.Reference6Ideal.Gen.transposes_S2048x5632_S5632x2048_1_0

/-- The first result is the reference's. -/
theorem final2 : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, ref]
  refine Fin.sum_fin_congr fun k => (mul_comm (G := EReal) _ _).trans ?_
  blk_point [iblk, V, idx0 t, idx1 t, idx2 t]

/-- So is the second: the same entries in the other format. -/
theorem final3 : (dats m 0 c).arrAt 3 cfg0.N = truncf .bf16 (ref (m ((c : Thread nD τ).loc main_arg0)) (m ((c : Thread nD τ).loc main_arg1))) Cert.Reference6Ideal.Gen.bitsLt_bf16_f32 := by
  refine (dats m 0 c).arrAt_eq_of_covers 3 _ (by decide +kernel) fun t hf y => ?_
  blk_simp
  rw [after0_3]
  frame_out
  pointwise [k0_pay1, k0_pay2, ref]
  refine Fin.sum_fin_congr fun k => (mul_comm (G := EReal) _ _).trans ?_
  blk_point [iblk, V, idx0 t, idx1 t, idx3 t]

/-- The reference runs to the end, keeps its arguments and leaves every counter at zero. -/
theorem frame_reference : Cert.quiescent_Reference6Ideal := fun m ρ _ =>
  (θ_run Cert.Reference6Ideal.defs _ _).mono (fun r h => ⟨fun c => (h c).2.2, sem_eq_zero_of_no_sems (by decide) r.2⟩) (Cert.Reference6Ideal.Value.run m ρ)

/-- On the same arguments the kernel and the reference end with the same results. -/
theorem same : Cert.algebraic_Kernel6Ideal_Reference6Ideal (hKernel6Ideal := Cert.Kernel6Ideal.Gen.facts) (hReference6Ideal := Cert.Reference6Ideal.Gen.facts) :=
  fun m ρ m' ρ' _ hargs => ⟨fun c => ref (m ((c : Thread nD τ).loc main_arg0)) (m ((c : Thread nD τ).loc main_arg1)), fun c => truncf .bf16 (ref (m ((c : Thread nD τ).loc main_arg0)) (m ((c : Thread nD τ).loc main_arg1))) Cert.Reference6Ideal.Gen.bitsLt_bf16_f32,
    (θ_run Cert.Kernel6Ideal.defs _ _).mono (fun r h c => ⟨((h c).1).trans (final2 m c), ((h c).2.1).trans (final3 m c), (h c).2.2⟩) (Cert.Kernel6Ideal.Value.run_blocks m ρ),
    (θ_run Cert.Reference6Ideal.defs _ _).mono (fun r h c => ⟨((h c).1).trans (by rw [(hargs c).1, (hargs c).2]; rfl), ((h c).2.1).trans (by rw [(hargs c).1, (hargs c).2]; rfl), (h c).2.2⟩) (Cert.Reference6Ideal.Value.run m' ρ')⟩

end Cert.Proof.DwFfnOut

end
-- ==== Proof.Products.DAct.lean ====
/-
  The gradient of the input of `w_ffn_out`.
-/
module

public import proofs.«01_k».proof.Defs
public import proofs.«01_k».proof.Proof.Gen.Kernel7Ideal.Value
public import proofs.«01_k».proof.Proof.Gen.Reference7Ideal.Run
public import Idealize.ShloMosaic.Lib.Pipeline.ValueKit

@[expose] public section

set_option maxRecDepth 16384
set_option maxHeartbeats 1000000

noncomputable section

namespace Cert.Proof.DAct

open Idealize.ShloMosaic Idealize.ShloMosaic.TcCoe Idealize.SL Idealize.SL.Sem
open Cert.Kernel7Ideal Cert.Kernel7Ideal.Gen

variable (m : (ℓ : Loc nD τ sig) → Buf (Elt Ideal) ℓ) (c : Dev nD)

theorem idx0 : ∀ t : Fin cfg0.N, win0_0.index t = ![0, 0] := (by decide +kernel : ∀ t : Fin grid0.N, win0_0.index t = ![0, 0])
theorem idx1 : ∀ t : Fin cfg0.N, win0_1.index t = ![t.val, 0] := (by decide +kernel : ∀ t : Fin grid0.N, win0_1.index t = ![t.val, 0])
theorem idx2 : ∀ t : Fin cfg0.N, win0_2.index t = ![0, t.val] := (by decide +kernel : ∀ t : Fin grid0.N, win0_2.index t = ![0, t.val])

/-- The reference's result: every entry is the sum of the products of a row of the first argument and a row of the second. -/
abbrev ref (X : FVec Ideal Cert.Reference7Ideal.S2048x2048 .f32) (Y : FVec Ideal Cert.Reference7Ideal.S5632x2048 .f32) : FVec Ideal Cert.Reference7Ideal.S2048x5632 .f32 :=
  Host.dotGeneral Cert.Reference7Ideal.dot_S2048x2048_S5632x2048_S2048x5632_1_1_0_0_n_n none X Y

/-- The result is the reference's. -/
theorem final2 : (dats m 0 c).arrAt 2 cfg0.N = truncf .bf16 (ref (m ((c : Thread nD τ).loc main_arg0)) (m ((c : Thread nD τ).loc main_arg1))) Cert.Reference7Ideal.Gen.bitsLt_bf16_f32 := by
  refine (dats m 0 c).arrAt_eq_of_covers 2 _ (by decide +kernel) fun t hf y => ?_
  blk_simp
  rw [after0_2]
  frame_out
  pointwise [k0_pay1, ref]
  refine Fin.sum_fin_congr fun k => ?_
  blk_point [iblk, V, idx0 t, idx1 t, idx2 t]

/-- The reference runs to the end, keeps its arguments and leaves every counter at zero. -/
theorem frame_reference : Cert.quiescent_Reference7Ideal := fun m ρ _ =>
  (θ_run Cert.Reference7Ideal.defs _ _).mono (fun r h => ⟨fun c => (h c).2, sem_eq_zero_of_no_sems (by decide) r.2⟩) (Cert.Reference7Ideal.Value.run m ρ)

/-- On the same arguments the kernel and the reference end with the same results. -/
theorem same : Cert.algebraic_Kernel7Ideal_Reference7Ideal (hKernel7Ideal := Cert.Kernel7Ideal.Gen.facts) (hReference7Ideal := Cert.Reference7Ideal.Gen.facts) :=
  fun m ρ m' ρ' _ hargs => ⟨fun c => truncf .bf16 (ref (m ((c : Thread nD τ).loc main_arg0)) (m ((c : Thread nD τ).loc main_arg1))) Cert.Reference7Ideal.Gen.bitsLt_bf16_f32,
    (θ_run Cert.Kernel7Ideal.defs _ _).mono (fun r h c => ⟨((h c).1).trans (final2 m c), (h c).2⟩) (Cert.Kernel7Ideal.Value.run_blocks m ρ),
    (θ_run Cert.Reference7Ideal.defs _ _).mono (fun r h c => ⟨((h c).1).trans (by rw [(hargs c).1, (hargs c).2]; rfl), (h c).2⟩) (Cert.Reference7Ideal.Value.run m' ρ')⟩

end Cert.Proof.DAct

end
-- ==== Proof.Products.FfnIn.lean ====
/-
  The product with `w_ffn_in`.
-/
module

public import proofs.«01_k».proof.Defs
public import proofs.«01_k».proof.Proof.Gen.Kernel8Ideal.Value
public import proofs.«01_k».proof.Proof.Gen.Reference8Ideal.Run
public import Idealize.ShloMosaic.Lib.Pipeline.ValueKit

@[expose] public section

set_option maxRecDepth 16384
set_option maxHeartbeats 1000000

noncomputable section

namespace Cert.Proof.FfnIn

open Idealize.ShloMosaic Idealize.ShloMosaic.TcCoe Idealize.SL Idealize.SL.Sem
open Cert.Kernel8Ideal Cert.Kernel8Ideal.Gen

variable (m : (ℓ : Loc nD τ sig) → Buf (Elt Ideal) ℓ) (c : Dev nD)

theorem idx0 : ∀ t : Fin cfg0.N, win0_0.index t = ![0, 0] := (by decide +kernel : ∀ t : Fin grid0.N, win0_0.index t = ![0, 0])
theorem idx1 : ∀ t : Fin cfg0.N, win0_1.index t = ![0, t.val] := (by decide +kernel : ∀ t : Fin grid0.N, win0_1.index t = ![0, t.val])
theorem idx2 : ∀ t : Fin cfg0.N, win0_2.index t = ![0, t.val] := (by decide +kernel : ∀ t : Fin grid0.N, win0_2.index t = ![0, t.val])

/-- The reference's result: every entry is the sum of the products of a row of the first argument and a column of the second. -/
abbrev ref (X : FVec Ideal Cert.Reference8Ideal.S2048x2048 .f32) (Y : FVec Ideal Cert.Reference8Ideal.S2048x11264 .f32) : FVec Ideal Cert.Reference8Ideal.S2048x11264 .f32 :=
  Host.dotGeneral Cert.Reference8Ideal.dot_S2048x2048_S2048x11264_S2048x11264_1_0_0_1_n_n none X Y

/-- The result is the reference's. -/
theorem final2 : (dats m 0 c).arrAt 2 cfg0.N = truncf .bf16 (ref (m ((c : Thread nD τ).loc main_arg0)) (m ((c : Thread nD τ).loc main_arg1))) Cert.Reference8Ideal.Gen.bitsLt_bf16_f32 := by
  refine (dats m 0 c).arrAt_eq_of_covers 2 _ (by decide +kernel) fun t hf y => ?_
  blk_simp
  rw [after0_2]
  frame_out
  pointwise [k0_pay1, ref]
  refine Fin.sum_fin_congr fun k => ?_
  blk_point [iblk, V, idx0 t, idx1 t, idx2 t]

/-- The reference runs to the end, keeps its arguments and leaves every counter at zero. -/
theorem frame_reference : Cert.quiescent_Reference8Ideal := fun m ρ _ =>
  (θ_run Cert.Reference8Ideal.defs _ _).mono (fun r h => ⟨fun c => (h c).2, sem_eq_zero_of_no_sems (by decide) r.2⟩) (Cert.Reference8Ideal.Value.run m ρ)

/-- On the same arguments the kernel and the reference end with the same results. -/
theorem same : Cert.algebraic_Kernel8Ideal_Reference8Ideal (hKernel8Ideal := Cert.Kernel8Ideal.Gen.facts) (hReference8Ideal := Cert.Reference8Ideal.Gen.facts) :=
  fun m ρ m' ρ' _ hargs => ⟨fun c => truncf .bf16 (ref (m ((c : Thread nD τ).loc main_arg0)) (m ((c : Thread nD τ).loc main_arg1))) Cert.Reference8Ideal.Gen.bitsLt_bf16_f32,
    (θ_run Cert.Kernel8Ideal.defs _ _).mono (fun r h c => ⟨((h c).1).trans (final2 m c), (h c).2⟩) (Cert.Kernel8Ideal.Value.run_blocks m ρ),
    (θ_run Cert.Reference8Ideal.defs _ _).mono (fun r h c => ⟨((h c).1).trans (by rw [(hargs c).1, (hargs c).2]; rfl), (h c).2⟩) (Cert.Reference8Ideal.Value.run m' ρ')⟩

end Cert.Proof.FfnIn

end
-- ==== Proof.Products.ProjQkv.lean ====
/-
  The product with the first columns of `w_in`.
-/
module

public import proofs.«01_k».proof.Defs
public import proofs.«01_k».proof.Proof.Gen.Kernel9Ideal.Value
public import proofs.«01_k».proof.Proof.Gen.Reference9Ideal.Run
public import Idealize.ShloMosaic.Lib.Pipeline.ValueKit

@[expose] public section

set_option maxRecDepth 16384
set_option maxHeartbeats 1000000

noncomputable section

namespace Cert.Proof.ProjQkv

open Idealize.ShloMosaic Idealize.ShloMosaic.TcCoe Idealize.SL Idealize.SL.Sem
open Cert.Kernel9Ideal Cert.Kernel9Ideal.Gen

variable (m : (ℓ : Loc nD τ sig) → Buf (Elt Ideal) ℓ) (c : Dev nD)

theorem idx0 : ∀ t : Fin cfg0.N, win0_0.index t = ![0, 0] := (by decide +kernel : ∀ t : Fin grid0.N, win0_0.index t = ![0, 0])
theorem idx1 : ∀ t : Fin cfg0.N, win0_1.index t = ![0, t.val] := (by decide +kernel : ∀ t : Fin grid0.N, win0_1.index t = ![0, t.val])
theorem idx2 : ∀ t : Fin cfg0.N, win0_2.index t = ![0, t.val] := (by decide +kernel : ∀ t : Fin grid0.N, win0_2.index t = ![0, t.val])

/-- The reference's result: every entry is the sum of the products of a row of the first argument and a column of the second. -/
abbrev ref (X : FVec Ideal Cert.Reference9Ideal.S2048x2048 .f32) (Y : FVec Ideal Cert.Reference9Ideal.S2048x10240 .f32) : FVec Ideal Cert.Reference9Ideal.S2048x6144 .f32 :=
  extractStridedSlice Cert.Reference9Ideal.S2048x6144 ![0, 0] (Host.dotGeneral Cert.Reference9Ideal.dot_S2048x2048_S2048x10240_S2048x10240_1_0_0_1_n_n none X Y) Cert.Reference9Ideal.Gen.slices_S2048x10240_S2048x6144_0_0

/-- The result is the reference's. -/
theorem final2 : (dats m 0 c).arrAt 2 cfg0.N = truncf .bf16 (ref (m ((c : Thread nD τ).loc main_arg0)) (m ((c : Thread nD τ).loc main_arg1))) Cert.Reference9Ideal.Gen.bitsLt_bf16_f32 := by
  refine (dats m 0 c).arrAt_eq_of_covers 2 _ (by decide +kernel) fun t hf y => ?_
  blk_simp
  rw [after0_2]
  frame_out
  pointwise [k0_pay1, ref]
  refine Fin.sum_fin_congr fun k => ?_
  blk_point [iblk, V, idx0 t, idx1 t, idx2 t]

/-- The reference runs to the end, keeps its arguments and leaves every counter at zero. -/
theorem frame_reference : Cert.quiescent_Reference9Ideal := fun m ρ _ =>
  (θ_run Cert.Reference9Ideal.defs _ _).mono (fun r h => ⟨fun c => (h c).2, sem_eq_zero_of_no_sems (by decide) r.2⟩) (Cert.Reference9Ideal.Value.run m ρ)

/-- On the same arguments the kernel and the reference end with the same results. -/
theorem same : Cert.algebraic_Kernel9Ideal_Reference9Ideal (hKernel9Ideal := Cert.Kernel9Ideal.Gen.facts) (hReference9Ideal := Cert.Reference9Ideal.Gen.facts) :=
  fun m ρ m' ρ' _ hargs => ⟨fun c => truncf .bf16 (ref (m ((c : Thread nD τ).loc main_arg0)) (m ((c : Thread nD τ).loc main_arg1))) Cert.Reference9Ideal.Gen.bitsLt_bf16_f32,
    (θ_run Cert.Kernel9Ideal.defs _ _).mono (fun r h c => ⟨((h c).1).trans (final2 m c), (h c).2⟩) (Cert.Kernel9Ideal.Value.run_blocks m ρ),
    (θ_run Cert.Reference9Ideal.defs _ _).mono (fun r h c => ⟨((h c).1).trans (by rw [(hargs c).1, (hargs c).2]; rfl), (h c).2⟩) (Cert.Reference9Ideal.Value.run m' ρ')⟩

end Cert.Proof.ProjQkv

end
-- ==== Proof.Products.ProjGates.lean ====
/-
  The product with the last columns of `w_in`.
-/
module

public import proofs.«01_k».proof.Defs
public import proofs.«01_k».proof.Proof.Gen.Kernel10Ideal.Value
public import proofs.«01_k».proof.Proof.Gen.Reference10Ideal.Run
public import Idealize.ShloMosaic.Lib.Pipeline.ValueKit

@[expose] public section

set_option maxRecDepth 16384
set_option maxHeartbeats 1000000

noncomputable section

namespace Cert.Proof.ProjGates

open Idealize.ShloMosaic Idealize.ShloMosaic.TcCoe Idealize.SL Idealize.SL.Sem
open Cert.Kernel10Ideal Cert.Kernel10Ideal.Gen

variable (m : (ℓ : Loc nD τ sig) → Buf (Elt Ideal) ℓ) (c : Dev nD)

theorem idx0 : ∀ t : Fin cfg0.N, win0_0.index t = ![0, 0] := (by decide +kernel : ∀ t : Fin grid0.N, win0_0.index t = ![0, 0])
theorem idx1 : ∀ t : Fin cfg0.N, win0_1.index t = ![0, t.val + 12] := (by decide +kernel : ∀ t : Fin grid0.N, win0_1.index t = ![0, t.val + 12])
theorem idx2 : ∀ t : Fin cfg0.N, win0_2.index t = ![0, t.val] := (by decide +kernel : ∀ t : Fin grid0.N, win0_2.index t = ![0, t.val])

/-- The reference's result: every entry is the sum of the products of a row of the first argument and a column of the second. -/
abbrev ref (X : FVec Ideal Cert.Reference10Ideal.S2048x2048 .f32) (Y : FVec Ideal Cert.Reference10Ideal.S2048x10240 .f32) : FVec Ideal Cert.Reference10Ideal.S2048x4096 .f32 :=
  extractStridedSlice Cert.Reference10Ideal.S2048x4096 ![0, 6144] (Host.dotGeneral Cert.Reference10Ideal.dot_S2048x2048_S2048x10240_S2048x10240_1_0_0_1_n_n none X Y) Cert.Reference10Ideal.Gen.slices_S2048x10240_S2048x4096_0_6144

/-- The result is the reference's. -/
theorem final2 : (dats m 0 c).arrAt 2 cfg0.N = truncf .bf16 (ref (m ((c : Thread nD τ).loc main_arg0)) (m ((c : Thread nD τ).loc main_arg1))) Cert.Reference10Ideal.Gen.bitsLt_bf16_f32 := by
  refine (dats m 0 c).arrAt_eq_of_covers 2 _ (by decide +kernel) fun t hf y => ?_
  blk_simp
  rw [after0_2]
  frame_out
  pointwise [k0_pay1, ref]
  refine Fin.sum_fin_congr fun k => ?_
  blk_point [iblk, V, idx0 t, idx1 t, idx2 t]

/-- The reference runs to the end, keeps its arguments and leaves every counter at zero. -/
theorem frame_reference : Cert.quiescent_Reference10Ideal := fun m ρ _ =>
  (θ_run Cert.Reference10Ideal.defs _ _).mono (fun r h => ⟨fun c => (h c).2, sem_eq_zero_of_no_sems (by decide) r.2⟩) (Cert.Reference10Ideal.Value.run m ρ)

/-- On the same arguments the kernel and the reference end with the same results. -/
theorem same : Cert.algebraic_Kernel10Ideal_Reference10Ideal (hKernel10Ideal := Cert.Kernel10Ideal.Gen.facts) (hReference10Ideal := Cert.Reference10Ideal.Gen.facts) :=
  fun m ρ m' ρ' _ hargs => ⟨fun c => truncf .bf16 (ref (m ((c : Thread nD τ).loc main_arg0)) (m ((c : Thread nD τ).loc main_arg1))) Cert.Reference10Ideal.Gen.bitsLt_bf16_f32,
    (θ_run Cert.Kernel10Ideal.defs _ _).mono (fun r h c => ⟨((h c).1).trans (final2 m c), (h c).2⟩) (Cert.Kernel10Ideal.Value.run_blocks m ρ),
    (θ_run Cert.Reference10Ideal.defs _ _).mono (fun r h c => ⟨((h c).1).trans (by rw [(hargs c).1, (hargs c).2]; rfl), (h c).2⟩) (Cert.Reference10Ideal.Value.run m' ρ')⟩

end Cert.Proof.ProjGates

end
-- ==== Proof.Products.FfnOut.lean ====
/-
  The product with `w_ffn_out`, added to the residual.
-/
module

public import proofs.«01_k».proof.Defs
public import proofs.«01_k».proof.Proof.Gen.Kernel11Ideal.Value
public import proofs.«01_k».proof.Proof.Gen.Reference11Ideal.Run
public import Idealize.ShloMosaic.Lib.Pipeline.ValueKit

@[expose] public section

set_option maxRecDepth 16384
set_option maxHeartbeats 1000000

noncomputable section

namespace Cert.Proof.FfnOut

open Idealize.ShloMosaic Idealize.ShloMosaic.TcCoe Idealize.SL Idealize.SL.Sem
open Cert.Kernel11Ideal Cert.Kernel11Ideal.Gen

variable (m : (ℓ : Loc nD τ sig) → Buf (Elt Ideal) ℓ) (c : Dev nD)

theorem idx0 : ∀ t : Fin cfg0.N, win0_0.index t = ![t.val / 8, 0] := (by decide +kernel : ∀ t : Fin grid0.N, win0_0.index t = ![t.val / 8, 0])
theorem idx1 : ∀ t : Fin cfg0.N, win0_1.index t = ![0, t.val % 8] := (by decide +kernel : ∀ t : Fin grid0.N, win0_1.index t = ![0, t.val % 8])
theorem idx2 : ∀ t : Fin cfg0.N, win0_2.index t = ![t.val / 8, t.val % 8] := (by decide +kernel : ∀ t : Fin grid0.N, win0_2.index t = ![t.val / 8, t.val % 8])
theorem idx3 : ∀ t : Fin cfg0.N, win0_3.index t = ![t.val / 8, t.val % 8] := (by decide +kernel : ∀ t : Fin grid0.N, win0_3.index t = ![t.val / 8, t.val % 8])

/-- The reference's result: every entry is the sum of the products of a row of the first argument and a column of the second, added to the third. -/
abbrev ref (X : FVec Ideal Cert.Reference11Ideal.S2048x5632 .f32) (Y : FVec Ideal Cert.Reference11Ideal.S5632x2048 .f32) (Z : FVec Ideal Cert.Reference11Ideal.S2048x2048 .f32) : FVec Ideal Cert.Reference11Ideal.S2048x2048 .f32 :=
  addf Z (Host.dotGeneral Cert.Reference11Ideal.dot_S2048x5632_S5632x2048_S2048x2048_1_0_0_1_n_n none X Y)

/-- The result is the reference's. -/
theorem final3 : (dats m 0 c).arrAt 3 cfg0.N = ref (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  pointwise [k0_pay1, ref]
  refine (add_comm (G := EReal) _ _).trans (congrArg₂ (· + ·) ?_ (Fin.sum_fin_congr fun k => ?_))
  · blk_point [iblk, V, idx0 t, idx1 t, idx2 t, idx3 t]
  · blk_point [iblk, V, idx0 t, idx1 t, idx2 t, idx3 t]

/-- The reference runs to the end, keeps its arguments and leaves every counter at zero. -/
theorem frame_reference : Cert.quiescent_Reference11Ideal := fun m ρ _ =>
  (θ_run Cert.Reference11Ideal.defs _ _).mono (fun r h => ⟨fun c => (h c).2, sem_eq_zero_of_no_sems (by decide) r.2⟩) (Cert.Reference11Ideal.Value.run m ρ)

/-- On the same arguments the kernel and the reference end with the same results. -/
theorem same : Cert.algebraic_Kernel11Ideal_Reference11Ideal (hKernel11Ideal := Cert.Kernel11Ideal.Gen.facts) (hReference11Ideal := Cert.Reference11Ideal.Gen.facts) :=
  fun m ρ m' ρ' _ hargs => ⟨fun c => ref (m ((c : Thread nD τ).loc main_arg0)) (m ((c : Thread nD τ).loc main_arg1)) (m ((c : Thread nD τ).loc main_arg2)),
    (θ_run Cert.Kernel11Ideal.defs _ _).mono (fun r h c => ⟨((h c).1).trans (final3 m c), (h c).2⟩) (Cert.Kernel11Ideal.Value.run_blocks m ρ),
    (θ_run Cert.Reference11Ideal.defs _ _).mono (fun r h c => ⟨((h c).1).trans (by rw [(hargs c).1, (hargs c).2.1, (hargs c).2.2]; rfl), (h c).2⟩) (Cert.Reference11Ideal.Value.run m' ρ')⟩

end Cert.Proof.FfnOut

end
-- ==== Proof.Products.DwMixOut.lean ====
/-
  The gradient of `w_mix_out`.
-/
module

public import proofs.«01_k».proof.Defs
public import proofs.«01_k».proof.Proof.Gen.Kernel12Ideal.Value
public import proofs.«01_k».proof.Proof.Gen.Reference12Ideal.Run
public import Idealize.ShloMosaic.Lib.Pipeline.ValueKit

@[expose] public section

set_option maxRecDepth 16384
set_option maxHeartbeats 1000000

noncomputable section

namespace Cert.Proof.DwMixOut

open Idealize.ShloMosaic Idealize.ShloMosaic.TcCoe Idealize.SL Idealize.SL.Sem
open Cert.Kernel12Ideal Cert.Kernel12Ideal.Gen

variable (m : (ℓ : Loc nD τ sig) → Buf (Elt Ideal) ℓ) (c : Dev nD)

theorem idx0 : ∀ t : Fin cfg0.N, win0_0.index t = ![0, 0] := (by decide +kernel : ∀ t : Fin grid0.N, win0_0.index t = ![0, 0])
theorem idx1 : ∀ t : Fin cfg0.N, win0_1.index t = ![0, t.val] := (by decide +kernel : ∀ t : Fin grid0.N, win0_1.index t = ![0, t.val])
theorem idx2 : ∀ t : Fin cfg0.N, win0_2.index t = ![0, t.val] := (by decide +kernel : ∀ t : Fin grid0.N, win0_2.index t = ![0, t.val])
theorem idx3 : ∀ t : Fin cfg0.N, win0_3.index t = ![0, t.val] := (by decide +kernel : ∀ t : Fin grid0.N, win0_3.index t = ![0, t.val])

/-- The reference's result: every entry is the sum of the products of a column of the first argument and a column of the second. -/
abbrev ref (X : FVec Ideal Cert.Reference12Ideal.S2048x2048 .f32) (Y : FVec Ideal Cert.Reference12Ideal.S2048x2048 .f32) : FVec Ideal Cert.Reference12Ideal.S2048x2048 .f32 :=
  transpose Cert.Reference12Ideal.S2048x2048 [1, 0] (Host.dotGeneral Cert.Reference12Ideal.dot_S2048x2048_S2048x2048_S2048x2048_0_0_1_1_n_n none Y X) Cert.Reference12Ideal.Gen.transposes_S2048x2048_S2048x2048_1_0

/-- The first result is the reference's. -/
theorem final2 : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, ref]
  refine Fin.sum_fin_congr fun k => (mul_comm (G := EReal) _ _).trans ?_
  blk_point [iblk, V, idx0 t, idx1 t, idx2 t]

/-- So is the second: the same entries in the other format. -/
theorem final3 : (dats m 0 c).arrAt 3 cfg0.N = truncf .bf16 (ref (m ((c : Thread nD τ).loc main_arg0)) (m ((c : Thread nD τ).loc main_arg1))) Cert.Reference12Ideal.Gen.bitsLt_bf16_f32 := by
  refine (dats m 0 c).arrAt_eq_of_covers 3 _ (by decide +kernel) fun t hf y => ?_
  blk_simp
  rw [after0_3]
  frame_out
  pointwise [k0_pay1, k0_pay2, ref]
  refine Fin.sum_fin_congr fun k => (mul_comm (G := EReal) _ _).trans ?_
  blk_point [iblk, V, idx0 t, idx1 t, idx3 t]

/-- The reference runs to the end, keeps its arguments and leaves every counter at zero. -/
theorem frame_reference : Cert.quiescent_Reference12Ideal := fun m ρ _ =>
  (θ_run Cert.Reference12Ideal.defs _ _).mono (fun r h => ⟨fun c => (h c).2.2, sem_eq_zero_of_no_sems (by decide) r.2⟩) (Cert.Reference12Ideal.Value.run m ρ)

/-- On the same arguments the kernel and the reference end with the same results. -/
theorem same : Cert.algebraic_Kernel12Ideal_Reference12Ideal (hKernel12Ideal := Cert.Kernel12Ideal.Gen.facts) (hReference12Ideal := Cert.Reference12Ideal.Gen.facts) :=
  fun m ρ m' ρ' _ hargs => ⟨fun c => ref (m ((c : Thread nD τ).loc main_arg0)) (m ((c : Thread nD τ).loc main_arg1)), fun c => truncf .bf16 (ref (m ((c : Thread nD τ).loc main_arg0)) (m ((c : Thread nD τ).loc main_arg1))) Cert.Reference12Ideal.Gen.bitsLt_bf16_f32,
    (θ_run Cert.Kernel12Ideal.defs _ _).mono (fun r h c => ⟨((h c).1).trans (final2 m c), ((h c).2.1).trans (final3 m c), (h c).2.2⟩) (Cert.Kernel12Ideal.Value.run_blocks m ρ),
    (θ_run Cert.Reference12Ideal.defs _ _).mono (fun r h c => ⟨((h c).1).trans (by rw [(hargs c).1, (hargs c).2]; rfl), ((h c).2.1).trans (by rw [(hargs c).1, (hargs c).2]; rfl), (h c).2.2⟩) (Cert.Reference12Ideal.Value.run m' ρ')⟩

end Cert.Proof.DwMixOut

end
-- ==== Proof.Products.DMerged.lean ====
/-
  The gradient of the input of `w_mix_out`.
-/
module

public import proofs.«01_k».proof.Defs
public import proofs.«01_k».proof.Proof.Gen.Kernel13Ideal.Value
public import proofs.«01_k».proof.Proof.Gen.Reference13Ideal.Run
public import Idealize.ShloMosaic.Lib.Pipeline.ValueKit

@[expose] public section

set_option maxRecDepth 16384
set_option maxHeartbeats 1000000

noncomputable section

namespace Cert.Proof.DMerged

open Idealize.ShloMosaic Idealize.ShloMosaic.TcCoe Idealize.SL Idealize.SL.Sem
open Cert.Kernel13Ideal Cert.Kernel13Ideal.Gen

variable (m : (ℓ : Loc nD τ sig) → Buf (Elt Ideal) ℓ) (c : Dev nD)

theorem idx0 : ∀ t : Fin cfg0.N, win0_0.index t = ![0, 0] := (by decide +kernel : ∀ t : Fin grid0.N, win0_0.index t = ![0, 0])
theorem idx1 : ∀ t : Fin cfg0.N, win0_1.index t = ![t.val, 0] := (by decide +kernel : ∀ t : Fin grid0.N, win0_1.index t = ![t.val, 0])
theorem idx2 : ∀ t : Fin cfg0.N, win0_2.index t = ![0, t.val] := (by decide +kernel : ∀ t : Fin grid0.N, win0_2.index t = ![0, t.val])

/-- The reference's result: every entry is the sum of the products of a row of the first argument and a row of the second. -/
abbrev ref (X : FVec Ideal Cert.Reference13Ideal.S2048x2048 .f32) (Y : FVec Ideal Cert.Reference13Ideal.S2048x2048 .f32) : FVec Ideal Cert.Reference13Ideal.S2048x2048 .f32 :=
  Host.dotGeneral Cert.Reference13Ideal.dot_S2048x2048_S2048x2048_S2048x2048_1_1_0_0_n_n none X Y

/-- The result is the reference's. -/
theorem final2 : (dats m 0 c).arrAt 2 cfg0.N = truncf .bf16 (ref (m ((c : Thread nD τ).loc main_arg0)) (m ((c : Thread nD τ).loc main_arg1))) Cert.Reference13Ideal.Gen.bitsLt_bf16_f32 := by
  refine (dats m 0 c).arrAt_eq_of_covers 2 _ (by decide +kernel) fun t hf y => ?_
  blk_simp
  rw [after0_2]
  frame_out
  pointwise [k0_pay1, ref]
  refine Fin.sum_fin_congr fun k => ?_
  blk_point [iblk, V, idx0 t, idx1 t, idx2 t]

/-- The reference runs to the end, keeps its arguments and leaves every counter at zero. -/
theorem frame_reference : Cert.quiescent_Reference13Ideal := fun m ρ _ =>
  (θ_run Cert.Reference13Ideal.defs _ _).mono (fun r h => ⟨fun c => (h c).2, sem_eq_zero_of_no_sems (by decide) r.2⟩) (Cert.Reference13Ideal.Value.run m ρ)

/-- On the same arguments the kernel and the reference end with the same results. -/
theorem same : Cert.algebraic_Kernel13Ideal_Reference13Ideal (hKernel13Ideal := Cert.Kernel13Ideal.Gen.facts) (hReference13Ideal := Cert.Reference13Ideal.Gen.facts) :=
  fun m ρ m' ρ' _ hargs => ⟨fun c => truncf .bf16 (ref (m ((c : Thread nD τ).loc main_arg0)) (m ((c : Thread nD τ).loc main_arg1))) Cert.Reference13Ideal.Gen.bitsLt_bf16_f32,
    (θ_run Cert.Kernel13Ideal.defs _ _).mono (fun r h c => ⟨((h c).1).trans (final2 m c), (h c).2⟩) (Cert.Kernel13Ideal.Value.run_blocks m ρ),
    (θ_run Cert.Reference13Ideal.defs _ _).mono (fun r h c => ⟨((h c).1).trans (by rw [(hargs c).1, (hargs c).2]; rfl), (h c).2⟩) (Cert.Reference13Ideal.Value.run m' ρ')⟩

end Cert.Proof.DMerged

end
-- ==== Proof.Products.DhPle.lean ====
/-
  The gradient of the input of `w_ple_gate`.
-/
module

public import proofs.«01_k».proof.Defs
public import proofs.«01_k».proof.Proof.Gen.Kernel14Ideal.Value
public import proofs.«01_k».proof.Proof.Gen.Reference14Ideal.Run
public import Idealize.ShloMosaic.Lib.Pipeline.ValueKit

@[expose] public section

set_option maxRecDepth 16384
set_option maxHeartbeats 1000000

noncomputable section

namespace Cert.Proof.DhPle

open Idealize.ShloMosaic Idealize.ShloMosaic.TcCoe Idealize.SL Idealize.SL.Sem
open Cert.Kernel14Ideal Cert.Kernel14Ideal.Gen

variable (m : (ℓ : Loc nD τ sig) → Buf (Elt Ideal) ℓ) (c : Dev nD)

theorem idx0 : ∀ t : Fin cfg0.N, win0_0.index t = ![0, 0] := (by decide +kernel : ∀ t : Fin grid0.N, win0_0.index t = ![0, 0])
theorem idx1 : ∀ t : Fin cfg0.N, win0_1.index t = ![t.val, 0] := (by decide +kernel : ∀ t : Fin grid0.N, win0_1.index t = ![t.val, 0])
theorem idx2 : ∀ t : Fin cfg0.N, win0_2.index t = ![0, t.val] := (by decide +kernel : ∀ t : Fin grid0.N, win0_2.index t = ![0, t.val])

/-- The reference's result: every entry is the sum of the products of a row of the first argument and a row of the second. -/
abbrev ref (X : FVec Ideal Cert.Reference14Ideal.S2048x2048 .f32) (Y : FVec Ideal Cert.Reference14Ideal.S2048x2048 .f32) : FVec Ideal Cert.Reference14Ideal.S2048x2048 .f32 :=
  Host.dotGeneral Cert.Reference14Ideal.dot_S2048x2048_S2048x2048_S2048x2048_1_1_0_0_n_n none X Y

/-- The result is the reference's. -/
theorem final2 : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, ref]
  refine Fin.sum_fin_congr fun k => ?_
  blk_point [iblk, V, idx0 t, idx1 t, idx2 t]

/-- The reference runs to the end, keeps its arguments and leaves every counter at zero. -/
theorem frame_reference : Cert.quiescent_Reference14Ideal := fun m ρ _ =>
  (θ_run Cert.Reference14Ideal.defs _ _).mono (fun r h => ⟨fun c => (h c).2, sem_eq_zero_of_no_sems (by decide) r.2⟩) (Cert.Reference14Ideal.Value.run m ρ)

/-- On the same arguments the kernel and the reference end with the same results. -/
theorem same : Cert.algebraic_Kernel14Ideal_Reference14Ideal (hKernel14Ideal := Cert.Kernel14Ideal.Gen.facts) (hReference14Ideal := Cert.Reference14Ideal.Gen.facts) :=
  fun m ρ m' ρ' _ hargs => ⟨fun c => ref (m ((c : Thread nD τ).loc main_arg0)) (m ((c : Thread nD τ).loc main_arg1)),
    (θ_run Cert.Kernel14Ideal.defs _ _).mono (fun r h c => ⟨((h c).1).trans (final2 m c), (h c).2⟩) (Cert.Kernel14Ideal.Value.run_blocks m ρ),
    (θ_run Cert.Reference14Ideal.defs _ _).mono (fun r h c => ⟨((h c).1).trans (by rw [(hargs c).1, (hargs c).2]; rfl), (h c).2⟩) (Cert.Reference14Ideal.Value.run m' ρ')⟩

end Cert.Proof.DhPle

end
-- ==== Proof.Products.MixOut.lean ====
/-
  The product with `w_mix_out`, added to the residual.
-/
module

public import proofs.«01_k».proof.Defs
public import proofs.«01_k».proof.Proof.Gen.Kernel15Ideal.Value
public import proofs.«01_k».proof.Proof.Gen.Reference15Ideal.Run
public import Idealize.ShloMosaic.Lib.Pipeline.ValueKit

@[expose] public section

set_option maxRecDepth 16384
set_option maxHeartbeats 1000000

noncomputable section

namespace Cert.Proof.MixOut

open Idealize.ShloMosaic Idealize.ShloMosaic.TcCoe Idealize.SL Idealize.SL.Sem
open Cert.Kernel15Ideal Cert.Kernel15Ideal.Gen

variable (m : (ℓ : Loc nD τ sig) → Buf (Elt Ideal) ℓ) (c : Dev nD)

theorem idx0 : ∀ t : Fin cfg0.N, win0_0.index t = ![0, 0] := (by decide +kernel : ∀ t : Fin grid0.N, win0_0.index t = ![0, 0])
theorem idx1 : ∀ t : Fin cfg0.N, win0_1.index t = ![0, t.val] := (by decide +kernel : ∀ t : Fin grid0.N, win0_1.index t = ![0, t.val])
theorem idx2 : ∀ t : Fin cfg0.N, win0_2.index t = ![0, t.val] := (by decide +kernel : ∀ t : Fin grid0.N, win0_2.index t = ![0, t.val])
theorem idx3 : ∀ t : Fin cfg0.N, win0_3.index t = ![0, t.val] := (by decide +kernel : ∀ t : Fin grid0.N, win0_3.index t = ![0, t.val])

/-- The reference's result: every entry is the sum of the products of a row of the first argument and a column of the second, added to the third. -/
abbrev ref (X : FVec Ideal Cert.Reference15Ideal.S2048x2048 .f32) (Y : FVec Ideal Cert.Reference15Ideal.S2048x2048 .f32) (Z : FVec Ideal Cert.Reference15Ideal.S2048x2048 .f32) : FVec Ideal Cert.Reference15Ideal.S2048x2048 .f32 :=
  addf Z (Host.dotGeneral Cert.Reference15Ideal.dot_S2048x2048_S2048x2048_S2048x2048_1_0_0_1_n_n none X Y)

/-- The result is the reference's. -/
theorem final3 : (dats m 0 c).arrAt 3 cfg0.N = ref (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  pointwise [k0_pay1, ref]
  refine (add_comm (G := EReal) _ _).trans (congrArg₂ (· + ·) ?_ (Fin.sum_fin_congr fun k => ?_))
  · blk_point [iblk, V, idx0 t, idx1 t, idx2 t, idx3 t]
  · blk_point [iblk, V, idx0 t, idx1 t, idx2 t, idx3 t]

/-- The reference runs to the end, keeps its arguments and leaves every counter at zero. -/
theorem frame_reference : Cert.quiescent_Reference15Ideal := fun m ρ _ =>
  (θ_run Cert.Reference15Ideal.defs _ _).mono (fun r h => ⟨fun c => (h c).2, sem_eq_zero_of_no_sems (by decide) r.2⟩) (Cert.Reference15Ideal.Value.run m ρ)

/-- On the same arguments the kernel and the reference end with the same results. -/
theorem same : Cert.algebraic_Kernel15Ideal_Reference15Ideal (hKernel15Ideal := Cert.Kernel15Ideal.Gen.facts) (hReference15Ideal := Cert.Reference15Ideal.Gen.facts) :=
  fun m ρ m' ρ' _ hargs => ⟨fun c => ref (m ((c : Thread nD τ).loc main_arg0)) (m ((c : Thread nD τ).loc main_arg1)) (m ((c : Thread nD τ).loc main_arg2)),
    (θ_run Cert.Kernel15Ideal.defs _ _).mono (fun r h c => ⟨((h c).1).trans (final3 m c), (h c).2⟩) (Cert.Kernel15Ideal.Value.run_blocks m ρ),
    (θ_run Cert.Reference15Ideal.defs _ _).mono (fun r h c => ⟨((h c).1).trans (by rw [(hargs c).1, (hargs c).2.1, (hargs c).2.2]; rfl), (h c).2⟩) (Cert.Reference15Ideal.Value.run m' ρ')⟩

end Cert.Proof.MixOut

end
-- ==== Proof.Products.PleGate.lean ====
/-
  The product with `w_ple_gate`.
-/
module

public import proofs.«01_k».proof.Defs
public import proofs.«01_k».proof.Proof.Gen.Kernel16Ideal.Value
public import proofs.«01_k».proof.Proof.Gen.Reference16Ideal.Run
public import Idealize.ShloMosaic.Lib.Pipeline.ValueKit

@[expose] public section

set_option maxRecDepth 16384
set_option maxHeartbeats 1000000

noncomputable section

namespace Cert.Proof.PleGate

open Idealize.ShloMosaic Idealize.ShloMosaic.TcCoe Idealize.SL Idealize.SL.Sem
open Cert.Kernel16Ideal Cert.Kernel16Ideal.Gen

variable (m : (ℓ : Loc nD τ sig) → Buf (Elt Ideal) ℓ) (c : Dev nD)

theorem idx0 : ∀ t : Fin cfg0.N, win0_0.index t = ![0, 0] := (by decide +kernel : ∀ t : Fin grid0.N, win0_0.index t = ![0, 0])
theorem idx1 : ∀ t : Fin cfg0.N, win0_1.index t = ![0, t.val] := (by decide +kernel : ∀ t : Fin grid0.N, win0_1.index t = ![0, t.val])
theorem idx2 : ∀ t : Fin cfg0.N, win0_2.index t = ![0, t.val] := (by decide +kernel : ∀ t : Fin grid0.N, win0_2.index t = ![0, t.val])

/-- The reference's result: every entry is the sum of the products of a row of the first argument and a column of the second. -/
abbrev ref (X : FVec Ideal Cert.Reference16Ideal.S2048x2048 .f32) (Y : FVec Ideal Cert.Reference16Ideal.S2048x2048 .f32) : FVec Ideal Cert.Reference16Ideal.S2048x2048 .f32 :=
  Host.dotGeneral Cert.Reference16Ideal.dot_S2048x2048_S2048x2048_S2048x2048_1_0_0_1_n_n none X Y

/-- The result is the reference's. -/
theorem final2 : (dats m 0 c).arrAt 2 cfg0.N = truncf .bf16 (ref (m ((c : Thread nD τ).loc main_arg0)) (m ((c : Thread nD τ).loc main_arg1))) Cert.Reference16Ideal.Gen.bitsLt_bf16_f32 := by
  refine (dats m 0 c).arrAt_eq_of_covers 2 _ (by decide +kernel) fun t hf y => ?_
  blk_simp
  rw [after0_2]
  frame_out
  pointwise [k0_pay1, ref]
  refine Fin.sum_fin_congr fun k => ?_
  blk_point [iblk, V, idx0 t, idx1 t, idx2 t]

/-- The reference runs to the end, keeps its arguments and leaves every counter at zero. -/
theorem frame_reference : Cert.quiescent_Reference16Ideal := fun m ρ _ =>
  (θ_run Cert.Reference16Ideal.defs _ _).mono (fun r h => ⟨fun c => (h c).2, sem_eq_zero_of_no_sems (by decide) r.2⟩) (Cert.Reference16Ideal.Value.run m ρ)

/-- On the same arguments the kernel and the reference end with the same results. -/
theorem same : Cert.algebraic_Kernel16Ideal_Reference16Ideal (hKernel16Ideal := Cert.Kernel16Ideal.Gen.facts) (hReference16Ideal := Cert.Reference16Ideal.Gen.facts) :=
  fun m ρ m' ρ' _ hargs => ⟨fun c => truncf .bf16 (ref (m ((c : Thread nD τ).loc main_arg0)) (m ((c : Thread nD τ).loc main_arg1))) Cert.Reference16Ideal.Gen.bitsLt_bf16_f32,
    (θ_run Cert.Kernel16Ideal.defs _ _).mono (fun r h c => ⟨((h c).1).trans (final2 m c), (h c).2⟩) (Cert.Kernel16Ideal.Value.run_blocks m ρ),
    (θ_run Cert.Reference16Ideal.defs _ _).mono (fun r h c => ⟨((h c).1).trans (by rw [(hargs c).1, (hargs c).2]; rfl), (h c).2⟩) (Cert.Reference16Ideal.Value.run m' ρ')⟩

end Cert.Proof.PleGate

end
-- ==== Proof.Products.DwSbOut.lean ====
/-
  The gradient of `w_sb_out`.
-/
module

public import proofs.«01_k».proof.Defs
public import proofs.«01_k».proof.Proof.Gen.Kernel17Ideal.Value
public import proofs.«01_k».proof.Proof.Gen.Reference17Ideal.Run
public import Idealize.ShloMosaic.Lib.Pipeline.ValueKit

@[expose] public section

set_option maxRecDepth 16384
set_option maxHeartbeats 1000000

noncomputable section

namespace Cert.Proof.DwSbOut

open Idealize.ShloMosaic Idealize.ShloMosaic.TcCoe Idealize.SL Idealize.SL.Sem
open Cert.Kernel17Ideal Cert.Kernel17Ideal.Gen

variable (m : (ℓ : Loc nD τ sig) → Buf (Elt Ideal) ℓ) (c : Dev nD)

theorem idx0 : ∀ t : Fin cfg0.N, win0_0.index t = ![0, 0] := (by decide +kernel : ∀ t : Fin grid0.N, win0_0.index t = ![0, 0])
theorem idx1 : ∀ t : Fin cfg0.N, win0_1.index t = ![0, t.val] := (by decide +kernel : ∀ t : Fin grid0.N, win0_1.index t = ![0, t.val])
theorem idx2 : ∀ t : Fin cfg0.N, win0_2.index t = ![0, t.val] := (by decide +kernel : ∀ t : Fin grid0.N, win0_2.index t = ![0, t.val])
theorem idx3 : ∀ t : Fin cfg0.N, win0_3.index t = ![0, t.val] := (by decide +kernel : ∀ t : Fin grid0.N, win0_3.index t = ![0, t.val])

/-- The reference's result: every entry is the sum of the products of a column of the first argument and a column of the second. -/
abbrev ref (X : FVec Ideal Cert.Reference17Ideal.S2048x1024 .f32) (Y : FVec Ideal Cert.Reference17Ideal.S2048x2048 .f32) : FVec Ideal Cert.Reference17Ideal.S1024x2048 .f32 :=
  transpose Cert.Reference17Ideal.S1024x2048 [1, 0] (Host.dotGeneral Cert.Reference17Ideal.dot_S2048x2048_S2048x1024_S2048x1024_0_0_1_1_n_n none Y X) Cert.Reference17Ideal.Gen.transposes_S2048x1024_S1024x2048_1_0

/-- The first result is the reference's. -/
theorem final2 : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, ref]
  refine Fin.sum_fin_congr fun k => (mul_comm (G := EReal) _ _).trans ?_
  blk_point [iblk, V, idx0 t, idx1 t, idx2 t]

/-- So is the second: the same entries in the other format. -/
theorem final3 : (dats m 0 c).arrAt 3 cfg0.N = truncf .bf16 (ref (m ((c : Thread nD τ).loc main_arg0)) (m ((c : Thread nD τ).loc main_arg1))) Cert.Reference17Ideal.Gen.bitsLt_bf16_f32 := by
  refine (dats m 0 c).arrAt_eq_of_covers 3 _ (by decide +kernel) fun t hf y => ?_
  blk_simp
  rw [after0_3]
  frame_out
  pointwise [k0_pay1, k0_pay2, ref]
  refine Fin.sum_fin_congr fun k => (mul_comm (G := EReal) _ _).trans ?_
  blk_point [iblk, V, idx0 t, idx1 t, idx3 t]

/-- The reference runs to the end, keeps its arguments and leaves every counter at zero. -/
theorem frame_reference : Cert.quiescent_Reference17Ideal := fun m ρ _ =>
  (θ_run Cert.Reference17Ideal.defs _ _).mono (fun r h => ⟨fun c => (h c).2.2, sem_eq_zero_of_no_sems (by decide) r.2⟩) (Cert.Reference17Ideal.Value.run m ρ)

/-- On the same arguments the kernel and the reference end with the same results. -/
theorem same : Cert.algebraic_Kernel17Ideal_Reference17Ideal (hKernel17Ideal := Cert.Kernel17Ideal.Gen.facts) (hReference17Ideal := Cert.Reference17Ideal.Gen.facts) :=
  fun m ρ m' ρ' _ hargs => ⟨fun c => ref (m ((c : Thread nD τ).loc main_arg0)) (m ((c : Thread nD τ).loc main_arg1)), fun c => truncf .bf16 (ref (m ((c : Thread nD τ).loc main_arg0)) (m ((c : Thread nD τ).loc main_arg1))) Cert.Reference17Ideal.Gen.bitsLt_bf16_f32,
    (θ_run Cert.Kernel17Ideal.defs _ _).mono (fun r h c => ⟨((h c).1).trans (final2 m c), ((h c).2.1).trans (final3 m c), (h c).2.2⟩) (Cert.Kernel17Ideal.Value.run_blocks m ρ),
    (θ_run Cert.Reference17Ideal.defs _ _).mono (fun r h c => ⟨((h c).1).trans (by rw [(hargs c).1, (hargs c).2]; rfl), ((h c).2.1).trans (by rw [(hargs c).1, (hargs c).2]; rfl), (h c).2.2⟩) (Cert.Reference17Ideal.Value.run m' ρ')⟩

end Cert.Proof.DwSbOut

end
-- ==== Proof.Products.DySb.lean ====
/-
  The gradient of the input of `w_sb_out`.
-/
module

public import proofs.«01_k».proof.Defs
public import proofs.«01_k».proof.Proof.Gen.Kernel18Ideal.Value
public import proofs.«01_k».proof.Proof.Gen.Reference18Ideal.Run
public import Idealize.ShloMosaic.Lib.Pipeline.ValueKit

@[expose] public section

set_option maxRecDepth 16384
set_option maxHeartbeats 1000000

noncomputable section

namespace Cert.Proof.DySb

open Idealize.ShloMosaic Idealize.ShloMosaic.TcCoe Idealize.SL Idealize.SL.Sem
open Cert.Kernel18Ideal Cert.Kernel18Ideal.Gen

variable (m : (ℓ : Loc nD τ sig) → Buf (Elt Ideal) ℓ) (c : Dev nD)

theorem idx0 : ∀ t : Fin cfg0.N, win0_0.index t = ![0, 0] := (by decide +kernel : ∀ t : Fin grid0.N, win0_0.index t = ![0, 0])
theorem idx1 : ∀ t : Fin cfg0.N, win0_1.index t = ![t.val, 0] := (by decide +kernel : ∀ t : Fin grid0.N, win0_1.index t = ![t.val, 0])
theorem idx2 : ∀ t : Fin cfg0.N, win0_2.index t = ![0, t.val] := (by decide +kernel : ∀ t : Fin grid0.N, win0_2.index t = ![0, t.val])

/-- The reference's result: every entry is the sum of the products of a row of the first argument and a row of the second. -/
abbrev ref (X : FVec Ideal Cert.Reference18Ideal.S2048x2048 .f32) (Y : FVec Ideal Cert.Reference18Ideal.S1024x2048 .f32) : FVec Ideal Cert.Reference18Ideal.S2048x1024 .f32 :=
  Host.dotGeneral Cert.Reference18Ideal.dot_S2048x2048_S1024x2048_S2048x1024_1_1_0_0_n_n none X Y

/-- The result is the reference's. -/
theorem final2 : (dats m 0 c).arrAt 2 cfg0.N = truncf .bf16 (ref (m ((c : Thread nD τ).loc main_arg0)) (m ((c : Thread nD τ).loc main_arg1))) Cert.Reference18Ideal.Gen.bitsLt_bf16_f32 := by
  refine (dats m 0 c).arrAt_eq_of_covers 2 _ (by decide +kernel) fun t hf y => ?_
  blk_simp
  rw [after0_2]
  frame_out
  pointwise [k0_pay1, ref]
  refine Fin.sum_fin_congr fun k => ?_
  blk_point [iblk, V, idx0 t, idx1 t, idx2 t]

/-- The reference runs to the end, keeps its arguments and leaves every counter at zero. -/
theorem frame_reference : Cert.quiescent_Reference18Ideal := fun m ρ _ =>
  (θ_run Cert.Reference18Ideal.defs _ _).mono (fun r h => ⟨fun c => (h c).2, sem_eq_zero_of_no_sems (by decide) r.2⟩) (Cert.Reference18Ideal.Value.run m ρ)

/-- On the same arguments the kernel and the reference end with the same results. -/
theorem same : Cert.algebraic_Kernel18Ideal_Reference18Ideal (hKernel18Ideal := Cert.Kernel18Ideal.Gen.facts) (hReference18Ideal := Cert.Reference18Ideal.Gen.facts) :=
  fun m ρ m' ρ' _ hargs => ⟨fun c => truncf .bf16 (ref (m ((c : Thread nD τ).loc main_arg0)) (m ((c : Thread nD τ).loc main_arg1))) Cert.Reference18Ideal.Gen.bitsLt_bf16_f32,
    (θ_run Cert.Kernel18Ideal.defs _ _).mono (fun r h c => ⟨((h c).1).trans (final2 m c), (h c).2⟩) (Cert.Kernel18Ideal.Value.run_blocks m ρ),
    (θ_run Cert.Reference18Ideal.defs _ _).mono (fun r h c => ⟨((h c).1).trans (by rw [(hargs c).1, (hargs c).2]; rfl), (h c).2⟩) (Cert.Reference18Ideal.Value.run m' ρ')⟩

end Cert.Proof.DySb

end
-- ==== Proof.Products.SbOut.lean ====
/-
  The product with `w_sb_out`.
-/
module

public import proofs.«01_k».proof.Defs
public import proofs.«01_k».proof.Proof.Gen.Kernel19Ideal.Value
public import proofs.«01_k».proof.Proof.Gen.Reference19Ideal.Run
public import Idealize.ShloMosaic.Lib.Pipeline.ValueKit

@[expose] public section

set_option maxRecDepth 16384
set_option maxHeartbeats 1000000

noncomputable section

namespace Cert.Proof.SbOut

open Idealize.ShloMosaic Idealize.ShloMosaic.TcCoe Idealize.SL Idealize.SL.Sem
open Cert.Kernel19Ideal Cert.Kernel19Ideal.Gen

variable (m : (ℓ : Loc nD τ sig) → Buf (Elt Ideal) ℓ) (c : Dev nD)

theorem idx0 : ∀ t : Fin cfg0.N, win0_0.index t = ![0, 0] := (by decide +kernel : ∀ t : Fin grid0.N, win0_0.index t = ![0, 0])
theorem idx1 : ∀ t : Fin cfg0.N, win0_1.index t = ![0, t.val] := (by decide +kernel : ∀ t : Fin grid0.N, win0_1.index t = ![0, t.val])
theorem idx2 : ∀ t : Fin cfg0.N, win0_2.index t = ![0, t.val] := (by decide +kernel : ∀ t : Fin grid0.N, win0_2.index t = ![0, t.val])

/-- The reference's result: every entry is the sum of the products of a row of the first argument and a column of the second. -/
abbrev ref (X : FVec Ideal Cert.Reference19Ideal.S2048x1024 .f32) (Y : FVec Ideal Cert.Reference19Ideal.S1024x2048 .f32) : FVec Ideal Cert.Reference19Ideal.S2048x2048 .f32 :=
  Host.dotGeneral Cert.Reference19Ideal.dot_S2048x1024_S1024x2048_S2048x2048_1_0_0_1_n_n none X Y

/-- The result is the reference's. -/
theorem final2 : (dats m 0 c).arrAt 2 cfg0.N = truncf .bf16 (ref (m ((c : Thread nD τ).loc main_arg0)) (m ((c : Thread nD τ).loc main_arg1))) Cert.Reference19Ideal.Gen.bitsLt_bf16_f32 := by
  refine (dats m 0 c).arrAt_eq_of_covers 2 _ (by decide +kernel) fun t hf y => ?_
  blk_simp
  rw [after0_2]
  frame_out
  pointwise [k0_pay1, ref]
  refine Fin.sum_fin_congr fun k => ?_
  blk_point [iblk, V, idx0 t, idx1 t, idx2 t]

/-- The reference runs to the end, keeps its arguments and leaves every counter at zero. -/
theorem frame_reference : Cert.quiescent_Reference19Ideal := fun m ρ _ =>
  (θ_run Cert.Reference19Ideal.defs _ _).mono (fun r h => ⟨fun c => (h c).2, sem_eq_zero_of_no_sems (by decide) r.2⟩) (Cert.Reference19Ideal.Value.run m ρ)

/-- On the same arguments the kernel and the reference end with the same results. -/
theorem same : Cert.algebraic_Kernel19Ideal_Reference19Ideal (hKernel19Ideal := Cert.Kernel19Ideal.Gen.facts) (hReference19Ideal := Cert.Reference19Ideal.Gen.facts) :=
  fun m ρ m' ρ' _ hargs => ⟨fun c => truncf .bf16 (ref (m ((c : Thread nD τ).loc main_arg0)) (m ((c : Thread nD τ).loc main_arg1))) Cert.Reference19Ideal.Gen.bitsLt_bf16_f32,
    (θ_run Cert.Kernel19Ideal.defs _ _).mono (fun r h c => ⟨((h c).1).trans (final2 m c), (h c).2⟩) (Cert.Kernel19Ideal.Value.run_blocks m ρ),
    (θ_run Cert.Reference19Ideal.defs _ _).mono (fun r h c => ⟨((h c).1).trans (by rw [(hargs c).1, (hargs c).2]; rfl), (h c).2⟩) (Cert.Reference19Ideal.Value.run m' ρ')⟩

end Cert.Proof.SbOut

end
-- ==== Proof.Products.DwPleIn.lean ====
/-
  The gradient of `w_ple_in`.
-/
module

public import proofs.«01_k».proof.Defs
public import proofs.«01_k».proof.Proof.Gen.Kernel20Ideal.Value
public import proofs.«01_k».proof.Proof.Gen.Reference20Ideal.Run
public import Idealize.ShloMosaic.Lib.Pipeline.ValueKit

@[expose] public section

set_option maxRecDepth 16384
set_option maxHeartbeats 1000000

noncomputable section

namespace Cert.Proof.DwPleIn

open Idealize.ShloMosaic Idealize.ShloMosaic.TcCoe Idealize.SL Idealize.SL.Sem
open Cert.Kernel20Ideal Cert.Kernel20Ideal.Gen

variable (m : (ℓ : Loc nD τ sig) → Buf (Elt Ideal) ℓ) (c : Dev nD)

theorem idx0 : ∀ t : Fin cfg0.N, win0_0.index t = ![0, 0] := (by decide +kernel : ∀ t : Fin grid0.N, win0_0.index t = ![0, 0])
theorem idx1 : ∀ t : Fin cfg0.N, win0_1.index t = ![0, t.val] := (by decide +kernel : ∀ t : Fin grid0.N, win0_1.index t = ![0, t.val])
theorem idx2 : ∀ t : Fin cfg0.N, win0_2.index t = ![0, t.val] := (by decide +kernel : ∀ t : Fin grid0.N, win0_2.index t = ![0, t.val])
theorem idx3 : ∀ t : Fin cfg0.N, win0_3.index t = ![0, t.val] := (by decide +kernel : ∀ t : Fin grid0.N, win0_3.index t = ![0, t.val])

/-- The reference's result: every entry is the sum of the products of a column of the first argument and a column of the second. -/
abbrev ref (X : FVec Ideal Cert.Reference20Ideal.S2048x256 .f32) (Y : FVec Ideal Cert.Reference20Ideal.S2048x2048 .f32) : FVec Ideal Cert.Reference20Ideal.S256x2048 .f32 :=
  transpose Cert.Reference20Ideal.S256x2048 [1, 0] (Host.dotGeneral Cert.Reference20Ideal.dot_S2048x2048_S2048x256_S2048x256_0_0_1_1_n_n none Y X) Cert.Reference20Ideal.Gen.transposes_S2048x256_S256x2048_1_0

/-- The first result is the reference's. -/
theorem final2 : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, ref]
  refine Fin.sum_fin_congr fun k => (mul_comm (G := EReal) _ _).trans ?_
  blk_point [iblk, V, idx0 t, idx1 t, idx2 t]

/-- So is the second: the same entries in the other format. -/
theorem final3 : (dats m 0 c).arrAt 3 cfg0.N = truncf .bf16 (ref (m ((c : Thread nD τ).loc main_arg0)) (m ((c : Thread nD τ).loc main_arg1))) Cert.Reference20Ideal.Gen.bitsLt_bf16_f32 := by
  refine (dats m 0 c).arrAt_eq_of_covers 3 _ (by decide +kernel) fun t hf y => ?_
  blk_simp
  rw [after0_3]
  frame_out
  pointwise [k0_pay1, k0_pay2, ref]
  refine Fin.sum_fin_congr fun k => (mul_comm (G := EReal) _ _).trans ?_
  blk_point [iblk, V, idx0 t, idx1 t, idx3 t]

/-- The reference runs to the end, keeps its arguments and leaves every counter at zero. -/
theorem frame_reference : Cert.quiescent_Reference20Ideal := fun m ρ _ =>
  (θ_run Cert.Reference20Ideal.defs _ _).mono (fun r h => ⟨fun c => (h c).2.2, sem_eq_zero_of_no_sems (by decide) r.2⟩) (Cert.Reference20Ideal.Value.run m ρ)

/-- On the same arguments the kernel and the reference end with the same results. -/
theorem same : Cert.algebraic_Kernel20Ideal_Reference20Ideal (hKernel20Ideal := Cert.Kernel20Ideal.Gen.facts) (hReference20Ideal := Cert.Reference20Ideal.Gen.facts) :=
  fun m ρ m' ρ' _ hargs => ⟨fun c => ref (m ((c : Thread nD τ).loc main_arg0)) (m ((c : Thread nD τ).loc main_arg1)), fun c => truncf .bf16 (ref (m ((c : Thread nD τ).loc main_arg0)) (m ((c : Thread nD τ).loc main_arg1))) Cert.Reference20Ideal.Gen.bitsLt_bf16_f32,
    (θ_run Cert.Kernel20Ideal.defs _ _).mono (fun r h c => ⟨((h c).1).trans (final2 m c), ((h c).2.1).trans (final3 m c), (h c).2.2⟩) (Cert.Kernel20Ideal.Value.run_blocks m ρ),
    (θ_run Cert.Reference20Ideal.defs _ _).mono (fun r h c => ⟨((h c).1).trans (by rw [(hargs c).1, (hargs c).2]; rfl), ((h c).2.1).trans (by rw [(hargs c).1, (hargs c).2]; rfl), (h c).2.2⟩) (Cert.Reference20Ideal.Value.run m' ρ')⟩

end Cert.Proof.DwPleIn

end
-- ==== Proof.Products.PleIn.lean ====
/-
  The product with `w_ple_in`.
-/
module

public import proofs.«01_k».proof.Defs
public import proofs.«01_k».proof.Proof.Gen.Kernel21Ideal.Value
public import proofs.«01_k».proof.Proof.Gen.Reference21Ideal.Run
public import Idealize.ShloMosaic.Lib.Pipeline.ValueKit

@[expose] public section

set_option maxRecDepth 16384
set_option maxHeartbeats 1000000

noncomputable section

namespace Cert.Proof.PleIn

open Idealize.ShloMosaic Idealize.ShloMosaic.TcCoe Idealize.SL Idealize.SL.Sem
open Cert.Kernel21Ideal Cert.Kernel21Ideal.Gen

variable (m : (ℓ : Loc nD τ sig) → Buf (Elt Ideal) ℓ) (c : Dev nD)

theorem idx0 : ∀ t : Fin cfg0.N, win0_0.index t = ![0, 0] := (by decide +kernel : ∀ t : Fin grid0.N, win0_0.index t = ![0, 0])
theorem idx1 : ∀ t : Fin cfg0.N, win0_1.index t = ![0, t.val] := (by decide +kernel : ∀ t : Fin grid0.N, win0_1.index t = ![0, t.val])
theorem idx2 : ∀ t : Fin cfg0.N, win0_2.index t = ![0, t.val] := (by decide +kernel : ∀ t : Fin grid0.N, win0_2.index t = ![0, t.val])

/-- The reference's result: every entry is the sum of the products of a row of the first argument and a column of the second. -/
abbrev ref (X : FVec Ideal Cert.Reference21Ideal.S2048x256 .f32) (Y : FVec Ideal Cert.Reference21Ideal.S256x2048 .f32) : FVec Ideal Cert.Reference21Ideal.S2048x2048 .f32 :=
  Host.dotGeneral Cert.Reference21Ideal.dot_S2048x256_S256x2048_S2048x2048_1_0_0_1_n_n none X Y

/-- The result is the reference's. -/
theorem final2 : (dats m 0 c).arrAt 2 cfg0.N = truncf .bf16 (ref (m ((c : Thread nD τ).loc main_arg0)) (m ((c : Thread nD τ).loc main_arg1))) Cert.Reference21Ideal.Gen.bitsLt_bf16_f32 := by
  refine (dats m 0 c).arrAt_eq_of_covers 2 _ (by decide +kernel) fun t hf y => ?_
  blk_simp
  rw [after0_2]
  frame_out
  pointwise [k0_pay1, ref]
  refine Fin.sum_fin_congr fun k => ?_
  blk_point [iblk, V, idx0 t, idx1 t, idx2 t]

/-- The reference runs to the end, keeps its arguments and leaves every counter at zero. -/
theorem frame_reference : Cert.quiescent_Reference21Ideal := fun m ρ _ =>
  (θ_run Cert.Reference21Ideal.defs _ _).mono (fun r h => ⟨fun c => (h c).2, sem_eq_zero_of_no_sems (by decide) r.2⟩) (Cert.Reference21Ideal.Value.run m ρ)

/-- On the same arguments the kernel and the reference end with the same results. -/
theorem same : Cert.algebraic_Kernel21Ideal_Reference21Ideal (hKernel21Ideal := Cert.Kernel21Ideal.Gen.facts) (hReference21Ideal := Cert.Reference21Ideal.Gen.facts) :=
  fun m ρ m' ρ' _ hargs => ⟨fun c => truncf .bf16 (ref (m ((c : Thread nD τ).loc main_arg0)) (m ((c : Thread nD τ).loc main_arg1))) Cert.Reference21Ideal.Gen.bitsLt_bf16_f32,
    (θ_run Cert.Kernel21Ideal.defs _ _).mono (fun r h c => ⟨((h c).1).trans (final2 m c), (h c).2⟩) (Cert.Kernel21Ideal.Value.run_blocks m ρ),
    (θ_run Cert.Reference21Ideal.defs _ _).mono (fun r h c => ⟨((h c).1).trans (by rw [(hargs c).1, (hargs c).2]; rfl), (h c).2⟩) (Cert.Reference21Ideal.Value.run m' ρ')⟩

end Cert.Proof.PleIn

end
-- ==== Proof.Pointwise.GateMergeBwd.lean ====
/-
  The gradients of the gated sum of the two attention outputs.
-/
module

public import proofs.«01_k».proof.Defs
public import proofs.«01_k».proof.Proof.Gen.Kernel22Ideal.Value
public import proofs.«01_k».proof.Proof.Gen.Reference22Ideal.Run
public import Idealize.ShloMosaic.Lib.Pipeline.ValueKit

@[expose] public section

set_option maxRecDepth 16384
set_option maxHeartbeats 1000000

noncomputable section

namespace Cert.Proof.GateMergeBwd

open Idealize.ShloMosaic Idealize.ShloMosaic.TcCoe Idealize.SL Idealize.SL.Sem
open Cert.Kernel22Ideal Cert.Kernel22Ideal.Gen

variable (m : (ℓ : Loc nD τ sig) → Buf (Elt Ideal) ℓ) (c : Dev nD)

theorem idx0 : ∀ t : Fin cfg0.N, win0_0.index t = ![t.val / 2, t.val % 2] := (by decide +kernel : ∀ t : Fin grid0.N, win0_0.index t = ![t.val / 2, t.val % 2])
theorem idx1 : ∀ t : Fin cfg0.N, win0_1.index t = ![t.val / 2, t.val % 2] := (by decide +kernel : ∀ t : Fin grid0.N, win0_1.index t = ![t.val / 2, t.val % 2])
theorem idx2 : ∀ t : Fin cfg0.N, win0_2.index t = ![t.val / 2, t.val % 2 + 2] := (by decide +kernel : ∀ t : Fin grid0.N, win0_2.index t = ![t.val / 2, t.val % 2 + 2])
theorem idx3 : ∀ t : Fin cfg0.N, win0_3.index t = ![t.val / 2, t.val % 2] := (by decide +kernel : ∀ t : Fin grid0.N, win0_3.index t = ![t.val / 2, t.val % 2])
theorem idx4 : ∀ t : Fin cfg0.N, win0_4.index t = ![t.val / 2, t.val % 2] := (by decide +kernel : ∀ t : Fin grid0.N, win0_4.index t = ![t.val / 2, t.val % 2])
theorem idx5 : ∀ t : Fin cfg0.N, win0_5.index t = ![t.val / 2, t.val % 2] := (by decide +kernel : ∀ t : Fin grid0.N, win0_5.index t = ![t.val / 2, t.val % 2])
theorem idx6 : ∀ t : Fin cfg0.N, win0_6.index t = ![t.val / 2, t.val % 2] := (by decide +kernel : ∀ t : Fin grid0.N, win0_6.index t = ![t.val / 2, t.val % 2])
theorem idx7 : ∀ t : Fin cfg0.N, win0_7.index t = ![t.val / 2, t.val % 2] := (by decide +kernel : ∀ t : Fin grid0.N, win0_7.index t = ![t.val / 2, t.val % 2])
theorem idx8 : ∀ t : Fin cfg0.N, win0_8.index t = ![t.val / 2, t.val % 2] := (by decide +kernel : ∀ t : Fin grid0.N, win0_8.index t = ![t.val / 2, t.val % 2])

/-- One over one plus the exponential of minus the entry. -/
abbrev logistic (x : FVec Ideal Cert.Reference22Ideal.S2048x2048 .f32) : FVec Ideal Cert.Reference22Ideal.S2048x2048 .f32 :=
  Host.divf (broadcastInDim Cert.Reference22Ideal.S2048x2048 ![] Cert.Reference22Ideal.Gen.bcast_S_S2048x2048 (constant Cert.Reference22Ideal.S_ .f32 0x3F800000#32)) (addf (broadcastInDim Cert.Reference22Ideal.S2048x2048 ![] Cert.Reference22Ideal.Gen.bcast_S_S2048x2048 (constant Cert.Reference22Ideal.S_ .f32 0x3F800000#32)) (Host.exp (Host.negf x)))

/-- The left half of the gates. -/
abbrev left (g : FVec Ideal Cert.Reference22Ideal.S2048x4096 .bf16) : FVec Ideal Cert.Reference22Ideal.S2048x2048 .f32 :=
  extractStridedSlice Cert.Reference22Ideal.S2048x2048 ![0, 0] (extf .f32 g Cert.Reference22Ideal.Gen.bitsLt_bf16_f32) Cert.Reference22Ideal.Gen.slices_S2048x4096_S2048x2048_0_0

/-- The right half of the gates. -/
abbrev right (g : FVec Ideal Cert.Reference22Ideal.S2048x4096 .bf16) : FVec Ideal Cert.Reference22Ideal.S2048x2048 .f32 :=
  extractStridedSlice Cert.Reference22Ideal.S2048x2048 ![0, 2048] (extf .f32 g Cert.Reference22Ideal.Gen.bitsLt_bf16_f32) Cert.Reference22Ideal.Gen.slices_S2048x4096_S2048x2048_0_2048

/-- The gradient of a gate, from the gradient `d` of the merged output, the gate `x` and the output `o` it multiplies. -/
abbrev gate (x : FVec Ideal Cert.Reference22Ideal.S2048x2048 .f32) (d o : FVec Ideal Cert.Reference22Ideal.S2048x2048 .bf16) : FVec Ideal Cert.Reference22Ideal.S2048x2048 .bf16 :=
  truncf .bf16 (mulf (mulf (extf .f32 d Cert.Reference22Ideal.Gen.bitsLt_bf16_f32) (extf .f32 o Cert.Reference22Ideal.Gen.bitsLt_bf16_f32)) (mulf (logistic x) (subf (broadcastInDim Cert.Reference22Ideal.S2048x2048 ![] Cert.Reference22Ideal.Gen.bcast_S_S2048x2048 (constant Cert.Reference22Ideal.S_ .f32 0x3F800000#32)) (logistic x)))) Cert.Reference22Ideal.Gen.bitsLt_bf16_f32

/-- The gradient of the output a gate `x` multiplies. -/
abbrev out (x : FVec Ideal Cert.Reference22Ideal.S2048x2048 .f32) (d : FVec Ideal Cert.Reference22Ideal.S2048x2048 .bf16) : FVec Ideal Cert.Reference22Ideal.S2048x2048 .bf16 :=
  truncf .bf16 (mulf (logistic x) (extf .f32 d Cert.Reference22Ideal.Gen.bitsLt_bf16_f32)) Cert.Reference22Ideal.Gen.bitsLt_bf16_f32

/-- The reference's four results. -/
abbrev ref5 (d : FVec Ideal Cert.Reference22Ideal.S2048x2048 .bf16) (g : FVec Ideal Cert.Reference22Ideal.S2048x4096 .bf16) (o : FVec Ideal Cert.Reference22Ideal.S2048x2048 .bf16) := gate (left g) d o
abbrev ref6 (d : FVec Ideal Cert.Reference22Ideal.S2048x2048 .bf16) (g : FVec Ideal Cert.Reference22Ideal.S2048x4096 .bf16) (o : FVec Ideal Cert.Reference22Ideal.S2048x2048 .bf16) := gate (right g) d o
abbrev ref7 (d : FVec Ideal Cert.Reference22Ideal.S2048x2048 .bf16) (g : FVec Ideal Cert.Reference22Ideal.S2048x4096 .bf16) := out (left g) d
abbrev ref8 (d : FVec Ideal Cert.Reference22Ideal.S2048x2048 .bf16) (g : FVec Ideal Cert.Reference22Ideal.S2048x4096 .bf16) := out (right g) d

/-- Result 0 is the reference's. -/
theorem final5 : (dats m 0 c).arrAt 5 cfg0.N = ref5 (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  frame_out
  pointwise [k0_pay1, k0_pay2, k0_pay3, k0_pay4, k0_pay5, k0_pay6, k0_pay7, k0_pay8, ref5]
  refine (mul_assoc (G := EReal) _ _ _).trans ?_
  simp only [zero_sub]
  blk_point [iblk, V, idx0 t, idx1 t, idx2 t, idx3 t, idx4 t, idx5 t, idx6 t, idx7 t, idx8 t]

/-- Result 1 is the reference's. -/
theorem final6 : (dats m 0 c).arrAt 6 cfg0.N = ref6 (m ((c : Thread nD τ).loc main_arg0)) (m ((c : Thread nD τ).loc main_arg1)) (m ((c : Thread nD τ).loc main_arg3)) := by
  refine (dats m 0 c).arrAt_eq_of_covers 6 _ (by decide +kernel) fun t hf y => ?_
  blk_simp
  rw [after0_6]
  frame_out
  pointwise [k0_pay1, k0_pay2, k0_pay3, k0_pay4, k0_pay5, k0_pay6, k0_pay7, k0_pay8, ref6]
  refine (mul_assoc (G := EReal) _ _ _).trans ?_
  simp only [zero_sub]
  blk_point [iblk, V, idx0 t, idx1 t, idx2 t, idx3 t, idx4 t, idx5 t, idx6 t, idx7 t, idx8 t]

/-- Result 2 is the reference's. -/
theorem final7 : (dats m 0 c).arrAt 7 cfg0.N = ref7 (m ((c : Thread nD τ).loc main_arg0)) (m ((c : Thread nD τ).loc main_arg1)) := by
  refine (dats m 0 c).arrAt_eq_of_covers 7 _ (by decide +kernel) fun t hf y => ?_
  blk_simp
  rw [after0_7]
  frame_out
  pointwise [k0_pay1, k0_pay2, k0_pay3, k0_pay4, k0_pay5, k0_pay6, k0_pay7, k0_pay8, ref7]
  simp only [zero_sub]
  blk_point [iblk, V, idx0 t, idx1 t, idx2 t, idx3 t, idx4 t, idx5 t, idx6 t, idx7 t, idx8 t]

/-- Result 3 is the reference's. -/
theorem final8 : (dats m 0 c).arrAt 8 cfg0.N = ref8 (m ((c : Thread nD τ).loc main_arg0)) (m ((c : Thread nD τ).loc main_arg1)) := by
  refine (dats m 0 c).arrAt_eq_of_covers 8 _ (by decide +kernel) fun t hf y => ?_
  blk_simp
  rw [after0_8]
  frame_out
  pointwise [k0_pay1, k0_pay2, k0_pay3, k0_pay4, k0_pay5, k0_pay6, k0_pay7, k0_pay8, ref8]
  simp only [zero_sub]
  blk_point [iblk, V, idx0 t, idx1 t, idx2 t, idx3 t, idx4 t, idx5 t, idx6 t, idx7 t, idx8 t]

/-- The reference runs to the end, keeps its arguments and leaves every counter at zero. -/
theorem frame_reference : Cert.quiescent_Reference22Ideal := fun m ρ _ =>
  (θ_run Cert.Reference22Ideal.defs _ _).mono (fun r h => ⟨fun c => (h c).2.2.2.2, sem_eq_zero_of_no_sems (by decide) r.2⟩) (Cert.Reference22Ideal.Value.run m ρ)

/-- On the same arguments the kernel and the reference end with the same results. -/
theorem same : Cert.algebraic_Kernel22Ideal_Reference22Ideal (hKernel22Ideal := Cert.Kernel22Ideal.Gen.facts) (hReference22Ideal := Cert.Reference22Ideal.Gen.facts) :=
  fun m ρ m' ρ' _ hargs => ⟨fun c => ref5 (m ((c : Thread nD τ).loc main_arg0)) (m ((c : Thread nD τ).loc main_arg1)) (m ((c : Thread nD τ).loc main_arg2)),
    fun c => ref6 (m ((c : Thread nD τ).loc main_arg0)) (m ((c : Thread nD τ).loc main_arg1)) (m ((c : Thread nD τ).loc main_arg3)),
    fun c => ref7 (m ((c : Thread nD τ).loc main_arg0)) (m ((c : Thread nD τ).loc main_arg1)),
    fun c => ref8 (m ((c : Thread nD τ).loc main_arg0)) (m ((c : Thread nD τ).loc main_arg1)),
    (θ_run Cert.Kernel22Ideal.defs _ _).mono (fun r h c => ⟨((h c).1).trans (final5 m c), ((h c).2.1).trans (final6 m c), ((h c).2.2.1).trans (final7 m c), ((h c).2.2.2.1).trans (final8 m c), (h c).2.2.2.2⟩) (Cert.Kernel22Ideal.Value.run_blocks m ρ),
    (θ_run Cert.Reference22Ideal.defs _ _).mono (fun r h c => ⟨((h c).1).trans (by rw [(hargs c).1, (hargs c).2.1, (hargs c).2.2.1]), ((h c).2.1).trans (by rw [(hargs c).1, (hargs c).2.1, (hargs c).2.2.2]), ((h c).2.2.1).trans (by rw [(hargs c).1, (hargs c).2.1]), ((h c).2.2.2.1).trans (by rw [(hargs c).1, (hargs c).2.1]), (h c).2.2.2.2⟩) (Cert.Reference22Ideal.Value.run m' ρ')⟩

end Cert.Proof.GateMergeBwd

end
-- ==== Proof.Pointwise.SwiGluBwd.lean ====
/-
  The gradient of the gated unit of the feed-forward block.
-/
module

public import proofs.«01_k».proof.Defs
public import proofs.«01_k».proof.Proof.Gen.Kernel23Ideal.Value
public import proofs.«01_k».proof.Proof.Gen.Reference23Ideal.Run
public import Idealize.ShloMosaic.Lib.Pipeline.ValueKit
public import proofs.«01_k».proof.Pre_finite23
public import proofs.«01_k».proof.Proof.Finite

@[expose] public section

set_option maxRecDepth 16384
set_option maxHeartbeats 1000000

noncomputable section

namespace Cert.Proof.SwiGluBwd

open Idealize.ShloMosaic Idealize.ShloMosaic.TcCoe Idealize.SL Idealize.SL.Sem
open Cert.Kernel23Ideal Cert.Kernel23Ideal.Gen

variable (m : (ℓ : Loc nD τ sig) → Buf (Elt Ideal) ℓ) (c : Dev nD)

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])

/-- One over one plus the exponential of minus the entry. -/
abbrev logistic (x : FVec Ideal Cert.Reference23Ideal.S2048x5632 .f32) : FVec Ideal Cert.Reference23Ideal.S2048x5632 .f32 :=
  Host.divf (broadcastInDim Cert.Reference23Ideal.S2048x5632 ![] Cert.Reference23Ideal.Gen.bcast_S_S2048x5632 (constant Cert.Reference23Ideal.S_ .f32 0x3F800000#32)) (addf (broadcastInDim Cert.Reference23Ideal.S2048x5632 ![] Cert.Reference23Ideal.Gen.bcast_S_S2048x5632 (constant Cert.Reference23Ideal.S_ .f32 0x3F800000#32)) (Host.exp (Host.negf x)))

/-- The left half of the saved argument. -/
abbrev left (x : FVec Ideal Cert.Reference23Ideal.S2048x11264 .bf16) : FVec Ideal Cert.Reference23Ideal.S2048x5632 .f32 :=
  extractStridedSlice Cert.Reference23Ideal.S2048x5632 ![0, 0] (extf .f32 x Cert.Reference23Ideal.Gen.bitsLt_bf16_f32) Cert.Reference23Ideal.Gen.slices_S2048x11264_S2048x5632_0_0

/-- The right half of the saved argument. -/
abbrev right (x : FVec Ideal Cert.Reference23Ideal.S2048x11264 .bf16) : FVec Ideal Cert.Reference23Ideal.S2048x5632 .f32 :=
  extractStridedSlice Cert.Reference23Ideal.S2048x5632 ![0, 5632] (extf .f32 x Cert.Reference23Ideal.Gen.bitsLt_bf16_f32) Cert.Reference23Ideal.Gen.slices_S2048x11264_S2048x5632_0_5632

/-- The gradient of the left half, from the gradient `d` of the unit's output. -/
abbrev refl (d : FVec Ideal Cert.Reference23Ideal.S2048x5632 .bf16) (x : FVec Ideal Cert.Reference23Ideal.S2048x11264 .bf16) : FVec Ideal Cert.Reference23Ideal.S2048x5632 .f32 :=
  addf (mulf (mulf (extf .f32 d Cert.Reference23Ideal.Gen.bitsLt_bf16_f32) (right x)) (logistic (left x)))
    (mulf (mulf (left x) (mulf (extf .f32 d Cert.Reference23Ideal.Gen.bitsLt_bf16_f32) (right x))) (mulf (logistic (left x)) (subf (broadcastInDim Cert.Reference23Ideal.S2048x5632 ![] Cert.Reference23Ideal.Gen.bcast_S_S2048x5632 (constant Cert.Reference23Ideal.S_ .f32 0x3F800000#32)) (logistic (left x)))))

/-- The gradient of the right half. -/
abbrev refr (d : FVec Ideal Cert.Reference23Ideal.S2048x5632 .bf16) (x : FVec Ideal Cert.Reference23Ideal.S2048x11264 .bf16) : FVec Ideal Cert.Reference23Ideal.S2048x5632 .f32 :=
  mulf (mulf (left x) (logistic (left x))) (extf .f32 d Cert.Reference23Ideal.Gen.bitsLt_bf16_f32)

/-- The reference's result: the two gradients side by side. -/
abbrev ref (d : FVec Ideal Cert.Reference23Ideal.S2048x5632 .bf16) (x : FVec Ideal Cert.Reference23Ideal.S2048x11264 .bf16) : FVec Ideal Cert.Reference23Ideal.S2048x11264 .bf16 :=
  truncf .bf16 (concatenate Cert.Reference23Ideal.S2048x11264 1 [⟨Cert.Reference23Ideal.S2048x5632, refl d x⟩, ⟨Cert.Reference23Ideal.S2048x5632, refr d x⟩] Cert.Reference23Ideal.Gen.concatenates_S2048x5632_S2048x5632_S2048x11264_d1) Cert.Reference23Ideal.Gen.bitsLt_bf16_f32

/-- What the body makes of an entry `d` of the gradient and the entries `g` and `u` of the two halves, on the left side. -/
abbrev lcell (d g u : EReal) : EReal := d * u * Ideal.div 1 (1 + Ideal.exp (0 - g)) * (1 + g * (1 - Ideal.div 1 (1 + Ideal.exp (0 - g))))

/-- The same on the right side. -/
abbrev rcell (d g : EReal) : EReal := d * g * Ideal.div 1 (1 + Ideal.exp (0 - g))

/-- What the body leaves of a block. -/
theorem block (x : Vec Ideal S128x5632 .bf16) (x' : Vec Ideal S128x11264 .bf16) (y : S128x11264.Idx) (k : S128x5632.Idx) (i j : S128x11264.Idx)
    (hk0 : (k 0 : ℕ) = y 0) (hk1 : (k 1 : ℕ) = (y 1 : ℕ) % 5632) (hi0 : (i 0 : ℕ) = y 0) (hi1 : (i 1 : ℕ) = (y 1 : ℕ) % 5632) (hj0 : (j 0 : ℕ) = y 0) (hj1 : (j 1 : ℕ) = 5632 + (y 1 : ℕ) % 5632) :
    out0_2 (F := Ideal) x x' y = if (y 1 : ℕ) < 5632 then lcell (x k) (x' i) (x' j) else rcell (x k) (x' i) := by
  canon_tiles z h
  all_goals first
    | rw [if_pos (by omega)]; open_payloads; pointwise; simp only [lcell]; blk_point [hi0, hi1, hj0, hj1, hk0, hk1]
    | rw [if_neg (by omega)]; open_payloads; pointwise; simp only [rcell]; blk_point [hi0, hi1, hj0, hj1, hk0, hk1]

theorem logistic_coe (g : ℝ) : Ideal.div 1 (1 + Ideal.exp (-(g : EReal))) = ((1 / (1 + Real.exp (-g)) : ℝ) : EReal) := by
  have h : (1 : EReal) + Ideal.exp (-(g : EReal)) = ((1 + Real.exp (-g) : ℝ) : EReal) := by push_cast; rfl
  rw [h]
  have h0 : 1 + Real.exp (-g) ≠ 0 := by positivity
  rw [Ideal.div_coe h0, one_mul]

/-- For real entries the body's left value is the sum of the reference's two terms. -/
theorem lcell_eq (d g u : EReal) (hd : d ≠ ⊤ ∧ d ≠ ⊥) (hg : g ≠ ⊤ ∧ g ≠ ⊥) (hu : u ≠ ⊤ ∧ u ≠ ⊥) :
    lcell d g u = d * u * Ideal.div 1 (1 + Ideal.exp (-g)) + g * (d * u) * (Ideal.div 1 (1 + Ideal.exp (-g)) * (1 - Ideal.div 1 (1 + Ideal.exp (-g)))) := by
  lift d to ℝ using hd
  lift g to ℝ using hg
  lift u to ℝ using hu
  simp only [lcell, zero_sub, logistic_coe]
  norm_cast
  ring

/-- The result is the reference's, where both arguments are finite. -/
theorem final2 (h0 : ∀ i, (m ((c : Thread nD τ).loc main_arg0)) i ≠ (⊤ : EReal) ∧ (m ((c : Thread nD τ).loc main_arg0)) i ≠ (⊥ : EReal)) (h1 : ∀ i, (m ((c : Thread nD τ).loc main_arg1)) i ≠ (⊤ : EReal) ∧ (m ((c : Thread nD τ).loc main_arg1)) i ≠ (⊥ : EReal)) :
    (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2]
  obtain_idx k : S128x5632 := [(y 0 : ℕ), (y 1 : ℕ) % 5632] with hk
  obtain_idx i : S128x11264 := [(y 0 : ℕ), (y 1 : ℕ) % 5632] with hi
  obtain_idx j : S128x11264 := [(y 0 : ℕ), 5632 + (y 1 : ℕ) % 5632] with hj
  refine (block _ _ y k i j hk0 hk1 hi0 hi1 hj0 hj1).trans ?_
  have he : ((((cfg0.win 2).blk t).view.emb y 1 : Fin _) : ℕ) = (y 1 : ℕ) := by blk_simp [idx2 t]
  have f0 : ∀ x, iblk m c 0 t x ≠ (⊤ : EReal) ∧ iblk m c 0 t x ≠ (⊥ : EReal) := fun x => h0 _
  have f1 : ∀ x, iblk m c 1 t x ≠ (⊤ : EReal) ∧ iblk m c 1 t x ≠ (⊥ : EReal) := fun x => h1 _
  by_cases hy : (y 1 : ℕ) < 5632
  · rw [if_pos hy]
    refine (lcell_eq _ _ _ (f0 _) (f1 _) (f1 _)).trans ?_
    pointwise [ref]
    rw [dif_pos (by exact he.trans_lt hy)]
    blk_point [iblk, V, idx0 t, idx1 t, idx2 t, hi0, hi1, hj0, hj1, hk0, hk1]
  · rw [if_neg hy]
    refine ((mul_assoc (G := EReal) _ _ _).trans (mul_comm (G := EReal) _ _)).trans ?_
    pointwise [ref]
    rw [dif_neg (by exact fun h => hy (he.symm.trans_lt h))]
    simp only [zero_sub]
    blk_point [iblk, V, idx0 t, idx1 t, idx2 t, hi0, hi1, hj0, hj1, hk0, hk1]

/-- The side conditions the precondition's operations take. -/
theorem pre_facts : Cert.Pre_finite23.Facts where
  bitsLt_bf16_f32 := by decide
  bcast_S_S2048x5632 := by decide
  reducesTo_S2048x5632_S_d0_1 := by decide
  h_S_ := by decide
  bcast_S_S2048x11264 := by decide
  reducesTo_S2048x11264_S_d0_1 := by decide

/-- Under the precondition no element of an argument is infinite. -/
theorem finite_of_pre [Cert.Pre_finite23.Facts] (x0 : FVec Ideal Cert.Pre_finite23.S2048x5632 .bf16) (x1 : FVec Ideal Cert.Pre_finite23.S2048x11264 .bf16)
    (h : Cert.Pre_finite23.fn (F := Ideal) x0 x1 = fun _ => 1#1) :
    (∀ i, x0 i ≠ (⊤ : EReal) ∧ x0 i ≠ (⊥ : EReal)) ∧ (∀ i, x1 i ≠ (⊤ : EReal) ∧ x1 i ≠ (⊥ : EReal)) := by
  have : Subsingleton Cert.Pre_finite23.S_.Idx := ⟨fun i j => funext fun a => a.elim0⟩
  have h1 := congrFun h (fun a => a.elim0)
  obtain ⟨h0, r1⟩ := IntOp.andi_eq_one.1 h1
  exact ⟨fun i => SB.finite_of_lt (x0 i) _ SB.ofBits_inf (Host.reduce_andi_all _ _ _ _ _ h0 i),
    fun i => SB.finite_of_lt (x1 i) _ SB.ofBits_inf (Host.reduce_andi_all _ _ _ _ _ r1 i)⟩

/-- The reference runs to the end, keeps its arguments and leaves every counter at zero. -/
theorem frame_reference : Cert.quiescent_Reference23Ideal := fun m ρ _ =>
  (θ_run Cert.Reference23Ideal.defs _ _).mono (fun r h => ⟨fun c => (h c).2, sem_eq_zero_of_no_sems (by decide) r.2⟩) (Cert.Reference23Ideal.Value.run m ρ)

/-- On the same finite arguments the kernel and the reference end with the same results. -/
theorem same : Cert.algebraic_Kernel23Ideal_Reference23Ideal_pre_finite23 (hKernel23Ideal := Cert.Kernel23Ideal.Gen.facts) (hReference23Ideal := Cert.Reference23Ideal.Gen.facts) (hPre_finite23 := pre_facts) := by
  intro m ρ m' ρ' hpre hargs
  have := pre_facts
  have fin := fun c => finite_of_pre _ _ (hpre c)
  exact ⟨fun c => ref (m ((c : Thread nD τ).loc main_arg0)) (m ((c : Thread nD τ).loc main_arg1)),
    (θ_run Cert.Kernel23Ideal.defs _ _).mono (fun r h c => ⟨((h c).1).trans (final2 m c (fin c).1 (fin c).2), (h c).2⟩) (Cert.Kernel23Ideal.Value.run_blocks m ρ),
    (θ_run Cert.Reference23Ideal.defs _ _).mono (fun r h c => ⟨((h c).1).trans (by rw [(hargs c).1, (hargs c).2]), (h c).2⟩) (Cert.Reference23Ideal.Value.run m' ρ')⟩

end Cert.Proof.SwiGluBwd

end
-- ==== Proof.Pointwise.NormReal.lean ====
/-
  The arithmetic of a norm's row on real numbers: the reciprocal of the root of the mean square, and the two ways of writing
  the gradient.
-/
module

public import proofs.«01_k».proof.Proof.Reals

@[expose] public section

noncomputable section

namespace Cert.Proof.NormReal

open Idealize.ShloMosaic

/-- 2048, as both programs write it. -/
theorem ofBits_width : (Ideal.ofBits FTy.f32 1157627904#32 : EReal) = ((2048 : ℝ) : EReal) := by
  simp [Ideal.ofBits, Ideal.ieee, -EReal.coe_mul]; norm_num

/-- Minus a half. -/
theorem ofBits_neg_half : (Ideal.ofBits FTy.f32 3204448256#32 : EReal) = ((-1 / 2 : ℝ) : EReal) := by
  simp [Ideal.ofBits, Ideal.ieee, -EReal.coe_mul, -EReal.coe_neg]; norm_num

/-- The small constant is a positive real number. -/
theorem ofBits_small : ∃ e : ℝ, 0 < e ∧ (Ideal.ofBits FTy.f32 897988541#32 : EReal) = (e : EReal) := by
  refine ⟨8796093 * (2 : ℝ) ^ (-43 : ℤ), by positivity, ?_⟩
  simp [Ideal.ofBits, Ideal.ieee, -EReal.coe_mul]

/-- Division by the width. -/
theorem div_width (x : ℝ) : Ideal.div (x : EReal) (Ideal.ofBits FTy.f32 1157627904#32) = ((x / 2048 : ℝ) : EReal) := by
  rw [ofBits_width, Ideal.div_coe (by norm_num : (2048 : ℝ) ≠ 0), ← EReal.coe_mul]
  congr 1; ring

/-- A quotient of real numbers. -/
theorem div_real (x : ℝ) {y : ℝ} (h : y ≠ 0) : Ideal.div (x : EReal) (y : EReal) = ((x / y : ℝ) : EReal) := by
  rw [Ideal.div_coe h, ← EReal.coe_mul]
  congr 1; ring

/-- The mean square of a row plus the small constant. -/
abbrev meanSq (x : Fin 2048 → EReal) : EReal :=
  Ideal.div (∑ k, x k * x k) (Ideal.ofBits FTy.f32 1157627904#32) + Ideal.ofBits FTy.f32 897988541#32

/-- A row of real numbers has a positive mean square plus constant `v`, and one over its root is the real `r` with
    `r * r * v = 1`. -/
theorem real_scale (x : Fin 2048 → ℝ) : ∃ v r : ℝ, 0 < v ∧ r * r * v = 1 ∧
    meanSq (fun k => (x k : EReal)) = (v : EReal) ∧ Ideal.rsqrt (v : EReal) = (r : EReal) := by
  obtain ⟨e, he, hb⟩ := ofBits_small
  have hs : 0 ≤ ∑ k, x k * x k := Finset.sum_nonneg fun k _ => mul_self_nonneg _
  have hv : 0 < (∑ k, x k * x k) / 2048 + e := by positivity
  refine ⟨(∑ k, x k * x k) / 2048 + e, (Real.sqrt ((∑ k, x k * x k) / 2048 + e))⁻¹, hv, ?_, ?_, ?_⟩
  · rw [← mul_inv, Real.mul_self_sqrt hv.le, inv_mul_cancel₀ hv.ne']
  · simp only [meanSq, ← EReal.coe_mul, SB.coe_sum, div_width, hb, ← EReal.coe_add]
  · refine (if_neg hv.not_gt).trans (if_neg hv.ne')

/-- An array without infinite entries is one of real numbers. -/
theorem exists_real {ι : Type} (x : ι → EReal) (h : ∀ i, x i ≠ ⊤ ∧ x i ≠ ⊥) : ∃ f : ι → ℝ, x = fun i => (f i : EReal) :=
  ⟨fun i => (x i).toReal, funext fun i => (EReal.coe_toReal (h i).1 (h i).2).symm⟩

/-- The gradient at an entry, as the kernel writes it: the normalised row takes its part out before the scaling. -/
abbrev factored (x d g : Fin 2048 → EReal) (s xj dj gj : EReal) : EReal :=
  s + Ideal.rsqrt (meanSq x) * (dj * gj - xj * Ideal.rsqrt (meanSq x) *
    Ideal.div (∑ k, d k * g k * (x k * Ideal.rsqrt (meanSq x))) (Ideal.ofBits FTy.f32 1157627904#32))

/-- What reaches an entry through the mean square, over the entry itself. -/
abbrev through (x d g : Fin 2048 → EReal) : EReal :=
  ∑ _k : Fin 1, Ideal.div ((∑ k, x k * (d k * g k)) * (Ideal.ofBits FTy.f32 3204448256#32 * Ideal.div (Ideal.rsqrt (meanSq x)) (meanSq x)))
    (Ideal.ofBits FTy.f32 1157627904#32)

/-- The gradient at an entry, as the rules of differentiation give it: each use of the argument adds its part. -/
abbrev expanded (x d g : Fin 2048 → EReal) (s xj dj gj : EReal) : EReal :=
  s + dj * gj * Ideal.rsqrt (meanSq x) + xj * through x d g + through x d g * xj

/-- On real numbers the two agree. -/
theorem factored_eq (x d g : Fin 2048 → EReal) (s xj dj gj : EReal) (hx : ∀ k, x k ≠ ⊤ ∧ x k ≠ ⊥) (hd : ∀ k, d k ≠ ⊤ ∧ d k ≠ ⊥)
    (hg : ∀ k, g k ≠ ⊤ ∧ g k ≠ ⊥) (hs : s ≠ ⊤ ∧ s ≠ ⊥) (hxj : xj ≠ ⊤ ∧ xj ≠ ⊥) (hdj : dj ≠ ⊤ ∧ dj ≠ ⊥) (hgj : gj ≠ ⊤ ∧ gj ≠ ⊥) :
    factored x d g s xj dj gj = expanded x d g s xj dj gj := by
  obtain ⟨x, rfl⟩ := exists_real x hx
  obtain ⟨d, rfl⟩ := exists_real d hd
  obtain ⟨g, rfl⟩ := exists_real g hg
  lift s to ℝ using hs
  lift xj to ℝ using hxj
  lift dj to ℝ using hdj
  lift gj to ℝ using hgj
  obtain ⟨v, r, hv, hr, h1, h2⟩ := real_scale x
  simp only [factored, expanded, through, h1, h2, Fin.sum_univ_one, ofBits_neg_half, div_real _ hv.ne', ← EReal.coe_mul, SB.coe_sum, div_width,
    ← EReal.coe_add, ← EReal.coe_sub, EReal.coe_eq_coe_iff]
  have hq : r / v = r * r * r := by rw [div_eq_iff hv.ne']; linear_combination (-r) * hr
  have hsum : ∑ k, d k * g k * (x k * r) = r * ∑ k, x k * (d k * g k) := by
    rw [Finset.mul_sum]; exact Finset.sum_congr rfl fun k _ => by ring
  rw [hq, hsum]
  ring

end Cert.Proof.NormReal

end
-- ==== Proof.Pointwise.RmsBwd.lean ====
/-
  The gradient of the norm.
-/
module

public import proofs.«01_k».proof.Defs
public import proofs.«01_k».proof.Proof.Gen.Kernel24Ideal.Value
public import proofs.«01_k».proof.Proof.Gen.Reference24Ideal.Run
public import Idealize.ShloMosaic.Lib.Pipeline.ValueKit
public import proofs.«01_k».proof.Pre_finite24
public import proofs.«01_k».proof.Proof.Finite
public import proofs.«01_k».proof.Proof.Pointwise.NormReal

@[expose] public section

set_option maxRecDepth 16384
set_option maxHeartbeats 1000000

noncomputable section

namespace Cert.Proof.RmsBwd

open Idealize.ShloMosaic Idealize.ShloMosaic.TcCoe Idealize.SL Idealize.SL.Sem
open Cert.Kernel24Ideal Cert.Kernel24Ideal.Gen

variable (m : (ℓ : Loc nD τ sig) → Buf (Elt Ideal) ℓ) (c : Dev nD)

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])

/-- A row's mean square plus the small constant. -/
abbrev meanSq (x : FVec Ideal Cert.Reference24Ideal.S2048x2048 .f32) : FVec Ideal Cert.Reference24Ideal.S2048x1 .f32 :=
  addf (Host.divf (broadcastInDim Cert.Reference24Ideal.S2048x1 ![0] Cert.Reference24Ideal.Gen.bcast_S2048_S2048x1_0 (Host.reduceAdd (mulf x x) (constant Cert.Reference24Ideal.S_ .f32 0x00000000#32) Cert.Reference24Ideal.Gen.reducesTo_S2048x2048_S2048_d1 Cert.Reference24Ideal.Gen.h_S_)) (broadcastInDim Cert.Reference24Ideal.S2048x1 ![] Cert.Reference24Ideal.Gen.bcast_S_S2048x1 (constant Cert.Reference24Ideal.S_ .f32 0x45000000#32))) (broadcastInDim Cert.Reference24Ideal.S2048x1 ![] Cert.Reference24Ideal.Gen.bcast_S_S2048x1 (constant Cert.Reference24Ideal.S_ .f32 0x358637BD#32))

/-- One over its root. -/
abbrev scale (x : FVec Ideal Cert.Reference24Ideal.S2048x2048 .f32) : FVec Ideal Cert.Reference24Ideal.S2048x1 .f32 := Host.rsqrt (meanSq x)

/-- The gradient at the normalised row: the incoming one times the gains. -/
abbrev up (g : FVec Ideal Cert.Reference24Ideal.S1x2048 .f32) (dh : FVec Ideal Cert.Reference24Ideal.S2048x2048 .f32) : FVec Ideal Cert.Reference24Ideal.S2048x2048 .f32 := mulf dh (broadcastInDim Cert.Reference24Ideal.S2048x2048 ![0, 1] Cert.Reference24Ideal.Gen.bcast_S1x2048_S2048x2048_0_1 g)

/-- What reaches a row through its mean square, before the factor of the row itself. -/
abbrev through (x : FVec Ideal Cert.Reference24Ideal.S2048x2048 .f32) (g : FVec Ideal Cert.Reference24Ideal.S1x2048 .f32) (dh : FVec Ideal Cert.Reference24Ideal.S2048x2048 .f32) : FVec Ideal Cert.Reference24Ideal.S2048x2048 .f32 :=
  broadcastInDim Cert.Reference24Ideal.S2048x2048 ![0] Cert.Reference24Ideal.Gen.bcast_S2048_S2048x2048_0 (Host.reduceAdd (Host.divf (mulf (shapeCast Cert.Reference24Ideal.S2048x1 (Host.reduceAdd (mulf x (up g dh)) (constant Cert.Reference24Ideal.S_ .f32 0x00000000#32) Cert.Reference24Ideal.Gen.reducesTo_S2048x2048_S2048_d1 Cert.Reference24Ideal.Gen.h_S_) Cert.Reference24Ideal.Gen.shapeCasts_S2048_S2048x1) (mulf (broadcastInDim Cert.Reference24Ideal.S2048x1 ![] Cert.Reference24Ideal.Gen.bcast_S_S2048x1 (constant Cert.Reference24Ideal.S_ .f32 0xBF000000#32)) (Host.divf (scale x) (meanSq x)))) (broadcastInDim Cert.Reference24Ideal.S2048x1 ![] Cert.Reference24Ideal.Gen.bcast_S_S2048x1 (constant Cert.Reference24Ideal.S_ .f32 0x45000000#32))) (constant Cert.Reference24Ideal.S_ .f32 0x00000000#32) Cert.Reference24Ideal.Gen.reducesTo_S2048x1_S2048_d1 Cert.Reference24Ideal.Gen.h_S_)

/-- The gradient in the argument. -/
abbrev refX (x : FVec Ideal Cert.Reference24Ideal.S2048x2048 .f32) (g : FVec Ideal Cert.Reference24Ideal.S1x2048 .f32) (dh dres : FVec Ideal Cert.Reference24Ideal.S2048x2048 .f32) : FVec Ideal Cert.Reference24Ideal.S2048x2048 .f32 :=
  addf (addf (addf dres (mulf (up g dh) (broadcastInDim Cert.Reference24Ideal.S2048x2048 ![0, 1] Cert.Reference24Ideal.Gen.bcast_S2048x1_S2048x2048_0_1 (scale x)))) (mulf x (through x g dh))) (mulf (through x g dh) x)

/-- The same in the short format. -/
abbrev refX16 (x : FVec Ideal Cert.Reference24Ideal.S2048x2048 .f32) (g : FVec Ideal Cert.Reference24Ideal.S1x2048 .f32) (dh dres : FVec Ideal Cert.Reference24Ideal.S2048x2048 .f32) : FVec Ideal Cert.Reference24Ideal.S2048x2048 .bf16 :=
  truncf .bf16 (refX x g dh dres) Cert.Reference24Ideal.Gen.bitsLt_bf16_f32

/-- The gradient in the gains. -/
abbrev refG (x : FVec Ideal Cert.Reference24Ideal.S2048x2048 .f32) (dh : FVec Ideal Cert.Reference24Ideal.S2048x2048 .f32) : FVec Ideal Cert.Reference24Ideal.S1x2048 .f32 :=
  shapeCast Cert.Reference24Ideal.S1x2048 (Host.reduceAdd (mulf (mulf x (broadcastInDim Cert.Reference24Ideal.S2048x2048 ![0, 1] Cert.Reference24Ideal.Gen.bcast_S2048x1_S2048x2048_0_1 (scale x))) dh) (constant Cert.Reference24Ideal.S_ .f32 0x00000000#32) Cert.Reference24Ideal.Gen.reducesTo_S2048x2048_S2048_d0 Cert.Reference24Ideal.Gen.h_S_) Cert.Reference24Ideal.Gen.shapeCasts_S2048_S1x2048

/-- Result 4 is the reference's. -/
theorem final4 (h0' : ∀ i, (m ((c : Thread nD τ).loc main_arg0)) i ≠ (⊤ : EReal) ∧ (m ((c : Thread nD τ).loc main_arg0)) i ≠ (⊥ : EReal)) (h1' : ∀ i, (m ((c : Thread nD τ).loc main_arg1)) i ≠ (⊤ : EReal) ∧ (m ((c : Thread nD τ).loc main_arg1)) i ≠ (⊥ : EReal))
    (h2' : ∀ i, (m ((c : Thread nD τ).loc main_arg2)) i ≠ (⊤ : EReal) ∧ (m ((c : Thread nD τ).loc main_arg2)) i ≠ (⊥ : EReal)) (h3' : ∀ i, (m ((c : Thread nD τ).loc main_arg3)) i ≠ (⊤ : EReal) ∧ (m ((c : Thread nD τ).loc main_arg3)) i ≠ (⊥ : EReal)) :
    (dats m 0 c).arrAt 4 cfg0.N = refX (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  by_cases h0 : t.val % 8 = 0
  · rw [outsAt0_A m c t h0]
    frame_out
    pointwise [k0_pay4, k0_pay3, k0_pay2, refX]
    refine (NormReal.factored_eq (fun k => iblk m c 0 t (ix2 (y 0) k)) (fun k => iblk m c 2 t (ix2 (y 0) k)) (fun k => iblk m c 1 t (ix2 0 k))
      (iblk m c 3 t y) (iblk m c 0 t y) (iblk m c 2 t y) (iblk m c 1 t (ix2 0 (y 1)))
      (fun _ => h0' _) (fun _ => h2' _) (fun _ => h1' _) (h3' _) (h0' _) (h2' _) (h1' _)).trans ?_
    simp only [NormReal.expanded, NormReal.through, NormReal.meanSq]
    blk_point [iblk, V, idx0 t, idx1 t, idx2 t, idx3 t, idx4 t, idx5 t]
  · rw [outsAt0_B m c t h0]
    frame_out
    pointwise [k0_pay4, k0_pay3, k0_pay2, refX]
    refine (NormReal.factored_eq (fun k => iblk m c 0 t (ix2 (y 0) k)) (fun k => iblk m c 2 t (ix2 (y 0) k)) (fun k => iblk m c 1 t (ix2 0 k))
      (iblk m c 3 t y) (iblk m c 0 t y) (iblk m c 2 t y) (iblk m c 1 t (ix2 0 (y 1)))
      (fun _ => h0' _) (fun _ => h2' _) (fun _ => h1' _) (h3' _) (h0' _) (h2' _) (h1' _)).trans ?_
    simp only [NormReal.expanded, NormReal.through, NormReal.meanSq]
    blk_point [iblk, V, idx0 t, idx1 t, idx2 t, idx3 t, idx4 t, idx5 t]

/-- Result 5 is the reference's. -/
theorem final5 (h0' : ∀ i, (m ((c : Thread nD τ).loc main_arg0)) i ≠ (⊤ : EReal) ∧ (m ((c : Thread nD τ).loc main_arg0)) i ≠ (⊥ : EReal)) (h1' : ∀ i, (m ((c : Thread nD τ).loc main_arg1)) i ≠ (⊤ : EReal) ∧ (m ((c : Thread nD τ).loc main_arg1)) i ≠ (⊥ : EReal))
    (h2' : ∀ i, (m ((c : Thread nD τ).loc main_arg2)) i ≠ (⊤ : EReal) ∧ (m ((c : Thread nD τ).loc main_arg2)) i ≠ (⊥ : EReal)) (h3' : ∀ i, (m ((c : Thread nD τ).loc main_arg3)) i ≠ (⊤ : EReal) ∧ (m ((c : Thread nD τ).loc main_arg3)) i ≠ (⊥ : EReal)) :
    (dats m 0 c).arrAt 5 cfg0.N = refX16 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  by_cases h0 : t.val % 8 = 0
  · rw [outsAt0_A m c t h0]
    frame_out
    pointwise [k0_pay5, k0_pay4, k0_pay3, k0_pay2, refX16, refX]
    refine (NormReal.factored_eq (fun k => iblk m c 0 t (ix2 (y 0) k)) (fun k => iblk m c 2 t (ix2 (y 0) k)) (fun k => iblk m c 1 t (ix2 0 k))
      (iblk m c 3 t y) (iblk m c 0 t y) (iblk m c 2 t y) (iblk m c 1 t (ix2 0 (y 1)))
      (fun _ => h0' _) (fun _ => h2' _) (fun _ => h1' _) (h3' _) (h0' _) (h2' _) (h1' _)).trans ?_
    simp only [NormReal.expanded, NormReal.through, NormReal.meanSq]
    blk_point [iblk, V, idx0 t, idx1 t, idx2 t, idx3 t, idx4 t, idx5 t]
  · rw [outsAt0_B m c t h0]
    frame_out
    pointwise [k0_pay5, k0_pay4, k0_pay3, k0_pay2, refX16, refX]
    refine (NormReal.factored_eq (fun k => iblk m c 0 t (ix2 (y 0) k)) (fun k => iblk m c 2 t (ix2 (y 0) k)) (fun k => iblk m c 1 t (ix2 0 k))
      (iblk m c 3 t y) (iblk m c 0 t y) (iblk m c 2 t y) (iblk m c 1 t (ix2 0 (y 1)))
      (fun _ => h0' _) (fun _ => h2' _) (fun _ => h1' _) (h3' _) (h0' _) (h2' _) (h1' _)).trans ?_
    simp only [NormReal.expanded, NormReal.through, NormReal.meanSq]
    blk_point [iblk, V, idx0 t, idx1 t, idx2 t, idx3 t, idx4 t, idx5 t]

/-- The gains' gradient is the reference's: the kernel adds it up over eight blocks of rows. -/
theorem final6 (_ : ∀ i, (m ((c : Thread nD τ).loc main_arg0)) i ≠ (⊤ : EReal) ∧ (m ((c : Thread nD τ).loc main_arg0)) i ≠ (⊥ : EReal)) (_ : ∀ i, (m ((c : Thread nD τ).loc main_arg1)) i ≠ (⊤ : EReal) ∧ (m ((c : Thread nD τ).loc main_arg1)) i ≠ (⊥ : EReal)) (_ : ∀ i, (m ((c : Thread nD τ).loc main_arg2)) i ≠ (⊤ : EReal) ∧ (m ((c : Thread nD τ).loc main_arg2)) i ≠ (⊥ : EReal)) (_ : ∀ i, (m ((c : Thread nD τ).loc main_arg3)) i ≠ (⊤ : EReal) ∧ (m ((c : Thread nD τ).loc main_arg3)) i ≠ (⊥ : EReal)) : (dats m 0 c).arrAt 6 cfg0.N = refG (m ((c : Thread nD τ).loc main_arg0)) (m ((c : Thread nD τ).loc main_arg2)) := by
  have hz : ∀ j, k0_pay6 (F := Ideal) j = 0 := fun j => by pointwise [k0_pay6]
  have hpay : ∀ (x d : Vec Ideal S256x2048 .f32) (a : Vec Ideal S1x2048 .f32) (j), k0_pay1 (F := Ideal) (k0_pay3 x) d (k0_pay7 a) j = a j + (∑ r, d (ix2 r (j 1)) * (x (ix2 r (j 1)) * Ideal.rsqrt (NormReal.meanSq fun k => x (ix2 r k)))) := fun x d a j => by
    pointwise [k0_pay1, k0_pay3, k0_pay2, k0_pay7]
  have href : ∀ (x d : FVec Ideal Cert.Reference24Ideal.S2048x2048 .f32) (j), refG x d j = ∑ r, x (ix2 r (j 1)) * Ideal.rsqrt (NormReal.meanSq fun k => x (ix2 r k)) * d (ix2 r (j 1)) := fun x d j => by
    pointwise [refG]
  refine (dats m 0 c).arrAt_eq_of_after_last 6 t0_7 (by decide +kernel) _ fun j => ?_
  blk_simp
  rw [after0_6, Pipeline.eq_sum_fin_of_reset_step_apply_last (fun n h => (outsAt0 m c n h).2.2) 8 (fun _ => 0) _ (fun t h j => by rw [outsAt0_A m c t h]; frame_out; rw [hpay, hz]) (fun t h j => by rw [outsAt0_B m c t h]; frame_out; rw [hpay]) (le_of_eq N_0) t0_7 rfl j, zero_add, href]
  refine Fin.sum_mul_add_congr fun p r hl => (mul_comm (G := EReal) _ _).trans ?_
  simp only [NormReal.meanSq]
  blk_point [iblk, V, idx0 p, idx1 p, idx2 p, idx3 p, idx4 p, idx5 p]

/-- The side conditions the precondition's operations take. -/
theorem pre_facts : Cert.Pre_finite24.Facts where
  bcast_S_S2048x2048 := by decide
  reducesTo_S2048x2048_S_d0_1 := by decide
  h_S_ := by decide
  bcast_S_S1x2048 := by decide
  reducesTo_S1x2048_S_d0_1 := by decide

/-- Under the precondition no element of an argument is infinite. -/
theorem finite_of_pre [Cert.Pre_finite24.Facts] (x0 : FVec Ideal Cert.Pre_finite24.S2048x2048 .f32) (x1 : FVec Ideal Cert.Pre_finite24.S1x2048 .f32) (x2 : FVec Ideal Cert.Pre_finite24.S2048x2048 .f32) (x3 : FVec Ideal Cert.Pre_finite24.S2048x2048 .f32)
    (h : Cert.Pre_finite24.fn (F := Ideal) x0 x1 x2 x3 = fun _ => 1#1) :
    (∀ i, x0 i ≠ (⊤ : EReal) ∧ x0 i ≠ (⊥ : EReal)) ∧ (∀ i, x1 i ≠ (⊤ : EReal) ∧ x1 i ≠ (⊥ : EReal)) ∧ (∀ i, x2 i ≠ (⊤ : EReal) ∧ x2 i ≠ (⊥ : EReal)) ∧ (∀ i, x3 i ≠ (⊤ : EReal) ∧ x3 i ≠ (⊥ : EReal)) := by
  have : Subsingleton Cert.Pre_finite24.S_.Idx := ⟨fun i j => funext fun a => a.elim0⟩
  have h3 := congrFun h (fun a => a.elim0)
  obtain ⟨h2, r3⟩ := IntOp.andi_eq_one.1 h3
  obtain ⟨h1, r2⟩ := IntOp.andi_eq_one.1 h2
  obtain ⟨h0, r1⟩ := IntOp.andi_eq_one.1 h1
  exact ⟨fun i => SB.finite_of_lt (x0 i) _ SB.ofBits_inf (Host.reduce_andi_all _ _ _ _ _ h0 i),
    fun i => SB.finite_of_lt (x1 i) _ SB.ofBits_inf (Host.reduce_andi_all _ _ _ _ _ r1 i),
    fun i => SB.finite_of_lt (x2 i) _ SB.ofBits_inf (Host.reduce_andi_all _ _ _ _ _ r2 i),
    fun i => SB.finite_of_lt (x3 i) _ SB.ofBits_inf (Host.reduce_andi_all _ _ _ _ _ r3 i)⟩

/-- The reference runs to the end, keeps its arguments and leaves every counter at zero. -/
theorem frame_reference : Cert.quiescent_Reference24Ideal := fun m ρ _ =>
  (θ_run Cert.Reference24Ideal.defs _ _).mono (fun r h => ⟨fun c => (h c).2.2.2, sem_eq_zero_of_no_sems (by decide) r.2⟩) (Cert.Reference24Ideal.Value.run m ρ)

/-- On the same finite arguments the kernel and the reference end with the same results. -/
theorem same : Cert.algebraic_Kernel24Ideal_Reference24Ideal_pre_finite24 (hKernel24Ideal := Cert.Kernel24Ideal.Gen.facts) (hReference24Ideal := Cert.Reference24Ideal.Gen.facts) (hPre_finite24 := pre_facts) := by
  intro m ρ m' ρ' hpre hargs
  have := pre_facts
  have fin := fun c => finite_of_pre _ _ _ _ (hpre c)
  exact ⟨fun c => refX (m ((c : Thread nD τ).loc main_arg0)) (m ((c : Thread nD τ).loc main_arg1)) (m ((c : Thread nD τ).loc main_arg2)) (m ((c : Thread nD τ).loc main_arg3)),
    fun c => refX16 (m ((c : Thread nD τ).loc main_arg0)) (m ((c : Thread nD τ).loc main_arg1)) (m ((c : Thread nD τ).loc main_arg2)) (m ((c : Thread nD τ).loc main_arg3)),
    fun c => refG (m ((c : Thread nD τ).loc main_arg0)) (m ((c : Thread nD τ).loc main_arg2)),
    (θ_run Cert.Kernel24Ideal.defs _ _).mono (fun r h c => ⟨((h c).1).trans (final4 m c (fin c).1 (fin c).2.1 (fin c).2.2.1 (fin c).2.2.2), ((h c).2.1).trans (final5 m c (fin c).1 (fin c).2.1 (fin c).2.2.1 (fin c).2.2.2), ((h c).2.2.1).trans (final6 m c (fin c).1 (fin c).2.1 (fin c).2.2.1 (fin c).2.2.2), (h c).2.2.2⟩) (Cert.Kernel24Ideal.Value.run_blocks m ρ),
    (θ_run Cert.Reference24Ideal.defs _ _).mono (fun r h c => ⟨((h c).1).trans (by rw [(hargs c).1, (hargs c).2.1, (hargs c).2.2.1, (hargs c).2.2.2]), ((h c).2.1).trans (by rw [(hargs c).1, (hargs c).2.1, (hargs c).2.2.1, (hargs c).2.2.2]), ((h c).2.2.1).trans (by rw [(hargs c).1, (hargs c).2.2.1]), (h c).2.2.2⟩) (Cert.Reference24Ideal.Value.run m' ρ')⟩

end Cert.Proof.RmsBwd

end
-- ==== Proof.Pointwise.GateMerge.lean ====
/-
  The gated sum of the two attention outputs.
-/
module

public import proofs.«01_k».proof.Defs
public import proofs.«01_k».proof.Proof.Gen.Kernel25Ideal.Value
public import proofs.«01_k».proof.Proof.Gen.Reference25Ideal.Run
public import Idealize.ShloMosaic.Lib.Pipeline.ValueKit

@[expose] public section

set_option maxRecDepth 16384
set_option maxHeartbeats 1000000

noncomputable section

namespace Cert.Proof.GateMerge

open Idealize.ShloMosaic Idealize.ShloMosaic.TcCoe Idealize.SL Idealize.SL.Sem
open Cert.Kernel25Ideal Cert.Kernel25Ideal.Gen

variable (m : (ℓ : Loc nD τ sig) → Buf (Elt Ideal) ℓ) (c : Dev nD)

theorem idx0 : ∀ t : Fin cfg0.N, win0_0.index t = ![t.val / 2, t.val % 2] := (by decide +kernel : ∀ t : Fin grid0.N, win0_0.index t = ![t.val / 2, t.val % 2])
theorem idx1 : ∀ t : Fin cfg0.N, win0_1.index t = ![t.val / 2, t.val % 2 + 2] := (by decide +kernel : ∀ t : Fin grid0.N, win0_1.index t = ![t.val / 2, t.val % 2 + 2])
theorem idx2 : ∀ t : Fin cfg0.N, win0_2.index t = ![t.val / 2, t.val % 2] := (by decide +kernel : ∀ t : Fin grid0.N, win0_2.index t = ![t.val / 2, t.val % 2])
theorem idx3 : ∀ t : Fin cfg0.N, win0_3.index t = ![t.val / 2, t.val % 2] := (by decide +kernel : ∀ t : Fin grid0.N, win0_3.index t = ![t.val / 2, t.val % 2])
theorem idx4 : ∀ t : Fin cfg0.N, win0_4.index t = ![t.val / 2, t.val % 2] := (by decide +kernel : ∀ t : Fin grid0.N, win0_4.index t = ![t.val / 2, t.val % 2])

/-- One over one plus the exponential of minus the entry. -/
abbrev logistic (x : FVec Ideal Cert.Reference25Ideal.S2048x2048 .f32) : FVec Ideal Cert.Reference25Ideal.S2048x2048 .f32 :=
  Host.divf (broadcastInDim Cert.Reference25Ideal.S2048x2048 ![] Cert.Reference25Ideal.Gen.bcast_S_S2048x2048 (constant Cert.Reference25Ideal.S_ .f32 0x3F800000#32)) (addf (broadcastInDim Cert.Reference25Ideal.S2048x2048 ![] Cert.Reference25Ideal.Gen.bcast_S_S2048x2048 (constant Cert.Reference25Ideal.S_ .f32 0x3F800000#32)) (Host.exp (Host.negf x)))

/-- The reference's result: the two attention outputs, each times its gate, added. -/
abbrev ref (g : FVec Ideal Cert.Reference25Ideal.S2048x4096 .bf16) (o o' : FVec Ideal Cert.Reference25Ideal.S2048x2048 .bf16) : FVec Ideal Cert.Reference25Ideal.S2048x2048 .bf16 :=
  truncf .bf16 (addf (mulf (logistic (extractStridedSlice Cert.Reference25Ideal.S2048x2048 ![0, 0] (extf .f32 g Cert.Reference25Ideal.Gen.bitsLt_bf16_f32) Cert.Reference25Ideal.Gen.slices_S2048x4096_S2048x2048_0_0)) (extf .f32 o Cert.Reference25Ideal.Gen.bitsLt_bf16_f32))
    (mulf (logistic (extractStridedSlice Cert.Reference25Ideal.S2048x2048 ![0, 2048] (extf .f32 g Cert.Reference25Ideal.Gen.bitsLt_bf16_f32) Cert.Reference25Ideal.Gen.slices_S2048x4096_S2048x2048_0_2048)) (extf .f32 o' Cert.Reference25Ideal.Gen.bitsLt_bf16_f32))) Cert.Reference25Ideal.Gen.bitsLt_bf16_f32

/-- Result ref is the reference's. -/
theorem final4 : (dats m 0 c).arrAt 4 cfg0.N = ref (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  pointwise [k0_pay1, ref]
  simp only [zero_sub]
  blk_point [iblk, V, idx0 t, idx1 t, idx2 t, idx3 t, idx4 t]

/-- The reference runs to the end, keeps its arguments and leaves every counter at zero. -/
theorem frame_reference : Cert.quiescent_Reference25Ideal := fun m ρ _ =>
  (θ_run Cert.Reference25Ideal.defs _ _).mono (fun r h => ⟨fun c => (h c).2, sem_eq_zero_of_no_sems (by decide) r.2⟩) (Cert.Reference25Ideal.Value.run m ρ)

/-- On the same arguments the kernel and the reference end with the same results. -/
theorem same : Cert.algebraic_Kernel25Ideal_Reference25Ideal (hKernel25Ideal := Cert.Kernel25Ideal.Gen.facts) (hReference25Ideal := Cert.Reference25Ideal.Gen.facts) :=
  fun m ρ m' ρ' _ hargs => ⟨fun c => ref (m ((c : Thread nD τ).loc main_arg0)) (m ((c : Thread nD τ).loc main_arg1)) (m ((c : Thread nD τ).loc main_arg2)),
    (θ_run Cert.Kernel25Ideal.defs _ _).mono (fun r h c => ⟨((h c).1).trans (final4 m c), (h c).2⟩) (Cert.Kernel25Ideal.Value.run_blocks m ρ),
    (θ_run Cert.Reference25Ideal.defs _ _).mono (fun r h c => ⟨((h c).1).trans (by rw [(hargs c).1, (hargs c).2.1, (hargs c).2.2]), (h c).2⟩) (Cert.Reference25Ideal.Value.run m' ρ')⟩

end Cert.Proof.GateMerge

end
-- ==== Proof.Pointwise.SwiGlu.lean ====
/-
  The gated unit of the feed-forward block.
-/
module

public import proofs.«01_k».proof.Defs
public import proofs.«01_k».proof.Proof.Gen.Kernel26Ideal.Value
public import proofs.«01_k».proof.Proof.Gen.Reference26Ideal.Run
public import Idealize.ShloMosaic.Lib.Pipeline.ValueKit

@[expose] public section

set_option maxRecDepth 16384
set_option maxHeartbeats 1000000

noncomputable section

namespace Cert.Proof.SwiGlu

open Idealize.ShloMosaic Idealize.ShloMosaic.TcCoe Idealize.SL Idealize.SL.Sem
open Cert.Kernel26Ideal Cert.Kernel26Ideal.Gen

variable (m : (ℓ : Loc nD τ sig) → Buf (Elt Ideal) ℓ) (c : Dev nD)

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])

/-- One over one plus the exponential of minus the entry. -/
abbrev logistic (x : FVec Ideal Cert.Reference26Ideal.S2048x5632 .f32) : FVec Ideal Cert.Reference26Ideal.S2048x5632 .f32 :=
  Host.divf (broadcastInDim Cert.Reference26Ideal.S2048x5632 ![] Cert.Reference26Ideal.Gen.bcast_S_S2048x5632 (constant Cert.Reference26Ideal.S_ .f32 0x3F800000#32)) (addf (broadcastInDim Cert.Reference26Ideal.S2048x5632 ![] Cert.Reference26Ideal.Gen.bcast_S_S2048x5632 (constant Cert.Reference26Ideal.S_ .f32 0x3F800000#32)) (Host.exp (Host.negf x)))

/-- The left half of the argument. -/
abbrev left (x : FVec Ideal Cert.Reference26Ideal.S2048x11264 .bf16) : FVec Ideal Cert.Reference26Ideal.S2048x5632 .f32 :=
  extractStridedSlice Cert.Reference26Ideal.S2048x5632 ![0, 0] (extf .f32 x Cert.Reference26Ideal.Gen.bitsLt_bf16_f32) Cert.Reference26Ideal.Gen.slices_S2048x11264_S2048x5632_0_0

/-- The right half of the argument. -/
abbrev right (x : FVec Ideal Cert.Reference26Ideal.S2048x11264 .bf16) : FVec Ideal Cert.Reference26Ideal.S2048x5632 .f32 :=
  extractStridedSlice Cert.Reference26Ideal.S2048x5632 ![0, 5632] (extf .f32 x Cert.Reference26Ideal.Gen.bitsLt_bf16_f32) Cert.Reference26Ideal.Gen.slices_S2048x11264_S2048x5632_0_5632

/-- The reference's result. -/
abbrev ref (x : FVec Ideal Cert.Reference26Ideal.S2048x11264 .bf16) : FVec Ideal Cert.Reference26Ideal.S2048x5632 .bf16 :=
  truncf .bf16 (mulf (mulf (left x) (logistic (left x))) (right x)) Cert.Reference26Ideal.Gen.bitsLt_bf16_f32

/-- An entry `g` of the left half times its logistic times the entry `u` of the right half. -/
abbrev cell (g u : EReal) : EReal := g * Ideal.div 1 (1 + Ideal.exp (0 - g)) * u

/-- What the body leaves of a block. -/
theorem block (x : Vec Ideal S128x11264 .bf16) (y : S128x5632.Idx) (i j : S128x11264.Idx)
    (hi0 : (i 0 : ℕ) = y 0) (hi1 : (i 1 : ℕ) = y 1) (hj0 : (j 0 : ℕ) = y 0) (hj1 : (j 1 : ℕ) = 5632 + y 1) :
    out0_1 (F := Ideal) x y = cell (x i) (x j) := by
  canon_tiles z h
  all_goals (open_payloads; pointwise; simp only [cell]; blk_point [hi0, hi1, hj0, hj1])

/-- The result is the reference's. -/
theorem final1 : (dats m 0 c).arrAt 1 cfg0.N = ref (m ((c : Thread nD τ).loc main_arg0)) := by
  refine (dats m 0 c).arrAt_eq_of_covers 1 _ (by decide +kernel) fun t hf y => ?_
  blk_simp
  rw [after0_1]
  obtain_idx i : S128x11264 := [(y 0 : ℕ), (y 1 : ℕ)] with hi
  obtain_idx j : S128x11264 := [(y 0 : ℕ), 5632 + (y 1 : ℕ)] with hj
  refine (block _ y i j hi0 hi1 hj0 hj1).trans ?_
  pointwise [cell, ref]
  simp only [zero_sub]
  blk_point [iblk, V, idx0 t, idx1 t]

/-- The reference runs to the end, keeps its arguments and leaves every counter at zero. -/
theorem frame_reference : Cert.quiescent_Reference26Ideal := fun m ρ _ =>
  (θ_run Cert.Reference26Ideal.defs _ _).mono (fun r h => ⟨fun c => (h c).2, sem_eq_zero_of_no_sems (by decide) r.2⟩) (Cert.Reference26Ideal.Value.run m ρ)

/-- On the same arguments the kernel and the reference end with the same results. -/
theorem same : Cert.algebraic_Kernel26Ideal_Reference26Ideal (hKernel26Ideal := Cert.Kernel26Ideal.Gen.facts) (hReference26Ideal := Cert.Reference26Ideal.Gen.facts) :=
  fun m ρ m' ρ' _ hargs => ⟨fun c => ref (m ((c : Thread nD τ).loc main_arg0)),
    (θ_run Cert.Kernel26Ideal.defs _ _).mono (fun r h c => ⟨((h c).1).trans (final1 m c), (h c).2⟩) (Cert.Kernel26Ideal.Value.run_blocks m ρ),
    (θ_run Cert.Reference26Ideal.defs _ _).mono (fun r h c => ⟨((h c).1).trans (by rw [(hargs c)]), (h c).2⟩) (Cert.Reference26Ideal.Value.run m' ρ')⟩

end Cert.Proof.SwiGlu

end
-- ==== Proof.Pointwise.RmsNorm.lean ====
/-
  The norm of a row of the activations.
-/
module

public import proofs.«01_k».proof.Defs
public import proofs.«01_k».proof.Proof.Gen.Kernel27Ideal.Value
public import proofs.«01_k».proof.Proof.Gen.Reference27Ideal.Run
public import Idealize.ShloMosaic.Lib.Pipeline.ValueKit

@[expose] public section

set_option maxRecDepth 16384
set_option maxHeartbeats 1000000

noncomputable section

namespace Cert.Proof.RmsNorm

open Idealize.ShloMosaic Idealize.ShloMosaic.TcCoe Idealize.SL Idealize.SL.Sem
open Cert.Kernel27Ideal Cert.Kernel27Ideal.Gen

variable (m : (ℓ : Loc nD τ sig) → Buf (Elt Ideal) ℓ) (c : Dev nD)

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])

/-- One over the root of a row's mean square plus the small constant. -/
abbrev scale (x : FVec Ideal Cert.Reference27Ideal.S2048x2048 .f32) : FVec Ideal Cert.Reference27Ideal.S2048x1 .f32 :=
  Host.rsqrt (addf (Host.divf (broadcastInDim Cert.Reference27Ideal.S2048x1 ![0] Cert.Reference27Ideal.Gen.bcast_S2048_S2048x1_0 (Host.reduceAdd (mulf x x) (constant Cert.Reference27Ideal.S_ .f32 0x00000000#32) Cert.Reference27Ideal.Gen.reducesTo_S2048x2048_S2048_d1 Cert.Reference27Ideal.Gen.h_S_)) (broadcastInDim Cert.Reference27Ideal.S2048x1 ![] Cert.Reference27Ideal.Gen.bcast_S_S2048x1 (constant Cert.Reference27Ideal.S_ .f32 0x45000000#32))) (broadcastInDim Cert.Reference27Ideal.S2048x1 ![] Cert.Reference27Ideal.Gen.bcast_S_S2048x1 (constant Cert.Reference27Ideal.S_ .f32 0x358637BD#32)))

/-- The reference's result: every row over the root of its mean square, times the gains. -/
abbrev ref (x : FVec Ideal Cert.Reference27Ideal.S2048x2048 .f32) (g : FVec Ideal Cert.Reference27Ideal.S1x2048 .f32) : FVec Ideal Cert.Reference27Ideal.S2048x2048 .bf16 :=
  truncf .bf16 (mulf (mulf x (broadcastInDim Cert.Reference27Ideal.S2048x2048 ![0, 1] Cert.Reference27Ideal.Gen.bcast_S2048x1_S2048x2048_0_1 (scale x))) (broadcastInDim Cert.Reference27Ideal.S2048x2048 ![0, 1] Cert.Reference27Ideal.Gen.bcast_S1x2048_S2048x2048_0_1 g)) Cert.Reference27Ideal.Gen.bitsLt_bf16_f32

/-- Result ref is the reference's. -/
theorem final2 : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, ref]
  blk_point [iblk, V, idx0 t, idx1 t, idx2 t]

/-- The reference runs to the end, keeps its arguments and leaves every counter at zero. -/
theorem frame_reference : Cert.quiescent_Reference27Ideal := fun m ρ _ =>
  (θ_run Cert.Reference27Ideal.defs _ _).mono (fun r h => ⟨fun c => (h c).2, sem_eq_zero_of_no_sems (by decide) r.2⟩) (Cert.Reference27Ideal.Value.run m ρ)

/-- On the same arguments the kernel and the reference end with the same results. -/
theorem same : Cert.algebraic_Kernel27Ideal_Reference27Ideal (hKernel27Ideal := Cert.Kernel27Ideal.Gen.facts) (hReference27Ideal := Cert.Reference27Ideal.Gen.facts) :=
  fun m ρ m' ρ' _ hargs => ⟨fun c => ref (m ((c : Thread nD τ).loc main_arg0)) (m ((c : Thread nD τ).loc main_arg1)),
    (θ_run Cert.Kernel27Ideal.defs _ _).mono (fun r h c => ⟨((h c).1).trans (final2 m c), (h c).2⟩) (Cert.Kernel27Ideal.Value.run_blocks m ρ),
    (θ_run Cert.Reference27Ideal.defs _ _).mono (fun r h c => ⟨((h c).1).trans (by rw [(hargs c).1, (hargs c).2]), (h c).2⟩) (Cert.Reference27Ideal.Value.run m' ρ')⟩

end Cert.Proof.RmsNorm

end
-- ==== Proof.Pointwise.AdamW.lean ====
/-
  The optimiser's step of `w_in`'s shard.
-/
module

public import proofs.«01_k».proof.Defs
public import proofs.«01_k».proof.Proof.Gen.Kernel28Ideal.Value
public import proofs.«01_k».proof.Proof.Gen.Reference28Ideal.Run
public import Idealize.ShloMosaic.Lib.Pipeline.ValueKit

@[expose] public section

set_option maxRecDepth 16384
set_option maxHeartbeats 1000000

noncomputable section

namespace Cert.Proof.AdamW

open Idealize.ShloMosaic Idealize.ShloMosaic.TcCoe Idealize.SL Idealize.SL.Sem
open Cert.Kernel28Ideal Cert.Kernel28Ideal.Gen

variable (m : (ℓ : Loc nD τ sig) → Buf (Elt Ideal) ℓ) (c : Dev nD)

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0] := (by decide +kernel : ∀ t : Fin grid0.N, win0_7.index t = ![t.val, 0])

/-- The new first moment: nine tenths of the old one and a tenth of the gradient. -/
abbrev ref6 (g mo : FVec Ideal Cert.Reference28Ideal.S2048x2560 .f32) : FVec Ideal Cert.Reference28Ideal.S2048x2560 .f32 := addf (mulf (broadcastInDim Cert.Reference28Ideal.S2048x2560 ![] Cert.Reference28Ideal.Gen.bcast_S_S2048x2560 (constant Cert.Reference28Ideal.S_ .f32 0x3F666666#32)) mo) (mulf (broadcastInDim Cert.Reference28Ideal.S2048x2560 ![] Cert.Reference28Ideal.Gen.bcast_S_S2048x2560 (constant Cert.Reference28Ideal.S_ .f32 0x3DCCCCCD#32)) g)

/-- The new second moment. -/
abbrev ref7 (g vo : FVec Ideal Cert.Reference28Ideal.S2048x2560 .f32) : FVec Ideal Cert.Reference28Ideal.S2048x2560 .f32 := addf (mulf (broadcastInDim Cert.Reference28Ideal.S2048x2560 ![] Cert.Reference28Ideal.Gen.bcast_S_S2048x2560 (constant Cert.Reference28Ideal.S_ .f32 0x3F7FBE77#32)) vo) (mulf (broadcastInDim Cert.Reference28Ideal.S2048x2560 ![] Cert.Reference28Ideal.Gen.bcast_S_S2048x2560 (constant Cert.Reference28Ideal.S_ .f32 0x3A83126F#32)) (mulf g g))

/-- The step of the weights. -/
abbrev ref5 (w g mo vo : FVec Ideal Cert.Reference28Ideal.S2048x2560 .f32) : FVec Ideal Cert.Reference28Ideal.S2048x2560 .f32 :=
  mulf (broadcastInDim Cert.Reference28Ideal.S2048x2560 ![] Cert.Reference28Ideal.Gen.bcast_S_S2048x2560 (constant Cert.Reference28Ideal.S_ .f32 0xBA83126F#32)) (addf (Host.divf (Host.divf (ref6 g mo) (broadcastInDim Cert.Reference28Ideal.S2048x2560 ![] Cert.Reference28Ideal.Gen.bcast_S_S2048x2560 (constant Cert.Reference28Ideal.S_ .f32 0x3F26BD02#32))) (addf (Host.sqrt (Host.divf (ref7 g vo) (broadcastInDim Cert.Reference28Ideal.S2048x2560 ![] Cert.Reference28Ideal.Gen.bcast_S_S2048x2560 (constant Cert.Reference28Ideal.S_ .f32 0x3C231ACC#32)))) (broadcastInDim Cert.Reference28Ideal.S2048x2560 ![] Cert.Reference28Ideal.Gen.bcast_S_S2048x2560 (constant Cert.Reference28Ideal.S_ .f32 0x322BCC77#32)))) (mulf (broadcastInDim Cert.Reference28Ideal.S2048x2560 ![] Cert.Reference28Ideal.Gen.bcast_S_S2048x2560 (constant Cert.Reference28Ideal.S_ .f32 0x3C23D70A#32)) w))

/-- The gradient, passed on. -/
abbrev ref4 (g : FVec Ideal Cert.Reference28Ideal.S2048x2560 .f32) : FVec Ideal Cert.Reference28Ideal.S2048x2560 .f32 := g

/-- Result ref4 is the reference's. -/
theorem final4 : (dats m 0 c).arrAt 4 cfg0.N = ref4 (m ((c : Thread nD τ).loc main_arg1)) := by
  refine (dats m 0 c).arrAt_eq_of_covers 4 _ (by decide +kernel) fun t hf y => ?_
  blk_simp
  rw [after0_4]
  frame_out
  pointwise [k0_pay1, k0_pay2, k0_pay3, ref4]
  blk_point [iblk, V, idx0 t, idx1 t, idx2 t, idx3 t, idx4 t, idx5 t, idx6 t, idx7 t]

/-- Result ref5 is the reference's. -/
theorem final5 : (dats m 0 c).arrAt 5 cfg0.N = ref5 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay1, k0_pay2, k0_pay3, ref5]
  blk_point [iblk, V, idx0 t, idx1 t, idx2 t, idx3 t, idx4 t, idx5 t, idx6 t, idx7 t]

/-- Result ref6 is the reference's. -/
theorem final6 : (dats m 0 c).arrAt 6 cfg0.N = ref6 (m ((c : Thread nD τ).loc main_arg1)) (m ((c : Thread nD τ).loc main_arg2)) := by
  refine (dats m 0 c).arrAt_eq_of_covers 6 _ (by decide +kernel) fun t hf y => ?_
  blk_simp
  rw [after0_6]
  frame_out
  pointwise [k0_pay1, k0_pay2, k0_pay3, ref6]
  blk_point [iblk, V, idx0 t, idx1 t, idx2 t, idx3 t, idx4 t, idx5 t, idx6 t, idx7 t]

/-- Result ref7 is the reference's. -/
theorem final7 : (dats m 0 c).arrAt 7 cfg0.N = ref7 (m ((c : Thread nD τ).loc main_arg1)) (m ((c : Thread nD τ).loc main_arg3)) := by
  refine (dats m 0 c).arrAt_eq_of_covers 7 _ (by decide +kernel) fun t hf y => ?_
  blk_simp
  rw [after0_7]
  frame_out
  pointwise [k0_pay1, k0_pay2, k0_pay3, ref7]
  blk_point [iblk, V, idx0 t, idx1 t, idx2 t, idx3 t, idx4 t, idx5 t, idx6 t, idx7 t]

/-- The reference runs to the end, keeps its arguments and leaves every counter at zero. -/
theorem frame_reference : Cert.quiescent_Reference28Ideal := fun m ρ _ =>
  (θ_run Cert.Reference28Ideal.defs _ _).mono (fun r h => ⟨fun c => (h c).2.2.2.2, sem_eq_zero_of_no_sems (by decide) r.2⟩) (Cert.Reference28Ideal.Value.run m ρ)

/-- On the same arguments the kernel and the reference end with the same results. -/
theorem same : Cert.algebraic_Kernel28Ideal_Reference28Ideal (hKernel28Ideal := Cert.Kernel28Ideal.Gen.facts) (hReference28Ideal := Cert.Reference28Ideal.Gen.facts) :=
  fun m ρ m' ρ' _ hargs => ⟨fun c => ref4 (m ((c : Thread nD τ).loc main_arg1)),
    fun c => ref5 (m ((c : Thread nD τ).loc main_arg0)) (m ((c : Thread nD τ).loc main_arg1)) (m ((c : Thread nD τ).loc main_arg2)) (m ((c : Thread nD τ).loc main_arg3)),
    fun c => ref6 (m ((c : Thread nD τ).loc main_arg1)) (m ((c : Thread nD τ).loc main_arg2)),
    fun c => ref7 (m ((c : Thread nD τ).loc main_arg1)) (m ((c : Thread nD τ).loc main_arg3)),
    (θ_run Cert.Kernel28Ideal.defs _ _).mono (fun r h c => ⟨((h c).1).trans (final4 m c), ((h c).2.1).trans (final5 m c), ((h c).2.2.1).trans (final6 m c), ((h c).2.2.2.1).trans (final7 m c), (h c).2.2.2.2⟩) (Cert.Kernel28Ideal.Value.run_blocks m ρ),
    (θ_run Cert.Reference28Ideal.defs _ _).mono (fun r h c => ⟨((h c).1).trans (by rw [(hargs c).2.1]), ((h c).2.1).trans (by rw [(hargs c).1, (hargs c).2.1, (hargs c).2.2.1, (hargs c).2.2.2]), ((h c).2.2.1).trans (by rw [(hargs c).2.1, (hargs c).2.2.1]), ((h c).2.2.2.1).trans (by rw [(hargs c).2.1, (hargs c).2.2.2]), (h c).2.2.2.2⟩) (Cert.Reference28Ideal.Value.run m' ρ')⟩

end Cert.Proof.AdamW

end
-- ==== Proof.SbFwd.Point.lean ====
/-
  What one grid point of the stick-breaking forward kernel computes. A point handles 512 queries of one head: it walks the
  key blocks from the queries' own block down to block 0, and carries the sum of `log (1 - β)` over the keys passed and the
  weighted sum of their values.
-/
module

public import proofs.«01_k».proof.Proof.Gen.Kernel29Ideal.Value
public import proofs.«01_k».proof.Proof.PointReal
public import Idealize.ShloMosaic.Lib.Pipeline.ValueKit

@[expose] public section

set_option maxRecDepth 16384
set_option maxHeartbeats 1000000

noncomputable section

namespace Cert.Proof.SbFwd

open Idealize.ShloMosaic Idealize.ShloMosaic.TcCoe Cert.Kernel29Ideal Cert.Kernel29Ideal.Gen
open Cert.Proof.SB
open Idealize.SL Idealize.SL.Sem

section AnyFloat
variable {F : FTy → Type} [FloatOps F]

/-- The key block `n` before a point's own. -/
def kb (i : grid0.Coords) (n : ℕ) : Fin 4 := ⟨(i 1).val - n, by have h : (i 1).val < 4 := (i 1).isLt; omega⟩

theorem trips_first : ∀ i : grid0.Coords, (k0_t1_loop i).trips = (i 1).val := by decide +kernel
theorem trips_rest : ∀ i : grid0.Coords, (k0_t2_loop i).trips = 0 := by decide +kernel
theorem off_own : ∀ i : grid0.Coords, k0_off1 i = ![512 * (kb i 0).val, 0] := by decide +kernel
theorem off_step : ∀ (i : grid0.Coords) (k : Fin (k0_t1_loop i).trips), k0_off2 i k = ![512 * (kb i (k.val + 1)).val, 0] := by decide +kernel

/-- A load at a block of rows reads that block. -/
theorem readBlk {sp : Space} {e : EltTy} (M : Memref sig .tc sp S2048x128 e) (f : M.view.ty.Contents (Elt F)) {off : Fin 2 → ℕ} (j : Fin 4)
    (h : off = ![512 * j.val, 0]) (inb : ∀ a, off a + S512x128.size a ≤ S2048x128.size a) :
    M.view.readAt (Elt F) (Rect.unit (s := S2048x128) off S512x128.size inb).toLoadRect f = rowBlk (F := F) (M.view.read (Elt F) f) j :=
  View.readAt_unit M.view f inb h (row_inb j)

/-- The sum of `log (1 - β)` after one more key block, -/
def nextRun (q : Vec F S512x128 .bf16) (tri : FVec F S128x256 .bf16) (k : Vec F S512x128 .bf16) (run : FVec F S512x128 .f32) : FVec F S512x128 .f32 :=
  k0_pay6 tri (k0_pay19 q k) (k0_pay20 q k) (k0_pay23 q tri run k) (k0_pay26 q tri k)
/-- and the weighted sum of the values. -/
def nextAcc (q : Vec F S512x128 .bf16) (tri : FVec F S128x256 .bf16) (k v : Vec F S512x128 .bf16) (s : FVec F S512x128 .f32 × FVec F S512x128 .f32) : FVec F S512x128 .f32 :=
  k0_pay7 tri s.2 (k0_pay17 q k) (k0_pay19 q k) (k0_pay20 q k) (k0_pay22 q tri s.1 k) (k0_pay23 q tri s.1 k) (k0_pay25 q tri s.1 k) (k0_pay26 q tri k) v
/-- The sum over the own key block, -/
def ownRun (i : grid0.Coords) (q k : Vec F S512x128 .bf16) : FVec F S512x128 .f32 :=
  k0_pay57 (F := F) k0_pay39 k0_pay40 (k0_pay42 i) (k0_pay46 q k)
/-- and its weighted values. -/
def ownAcc (i : grid0.Coords) (q k v : Vec F S512x128 .bf16) : FVec F S512x128 .f32 :=
  k0_pay1 (F := F) k0_pay41 (k0_pay58 k0_pay39 k0_pay40 (k0_pay42 i) (k0_pay45 q k) (k0_pay46 q k)) v
/-- The two sums after `n` key blocks before the own one. -/
def state (i : grid0.Coords) (q : Vec F S512x128 .bf16) (K V : Vec F S2048x128 .bf16) : ℕ → FVec F S512x128 .f32 × FVec F S512x128 .f32
  | 0 => (ownRun i q (rowBlk K (kb i 0)), ownAcc i q (rowBlk K (kb i 0)) (rowBlk V (kb i 0)))
  | n + 1 => (nextRun q k0_pay39 (rowBlk K (kb i (n + 1))) (state i q K V n).1,
      nextAcc q k0_pay39 (rowBlk K (kb i (n + 1))) (rowBlk V (kb i (n + 1))) (state i q K V n))

variable (c : Dev nD) (i : grid0.Coords) (arg2 : Memref sig .tc .vmem S512x128 .bf16) (harg2 : arg2.IsWhole) (arg3 : Memref sig .tc .vmem S2048x128 .bf16) (harg3 : arg3.IsWhole)
  (arg4 : Memref sig .tc .vmem S2048x128 .bf16) (harg4 : arg4.IsWhole) (arg5 : Memref sig .tc .vmem S512x128 .bf16) (harg5 : arg5.IsWhole)

/-- One trip of the loop. -/
theorem trip_eq (𝒱 : Variants) (bd : Option 𝒱.V) (a1 : BitVec 32) (v0 : Vec F S512x128 .bf16) (v8 : FVec F S128x256 .bf16) (X3 : BufTy.Contents (Elt F) arg3.view.ty) (X4 : BufTy.Contents (Elt F) arg4.view.ty)
    (k : Fin (k0_t1_loop i).trips) (s : FVec F S512x128 .f32 × FVec F S512x128 .f32) :
    (trip_k0_t1 (F := F) 𝒱 c bd i arg2 harg2 arg3 harg3 arg4 harg4 arg5 harg5 a1 v0 v8 X3 X4 k).1 s
      = (nextRun v0 v8 (rowBlk (arg3.view.read (Elt F) X3) (kb i (k.val + 1))) s.1,
          nextAcc v0 v8 (rowBlk (arg3.view.read (Elt F) X3) (kb i (k.val + 1))) (rowBlk (arg4.view.read (Elt F) X4) (kb i (k.val + 1))) s) := by
  rw [← readBlk arg3 X3 (kb i (k.val + 1)) (off_step i k) (k0_off2_inb i k), ← readBlk arg4 X4 (kb i (k.val + 1)) (off_step i k) (k0_off2_inb i k)]
  unfold trip_k0_t1
  rfl

/-- The loop's carried values are the two sums. -/
theorem loop_eq (𝒱 : Variants) (bd : Option 𝒱.V) (a1 : BitVec 32) (x0 : Vec F S512x128 .bf16) (x1 x2 : Vec F S2048x128 .bf16) :
    ∀ n, n ≤ (i 1).val → st_k0_t1 (F := F) 𝒱 c bd i arg2 harg2 arg3 harg3 arg4 harg4 arg5 harg5 a1 x0 k0_pay39 (harg3.unread x1) (harg4.unread x2) (state i x0 x1 x2 0) n = state i x0 x1 x2 n
  | 0, _ => rfl
  | n + 1, hn => by
      have hk : n < (k0_t1_loop i).trips := by rw [trips_first]; omega
      have e := st_k0_t1_succ (F := F) 𝒱 c bd i arg2 harg2 arg3 harg3 arg4 harg4 arg5 harg5 a1 x0 k0_pay39 (harg3.unread x1) (harg4.unread x2) (state i x0 x1 x2 0) ⟨n, hk⟩
      rw [loop_eq 𝒱 bd a1 x0 x1 x2 n (by omega)] at e
      refine e.trans ((trip_eq c i arg2 harg2 arg3 harg3 arg4 harg4 arg5 harg5 𝒱 bd a1 x0 k0_pay39 _ _ ⟨n, hk⟩ _).trans ?_)
      rw [harg3.read_unread, harg4.read_unread]
      rfl

theorem ld_eq (x : Vec F S2048x128 .bf16) {off : Fin 2 → ℕ} (j : Fin 4) (h : off = ![512 * j.val, 0]) (inb) :
    View.ld x (Rect.unit (s := S2048x128) off ![512, 128] inb) = rowBlk x j := by
  subst h
  rfl

/-- What a point leaves in its output block. -/
theorem out_eq (x0 : Vec F S512x128 .bf16) (x1 x2 : Vec F S2048x128 .bf16) :
    out0_A_3 c i arg2 harg2 arg3 harg3 arg4 harg4 arg5 harg5 x0 x1 x2 = k0_pay14 (state i x0 x1 x2 (i 1).val).2 := by
  frame_out
  rw [ld_eq x1 (kb i 0) (off_own i), ld_eq x2 (kb i 0) (off_own i)]
  have e2 := trips_rest i
  have e1 := trips_first i
  have z : ∀ (a : BitVec 32) (b : BitVec 32) (s : FVec F S512x128 .f32 × FVec F S512x128 .f32) (n : ℕ), n = 0 →
      st_k0_t2 (F := F) Variants.none c none i arg2 harg2 arg3 harg3 arg4 harg4 arg5 harg5 a x0 k0_pay39 b (harg3.unread x1) (harg4.unread x2) s n = s := by
    intro a b s n hn
    subst hn
    rfl
  refine congrArg k0_pay14 ((congrArg Prod.snd (z _ _ _ _ e2)).trans ?_)
  refine (congrArg (fun n => (st_k0_t1 (F := F) Variants.none c none i arg2 harg2 arg3 harg3 arg4 harg4 arg5 harg5 (BitVec.ofNat 32 (i 1).val) x0 k0_pay39 (harg3.unread x1) (harg4.unread x2)
    (state i x0 x1 x2 0) n).2) e1).trans ?_
  exact congrArg Prod.snd (loop_eq c i arg2 harg2 arg3 harg3 arg4 harg4 arg5 harg5 _ _ _ x0 x1 x2 _ le_rfl)

end AnyFloat

/-! ## Over finite values -/

theorem mm_qk (f g h : ℕ → ℕ → ℝ) :
    matmul (F := Ideal) dot_S512x128_S512x128_S512x512_1_1_0_0_n_n (φ₁ := .bf16) (φ₂ := .bf16) none (M2 512 128 f) (M2 512 128 g) (M2 512 512 h)
      = M2 512 512 fun r c => h r c + ∑ k ∈ Finset.range 128, f r k * g c k := mm_nt f g h
theorem mm_group (f g h : ℕ → ℕ → ℝ) :
    matmul (F := Ideal) dot_S512x128_S128x256_S512x256_1_0_0_1_n_n (φ₁ := .bf16) (φ₂ := .bf16) none (M2 512 128 f) (M2 128 256 g) (M2 512 256 h)
      = M2 512 256 fun r c => h r c + ∑ k ∈ Finset.range 128, f r k * g k c := mm_tri f g h
theorem mm_av (f g h : ℕ → ℕ → ℝ) :
    matmul (F := Ideal) dot_S512x512_S512x128_S512x128_1_0_0_1_n_n (φ₁ := .bf16) (φ₂ := .bf16) none (M2 512 512 f) (M2 512 128 g) (M2 512 128 h)
      = M2 512 128 fun r c => h r c + ∑ k ∈ Finset.range 512, f r k * g k c := mm_nn f g h

theorem tri_eq : k0_pay39 (F := Ideal) = M2 128 256 triGt := pay77_eq
theorem past_eq (i : grid0.Coords) : k0_pay42 i = B2 512 512 fun r c => c < r := by
  funext j
  idx_vars j
  have hi : (i 1).val < 4 := (i 1).isLt
  pointwise [k0_pay42, B2]
  rw [word_at, word_at, slt_nat (by omega) (by omega)]
  simp

variable (Q K V A : ℕ → ℕ → ℝ) (R : ℕ → ℝ)

theorem ls_eq : k0_pay17 (F := Ideal) (M2 512 128 Q) (M2 512 128 K) = M2 512 512 fun r c => ls (zl Q K r c) := by
  simp only [k0_pay17, k0_pay16, k0_pay15, bc_zero, bc_one, bc_c0, const_zero, mm_qk, M2_add, M2_sub, M2_mul, M2_min, M2_max, M2_abs, M2_exp, M2_log1, zero_add]
  rfl
theorem lk_eq : k0_pay18 (F := Ideal) (M2 512 128 Q) (M2 512 128 K) = M2 512 512 fun r c => lk (zl Q K r c) := by
  simp only [k0_pay18, k0_pay16, k0_pay15, bc_zero, bc_one, bc_c0, const_zero, mm_qk, M2_add, M2_sub, M2_mul, M2_min, M2_max, M2_abs, M2_exp, M2_log1, zero_add]
  rfl
theorem lk16_eq : k0_pay19 (F := Ideal) (M2 512 128 Q) (M2 512 128 K) = M2 512 512 fun r c => lk (zl Q K r c) := by
  simp only [k0_pay19, lk_eq, M2_truncf]
theorem rest_eq : k0_pay20 (F := Ideal) (M2 512 128 Q) (M2 512 128 K) = M2 512 512 fun _ _ => 0 := by
  simp only [k0_pay20, lk_eq, lk16_eq, M2_truncf, M2_extf, M2_sub, sub_self]

/-- One more key block adds its sum of `log (1 - β)`, -/
theorem nextRun_eq : nextRun (F := Ideal) (M2 512 128 Q) (M2 128 256 triGt) (M2 512 128 K) (M2 512 128 fun r _ => R r)
    = M2 512 128 fun r _ => R r + ∑ s ∈ Finset.range 512, lk (zl Q K r s) := by
  simp only [nextRun, k0_pay6, k0_pay5, k0_pay4, k0_pay3, k0_pay2, k0_pay21, k0_pay22, k0_pay23, k0_pay24, k0_pay25, k0_pay26, lk16_eq, rest_eq, const_zero, mm_group, M2_slice, M2_add, zero_mul, Finset.sum_const_zero, add_zero, zero_add]
  exact M2_congr fun r c hr hc => sum_gt (fun s => lk (zl Q K r s)) (R r) c
/-- and its weighted values. -/
theorem nextAcc_eq : nextAcc (F := Ideal) (M2 512 128 Q) (M2 128 256 triGt) (M2 512 128 K) (M2 512 128 V) (M2 512 128 fun r _ => R r, M2 512 128 A)
    = M2 512 128 fun r d => A r d + ∑ c ∈ Finset.range 512, Real.exp (ls (zl Q K r c) + (∑ s ∈ Finset.Ico (c + 1) 512, lk (zl Q K r s) + R r)) * V c d := by
  simp only [nextAcc, k0_pay7, k0_pay6, k0_pay5, k0_pay4, k0_pay3, k0_pay2, k0_pay21, k0_pay22, k0_pay23, k0_pay24, k0_pay25, k0_pay26, ls_eq, lk16_eq, rest_eq, const_zero, mm_group, mm_av, M2_slice, M2_add, M2_exp, M2_truncf, catv_fold, catv_M2, zero_mul, Finset.sum_const_zero, add_zero, zero_add]
  refine M2_congr fun r d hr hd => congrArg (fun x => A r d + x) (Finset.sum_congr rfl fun c hc => ?_)
  rw [cat_gt (fun r s => lk (zl Q K r s)) R r c (Finset.mem_range.mp hc)]

theorem own_ls : k0_pay45 (F := Ideal) (M2 512 128 Q) (M2 512 128 K) = M2 512 512 fun r c => ls (zl Q K r c) := by
  simp only [k0_pay45, k0_pay44, k0_pay43, bc_zero, bc_one, bc_c0, const_zero, mm_qk, M2_add, M2_sub, M2_mul, M2_min, M2_max, M2_abs, M2_exp, M2_log1, zero_add]
  rfl
theorem own_lk : k0_pay46 (F := Ideal) (M2 512 128 Q) (M2 512 128 K) = M2 512 512 fun r c => lk (zl Q K r c) := by
  simp only [k0_pay46, k0_pay44, k0_pay43, bc_zero, bc_one, bc_c0, const_zero, mm_qk, M2_add, M2_sub, M2_mul, M2_min, M2_max, M2_abs, M2_exp, M2_log1, zero_add]
  rfl
theorem own_mask : k0_pay47 (F := Ideal) (B2 512 512 fun r c => c < r) (M2 512 512 fun r c => lk (zl Q K r c)) = M2 512 512 fun r c => lko Q K r c := by
  simp only [k0_pay47, bc_zero, B2_select]
  rfl
/-- The own key block's sum of `log (1 - β)`, -/
theorem ownRun_eq (i : grid0.Coords) : ownRun (F := Ideal) i (M2 512 128 Q) (M2 512 128 K) = M2 512 128 fun r _ => ∑ s ∈ Finset.range 512, lko Q K r s := by
  simp only [ownRun, tri_eq, past_eq, own_lk, k0_pay40, k0_pay48, k0_pay49, k0_pay50, k0_pay51, k0_pay52, k0_pay53, k0_pay54, k0_pay55, k0_pay56, k0_pay57, own_mask, bc_zero, const_zero, mm_group, M2_slice, M2_add, M2_sub, M2_truncf, M2_extf, sub_self, zero_mul, Finset.sum_const_zero, add_zero]
  exact M2_congr fun r c hr hc => by
    have := sum_gt (fun s => lko Q K r s) 0 c
    simp only [zero_add] at this ⊢
    exact this
/-- and its weighted values. -/
theorem ownAcc_eq (i : grid0.Coords) : ownAcc (F := Ideal) i (M2 512 128 Q) (M2 512 128 K) (M2 512 128 V) = M2 512 128 fun r d => ∑ c ∈ Finset.range 512, ao Q K r c * V c d := by
  simp only [ownAcc, tri_eq, past_eq, own_ls, own_lk, k0_pay1, k0_pay40, k0_pay41, k0_pay48, k0_pay49, k0_pay50, k0_pay51, k0_pay52, k0_pay53, k0_pay54, k0_pay55, k0_pay56, k0_pay57, k0_pay58, own_mask, bc_zero, const_zero, mm_group, mm_av, M2_slice, M2_add, M2_sub, M2_exp, M2_truncf, M2_extf, catv_fold, catv_M2, B2_select, sub_self, zero_mul, Finset.sum_const_zero, add_zero, zero_add]
  refine M2_congr fun r d hr hd => Finset.sum_congr rfl fun c hc => ?_
  have := cat_gt (fun r s => lko Q K r s) (fun _ => 0) r c (Finset.mem_range.mp hc)
  simp only [zero_add, add_zero] at this
  rw [this]
  rfl

/-! ## A whole point -/

/-- The sums after `n` key blocks: over the keys from the last block on. -/
theorem state_real (i : grid0.Coords) : ∀ n, n ≤ (i 1).val → state (F := Ideal) i (M2 512 128 fun r d => Q (512 * (i 1).val + r) d) (M2 2048 128 K) (M2 2048 128 V) n
    = (M2 512 128 fun r _ => ∑ s ∈ Finset.Ico (512 * ((i 1).val - n)) 2048, keep Q K (512 * (i 1).val + r) s,
        M2 512 128 fun r d => ∑ s ∈ Finset.Ico (512 * ((i 1).val - n)) 2048, wt Q K (512 * (i 1).val + r) s * V s d)
  | 0, _ => by
      have hi : (i 1).val < 4 := (i 1).isLt
      show (ownRun i _ _, ownAcc i _ _ _) = _
      rw [rowBlk_M2, rowBlk_M2, ownRun_eq, ownAcc_eq]
      refine congrArg₂ Prod.mk (M2_congr fun r _ hr _ => ?_) (M2_congr fun r d hr _ => ?_)
      · show ∑ s ∈ Finset.range 512, lko (fun r d => Q (512 * (i 1).val + r) d) (fun r d => K (512 * (i 1).val + r) d) r s = _
        simp only [lko_keep, blk_sum (fun s => keep Q K (512 * (i 1).val + r) s), Nat.sub_zero]
        rw [join _ (512 * (i 1).val) (512 * (i 1).val + 512) 2048 (by omega) (by omega), ico_zero _ (512 * (i 1).val + 512) 2048 fun s hs => keep_zero Q K (by omega), add_zero]
      · show ∑ s ∈ Finset.range 512, ao (fun r d => Q (512 * (i 1).val + r) d) (fun r d => K (512 * (i 1).val + r) d) r s * V (512 * (i 1).val + s) d = _
        rw [Nat.sub_zero, join _ (512 * (i 1).val) (512 * (i 1).val + 512) 2048 (by omega) (by omega),
          ico_zero _ (512 * (i 1).val + 512) 2048 fun s hs => by rw [wt_zero Q K (by omega), zero_mul], add_zero, ← blk_sum]
        exact Finset.sum_congr rfl fun s hs => by rw [wt_own Q K _ r s hi hr (Finset.mem_range.mp hs)]
  | n + 1, hn => by
      have hi : (i 1).val < 4 := (i 1).isLt
      show (nextRun _ _ _ (state i _ _ _ n).1, nextAcc _ _ _ _ (state i _ _ _ n)) = _
      rw [state_real i n (by omega), rowBlk_M2, rowBlk_M2, tri_eq, nextRun_eq, nextAcc_eq]
      have e : 512 * ((i 1).val - n) = 512 * ((i 1).val - (n + 1)) + 512 := by omega
      refine congrArg₂ Prod.mk (M2_congr fun r _ hr _ => ?_) (M2_congr fun r d hr _ => ?_)
      · rw [join _ (512 * ((i 1).val - (n + 1))) (512 * ((i 1).val - n)) 2048 (by omega) (by omega), add_comm, e, ← blk_sum]
        exact congrArg (fun x : ℝ => x + _) (Finset.sum_congr rfl fun s hs => by
          have := Finset.mem_range.mp hs
          exact (if_pos (by omega)).symm)
      · rw [join _ (512 * ((i 1).val - (n + 1))) (512 * ((i 1).val - n)) 2048 (by omega) (by omega), add_comm]
        refine congrArg (fun x : ℝ => x + _) ?_
        rw [e, ← blk_sum]
        refine Finset.sum_congr rfl fun s hs => congrArg (fun x : ℝ => x * _) ?_
        rw [← e]
        exact wt_blk Q K _ n r s hi hn (Finset.mem_range.mp hs)

end Cert.Proof.SbFwd

end
-- ==== Proof.SbFwd.Claim.lean ====
/-
  The forward stick-breaking attention: on finite arguments the kernel and the reference end with the same array.
-/
module

public import proofs.«01_k».proof.Defs
public import proofs.«01_k».proof.Pre_finite29
public import proofs.«01_k».proof.Proof.Gen.Reference29Ideal.Run
public import proofs.«01_k».proof.Proof.SbFwd.Point
public import proofs.«01_k».proof.Proof.RefReal
public import proofs.«01_k».proof.Proof.Finite

@[expose] public section

set_option maxRecDepth 16384
set_option maxHeartbeats 4000000

noncomputable section

namespace Cert.Proof.SbFwd

open Idealize.ShloMosaic Idealize.ShloMosaic.TcCoe Idealize.SL Idealize.SL.Sem
open Cert.Proof.SB

/-- The attention's output, by row and column: each value times its weight. -/
def att (X : ℕ → ℕ → ℝ) (r c : ℕ) : ℝ := ∑ s ∈ Finset.range 2048, hw X (c / 128) r s * hd X 2 (c / 128) s (c % 128)

/-! ## The kernel -/

section Kernel
open Cert.Kernel29Ideal Cert.Kernel29Ideal.Gen

theorem kidx0 : ∀ t : Fin cfg0.N, win0_0.index t = ![t.val % 4, t.val / 4] := (by decide +kernel : ∀ t : Fin grid0.N, win0_0.index t = ![t.val % 4, t.val / 4])
theorem kidx1 : ∀ t : Fin cfg0.N, win0_1.index t = ![0, 8 + t.val / 4] := (by decide +kernel : ∀ t : Fin grid0.N, win0_1.index t = ![0, 8 + t.val / 4])
theorem kidx2 : ∀ t : Fin cfg0.N, win0_2.index t = ![0, 16 + t.val / 4] := (by decide +kernel : ∀ t : Fin grid0.N, win0_2.index t = ![0, 16 + t.val / 4])
theorem kidx3 : ∀ t : Fin cfg0.N, win0_3.index t = ![t.val % 4, t.val / 4] := (by decide +kernel : ∀ t : Fin grid0.N, win0_3.index t = ![t.val % 4, t.val / 4])
theorem kcoord : ∀ t : Fin cfg0.N, (grid0.coords t 1).val = t.val % 4 := (by decide +kernel : ∀ t : Fin grid0.N, (grid0.coords t 1).val = t.val % 4)

variable (X : ℕ → ℕ → ℝ) (m : (ℓ : Loc nD τ sig) → Buf (Elt Ideal) ℓ) (c : Dev nD) (hX : m ((c : Thread nD τ).loc main_arg0) = M2 2048 6144 X)

include hX in
theorem qBlk (t : Fin cfg0.N) : iblk m c 0 t = M2 512 128 fun r d => hd X 0 (t.val / 4) (512 * (grid0.coords t 1).val + r) d := by
  funext y
  blk_simp [iblk]
  rw [show V m c main_arg0 = M2 2048 6144 X from hX]
  unfold M2 hd
  blk_simp [kidx0]
  exact coe_at X (by rw [kcoord t]; omega) (by omega)
include hX in
theorem kBlk (t : Fin cfg0.N) : iblk m c 1 t = M2 2048 128 (hd X 1 (t.val / 4)) := by
  funext y
  blk_simp [iblk]
  rw [show V m c main_arg0 = M2 2048 6144 X from hX]
  unfold M2 hd
  blk_simp [kidx1]
  exact coe_at X (by omega) (by omega)
include hX in
theorem vBlk (t : Fin cfg0.N) : iblk m c 2 t = M2 2048 128 (hd X 2 (t.val / 4)) := by
  funext y
  blk_simp [iblk]
  rw [show V m c main_arg0 = M2 2048 6144 X from hX]
  unfold M2 hd
  blk_simp [kidx2]
  exact coe_at X (by omega) (by omega)

include hX in
/-- The kernel's result is the attention's output. -/
theorem final3 : (dats m 0 c).arrAt 3 cfg0.N = M2 2048 1024 (att X) := by
  refine (dats m 0 c).arrAt_eq_of_covers 3 _ (by decide +kernel) fun t hf y => ?_
  blk_simp
  rw [Cert.Kernel29Ideal.Gen.after0_3, outsAt0, out_eq, qBlk X m c hX, kBlk X m c hX, vBlk X m c hX, state_real _ _ _ _ _ le_rfl, k0_pay14, M2_truncf]
  have h1 : (y 1).val < 128 := (y 1).isLt
  unfold M2 att
  blk_simp [kidx3]
  refine congrArg _ ?_
  rw [kcoord t, show (t.val / 4 * 128 + (y 1).val) / 128 = t.val / 4 from by omega, show (t.val / 4 * 128 + (y 1).val) % 128 = (y 1).val from by omega,
    Nat.sub_self, Nat.mul_zero, ← Finset.range_eq_Ico, Nat.mul_comm 512]

end Kernel

/-! ## The reference -/

section Reference
open Cert.Reference29Ideal Cert.Reference29Ideal.Value

theorem dot_scores (f g : ℕ → ℕ → ℕ → ℝ) :
    Host.dotGeneral (F := Ideal) (φ₁ := .f32) (φ₂ := .f32) dot_S2048x8x128_S2048x8x128_S8x2048x2048_2_2_0_0_1_1 none (T3 2048 8 128 f) (T3 2048 8 128 g)
      = T3 8 2048 2048 fun h t s => ∑ d ∈ Finset.range 128, f t h d * g s h d := dot_qk f g
theorem dot_values (f g : ℕ → ℕ → ℕ → ℝ) :
    Host.dotGeneral (F := Ideal) (φ₁ := .f32) (φ₂ := .f32) dot_S2048x8x128_S8x2048x2048_S8x128x2048_0_2_2_1_1_0 none (T3 2048 8 128 f) (T3 8 2048 2048 g)
      = T3 8 128 2048 fun h d t => ∑ s ∈ Finset.range 2048, f s h d * g h t s := by
  funext j
  idx_vars j
  pointwise
  simp only [T3_at, ← EReal.coe_mul]
  rw [sum_range (fun s => f s _ _ * g _ _ s)]

/-- The reference's result is the attention's output. -/
theorem out_ref (X : ℕ → ℕ → ℝ) (m : (ℓ : Loc nD τ sig) → Buf (Elt Ideal) ℓ) (c : Dev nD) (hX : m ((c.tc : Thread nD τ).loc main_arg0) = M2 2048 6144 X) :
    res_out0 m c = M2 2048 1024 (att X) := by
  unfold res_out0 res_main_v29
  rw [hX]
  simp only [M2_extf, col_q, col_k, col_v, dot_scores, b_c0, b_zero, b_inf, z_init, id_eq, T3_mul, T3_neg, T3_sub, T3_add, T3_max, T3_abs, T3_exp, T3_log1p, T3_une,
    SB.past_eq _ _ _ _ _ _ _ _ _ _ rfl rfl rfl rfl rfl, B3_select, cum_hi _ _ _ _ _ _ rfl rfl rfl rfl rfl,
    zl_fold, sp_fold, neg_neg, ls_of_sp, lk_of_sp, lk_neg, ls_neg, keep_fold]
  simp only [dot_values]
  erw [tr_201, merge_eq, M2_truncf]
  refine (M2_congr (g := att X) fun t c ht hc => Finset.sum_congr rfl fun s hs => ?_)
  rw [mul_comm]
  refine congrArg₂ (· * ·) (if_congr Iff.rfl ?_ rfl) rfl
  rw [after_fold _ _ _ _ (Finset.mem_range.mp hs)]

end Reference

/-! ## The claim -/

/-- The side conditions the precondition's operations take. -/
theorem pre_facts : Cert.Pre_finite29.Facts where
  bitsLt_bf16_f32 := by decide
  bcast_S_S2048x6144 := by decide
  reducesTo_S2048x6144_S_d0_1 := by decide
  h_S_ := by decide

/-- Under the precondition the argument is an array of reals. -/
theorem real_of_pre [Cert.Pre_finite29.Facts] (x : FVec Ideal Cert.Pre_finite29.S2048x6144 .bf16)
    (h : Cert.Pre_finite29.fn (F := Ideal) x = fun _ => 1#1) : ∃ X, x = M2 2048 6144 X := by
  have : Subsingleton Cert.Pre_finite29.S_.Idx := ⟨fun i j => funext fun a => a.elim0⟩
  exact exists_M2 x fun i => finite_of_lt (x i) _ ofBits_inf (Host.reduce_andi_all _ _ _ _ _ (congrFun h (fun a => a.elim0)) i)

/-- The reference runs to the end, keeps its argument and leaves every counter at zero. -/
theorem frame_reference : Cert.quiescent_Reference29Ideal := fun m ρ _ =>
  (θ_run Cert.Reference29Ideal.defs _ _).mono (fun r h => ⟨fun c => (h c).2, sem_eq_zero_of_no_sems (by decide) r.2⟩) (Cert.Reference29Ideal.Value.run m ρ)

/-- On the same finite argument the kernel and the reference end with the same result. -/
theorem same : Cert.algebraic_Kernel29Ideal_Reference29Ideal_pre_finite29 (hKernel29Ideal := Cert.Kernel29Ideal.Gen.facts) (hReference29Ideal := Cert.Reference29Ideal.Gen.facts) (hPre_finite29 := pre_facts) := by
  intro m ρ m' ρ' hpre hargs
  have := pre_facts
  choose X hX using fun c => real_of_pre _ (hpre c)
  exact ⟨fun c => M2 2048 1024 (att (X c)),
    (θ_run Cert.Kernel29Ideal.defs _ _).mono (fun r h c => ⟨((h c).1).trans (final3 (X c) m c (hX c)), (h c).2⟩) (Cert.Kernel29Ideal.Value.run_blocks m ρ),
    (θ_run Cert.Reference29Ideal.defs _ _).mono (fun r h c => ⟨((h c).1).trans (out_ref (X c) m' c ((hargs c).trans (hX c))), (h c).2⟩) (Cert.Reference29Ideal.Value.run m' ρ')⟩

end Cert.Proof.SbFwd

end
-- ==== Proof.Pointwise.LossReal.lean ====
/-
  The arithmetic of the loss head on real numbers: the error of a row, its gradient, and the sum of the losses.
-/
module

public import proofs.«01_k».proof.Proof.Pointwise.NormReal

@[expose] public section

noncomputable section

namespace Cert.Proof.LossReal

open Idealize.ShloMosaic NormReal

theorem ofBits_half : (Ideal.ofBits FTy.f32 1056964608#32 : EReal) = ((1 / 2 : ℝ) : EReal) := by
  simp [Ideal.ofBits, Ideal.ieee, -EReal.coe_mul]; norm_num
theorem ofBits_two : (Ideal.ofBits FTy.f32 1073741824#32 : EReal) = ((2 : ℝ) : EReal) := by
  simp [Ideal.ofBits, Ideal.ieee, -EReal.coe_mul]; norm_num
theorem ofBits_over_width : (Ideal.ofBits FTy.f32 973078528#32 : EReal) = ((1 / 2048 : ℝ) : EReal) := by
  simp [Ideal.ofBits, Ideal.ieee, -EReal.coe_mul]; norm_num

theorem real_finite (x : ℝ) : (x : EReal) ≠ ⊤ ∧ (x : EReal) ≠ ⊥ := ⟨EReal.coe_ne_top x, EReal.coe_ne_bot x⟩

/-- One over one plus the exponential of minus the entry. -/
abbrev logistic (t : EReal) : EReal := Ideal.div 1 (1 + Ideal.exp (-t))

theorem logistic_real (t : ℝ) : ∃ s : ℝ, logistic (t : EReal) = (s : EReal) := by
  have h : 1 + Ideal.exp (-(t : EReal)) = ((1 + Real.exp (-t) : ℝ) : EReal) := by
    rw [← EReal.coe_neg, EReal.coe_add]; rfl
  have h0 : 1 + Real.exp (-t) ≠ 0 := by positivity
  exact ⟨1 / (1 + Real.exp (-t)), by rw [logistic, h, ← EReal.coe_one, div_real _ h0]⟩

/-- The residual entry plus the gated embedding. -/
abbrev mix (x t p : EReal) : EReal := x + logistic t * p

theorem mix_finite {x t p : EReal} (hx : x ≠ ⊤ ∧ x ≠ ⊥) (ht : t ≠ ⊤ ∧ t ≠ ⊥) (hp : p ≠ ⊤ ∧ p ≠ ⊥) : mix x t p ≠ ⊤ ∧ mix x t p ≠ ⊥ := by
  lift x to ℝ using hx
  lift t to ℝ using ht
  lift p to ℝ using hp
  obtain ⟨s, hs⟩ := logistic_real t
  rw [mix, hs, ← EReal.coe_mul, ← EReal.coe_add]
  exact real_finite _

/-- The error at an entry: the normalised entry times the gain, less the target. -/
abbrev err (x : Fin 2048 → EReal) (xj gj tj : EReal) : EReal := xj * Ideal.rsqrt (meanSq x) * gj - tj

theorem err_finite {x : Fin 2048 → EReal} {xj gj tj : EReal} (hx : ∀ k, x k ≠ ⊤ ∧ x k ≠ ⊥) (hxj : xj ≠ ⊤ ∧ xj ≠ ⊥) (hgj : gj ≠ ⊤ ∧ gj ≠ ⊥)
    (htj : tj ≠ ⊤ ∧ tj ≠ ⊥) : err x xj gj tj ≠ ⊤ ∧ err x xj gj tj ≠ ⊥ := by
  obtain ⟨x, rfl⟩ := exists_real x hx
  lift xj to ℝ using hxj
  lift gj to ℝ using hgj
  lift tj to ℝ using htj
  obtain ⟨v, r, hv, hr, h1, h2⟩ := real_scale x
  rw [err, h1, h2, ← EReal.coe_mul, ← EReal.coe_mul, ← EReal.coe_sub]
  exact real_finite _

/-- The gradient of half the mean square in an entry, as the kernel writes it. -/
abbrev over (e : EReal) : EReal := e * Ideal.ofBits FTy.f32 973078528#32

/-- The same by the rules of differentiation: a half over the width, times twice the entry. -/
abbrev halved (e : EReal) : EReal :=
  Ideal.div (Ideal.ofBits FTy.f32 1056964608#32 * 1) (Ideal.ofBits FTy.f32 1157627904#32) * (Ideal.ofBits FTy.f32 1073741824#32 * e)

theorem over_eq {e : EReal} (h : e ≠ ⊤ ∧ e ≠ ⊥) : over e = halved e := by
  lift e to ℝ using h
  rw [over, halved, mul_one, ofBits_half, ofBits_two, ofBits_over_width, div_width, ← EReal.coe_mul, ← EReal.coe_mul, ← EReal.coe_mul]
  congr 1; ring

theorem halved_finite {e : EReal} (h : e ≠ ⊤ ∧ e ≠ ⊥) : halved e ≠ ⊤ ∧ halved e ≠ ⊥ := by
  rw [← over_eq h]
  lift e to ℝ using h
  rw [over, ofBits_over_width, ← EReal.coe_mul]
  exact real_finite _

/-- The gradient at an entry of the normalised row, as the kernel writes it. -/
abbrev factored (x g t : Fin 2048 → EReal) (xj gj tj : EReal) : EReal :=
  Ideal.rsqrt (meanSq x) * (over (err x xj gj tj) * gj - xj * Ideal.rsqrt (meanSq x) *
    Ideal.div (∑ k, over (err x (x k) (g k) (t k)) * g k * (x k * Ideal.rsqrt (meanSq x))) (Ideal.ofBits FTy.f32 1157627904#32))

/-- The same as the rules of differentiation give it. -/
abbrev expanded (x g t : Fin 2048 → EReal) (xj gj tj : EReal) : EReal :=
  halved (err x xj gj tj) * gj * Ideal.rsqrt (meanSq x) + xj * through x (fun k => halved (err x (x k) (g k) (t k))) g
    + through x (fun k => halved (err x (x k) (g k) (t k))) g * xj

theorem factored_eq (x g t : Fin 2048 → EReal) (xj gj tj : EReal) (hx : ∀ k, x k ≠ ⊤ ∧ x k ≠ ⊥) (hg : ∀ k, g k ≠ ⊤ ∧ g k ≠ ⊥)
    (ht : ∀ k, t k ≠ ⊤ ∧ t k ≠ ⊥) (hxj : xj ≠ ⊤ ∧ xj ≠ ⊥) (hgj : gj ≠ ⊤ ∧ gj ≠ ⊥) (htj : tj ≠ ⊤ ∧ tj ≠ ⊥) :
    factored x g t xj gj tj = expanded x g t xj gj tj := by
  have he : ∀ k, err x (x k) (g k) (t k) ≠ ⊤ ∧ err x (x k) (g k) (t k) ≠ ⊥ := fun k => err_finite hx (hx k) (hg k) (ht k)
  have hj := err_finite hx hxj hgj htj
  have h := NormReal.factored_eq x (fun k => halved (err x (x k) (g k) (t k))) g 0 xj (halved (err x xj gj tj)) gj hx
    (fun k => halved_finite (he k)) hg (real_finite 0) hxj (halved_finite hj) hgj
  rw [NormReal.factored, NormReal.expanded, zero_add, zero_add] at h
  rw [factored, expanded, over_eq hj, ← h]
  simp only [over_eq (he _)]

/-- Half of a sum, block by block. -/
theorem half_sum {A B : ℕ} (e : Fin A → Fin B → EReal) (h : ∀ a b, e a b ≠ ⊤ ∧ e a b ≠ ⊥) :
    ∑ a, Ideal.ofBits FTy.f32 1056964608#32 * ∑ b, e a b = Ideal.ofBits FTy.f32 1056964608#32 * ∑ a, ∑ b, e a b := by
  have hr : ∀ a b, e a b = ((e a b).toReal : EReal) := fun a b => (EReal.coe_toReal (h a b).1 (h a b).2).symm
  rw [show e = fun a b => ((e a b).toReal : EReal) from funext fun a => funext fun b => hr a b]
  simp only [ofBits_half, SB.coe_sum, ← EReal.coe_mul, Finset.mul_sum]

/-- The mean square of a row's errors is finite. -/
theorem mean_finite {e : Fin 2048 → EReal} (h : ∀ k, e k ≠ ⊤ ∧ e k ≠ ⊥) :
    Ideal.div (∑ k, e k * e k) (Ideal.ofBits FTy.f32 1157627904#32) ≠ ⊤ ∧ Ideal.div (∑ k, e k * e k) (Ideal.ofBits FTy.f32 1157627904#32) ≠ ⊥ := by
  obtain ⟨e, rfl⟩ := exists_real e h
  simp only [← EReal.coe_mul, SB.coe_sum, div_width]
  exact real_finite _

theorem expanded_congr {x x' g g' t t' : Fin 2048 → EReal} {xj xj' gj gj' tj tj' : EReal} (hx : ∀ k, x k = x' k) (hg : ∀ k, g k = g' k)
    (ht : ∀ k, t k = t' k) (hxj : xj = xj') (hgj : gj = gj') (htj : tj = tj') : expanded x g t xj gj tj = expanded x' g' t' xj' gj' tj' := by
  obtain rfl := funext hx
  obtain rfl := funext hg
  obtain rfl := funext ht
  rw [hxj, hgj, htj]

/-- What an entry adds to the gradient of its gain. -/
abbrev gain (x : Fin 2048 → EReal) (xj gj tj : EReal) : EReal := xj * Ideal.rsqrt (meanSq x) * halved (err x xj gj tj)

theorem gain_eq {x : Fin 2048 → EReal} {xj gj tj : EReal} (hx : ∀ k, x k ≠ ⊤ ∧ x k ≠ ⊥) (hxj : xj ≠ ⊤ ∧ xj ≠ ⊥) (hgj : gj ≠ ⊤ ∧ gj ≠ ⊥)
    (htj : tj ≠ ⊤ ∧ tj ≠ ⊥) : over (err x xj gj tj) * (xj * Ideal.rsqrt (meanSq x)) = gain x xj gj tj := by
  rw [gain, over_eq (err_finite hx hxj hgj htj)]
  exact mul_comm (G := EReal) _ _

theorem gain_congr {x x' : Fin 2048 → EReal} {xj xj' gj gj' tj tj' : EReal} (hx : ∀ k, x k = x' k) (hxj : xj = xj') (hgj : gj = gj')
    (htj : tj = tj') : gain x xj gj tj = gain x' xj' gj' tj' := by
  obtain rfl := funext hx
  rw [hxj, hgj, htj]

/-- The mean of a row's squared errors. -/
abbrev rowLoss (x g t : Fin 2048 → EReal) : EReal :=
  Ideal.div (∑ k, err x (x k) (g k) (t k) * err x (x k) (g k) (t k)) (Ideal.ofBits FTy.f32 1157627904#32)

theorem rowLoss_finite {x g t : Fin 2048 → EReal} (hx : ∀ k, x k ≠ ⊤ ∧ x k ≠ ⊥) (hg : ∀ k, g k ≠ ⊤ ∧ g k ≠ ⊥)
    (ht : ∀ k, t k ≠ ⊤ ∧ t k ≠ ⊥) : rowLoss x g t ≠ ⊤ ∧ rowLoss x g t ≠ ⊥ :=
  mean_finite fun k => err_finite hx (hx k) (hg k) (ht k)

theorem rowLoss_congr {x x' g g' t t' : Fin 2048 → EReal} (hx : ∀ k, x k = x' k) (hg : ∀ k, g k = g' k) (ht : ∀ k, t k = t' k) :
    rowLoss x g t = rowLoss x' g' t' := by
  obtain rfl := funext hx
  obtain rfl := funext hg
  obtain rfl := funext ht
  rfl

theorem gate_congr {a a' b b' t t' : EReal} (ha : a = a') (hb : b = b') (ht : t = t') :
    a * b * logistic t * (1 - logistic t) = a' * b' * (logistic t' * (1 - logistic t')) := by
  rw [ha, hb, ht]
  exact mul_assoc (G := EReal) _ _ _

theorem embed_congr {a a' t t' : EReal} (ha : a = a') (ht : t = t') : a * logistic t = logistic t' * a' := by
  rw [ha, ht]
  exact mul_comm (G := EReal) _ _

end Cert.Proof.LossReal

end
-- ==== Proof.Pointwise.PleLoss.lean ====
/-
  The embedding gate, the last norm and the loss, with their gradients.
-/
module

public import proofs.«01_k».proof.Defs
public import proofs.«01_k».proof.Proof.Gen.Kernel30Ideal.Value
public import proofs.«01_k».proof.Proof.Gen.Reference30Ideal.Run
public import Idealize.ShloMosaic.Lib.Pipeline.ValueKit
public import proofs.«01_k».proof.Pre_finite30
public import proofs.«01_k».proof.Proof.Finite
public import proofs.«01_k».proof.Proof.Pointwise.LossReal

@[expose] public section

set_option maxRecDepth 16384
set_option maxHeartbeats 1000000

noncomputable section

namespace Cert.Proof.PleLoss

open Idealize.ShloMosaic Idealize.ShloMosaic.TcCoe Idealize.SL Idealize.SL.Sem
open Cert.Kernel30Ideal Cert.Kernel30Ideal.Gen

variable (m : (ℓ : Loc nD τ sig) → Buf (Elt Ideal) ℓ) (c : Dev nD)

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![0, 0] := (by decide +kernel : ∀ t : Fin grid0.N, win0_3.index t = ![0, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0] := (by decide +kernel : ∀ t : Fin grid0.N, win0_7.index t = ![t.val, 0])
theorem idx8 : ∀ t : Fin cfg0.N, win0_8.index t = ![0, 0] := (by decide +kernel : ∀ t : Fin grid0.N, win0_8.index t = ![0, 0])
theorem idx9 : ∀ t : Fin cfg0.N, win0_9.index t = ![0, 0] := (by decide +kernel : ∀ t : Fin grid0.N, win0_9.index t = ![0, 0])

/-- The gate: one over one plus the exponential of minus the logit. -/
abbrev gate (t : FVec Ideal Cert.Reference30Ideal.S2048x2048 .bf16) : FVec Ideal Cert.Reference30Ideal.S2048x2048 .f32 :=
  Host.divf (broadcastInDim Cert.Reference30Ideal.S2048x2048 ![] Cert.Reference30Ideal.Gen.bcast_S_S2048x2048 (constant Cert.Reference30Ideal.S_ .f32 0x3F800000#32)) (addf (broadcastInDim Cert.Reference30Ideal.S2048x2048 ![] Cert.Reference30Ideal.Gen.bcast_S_S2048x2048 (constant Cert.Reference30Ideal.S_ .f32 0x3F800000#32)) (Host.exp (Host.negf (extf .f32 t Cert.Reference30Ideal.Gen.bitsLt_bf16_f32))))

/-- The residual stream plus the gated embedding. -/
abbrev mixed (x2 : FVec Ideal Cert.Reference30Ideal.S2048x2048 .f32) (t pe : FVec Ideal Cert.Reference30Ideal.S2048x2048 .bf16) : FVec Ideal Cert.Reference30Ideal.S2048x2048 .f32 := addf x2 (mulf (gate t) (extf .f32 pe Cert.Reference30Ideal.Gen.bitsLt_bf16_f32))

/-- A row's mean square plus the small constant. -/
abbrev meanSquare (x : FVec Ideal Cert.Reference30Ideal.S2048x2048 .f32) : FVec Ideal Cert.Reference30Ideal.S2048x1 .f32 :=
  addf (Host.divf (broadcastInDim Cert.Reference30Ideal.S2048x1 ![0] Cert.Reference30Ideal.Gen.bcast_S2048_S2048x1_0 (Host.reduceAdd (mulf x x) (constant Cert.Reference30Ideal.S_ .f32 0x00000000#32) Cert.Reference30Ideal.Gen.reducesTo_S2048x2048_S2048_d1 Cert.Reference30Ideal.Gen.h_S_)) (broadcastInDim Cert.Reference30Ideal.S2048x1 ![] Cert.Reference30Ideal.Gen.bcast_S_S2048x1 (constant Cert.Reference30Ideal.S_ .f32 0x45000000#32))) (broadcastInDim Cert.Reference30Ideal.S2048x1 ![] Cert.Reference30Ideal.Gen.bcast_S_S2048x1 (constant Cert.Reference30Ideal.S_ .f32 0x358637BD#32))

/-- One over its root. -/
abbrev scale (x : FVec Ideal Cert.Reference30Ideal.S2048x2048 .f32) : FVec Ideal Cert.Reference30Ideal.S2048x1 .f32 := Host.rsqrt (meanSquare x)

/-- The rows over their roots. -/
abbrev normed (x : FVec Ideal Cert.Reference30Ideal.S2048x2048 .f32) : FVec Ideal Cert.Reference30Ideal.S2048x2048 .f32 := mulf x (broadcastInDim Cert.Reference30Ideal.S2048x2048 ![0, 1] Cert.Reference30Ideal.Gen.bcast_S2048x1_S2048x2048_0_1 (scale x))

/-- The error of the normalised rows. -/
abbrev error (x : FVec Ideal Cert.Reference30Ideal.S2048x2048 .f32) (g : FVec Ideal Cert.Reference30Ideal.S1x2048 .f32) (tg : FVec Ideal Cert.Reference30Ideal.S2048x2048 .f32) : FVec Ideal Cert.Reference30Ideal.S2048x2048 .f32 := subf (mulf (normed x) (broadcastInDim Cert.Reference30Ideal.S2048x2048 ![0, 1] Cert.Reference30Ideal.Gen.bcast_S1x2048_S2048x2048_0_1 g)) tg

/-- The loss's gradient at the normalised rows. -/
abbrev dy (x : FVec Ideal Cert.Reference30Ideal.S2048x2048 .f32) (g : FVec Ideal Cert.Reference30Ideal.S1x2048 .f32) (tg : FVec Ideal Cert.Reference30Ideal.S2048x2048 .f32) : FVec Ideal Cert.Reference30Ideal.S2048x2048 .f32 :=
  mulf (broadcastInDim Cert.Reference30Ideal.S2048x2048 ![0] Cert.Reference30Ideal.Gen.bcast_S2048_S2048x2048_0 (Host.divf (broadcastInDim Cert.Reference30Ideal.S2048 ![] Cert.Reference30Ideal.Gen.bcast_S_S2048 (mulf (constant Cert.Reference30Ideal.S_ .f32 0x3F000000#32) (constant Cert.Reference30Ideal.S_ .f32 0x3F800000#32))) (broadcastInDim Cert.Reference30Ideal.S2048 ![] Cert.Reference30Ideal.Gen.bcast_S_S2048 (constant Cert.Reference30Ideal.S_ .f32 0x45000000#32)))) (mulf (broadcastInDim Cert.Reference30Ideal.S2048x2048 ![] Cert.Reference30Ideal.Gen.bcast_S_S2048x2048 (constant Cert.Reference30Ideal.S_ .f32 0x40000000#32)) (error x g tg))

/-- The same times the gains. -/
abbrev up (x : FVec Ideal Cert.Reference30Ideal.S2048x2048 .f32) (g : FVec Ideal Cert.Reference30Ideal.S1x2048 .f32) (tg : FVec Ideal Cert.Reference30Ideal.S2048x2048 .f32) : FVec Ideal Cert.Reference30Ideal.S2048x2048 .f32 := mulf (dy x g tg) (broadcastInDim Cert.Reference30Ideal.S2048x2048 ![0, 1] Cert.Reference30Ideal.Gen.bcast_S1x2048_S2048x2048_0_1 g)

/-- What reaches a row through its mean square, before the factor of the row itself. -/
abbrev through (x : FVec Ideal Cert.Reference30Ideal.S2048x2048 .f32) (g : FVec Ideal Cert.Reference30Ideal.S1x2048 .f32) (tg : FVec Ideal Cert.Reference30Ideal.S2048x2048 .f32) : FVec Ideal Cert.Reference30Ideal.S2048x2048 .f32 :=
  broadcastInDim Cert.Reference30Ideal.S2048x2048 ![0] Cert.Reference30Ideal.Gen.bcast_S2048_S2048x2048_0 (Host.reduceAdd (Host.divf (mulf (shapeCast Cert.Reference30Ideal.S2048x1 (Host.reduceAdd (mulf x (up x g tg)) (constant Cert.Reference30Ideal.S_ .f32 0x00000000#32) Cert.Reference30Ideal.Gen.reducesTo_S2048x2048_S2048_d1 Cert.Reference30Ideal.Gen.h_S_) Cert.Reference30Ideal.Gen.shapeCasts_S2048_S2048x1) (mulf (broadcastInDim Cert.Reference30Ideal.S2048x1 ![] Cert.Reference30Ideal.Gen.bcast_S_S2048x1 (constant Cert.Reference30Ideal.S_ .f32 0xBF000000#32)) (Host.divf (scale x) (meanSquare x)))) (broadcastInDim Cert.Reference30Ideal.S2048x1 ![] Cert.Reference30Ideal.Gen.bcast_S_S2048x1 (constant Cert.Reference30Ideal.S_ .f32 0x45000000#32))) (constant Cert.Reference30Ideal.S_ .f32 0x00000000#32) Cert.Reference30Ideal.Gen.reducesTo_S2048x1_S2048_d1 Cert.Reference30Ideal.Gen.h_S_)

/-- The gradient in the mixed rows. -/
abbrev grad (x : FVec Ideal Cert.Reference30Ideal.S2048x2048 .f32) (g : FVec Ideal Cert.Reference30Ideal.S1x2048 .f32) (tg : FVec Ideal Cert.Reference30Ideal.S2048x2048 .f32) : FVec Ideal Cert.Reference30Ideal.S2048x2048 .f32 :=
  addf (addf (mulf (up x g tg) (broadcastInDim Cert.Reference30Ideal.S2048x2048 ![0, 1] Cert.Reference30Ideal.Gen.bcast_S2048x1_S2048x2048_0_1 (scale x))) (mulf x (through x g tg))) (mulf (through x g tg) x)

/-- The gradient in the residual stream. -/
abbrev refX (x2 : FVec Ideal Cert.Reference30Ideal.S2048x2048 .f32) (t pe : FVec Ideal Cert.Reference30Ideal.S2048x2048 .bf16) (g : FVec Ideal Cert.Reference30Ideal.S1x2048 .f32) (tg : FVec Ideal Cert.Reference30Ideal.S2048x2048 .f32) : FVec Ideal Cert.Reference30Ideal.S2048x2048 .f32 := grad (mixed x2 t pe) g tg

/-- The gradient in the gate's logits. -/
abbrev refT (x2 : FVec Ideal Cert.Reference30Ideal.S2048x2048 .f32) (t pe : FVec Ideal Cert.Reference30Ideal.S2048x2048 .bf16) (g : FVec Ideal Cert.Reference30Ideal.S1x2048 .f32) (tg : FVec Ideal Cert.Reference30Ideal.S2048x2048 .f32) : FVec Ideal Cert.Reference30Ideal.S2048x2048 .bf16 :=
  truncf .bf16 (mulf (mulf (refX x2 t pe g tg) (extf .f32 pe Cert.Reference30Ideal.Gen.bitsLt_bf16_f32)) (mulf (gate t) (subf (broadcastInDim Cert.Reference30Ideal.S2048x2048 ![] Cert.Reference30Ideal.Gen.bcast_S_S2048x2048 (constant Cert.Reference30Ideal.S_ .f32 0x3F800000#32)) (gate t)))) Cert.Reference30Ideal.Gen.bitsLt_bf16_f32

/-- The gradient in the embedding. -/
abbrev refP (x2 : FVec Ideal Cert.Reference30Ideal.S2048x2048 .f32) (t pe : FVec Ideal Cert.Reference30Ideal.S2048x2048 .bf16) (g : FVec Ideal Cert.Reference30Ideal.S1x2048 .f32) (tg : FVec Ideal Cert.Reference30Ideal.S2048x2048 .f32) : FVec Ideal Cert.Reference30Ideal.S2048x2048 .bf16 := truncf .bf16 (mulf (gate t) (refX x2 t pe g tg)) Cert.Reference30Ideal.Gen.bitsLt_bf16_f32

/-- The gradient in the gains. -/
abbrev refG (x2 : FVec Ideal Cert.Reference30Ideal.S2048x2048 .f32) (t pe : FVec Ideal Cert.Reference30Ideal.S2048x2048 .bf16) (g : FVec Ideal Cert.Reference30Ideal.S1x2048 .f32) (tg : FVec Ideal Cert.Reference30Ideal.S2048x2048 .f32) : FVec Ideal Cert.Reference30Ideal.S1x2048 .f32 :=
  shapeCast Cert.Reference30Ideal.S1x2048 (Host.reduceAdd (mulf (normed (mixed x2 t pe)) (dy (mixed x2 t pe) g tg)) (constant Cert.Reference30Ideal.S_ .f32 0x00000000#32) Cert.Reference30Ideal.Gen.reducesTo_S2048x2048_S2048_d0 Cert.Reference30Ideal.Gen.h_S_) Cert.Reference30Ideal.Gen.shapeCasts_S2048_S1x2048

/-- The loss, in every entry of a row. -/
abbrev refL (x2 : FVec Ideal Cert.Reference30Ideal.S2048x2048 .f32) (t pe : FVec Ideal Cert.Reference30Ideal.S2048x2048 .bf16) (g : FVec Ideal Cert.Reference30Ideal.S1x2048 .f32) (tg : FVec Ideal Cert.Reference30Ideal.S2048x2048 .f32) : FVec Ideal Cert.Reference30Ideal.S1x128 .f32 :=
  broadcastInDim Cert.Reference30Ideal.S1x128 ![] Cert.Reference30Ideal.Gen.bcast_S_S1x128 (mulf (constant Cert.Reference30Ideal.S_ .f32 0x3F000000#32) (Host.reduceAdd (Host.divf (Host.reduceAdd (mulf (error (mixed x2 t pe) g tg) (error (mixed x2 t pe) g tg)) (constant Cert.Reference30Ideal.S_ .f32 0x00000000#32) Cert.Reference30Ideal.Gen.reducesTo_S2048x2048_S2048_d1 Cert.Reference30Ideal.Gen.h_S_) (broadcastInDim Cert.Reference30Ideal.S2048 ![] Cert.Reference30Ideal.Gen.bcast_S_S2048 (constant Cert.Reference30Ideal.S_ .f32 0x45000000#32))) (constant Cert.Reference30Ideal.S_ .f32 0x00000000#32) Cert.Reference30Ideal.Gen.reducesTo_S2048_S_d0 Cert.Reference30Ideal.Gen.h_S_))

/-- The kernel's gradient of a block in the mixed rows. -/
theorem pay_grad (x2 : Vec Ideal S256x2048 .f32) (t pe : Vec Ideal S256x2048 .bf16) (g : Vec Ideal S1x2048 .f32) (tg : Vec Ideal S256x2048 .f32) (j) : k0_pay11 (F := Ideal) (k0_pay5 t pe x2) (k0_pay9 t pe x2 g tg) (k0_pay10 t pe x2 g tg) j = LossReal.factored (fun k => LossReal.mix (x2 (ix2 (j 0) k)) (t (ix2 (j 0) k)) (pe (ix2 (j 0) k))) (fun k => g (ix2 0 k)) (fun k => tg (ix2 (j 0) k)) (LossReal.mix (x2 j) (t j) (pe j)) (g (ix2 0 (j 1))) (tg j) := by
  pointwise [k0_pay11, k0_pay10, k0_pay9, k0_pay8, k0_pay7, k0_pay6, k0_pay5, k0_pay4, k0_pay3, k0_pay2]
  simp only [zero_sub]

/-- The reference's. -/
theorem ref_grad (x2 : FVec Ideal Cert.Reference30Ideal.S2048x2048 .f32) (t pe : FVec Ideal Cert.Reference30Ideal.S2048x2048 .bf16) (g : FVec Ideal Cert.Reference30Ideal.S1x2048 .f32) (tg : FVec Ideal Cert.Reference30Ideal.S2048x2048 .f32) (j) : refX x2 t pe g tg j = LossReal.expanded (fun k => LossReal.mix (x2 (ix2 (j 0) k)) (t (ix2 (j 0) k)) (pe (ix2 (j 0) k))) (fun k => g (ix2 0 k)) (fun k => tg (ix2 (j 0) k)) (LossReal.mix (x2 j) (t j) (pe j)) (g (ix2 0 (j 1))) (tg j) := by
  pointwise [refX]
  simp only [Finset.sum_const, Finset.card_univ, Fintype.card_fin, one_smul, mul_one, LossReal.expanded, LossReal.halved, LossReal.mix, LossReal.logistic, LossReal.err, NormReal.meanSq]

/-- What a block adds to the gradient in the gains. -/
theorem pay_gain (x2 : Vec Ideal S256x2048 .f32) (t pe : Vec Ideal S256x2048 .bf16) (g : Vec Ideal S1x2048 .f32) (tg : Vec Ideal S256x2048 .f32) (a : Vec Ideal S1x2048 .f32) (j) : k0_pay16 (F := Ideal) (k0_pay6 t pe x2) (k0_pay8 t pe x2 g tg) a j = a j +
    ∑ r, LossReal.over (LossReal.err (fun k => LossReal.mix (x2 (ix2 r k)) (t (ix2 r k)) (pe (ix2 r k))) (LossReal.mix (x2 (ix2 r (j 1))) (t (ix2 r (j 1))) (pe (ix2 r (j 1)))) (g (ix2 0 (j 1))) (tg (ix2 r (j 1)))) *
      (LossReal.mix (x2 (ix2 r (j 1))) (t (ix2 r (j 1))) (pe (ix2 r (j 1))) * Ideal.rsqrt (NormReal.meanSq (fun k => LossReal.mix (x2 (ix2 r k)) (t (ix2 r k)) (pe (ix2 r k))))) := by
  pointwise [k0_pay16, k0_pay11, k0_pay10, k0_pay9, k0_pay8, k0_pay7, k0_pay6, k0_pay5, k0_pay4, k0_pay3, k0_pay2]
  simp only [zero_sub]

/-- The reference's gradient in the gains. -/
theorem ref_gain (x2 : FVec Ideal Cert.Reference30Ideal.S2048x2048 .f32) (t pe : FVec Ideal Cert.Reference30Ideal.S2048x2048 .bf16) (g : FVec Ideal Cert.Reference30Ideal.S1x2048 .f32) (tg : FVec Ideal Cert.Reference30Ideal.S2048x2048 .f32) (j) : refG x2 t pe g tg j =
    ∑ r, LossReal.gain (fun k => LossReal.mix (x2 (ix2 r k)) (t (ix2 r k)) (pe (ix2 r k))) (LossReal.mix (x2 (ix2 r (j 1))) (t (ix2 r (j 1))) (pe (ix2 r (j 1)))) (g (ix2 0 (j 1))) (tg (ix2 r (j 1))) := by
  pointwise [refG]
  simp only [mul_one, LossReal.gain, LossReal.halved, LossReal.mix, LossReal.logistic, LossReal.err, NormReal.meanSq]

/-- What a block adds to the loss. -/
theorem pay_loss (x2 : Vec Ideal S256x2048 .f32) (t pe : Vec Ideal S256x2048 .bf16) (g : Vec Ideal S1x2048 .f32) (tg : Vec Ideal S256x2048 .f32) (a : Vec Ideal S1x128 .f32) (j) : k0_pay1 (F := Ideal) (k0_pay17 (k0_pay7 t pe x2 g tg)) (k0_pay18 a) j = a j +
    Ideal.ofBits FTy.f32 1056964608#32 * ∑ r, LossReal.rowLoss (fun k => LossReal.mix (x2 (ix2 r k)) (t (ix2 r k)) (pe (ix2 r k))) (fun k => g (ix2 0 k)) (fun k => tg (ix2 r k)) := by
  pointwise [k0_pay1, k0_pay17, k0_pay18, k0_pay11, k0_pay10, k0_pay9, k0_pay8, k0_pay7, k0_pay6, k0_pay5, k0_pay4, k0_pay3, k0_pay2]
  simp only [zero_sub]

/-- The reference's loss. -/
theorem ref_loss (x2 : FVec Ideal Cert.Reference30Ideal.S2048x2048 .f32) (t pe : FVec Ideal Cert.Reference30Ideal.S2048x2048 .bf16) (g : FVec Ideal Cert.Reference30Ideal.S1x2048 .f32) (tg : FVec Ideal Cert.Reference30Ideal.S2048x2048 .f32) (j) : refL x2 t pe g tg j = Ideal.ofBits FTy.f32 1056964608#32 * ∑ r, LossReal.rowLoss (fun k => LossReal.mix (x2 (ix2 r k)) (t (ix2 r k)) (pe (ix2 r k))) (fun k => g (ix2 0 k)) (fun k => tg (ix2 r k)) := by
  pointwise [refL]

/-- The side conditions the precondition's operations take. -/
theorem pre_facts : Cert.Pre_finite30.Facts where
  bitsLt_bf16_f32 := by decide
  bcast_S_S2048x2048 := by decide
  reducesTo_S2048x2048_S_d0_1 := by decide
  h_S_ := by decide
  bcast_S_S1x2048 := by decide
  reducesTo_S1x2048_S_d0_1 := by decide

/-- Under the precondition no element of an argument is infinite. -/
theorem finite_of_pre [Cert.Pre_finite30.Facts] (x0 : FVec Ideal Cert.Pre_finite30.S2048x2048 .f32) (x1 : FVec Ideal Cert.Pre_finite30.S2048x2048 .bf16) (x2 : FVec Ideal Cert.Pre_finite30.S2048x2048 .bf16) (x3 : FVec Ideal Cert.Pre_finite30.S1x2048 .f32) (x4 : FVec Ideal Cert.Pre_finite30.S2048x2048 .f32)
    (h : Cert.Pre_finite30.fn (F := Ideal) x0 x1 x2 x3 x4 = fun _ => 1#1) :
    (∀ i, x0 i ≠ (⊤ : EReal) ∧ x0 i ≠ (⊥ : EReal)) ∧ (∀ i, x1 i ≠ (⊤ : EReal) ∧ x1 i ≠ (⊥ : EReal)) ∧ (∀ i, x2 i ≠ (⊤ : EReal) ∧ x2 i ≠ (⊥ : EReal)) ∧ (∀ i, x3 i ≠ (⊤ : EReal) ∧ x3 i ≠ (⊥ : EReal)) ∧ (∀ i, x4 i ≠ (⊤ : EReal) ∧ x4 i ≠ (⊥ : EReal)) := by
  have : Subsingleton Cert.Pre_finite30.S_.Idx := ⟨fun i j => funext fun a => a.elim0⟩
  have h4 := congrFun h (fun a => a.elim0)
  obtain ⟨h3, r4⟩ := IntOp.andi_eq_one.1 h4
  obtain ⟨h2, r3⟩ := IntOp.andi_eq_one.1 h3
  obtain ⟨h1, r2⟩ := IntOp.andi_eq_one.1 h2
  obtain ⟨h0, r1⟩ := IntOp.andi_eq_one.1 h1
  exact ⟨fun i => SB.finite_of_lt (x0 i) _ SB.ofBits_inf (Host.reduce_andi_all _ _ _ _ _ h0 i),
    fun i => SB.finite_of_lt (x1 i) _ SB.ofBits_inf (Host.reduce_andi_all _ _ _ _ _ r1 i),
    fun i => SB.finite_of_lt (x2 i) _ SB.ofBits_inf (Host.reduce_andi_all _ _ _ _ _ r2 i),
    fun i => SB.finite_of_lt (x3 i) _ SB.ofBits_inf (Host.reduce_andi_all _ _ _ _ _ r3 i),
    fun i => SB.finite_of_lt (x4 i) _ SB.ofBits_inf (Host.reduce_andi_all _ _ _ _ _ r4 i)⟩

/-- The kernel's gradient of a block in the gate's logits. -/
theorem pay_gate (x2 : Vec Ideal S256x2048 .f32) (t pe : Vec Ideal S256x2048 .bf16) (g : Vec Ideal S1x2048 .f32) (tg : Vec Ideal S256x2048 .f32) (j) : k0_pay12 (F := Ideal) (k0_pay2 t) (k0_pay3 pe) (k0_pay5 t pe x2) (k0_pay9 t pe x2 g tg) (k0_pay10 t pe x2 g tg) j =
    k0_pay11 (F := Ideal) (k0_pay5 t pe x2) (k0_pay9 t pe x2 g tg) (k0_pay10 t pe x2 g tg) j * pe j * LossReal.logistic (t j) * (1 - LossReal.logistic (t j)) := by
  pointwise [k0_pay12, k0_pay3, k0_pay2]
  simp only [zero_sub]

/-- The reference's. -/
theorem ref_gate (x2 : FVec Ideal Cert.Reference30Ideal.S2048x2048 .f32) (t pe : FVec Ideal Cert.Reference30Ideal.S2048x2048 .bf16) (g : FVec Ideal Cert.Reference30Ideal.S1x2048 .f32) (tg : FVec Ideal Cert.Reference30Ideal.S2048x2048 .f32) (j) : refT x2 t pe g tg j = refX x2 t pe g tg j * pe j * (LossReal.logistic (t j) * (1 - LossReal.logistic (t j))) := by
  generalize hx : refX x2 t pe g tg = X
  rw [refT, hx]
  pointwise [gate]

/-- The kernel's gradient of a block in the embedding. -/
theorem pay_embed (x2 : Vec Ideal S256x2048 .f32) (t pe : Vec Ideal S256x2048 .bf16) (g : Vec Ideal S1x2048 .f32) (tg : Vec Ideal S256x2048 .f32) (j) : k0_pay13 (F := Ideal) (k0_pay2 t) (k0_pay5 t pe x2) (k0_pay9 t pe x2 g tg) (k0_pay10 t pe x2 g tg) j =
    k0_pay11 (F := Ideal) (k0_pay5 t pe x2) (k0_pay9 t pe x2 g tg) (k0_pay10 t pe x2 g tg) j * LossReal.logistic (t j) := by
  pointwise [k0_pay13, k0_pay2]
  simp only [zero_sub]

/-- The reference's. -/
theorem ref_embed (x2 : FVec Ideal Cert.Reference30Ideal.S2048x2048 .f32) (t pe : FVec Ideal Cert.Reference30Ideal.S2048x2048 .bf16) (g : FVec Ideal Cert.Reference30Ideal.S1x2048 .f32) (tg : FVec Ideal Cert.Reference30Ideal.S2048x2048 .f32) (j) : refP x2 t pe g tg j = LossReal.logistic (t j) * refX x2 t pe g tg j := by
  generalize hx : refX x2 t pe g tg = X
  rw [refP, hx]
  pointwise [gate]

/-- The gradient in the residual stream is the reference's. -/
theorem final5 (h0' : ∀ i, (m ((c : Thread nD τ).loc main_arg0)) i ≠ (⊤ : EReal) ∧ (m ((c : Thread nD τ).loc main_arg0)) i ≠ (⊥ : EReal)) (h1' : ∀ i, (m ((c : Thread nD τ).loc main_arg1)) i ≠ (⊤ : EReal) ∧ (m ((c : Thread nD τ).loc main_arg1)) i ≠ (⊥ : EReal)) (h2' : ∀ i, (m ((c : Thread nD τ).loc main_arg2)) i ≠ (⊤ : EReal) ∧ (m ((c : Thread nD τ).loc main_arg2)) i ≠ (⊥ : EReal)) (h3' : ∀ i, (m ((c : Thread nD τ).loc main_arg3)) i ≠ (⊤ : EReal) ∧ (m ((c : Thread nD τ).loc main_arg3)) i ≠ (⊥ : EReal)) (h4' : ∀ i, (m ((c : Thread nD τ).loc main_arg4)) i ≠ (⊤ : EReal) ∧ (m ((c : Thread nD τ).loc main_arg4)) i ≠ (⊥ : EReal)) :
    (dats m 0 c).arrAt 5 cfg0.N = refX (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  by_cases h0 : t.val % 8 = 0
  · rw [outsAt0_A m c t h0]
    frame_out
    refine (pay_grad _ _ _ _ _ y).trans ((LossReal.factored_eq _ _ _ _ _ _ (fun _ => (LossReal.mix_finite (h0' _) (h1' _) (h2' _))) (fun _ => h3' _) (fun _ => h4' _) (LossReal.mix_finite (h0' _) (h1' _) (h2' _)) (h3' _) (h4' _)).trans (.trans (LossReal.expanded_congr (fun k => ?_) (fun k => ?_) (fun k => ?_) ?_ ?_ ?_) (ref_grad _ _ _ _ _ _).symm))
    all_goals try simp only [LossReal.mix, LossReal.logistic]
    all_goals blk_point [iblk, V, idx0 t, idx1 t, idx2 t, idx3 t, idx4 t, idx5 t, idx6 t, idx7 t, idx8 t, idx9 t]
  · rw [outsAt0_B m c t h0]
    frame_out
    refine (pay_grad _ _ _ _ _ y).trans ((LossReal.factored_eq _ _ _ _ _ _ (fun _ => (LossReal.mix_finite (h0' _) (h1' _) (h2' _))) (fun _ => h3' _) (fun _ => h4' _) (LossReal.mix_finite (h0' _) (h1' _) (h2' _)) (h3' _) (h4' _)).trans (.trans (LossReal.expanded_congr (fun k => ?_) (fun k => ?_) (fun k => ?_) ?_ ?_ ?_) (ref_grad _ _ _ _ _ _).symm))
    all_goals try simp only [LossReal.mix, LossReal.logistic]
    all_goals blk_point [iblk, V, idx0 t, idx1 t, idx2 t, idx3 t, idx4 t, idx5 t, idx6 t, idx7 t, idx8 t, idx9 t]

/-- The gradient in the gate's logits is the reference's. -/
theorem final6 (h0' : ∀ i, (m ((c : Thread nD τ).loc main_arg0)) i ≠ (⊤ : EReal) ∧ (m ((c : Thread nD τ).loc main_arg0)) i ≠ (⊥ : EReal)) (h1' : ∀ i, (m ((c : Thread nD τ).loc main_arg1)) i ≠ (⊤ : EReal) ∧ (m ((c : Thread nD τ).loc main_arg1)) i ≠ (⊥ : EReal)) (h2' : ∀ i, (m ((c : Thread nD τ).loc main_arg2)) i ≠ (⊤ : EReal) ∧ (m ((c : Thread nD τ).loc main_arg2)) i ≠ (⊥ : EReal)) (h3' : ∀ i, (m ((c : Thread nD τ).loc main_arg3)) i ≠ (⊤ : EReal) ∧ (m ((c : Thread nD τ).loc main_arg3)) i ≠ (⊥ : EReal)) (h4' : ∀ i, (m ((c : Thread nD τ).loc main_arg4)) i ≠ (⊤ : EReal) ∧ (m ((c : Thread nD τ).loc main_arg4)) i ≠ (⊥ : EReal)) :
    (dats m 0 c).arrAt 6 cfg0.N = refT (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  by_cases h0 : t.val % 8 = 0
  · rw [outsAt0_A m c t h0]
    frame_out
    refine (pay_gate _ _ _ _ _ y).trans (.trans (LossReal.gate_congr ((pay_grad _ _ _ _ _ y).trans ((LossReal.factored_eq _ _ _ _ _ _ (fun _ => (LossReal.mix_finite (h0' _) (h1' _) (h2' _))) (fun _ => h3' _) (fun _ => h4' _) (LossReal.mix_finite (h0' _) (h1' _) (h2' _)) (h3' _) (h4' _)).trans (.trans (LossReal.expanded_congr (fun k => ?_) (fun k => ?_) (fun k => ?_) ?_ ?_ ?_) (ref_grad _ _ _ _ _ _).symm))) ?_ ?_) (ref_gate _ _ _ _ _ _).symm)
    all_goals try simp only [LossReal.mix, LossReal.logistic]
    all_goals blk_point [iblk, V, idx0 t, idx1 t, idx2 t, idx3 t, idx4 t, idx5 t, idx6 t, idx7 t, idx8 t, idx9 t]
  · rw [outsAt0_B m c t h0]
    frame_out
    refine (pay_gate _ _ _ _ _ y).trans (.trans (LossReal.gate_congr ((pay_grad _ _ _ _ _ y).trans ((LossReal.factored_eq _ _ _ _ _ _ (fun _ => (LossReal.mix_finite (h0' _) (h1' _) (h2' _))) (fun _ => h3' _) (fun _ => h4' _) (LossReal.mix_finite (h0' _) (h1' _) (h2' _)) (h3' _) (h4' _)).trans (.trans (LossReal.expanded_congr (fun k => ?_) (fun k => ?_) (fun k => ?_) ?_ ?_ ?_) (ref_grad _ _ _ _ _ _).symm))) ?_ ?_) (ref_gate _ _ _ _ _ _).symm)
    all_goals try simp only [LossReal.mix, LossReal.logistic]
    all_goals blk_point [iblk, V, idx0 t, idx1 t, idx2 t, idx3 t, idx4 t, idx5 t, idx6 t, idx7 t, idx8 t, idx9 t]

/-- The gradient in the embedding is the reference's. -/
theorem final7 (h0' : ∀ i, (m ((c : Thread nD τ).loc main_arg0)) i ≠ (⊤ : EReal) ∧ (m ((c : Thread nD τ).loc main_arg0)) i ≠ (⊥ : EReal)) (h1' : ∀ i, (m ((c : Thread nD τ).loc main_arg1)) i ≠ (⊤ : EReal) ∧ (m ((c : Thread nD τ).loc main_arg1)) i ≠ (⊥ : EReal)) (h2' : ∀ i, (m ((c : Thread nD τ).loc main_arg2)) i ≠ (⊤ : EReal) ∧ (m ((c : Thread nD τ).loc main_arg2)) i ≠ (⊥ : EReal)) (h3' : ∀ i, (m ((c : Thread nD τ).loc main_arg3)) i ≠ (⊤ : EReal) ∧ (m ((c : Thread nD τ).loc main_arg3)) i ≠ (⊥ : EReal)) (h4' : ∀ i, (m ((c : Thread nD τ).loc main_arg4)) i ≠ (⊤ : EReal) ∧ (m ((c : Thread nD τ).loc main_arg4)) i ≠ (⊥ : EReal)) :
    (dats m 0 c).arrAt 7 cfg0.N = refP (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  by_cases h0 : t.val % 8 = 0
  · rw [outsAt0_A m c t h0]
    frame_out
    refine (pay_embed _ _ _ _ _ y).trans (.trans (LossReal.embed_congr ((pay_grad _ _ _ _ _ y).trans ((LossReal.factored_eq _ _ _ _ _ _ (fun _ => (LossReal.mix_finite (h0' _) (h1' _) (h2' _))) (fun _ => h3' _) (fun _ => h4' _) (LossReal.mix_finite (h0' _) (h1' _) (h2' _)) (h3' _) (h4' _)).trans (.trans (LossReal.expanded_congr (fun k => ?_) (fun k => ?_) (fun k => ?_) ?_ ?_ ?_) (ref_grad _ _ _ _ _ _).symm))) ?_) (ref_embed _ _ _ _ _ _).symm)
    all_goals try simp only [LossReal.mix, LossReal.logistic]
    all_goals blk_point [iblk, V, idx0 t, idx1 t, idx2 t, idx3 t, idx4 t, idx5 t, idx6 t, idx7 t, idx8 t, idx9 t]
  · rw [outsAt0_B m c t h0]
    frame_out
    refine (pay_embed _ _ _ _ _ y).trans (.trans (LossReal.embed_congr ((pay_grad _ _ _ _ _ y).trans ((LossReal.factored_eq _ _ _ _ _ _ (fun _ => (LossReal.mix_finite (h0' _) (h1' _) (h2' _))) (fun _ => h3' _) (fun _ => h4' _) (LossReal.mix_finite (h0' _) (h1' _) (h2' _)) (h3' _) (h4' _)).trans (.trans (LossReal.expanded_congr (fun k => ?_) (fun k => ?_) (fun k => ?_) ?_ ?_ ?_) (ref_grad _ _ _ _ _ _).symm))) ?_) (ref_embed _ _ _ _ _ _).symm)
    all_goals try simp only [LossReal.mix, LossReal.logistic]
    all_goals blk_point [iblk, V, idx0 t, idx1 t, idx2 t, idx3 t, idx4 t, idx5 t, idx6 t, idx7 t, idx8 t, idx9 t]

/-- The gains' gradient is the reference's: the kernel adds it up over eight blocks of rows. -/
theorem final8 (h0' : ∀ i, (m ((c : Thread nD τ).loc main_arg0)) i ≠ (⊤ : EReal) ∧ (m ((c : Thread nD τ).loc main_arg0)) i ≠ (⊥ : EReal)) (h1' : ∀ i, (m ((c : Thread nD τ).loc main_arg1)) i ≠ (⊤ : EReal) ∧ (m ((c : Thread nD τ).loc main_arg1)) i ≠ (⊥ : EReal)) (h2' : ∀ i, (m ((c : Thread nD τ).loc main_arg2)) i ≠ (⊤ : EReal) ∧ (m ((c : Thread nD τ).loc main_arg2)) i ≠ (⊥ : EReal)) (h3' : ∀ i, (m ((c : Thread nD τ).loc main_arg3)) i ≠ (⊤ : EReal) ∧ (m ((c : Thread nD τ).loc main_arg3)) i ≠ (⊥ : EReal)) (h4' : ∀ i, (m ((c : Thread nD τ).loc main_arg4)) i ≠ (⊤ : EReal) ∧ (m ((c : Thread nD τ).loc main_arg4)) i ≠ (⊥ : EReal)) :
    (dats m 0 c).arrAt 8 cfg0.N = refG (m ((c : Thread nD τ).loc main_arg0)) (m ((c : Thread nD τ).loc main_arg1)) (m ((c : Thread nD τ).loc main_arg2)) (m ((c : Thread nD τ).loc main_arg3)) (m ((c : Thread nD τ).loc main_arg4)) := by
  have hz : ∀ j, k0_pay14 (F := Ideal) j = 0 := fun j => by pointwise [k0_pay14]
  refine (dats m 0 c).arrAt_eq_of_after_last 8 t0_7 (by decide +kernel) _ fun j => ?_
  blk_simp
  rw [after0_8, Pipeline.eq_sum_fin_of_reset_step_apply_last (fun n h => (outsAt0 m c n h).2.2.2.1) 8 (fun _ => 0) _ (fun t h j => by rw [outsAt0_A m c t h]; frame_out; rw [pay_gain, hz]) (fun t h j => by rw [outsAt0_B m c t h]; frame_out; rw [pay_gain]) (le_of_eq N_0) t0_7 rfl j, zero_add, ref_gain]
  refine Fin.sum_mul_add_congr fun p r hl => (LossReal.gain_eq (fun _ => (LossReal.mix_finite (h0' _) (h1' _) (h2' _))) (LossReal.mix_finite (h0' _) (h1' _) (h2' _)) (h3' _) (h4' _)).trans (LossReal.gain_congr (fun k => ?_) ?_ ?_ ?_)
  all_goals try simp only [LossReal.mix, LossReal.logistic]
  all_goals blk_point [iblk, V, idx0 p, idx1 p, idx2 p, idx3 p, idx4 p, idx5 p, idx6 p, idx7 p, idx8 p, idx9 p]

/-- The loss is the reference's: the kernel adds half the means up over eight blocks of rows. -/
theorem final9 (h0' : ∀ i, (m ((c : Thread nD τ).loc main_arg0)) i ≠ (⊤ : EReal) ∧ (m ((c : Thread nD τ).loc main_arg0)) i ≠ (⊥ : EReal)) (h1' : ∀ i, (m ((c : Thread nD τ).loc main_arg1)) i ≠ (⊤ : EReal) ∧ (m ((c : Thread nD τ).loc main_arg1)) i ≠ (⊥ : EReal)) (h2' : ∀ i, (m ((c : Thread nD τ).loc main_arg2)) i ≠ (⊤ : EReal) ∧ (m ((c : Thread nD τ).loc main_arg2)) i ≠ (⊥ : EReal)) (h3' : ∀ i, (m ((c : Thread nD τ).loc main_arg3)) i ≠ (⊤ : EReal) ∧ (m ((c : Thread nD τ).loc main_arg3)) i ≠ (⊥ : EReal)) (h4' : ∀ i, (m ((c : Thread nD τ).loc main_arg4)) i ≠ (⊤ : EReal) ∧ (m ((c : Thread nD τ).loc main_arg4)) i ≠ (⊥ : EReal)) :
    (dats m 0 c).arrAt 9 cfg0.N = refL (m ((c : Thread nD τ).loc main_arg0)) (m ((c : Thread nD τ).loc main_arg1)) (m ((c : Thread nD τ).loc main_arg2)) (m ((c : Thread nD τ).loc main_arg3)) (m ((c : Thread nD τ).loc main_arg4)) := by
  have hz : ∀ j, k0_pay15 (F := Ideal) j = 0 := fun j => by pointwise [k0_pay15]
  refine (dats m 0 c).arrAt_eq_of_after_last 9 t0_7 (by decide +kernel) _ fun j => ?_
  blk_simp
  rw [after0_9, Pipeline.eq_sum_fin_of_reset_step_apply_last (fun n h => (outsAt0 m c n h).2.2.2.2) 8 (fun _ => 0) _ (fun t h j => by rw [outsAt0_A m c t h]; frame_out; rw [pay_loss, hz]) (fun t h j => by rw [outsAt0_B m c t h]; frame_out; rw [pay_loss]) (le_of_eq N_0) t0_7 rfl j, zero_add, ref_loss]
  refine (LossReal.half_sum _ fun _ _ => LossReal.rowLoss_finite (fun _ => (LossReal.mix_finite (h0' _) (h1' _) (h2' _))) (fun _ => h3' _) (fun _ => h4' _)).trans (congrArg (Ideal.ofBits FTy.f32 1056964608#32 * ·) ?_)
  refine Fin.sum_mul_add_congr fun p r hl => LossReal.rowLoss_congr (fun k => ?_) (fun k => ?_) (fun k => ?_)
  all_goals try simp only [LossReal.mix, LossReal.logistic]
  all_goals blk_point [iblk, V, idx0 p, idx1 p, idx2 p, idx3 p, idx4 p, idx5 p, idx6 p, idx7 p, idx8 p, idx9 p]

/-- The reference runs to the end, keeps its arguments and leaves every counter at zero. -/
theorem frame_reference : Cert.quiescent_Reference30Ideal := fun m ρ _ =>
  (θ_run Cert.Reference30Ideal.defs _ _).mono (fun r h => ⟨fun c => (h c).2.2.2.2.2, sem_eq_zero_of_no_sems (by decide) r.2⟩) (Cert.Reference30Ideal.Value.run m ρ)

/-- On the same finite arguments the kernel and the reference end with the same results. -/
theorem same : Cert.algebraic_Kernel30Ideal_Reference30Ideal_pre_finite30 (hKernel30Ideal := Cert.Kernel30Ideal.Gen.facts) (hReference30Ideal := Cert.Reference30Ideal.Gen.facts) (hPre_finite30 := pre_facts) := by
  intro m ρ m' ρ' hpre hargs
  have := pre_facts
  have fin := fun c => finite_of_pre _ _ _ _ _ (hpre c)
  exact ⟨fun c => refX (m ((c : Thread nD τ).loc main_arg0)) (m ((c : Thread nD τ).loc main_arg1)) (m ((c : Thread nD τ).loc main_arg2)) (m ((c : Thread nD τ).loc main_arg3)) (m ((c : Thread nD τ).loc main_arg4)),
    fun c => refT (m ((c : Thread nD τ).loc main_arg0)) (m ((c : Thread nD τ).loc main_arg1)) (m ((c : Thread nD τ).loc main_arg2)) (m ((c : Thread nD τ).loc main_arg3)) (m ((c : Thread nD τ).loc main_arg4)),
    fun c => refP (m ((c : Thread nD τ).loc main_arg0)) (m ((c : Thread nD τ).loc main_arg1)) (m ((c : Thread nD τ).loc main_arg2)) (m ((c : Thread nD τ).loc main_arg3)) (m ((c : Thread nD τ).loc main_arg4)),
    fun c => refG (m ((c : Thread nD τ).loc main_arg0)) (m ((c : Thread nD τ).loc main_arg1)) (m ((c : Thread nD τ).loc main_arg2)) (m ((c : Thread nD τ).loc main_arg3)) (m ((c : Thread nD τ).loc main_arg4)),
    fun c => refL (m ((c : Thread nD τ).loc main_arg0)) (m ((c : Thread nD τ).loc main_arg1)) (m ((c : Thread nD τ).loc main_arg2)) (m ((c : Thread nD τ).loc main_arg3)) (m ((c : Thread nD τ).loc main_arg4)),
    (θ_run Cert.Kernel30Ideal.defs _ _).mono (fun r h c => ⟨((h c).1).trans (final5 m c (fin c).1 (fin c).2.1 (fin c).2.2.1 (fin c).2.2.2.1 (fin c).2.2.2.2), ((h c).2.1).trans (final6 m c (fin c).1 (fin c).2.1 (fin c).2.2.1 (fin c).2.2.2.1 (fin c).2.2.2.2), ((h c).2.2.1).trans (final7 m c (fin c).1 (fin c).2.1 (fin c).2.2.1 (fin c).2.2.2.1 (fin c).2.2.2.2), ((h c).2.2.2.1).trans (final8 m c (fin c).1 (fin c).2.1 (fin c).2.2.1 (fin c).2.2.2.1 (fin c).2.2.2.2), ((h c).2.2.2.2.1).trans (final9 m c (fin c).1 (fin c).2.1 (fin c).2.2.1 (fin c).2.2.2.1 (fin c).2.2.2.2), (h c).2.2.2.2.2⟩) (Cert.Kernel30Ideal.Value.run_blocks m ρ),
    (θ_run Cert.Reference30Ideal.defs _ _).mono (fun r h c => ⟨((h c).1).trans (by rw [Cert.Reference30Ideal.Value.res_main_v61, (hargs c).1, (hargs c).2.1, (hargs c).2.2.1, (hargs c).2.2.2.1, (hargs c).2.2.2.2]), ((h c).2.1).trans (by rw [Cert.Reference30Ideal.Value.res_main_v65, (hargs c).1, (hargs c).2.1, (hargs c).2.2.1, (hargs c).2.2.2.1, (hargs c).2.2.2.2]), ((h c).2.2.1).trans (by rw [Cert.Reference30Ideal.Value.res_main_v66, (hargs c).1, (hargs c).2.1, (hargs c).2.2.1, (hargs c).2.2.2.1, (hargs c).2.2.2.2]), ((h c).2.2.2.1).trans (by rw [(hargs c).1, (hargs c).2.1, (hargs c).2.2.1, (hargs c).2.2.2.1, (hargs c).2.2.2.2]), ((h c).2.2.2.2.1).trans (by rw [(hargs c).1, (hargs c).2.1, (hargs c).2.2.1, (hargs c).2.2.2.1, (hargs c).2.2.2.2]), (h c).2.2.2.2.2⟩) (Cert.Reference30Ideal.Value.run m' ρ')⟩

end Cert.Proof.PleLoss

end
-- ==== Proof.Pointwise.PackSmall.lean ====
/-
  Five small arrays packed side by side into one, and taken out again.
-/
module

public import proofs.«01_k».proof.Defs
public import proofs.«01_k».proof.Proof.Gen.Kernel31Ideal.Frame
public import proofs.«01_k».proof.Proof.Gen.Reference31Ideal.Run
public import Idealize.ShloMosaic.Lib.Pipeline.ValueKit
public import Idealize.ShloMosaic.Lib.KernelVsHost
public import Idealize.ShloMosaic.Lib.StableHlo.RunRead

@[expose] public section

set_option maxRecDepth 16384
set_option maxHeartbeats 1000000

noncomputable section

namespace Cert.Proof.AdamWSmall

open Idealize.ShloMosaic Idealize.ShloMosaic.TcCoe Idealize.SL Idealize.SL.Sem
open Cert.Kernel31Ideal Cert.Kernel31Ideal.Gen

variable (m : (ℓ : Loc nD τ sig) → Buf (Elt Ideal) ℓ) (c : Dev nD)

/-- A number spread over an array. -/
abbrev spread {s : Shape} (hs : S_.BroadcastsInDim s ![]) (bits : BitVec 32) : FVec Ideal s .f32 := broadcastInDim s ![] hs (constant S_ .f32 bits)

/-- The new first moment: nine tenths of the old one and a tenth of the gradient. -/
abbrev first {s : Shape} (hs : S_.BroadcastsInDim s ![]) (g mo : FVec Ideal s .f32) : FVec Ideal s .f32 :=
  addf (mulf (spread hs 0x3F666666#32) mo) (mulf (spread hs 0x3DCCCCCD#32) g)

/-- The new second moment. -/
abbrev second {s : Shape} (hs : S_.BroadcastsInDim s ![]) (g vo : FVec Ideal s .f32) : FVec Ideal s .f32 :=
  addf (mulf (spread hs 0x3F7FBE77#32) vo) (mulf (spread hs 0x3A83126F#32) (mulf g g))

/-- The step of the weights. -/
abbrev delta {s : Shape} (hs : S_.BroadcastsInDim s ![]) (w g mo vo : FVec Ideal s .f32) : FVec Ideal s .f32 :=
  mulf (spread hs 0xBA83126F#32) (addf (Host.divf (Host.divf (first hs g mo) (spread hs 0x3F26BD02#32)) (addf (Host.sqrt (Host.divf (second hs g vo) (spread hs 0x3C231ACC#32))) (spread hs 0x322BCC77#32))) (mulf (spread hs 0x3C23D70A#32) w))

/-- A single number spreads over the packed array. -/
theorem hs_pack : S_.BroadcastsInDim S80x128 ![] := by decide

/-- The five arrays laid end to end, padded with zeros, as one array of 80 × 128. -/
abbrev pack (rel : FVec Ideal S1x8x192 .f32) (mix ffn ple : FVec Ideal S1x2048 .f32) (fin : FVec Ideal S2048 .f32) : FVec Ideal S80x128 .f32 :=
  shapeCast S80x128 (pad S10240 ![0] ![512] ![0] (concatenate S9728 0 [⟨S1536, shapeCast S1536 rel shapeCasts_S1x8x192_S1536⟩, ⟨S2048, shapeCast S2048 mix shapeCasts_S1x2048_S2048⟩, ⟨S2048, shapeCast S2048 ffn shapeCasts_S1x2048_S2048⟩, ⟨S2048, shapeCast S2048 ple shapeCasts_S1x2048_S2048⟩, ⟨S2048, fin⟩] concatenates_S1536_S2048_S2048_S2048_S2048_S9728_d0) (sitofp (F := Ideal) .f32 (constantI S_ 32 0#32)) pads_S9728_S10240_05120 h_S_) shapeCasts_S10240_S80x128

/-- Part 0 of a packed array. -/
abbrev take0 (x : FVec Ideal S80x128 .f32) : FVec Ideal S1x8x192 .f32 := shapeCast S1x8x192 (extractStridedSlice S1536 ![0] (shapeCast S10240 x shapeCasts_S80x128_S10240) slices_S10240_S1536_0) shapeCasts_S1536_S1x8x192

/-- Part 1 of a packed array. -/
abbrev take1 (x : FVec Ideal S80x128 .f32) : FVec Ideal S1x2048 .f32 := shapeCast S1x2048 (extractStridedSlice S2048 ![1536] (shapeCast S10240 x shapeCasts_S80x128_S10240) slices_S10240_S2048_1536) shapeCasts_S2048_S1x2048

/-- Part 2 of a packed array. -/
abbrev take2 (x : FVec Ideal S80x128 .f32) : FVec Ideal S1x2048 .f32 := shapeCast S1x2048 (extractStridedSlice S2048 ![3584] (shapeCast S10240 x shapeCasts_S80x128_S10240) slices_S10240_S2048_3584) shapeCasts_S2048_S1x2048

/-- Part 3 of a packed array. -/
abbrev take3 (x : FVec Ideal S80x128 .f32) : FVec Ideal S1x2048 .f32 := shapeCast S1x2048 (extractStridedSlice S2048 ![5632] (shapeCast S10240 x shapeCasts_S80x128_S10240) slices_S10240_S2048_5632) shapeCasts_S2048_S1x2048

/-- Part 4 of a packed array. -/
abbrev take4 (x : FVec Ideal S80x128 .f32) : FVec Ideal S2048 .f32 := extractStridedSlice S2048 ![7680] (shapeCast S10240 x shapeCasts_S80x128_S10240) slices_S10240_S2048_7680

/-- Five arrays laid end to end, read at an index of array 0. -/
theorem cat_0 (x0 : FVec Ideal S1536 .f32) (x1 x2 x3 x4 : FVec Ideal S2048 .f32) (j : S1536.Idx) (i : S9728.Idx) (hi : 0 + (j 0).val = (i 0).val) :
    concatenate S9728 0 [⟨S1536, x0⟩, ⟨S2048, x1⟩, ⟨S2048, x2⟩, ⟨S2048, x3⟩, ⟨S2048, x4⟩] concatenates_S1536_S2048_S2048_S2048_S2048_S9728_d0 i = x0 j :=
  concatenate_apply_piece (t := S9728) 0 _ _ i 0 (by show 0 < 5; omega) S1536 x0 rfl rfl 0 rfl j (fun _ hb => absurd (Subsingleton.elim _ _) hb) hi

/-- Five arrays laid end to end, read at an index of array 1. -/
theorem cat_1 (x0 : FVec Ideal S1536 .f32) (x1 x2 x3 x4 : FVec Ideal S2048 .f32) (j : S2048.Idx) (i : S9728.Idx) (hi : 1536 + (j 0).val = (i 0).val) :
    concatenate S9728 0 [⟨S1536, x0⟩, ⟨S2048, x1⟩, ⟨S2048, x2⟩, ⟨S2048, x3⟩, ⟨S2048, x4⟩] concatenates_S1536_S2048_S2048_S2048_S2048_S9728_d0 i = x1 j :=
  concatenate_apply_piece (t := S9728) 0 _ _ i 1 (by show 1 < 5; omega) S2048 x1 rfl rfl 1536 rfl j (fun _ hb => absurd (Subsingleton.elim _ _) hb) hi

/-- Five arrays laid end to end, read at an index of array 2. -/
theorem cat_2 (x0 : FVec Ideal S1536 .f32) (x1 x2 x3 x4 : FVec Ideal S2048 .f32) (j : S2048.Idx) (i : S9728.Idx) (hi : 3584 + (j 0).val = (i 0).val) :
    concatenate S9728 0 [⟨S1536, x0⟩, ⟨S2048, x1⟩, ⟨S2048, x2⟩, ⟨S2048, x3⟩, ⟨S2048, x4⟩] concatenates_S1536_S2048_S2048_S2048_S2048_S9728_d0 i = x2 j :=
  concatenate_apply_piece (t := S9728) 0 _ _ i 2 (by show 2 < 5; omega) S2048 x2 rfl rfl 3584 rfl j (fun _ hb => absurd (Subsingleton.elim _ _) hb) hi

/-- Five arrays laid end to end, read at an index of array 3. -/
theorem cat_3 (x0 : FVec Ideal S1536 .f32) (x1 x2 x3 x4 : FVec Ideal S2048 .f32) (j : S2048.Idx) (i : S9728.Idx) (hi : 5632 + (j 0).val = (i 0).val) :
    concatenate S9728 0 [⟨S1536, x0⟩, ⟨S2048, x1⟩, ⟨S2048, x2⟩, ⟨S2048, x3⟩, ⟨S2048, x4⟩] concatenates_S1536_S2048_S2048_S2048_S2048_S9728_d0 i = x3 j :=
  concatenate_apply_piece (t := S9728) 0 _ _ i 3 (by show 3 < 5; omega) S2048 x3 rfl rfl 5632 rfl j (fun _ hb => absurd (Subsingleton.elim _ _) hb) hi

/-- Five arrays laid end to end, read at an index of array 4. -/
theorem cat_4 (x0 : FVec Ideal S1536 .f32) (x1 x2 x3 x4 : FVec Ideal S2048 .f32) (j : S2048.Idx) (i : S9728.Idx) (hi : 7680 + (j 0).val = (i 0).val) :
    concatenate S9728 0 [⟨S1536, x0⟩, ⟨S2048, x1⟩, ⟨S2048, x2⟩, ⟨S2048, x3⟩, ⟨S2048, x4⟩] concatenates_S1536_S2048_S2048_S2048_S2048_S9728_d0 i = x4 j :=
  concatenate_apply_piece (t := S9728) 0 _ _ i 4 (by show 4 < 5; omega) S2048 x4 rfl rfl 7680 rfl j (fun _ hb => absurd (Subsingleton.elim _ _) hb) hi

/-- Part 0 of five packed arrays is array 0. -/
theorem take0_pack (rel : FVec Ideal S1x8x192 .f32) (mix ffn ple : FVec Ideal S1x2048 .f32) (fin : FVec Ideal S2048 .f32) : take0 (pack rel mix ffn ple fin) = rel := by
  have e : extractStridedSlice S1536 ![0] (shapeCast S10240 (pack rel mix ffn ple fin) shapeCasts_S80x128_S10240) slices_S10240_S1536_0 = (shapeCast S1536 rel shapeCasts_S1x8x192_S1536) := by
    rw [pack, shapeCast_shapeCast]
    funext j
    have hj : (j 0).val < 1536 := (j 0).isLt
    rw [extractStridedSlice_apply _ _ _ j (ix1 ⟨0 + (j 0).val, by omega⟩) (fun a => by fin_cases a; simp [ix1] <;> omega),
      pad_apply_of_inside _ _ _ _ _ _ _ _ (ix1 ⟨0 + (j 0).val, by omega⟩) (fun a => by fin_cases a; simp [ix1] <;> omega)]
    exact cat_0 _ _ _ _ _ j _ rfl
  rw [take0, e, shapeCast_shapeCast]

/-- Part 1 of five packed arrays is array 1. -/
theorem take1_pack (rel : FVec Ideal S1x8x192 .f32) (mix ffn ple : FVec Ideal S1x2048 .f32) (fin : FVec Ideal S2048 .f32) : take1 (pack rel mix ffn ple fin) = mix := by
  have e : extractStridedSlice S2048 ![1536] (shapeCast S10240 (pack rel mix ffn ple fin) shapeCasts_S80x128_S10240) slices_S10240_S2048_1536 = (shapeCast S2048 mix shapeCasts_S1x2048_S2048) := by
    rw [pack, shapeCast_shapeCast]
    funext j
    have hj : (j 0).val < 2048 := (j 0).isLt
    rw [extractStridedSlice_apply _ _ _ j (ix1 ⟨1536 + (j 0).val, by omega⟩) (fun a => by fin_cases a; simp [ix1] <;> omega),
      pad_apply_of_inside _ _ _ _ _ _ _ _ (ix1 ⟨1536 + (j 0).val, by omega⟩) (fun a => by fin_cases a; simp [ix1] <;> omega)]
    exact cat_1 _ _ _ _ _ j _ rfl
  rw [take1, e, shapeCast_shapeCast]

/-- Part 2 of five packed arrays is array 2. -/
theorem take2_pack (rel : FVec Ideal S1x8x192 .f32) (mix ffn ple : FVec Ideal S1x2048 .f32) (fin : FVec Ideal S2048 .f32) : take2 (pack rel mix ffn ple fin) = ffn := by
  have e : extractStridedSlice S2048 ![3584] (shapeCast S10240 (pack rel mix ffn ple fin) shapeCasts_S80x128_S10240) slices_S10240_S2048_3584 = (shapeCast S2048 ffn shapeCasts_S1x2048_S2048) := by
    rw [pack, shapeCast_shapeCast]
    funext j
    have hj : (j 0).val < 2048 := (j 0).isLt
    rw [extractStridedSlice_apply _ _ _ j (ix1 ⟨3584 + (j 0).val, by omega⟩) (fun a => by fin_cases a; simp [ix1] <;> omega),
      pad_apply_of_inside _ _ _ _ _ _ _ _ (ix1 ⟨3584 + (j 0).val, by omega⟩) (fun a => by fin_cases a; simp [ix1] <;> omega)]
    exact cat_2 _ _ _ _ _ j _ rfl
  rw [take2, e, shapeCast_shapeCast]

/-- Part 3 of five packed arrays is array 3. -/
theorem take3_pack (rel : FVec Ideal S1x8x192 .f32) (mix ffn ple : FVec Ideal S1x2048 .f32) (fin : FVec Ideal S2048 .f32) : take3 (pack rel mix ffn ple fin) = ple := by
  have e : extractStridedSlice S2048 ![5632] (shapeCast S10240 (pack rel mix ffn ple fin) shapeCasts_S80x128_S10240) slices_S10240_S2048_5632 = (shapeCast S2048 ple shapeCasts_S1x2048_S2048) := by
    rw [pack, shapeCast_shapeCast]
    funext j
    have hj : (j 0).val < 2048 := (j 0).isLt
    rw [extractStridedSlice_apply _ _ _ j (ix1 ⟨5632 + (j 0).val, by omega⟩) (fun a => by fin_cases a; simp [ix1] <;> omega),
      pad_apply_of_inside _ _ _ _ _ _ _ _ (ix1 ⟨5632 + (j 0).val, by omega⟩) (fun a => by fin_cases a; simp [ix1] <;> omega)]
    exact cat_3 _ _ _ _ _ j _ rfl
  rw [take3, e, shapeCast_shapeCast]

/-- Part 4 of five packed arrays is array 4. -/
theorem take4_pack (rel : FVec Ideal S1x8x192 .f32) (mix ffn ple : FVec Ideal S1x2048 .f32) (fin : FVec Ideal S2048 .f32) : take4 (pack rel mix ffn ple fin) = fin := by
  have e : extractStridedSlice S2048 ![7680] (shapeCast S10240 (pack rel mix ffn ple fin) shapeCasts_S80x128_S10240) slices_S10240_S2048_7680 = fin := by
    rw [pack, shapeCast_shapeCast]
    funext j
    have hj : (j 0).val < 2048 := (j 0).isLt
    rw [extractStridedSlice_apply _ _ _ j (ix1 ⟨7680 + (j 0).val, by omega⟩) (fun a => by fin_cases a; simp [ix1] <;> omega),
      pad_apply_of_inside _ _ _ _ _ _ _ _ (ix1 ⟨7680 + (j 0).val, by omega⟩) (fun a => by fin_cases a; simp [ix1] <;> omega)]
    exact cat_4 _ _ _ _ _ j _ rfl
  exact e

/-- Of the first moment: taking part 0 of the packed results is stepping part 0. -/
theorem take0_first (g mo : FVec Ideal S80x128 .f32) : take0 (first hs_pack g mo) = first Cert.Reference31Ideal.Gen.bcast_S_S1x8x192 (take0 g) (take0 mo) := rfl
/-- The same for the second moment. -/
theorem take0_second (g vo : FVec Ideal S80x128 .f32) : take0 (second hs_pack g vo) = second Cert.Reference31Ideal.Gen.bcast_S_S1x8x192 (take0 g) (take0 vo) := rfl
/-- The same for the step of the weights. -/
theorem take0_delta (w g mo vo : FVec Ideal S80x128 .f32) : take0 (delta hs_pack w g mo vo) = delta Cert.Reference31Ideal.Gen.bcast_S_S1x8x192 (take0 w) (take0 g) (take0 mo) (take0 vo) := rfl

/-- Of the first moment: taking part 1 of the packed results is stepping part 1. -/
theorem take1_first (g mo : FVec Ideal S80x128 .f32) : take1 (first hs_pack g mo) = first Cert.Reference31Ideal.Gen.bcast_S_S1x2048 (take1 g) (take1 mo) := rfl
/-- The same for the second moment. -/
theorem take1_second (g vo : FVec Ideal S80x128 .f32) : take1 (second hs_pack g vo) = second Cert.Reference31Ideal.Gen.bcast_S_S1x2048 (take1 g) (take1 vo) := rfl
/-- The same for the step of the weights. -/
theorem take1_delta (w g mo vo : FVec Ideal S80x128 .f32) : take1 (delta hs_pack w g mo vo) = delta Cert.Reference31Ideal.Gen.bcast_S_S1x2048 (take1 w) (take1 g) (take1 mo) (take1 vo) := rfl

/-- Of the first moment: taking part 2 of the packed results is stepping part 2. -/
theorem take2_first (g mo : FVec Ideal S80x128 .f32) : take2 (first hs_pack g mo) = first Cert.Reference31Ideal.Gen.bcast_S_S1x2048 (take2 g) (take2 mo) := rfl
/-- The same for the second moment. -/
theorem take2_second (g vo : FVec Ideal S80x128 .f32) : take2 (second hs_pack g vo) = second Cert.Reference31Ideal.Gen.bcast_S_S1x2048 (take2 g) (take2 vo) := rfl
/-- The same for the step of the weights. -/
theorem take2_delta (w g mo vo : FVec Ideal S80x128 .f32) : take2 (delta hs_pack w g mo vo) = delta Cert.Reference31Ideal.Gen.bcast_S_S1x2048 (take2 w) (take2 g) (take2 mo) (take2 vo) := rfl

/-- Of the first moment: taking part 3 of the packed results is stepping part 3. -/
theorem take3_first (g mo : FVec Ideal S80x128 .f32) : take3 (first hs_pack g mo) = first Cert.Reference31Ideal.Gen.bcast_S_S1x2048 (take3 g) (take3 mo) := rfl
/-- The same for the second moment. -/
theorem take3_second (g vo : FVec Ideal S80x128 .f32) : take3 (second hs_pack g vo) = second Cert.Reference31Ideal.Gen.bcast_S_S1x2048 (take3 g) (take3 vo) := rfl
/-- The same for the step of the weights. -/
theorem take3_delta (w g mo vo : FVec Ideal S80x128 .f32) : take3 (delta hs_pack w g mo vo) = delta Cert.Reference31Ideal.Gen.bcast_S_S1x2048 (take3 w) (take3 g) (take3 mo) (take3 vo) := rfl

/-- Of the first moment: taking part 4 of the packed results is stepping part 4. -/
theorem take4_first (g mo : FVec Ideal S80x128 .f32) : take4 (first hs_pack g mo) = first Cert.Reference31Ideal.Gen.bcast_S_S2048 (take4 g) (take4 mo) := rfl
/-- The same for the second moment. -/
theorem take4_second (g vo : FVec Ideal S80x128 .f32) : take4 (second hs_pack g vo) = second Cert.Reference31Ideal.Gen.bcast_S_S2048 (take4 g) (take4 vo) := rfl
/-- The same for the step of the weights. -/
theorem take4_delta (w g mo vo : FVec Ideal S80x128 .f32) : take4 (delta hs_pack w g mo vo) = delta Cert.Reference31Ideal.Gen.bcast_S_S2048 (take4 w) (take4 g) (take4 mo) (take4 vo) := rfl

end Cert.Proof.AdamWSmall

end
-- ==== Proof.Pointwise.InSmall.lean ====
/-
  What the optimiser's kernel of the small weights finds: the packed arrays.
-/
module

public import proofs.«01_k».proof.Proof.Pointwise.PackSmall

@[expose] public section

set_option maxRecDepth 16384
set_option maxHeartbeats 1000000

noncomputable section

namespace Cert.Proof.AdamWSmall

open Idealize.ShloMosaic Idealize.ShloMosaic.TcCoe Idealize.SL Idealize.SL.Sem
open Cert.Kernel31Ideal Cert.Kernel31Ideal.Gen

variable (m : (ℓ : Loc nD τ sig) → Buf (Elt Ideal) ℓ) (c : Dev nD)

/-- The packed weights, as the kernel finds them. -/
abbrev packed0 : FVec Ideal S80x128 .f32 := pack (m ((c : Thread nD τ).loc main_arg0)) (m ((c : Thread nD τ).loc main_arg1)) (m ((c : Thread nD τ).loc main_arg2)) (m ((c : Thread nD τ).loc main_arg3)) (m ((c : Thread nD τ).loc main_arg4))

set_option maxHeartbeats 4000000 in
/-- The host's lines before the kernel leave the packed weights in its array 0. -/
theorem V_in0 : V m c main_v6 = packed0 m c := by
  simp only [V, V0, hostOps0, hostOps0_1, hostOps0_2, hostOps0_3, hostOps0_4, hostOps0_5, hostOps0_6, hostOps0_7, hostOps0_8, List.flatten_cons, List.flatten_nil, List.append_nil, List.cons_append, List.nil_append]
  after_reads_simp
  rfl

/-- The packed gradients, as the kernel finds them. -/
abbrev packed1 : FVec Ideal S80x128 .f32 := pack (m ((c : Thread nD τ).loc main_arg5)) (m ((c : Thread nD τ).loc main_arg6)) (m ((c : Thread nD τ).loc main_arg7)) (m ((c : Thread nD τ).loc main_arg8)) (m ((c : Thread nD τ).loc main_arg9))

set_option maxHeartbeats 4000000 in
/-- The host's lines before the kernel leave the packed gradients in its array 1. -/
theorem V_in1 : V m c main_v13 = packed1 m c := by
  simp only [V, V0, hostOps0, hostOps0_1, hostOps0_2, hostOps0_3, hostOps0_4, hostOps0_5, hostOps0_6, hostOps0_7, hostOps0_8, List.flatten_cons, List.flatten_nil, List.append_nil, List.cons_append, List.nil_append]
  after_reads_simp
  rfl

/-- The packed first moments, as the kernel finds them. -/
abbrev packed2 : FVec Ideal S80x128 .f32 := pack (m ((c : Thread nD τ).loc main_arg10)) (m ((c : Thread nD τ).loc main_arg11)) (m ((c : Thread nD τ).loc main_arg12)) (m ((c : Thread nD τ).loc main_arg13)) (m ((c : Thread nD τ).loc main_arg14))

set_option maxHeartbeats 4000000 in
/-- The host's lines before the kernel leave the packed first moments in its array 2. -/
theorem V_in2 : V m c main_v20 = packed2 m c := by
  simp only [V, V0, hostOps0, hostOps0_1, hostOps0_2, hostOps0_3, hostOps0_4, hostOps0_5, hostOps0_6, hostOps0_7, hostOps0_8, List.flatten_cons, List.flatten_nil, List.append_nil, List.cons_append, List.nil_append]
  after_reads_simp
  rfl

/-- The packed second moments, as the kernel finds them. -/
abbrev packed3 : FVec Ideal S80x128 .f32 := pack (m ((c : Thread nD τ).loc main_arg15)) (m ((c : Thread nD τ).loc main_arg16)) (m ((c : Thread nD τ).loc main_arg17)) (m ((c : Thread nD τ).loc main_arg18)) (m ((c : Thread nD τ).loc main_arg19))

set_option maxHeartbeats 4000000 in
/-- The host's lines before the kernel leave the packed second moments in its array 3. -/
theorem V_in3 : V m c main_v27 = packed3 m c := by
  simp only [V, V0, hostOps0, hostOps0_1, hostOps0_2, hostOps0_3, hostOps0_4, hostOps0_5, hostOps0_6, hostOps0_7, hostOps0_8, List.flatten_cons, List.flatten_nil, List.append_nil, List.cons_append, List.nil_append]
  after_reads_simp
  rfl

end Cert.Proof.AdamWSmall

end
-- ==== Proof.Pointwise.StepSmall.lean ====
/-
  The optimiser's kernel of the small weights, over the packed arrays.
-/
module

public import proofs.«01_k».proof.Proof.Pointwise.PackSmall

@[expose] public section

set_option maxRecDepth 16384
set_option maxHeartbeats 1000000

noncomputable section

namespace Cert.Proof.AdamWSmall

open Idealize.ShloMosaic Idealize.ShloMosaic.TcCoe Idealize.SL Idealize.SL.Sem
open Cert.Kernel31Ideal Cert.Kernel31Ideal.Gen

variable (m : (ℓ : Loc nD τ sig) → Buf (Elt Ideal) ℓ) (c : Dev nD)

/-- At step t the kernel's window 0 is block t of its array. -/
theorem idx0 : ∀ t : Fin cfg0.N, win0_0.index t = ![t.val, 0] := (by decide +kernel : ∀ t : Fin grid0.N, win0_0.index t = ![t.val, 0])
/-- At step t the kernel's window 1 is block t of its array. -/
theorem idx1 : ∀ t : Fin cfg0.N, win0_1.index t = ![t.val, 0] := (by decide +kernel : ∀ t : Fin grid0.N, win0_1.index t = ![t.val, 0])
/-- At step t the kernel's window 2 is block t of its array. -/
theorem idx2 : ∀ t : Fin cfg0.N, win0_2.index t = ![t.val, 0] := (by decide +kernel : ∀ t : Fin grid0.N, win0_2.index t = ![t.val, 0])
/-- At step t the kernel's window 3 is block t of its array. -/
theorem idx3 : ∀ t : Fin cfg0.N, win0_3.index t = ![t.val, 0] := (by decide +kernel : ∀ t : Fin grid0.N, win0_3.index t = ![t.val, 0])
/-- At step t the kernel's window 4 is block t of its array. -/
theorem idx4 : ∀ t : Fin cfg0.N, win0_4.index t = ![t.val, 0] := (by decide +kernel : ∀ t : Fin grid0.N, win0_4.index t = ![t.val, 0])
/-- At step t the kernel's window 5 is block t of its array. -/
theorem idx5 : ∀ t : Fin cfg0.N, win0_5.index t = ![t.val, 0] := (by decide +kernel : ∀ t : Fin grid0.N, win0_5.index t = ![t.val, 0])
/-- At step t the kernel's window 6 is block t of its array. -/
theorem idx6 : ∀ t : Fin cfg0.N, win0_6.index t = ![t.val, 0] := (by decide +kernel : ∀ t : Fin grid0.N, win0_6.index t = ![t.val, 0])
/-- At step t the kernel's window 7 is block t of its array. -/
theorem idx7 : ∀ t : Fin cfg0.N, win0_7.index t = ![t.val, 0] := (by decide +kernel : ∀ t : Fin grid0.N, win0_7.index t = ![t.val, 0])

/-- The kernel's array 5 ends as the step of the arrays that the kernel finds. -/
theorem final5 : (dats m 0 c).arrAt 5 cfg0.N = delta hs_pack (V m c main_v6) (V m c main_v13) (V m c main_v20) (V m c main_v27) := by
  refine (dats m 0 c).arrAt_eq_of_covers 5 _ (by decide +kernel) fun t hf y => ?_
  blk_simp
  rw [after0_5]
  frame_out
  pointwise [k0_pay1, k0_pay2, k0_pay3, k0_pay4, k0_pay5, delta]
  blk_point [iblk, idx0 t, idx1 t, idx2 t, idx3 t, idx4 t, idx5 t, idx6 t, idx7 t]

/-- The kernel's array 6 ends as the step of the arrays that the kernel finds. -/
theorem final6 : (dats m 0 c).arrAt 6 cfg0.N = first hs_pack (V m c main_v13) (V m c main_v20) := by
  refine (dats m 0 c).arrAt_eq_of_covers 6 _ (by decide +kernel) fun t hf y => ?_
  blk_simp
  rw [after0_6]
  frame_out
  pointwise [k0_pay1, k0_pay2, k0_pay3, k0_pay4, k0_pay5, first]
  blk_point [iblk, idx0 t, idx1 t, idx2 t, idx3 t, idx4 t, idx5 t, idx6 t, idx7 t]

/-- The kernel's array 7 ends as the step of the arrays that the kernel finds. -/
theorem final7 : (dats m 0 c).arrAt 7 cfg0.N = second hs_pack (V m c main_v13) (V m c main_v27) := by
  refine (dats m 0 c).arrAt_eq_of_covers 7 _ (by decide +kernel) fun t hf y => ?_
  blk_simp
  rw [after0_7]
  frame_out
  pointwise [k0_pay1, k0_pay2, k0_pay3, k0_pay4, k0_pay5, second]
  blk_point [iblk, idx0 t, idx1 t, idx2 t, idx3 t, idx4 t, idx5 t, idx6 t, idx7 t]

end Cert.Proof.AdamWSmall

end
-- ==== Proof.Pointwise.OutSmall5.lean ====
/-
  What the lines after the kernel take out of its array 5.
-/
module

public import proofs.«01_k».proof.Proof.Pointwise.PackSmall

@[expose] public section

set_option maxRecDepth 16384
set_option maxHeartbeats 1000000

noncomputable section

namespace Cert.Proof.AdamWSmall

open Idealize.ShloMosaic Idealize.ShloMosaic.TcCoe Idealize.SL Idealize.SL.Sem
open Cert.Kernel31Ideal Cert.Kernel31Ideal.Gen

variable (m : (ℓ : Loc nD τ sig) → Buf (Elt Ideal) ℓ) (c : Dev nD)

/-- The kernel's arrays are different ones. -/
theorem arr_inj5 : Function.Injective (Pipeline.arrRef spec0) := by decide

/-- The lines after the kernel leave a part of its array 5 in `v31`. -/
theorem out_v31 : Pipeline.afterTail₀ cfgs (dats m) 0 (V0 m) [hostOps1] c main_v31 = take0 ((dats m 0 c).arrAt 5 cfg0.N) := by
  unfold Pipeline.afterTail₀
  simp only [hostOps1, List.flatten_cons, List.flatten_nil, List.append_nil]
  after_reads_simp
  rw [show Pipeline.withArrays (cfgs 0).spec c (V0 m c) (fun w => (dats m 0 c).arrAt w (cfgs 0).N) (Proc.devRef .tc main_v28_1) = (dats m 0 c).arrAt 5 cfg0.N from Pipeline.withArrays_arr spec0 arr_inj5 c (V0 m c) (fun w => (dats m 0 c).arrAt w cfg0.N) 5]
  first | done | rfl

/-- The lines after the kernel leave a part of its array 5 in `v33`. -/
theorem out_v33 : Pipeline.afterTail₀ cfgs (dats m) 0 (V0 m) [hostOps1] c main_v33 = take1 ((dats m 0 c).arrAt 5 cfg0.N) := by
  unfold Pipeline.afterTail₀
  simp only [hostOps1, List.flatten_cons, List.flatten_nil, List.append_nil]
  after_reads_simp
  rw [show Pipeline.withArrays (cfgs 0).spec c (V0 m c) (fun w => (dats m 0 c).arrAt w (cfgs 0).N) (Proc.devRef .tc main_v28_1) = (dats m 0 c).arrAt 5 cfg0.N from Pipeline.withArrays_arr spec0 arr_inj5 c (V0 m c) (fun w => (dats m 0 c).arrAt w cfg0.N) 5]
  first | done | rfl

/-- The lines after the kernel leave a part of its array 5 in `v35`. -/
theorem out_v35 : Pipeline.afterTail₀ cfgs (dats m) 0 (V0 m) [hostOps1] c main_v35 = take2 ((dats m 0 c).arrAt 5 cfg0.N) := by
  unfold Pipeline.afterTail₀
  simp only [hostOps1, List.flatten_cons, List.flatten_nil, List.append_nil]
  after_reads_simp
  rw [show Pipeline.withArrays (cfgs 0).spec c (V0 m c) (fun w => (dats m 0 c).arrAt w (cfgs 0).N) (Proc.devRef .tc main_v28_1) = (dats m 0 c).arrAt 5 cfg0.N from Pipeline.withArrays_arr spec0 arr_inj5 c (V0 m c) (fun w => (dats m 0 c).arrAt w cfg0.N) 5]
  first | done | rfl

/-- The lines after the kernel leave a part of its array 5 in `v37`. -/
theorem out_v37 : Pipeline.afterTail₀ cfgs (dats m) 0 (V0 m) [hostOps1] c main_v37 = take3 ((dats m 0 c).arrAt 5 cfg0.N) := by
  unfold Pipeline.afterTail₀
  simp only [hostOps1, List.flatten_cons, List.flatten_nil, List.append_nil]
  after_reads_simp
  rw [show Pipeline.withArrays (cfgs 0).spec c (V0 m c) (fun w => (dats m 0 c).arrAt w (cfgs 0).N) (Proc.devRef .tc main_v28_1) = (dats m 0 c).arrAt 5 cfg0.N from Pipeline.withArrays_arr spec0 arr_inj5 c (V0 m c) (fun w => (dats m 0 c).arrAt w cfg0.N) 5]
  first | done | rfl

/-- The lines after the kernel leave a part of its array 5 in `v38`. -/
theorem out_v38 : Pipeline.afterTail₀ cfgs (dats m) 0 (V0 m) [hostOps1] c main_v38 = take4 ((dats m 0 c).arrAt 5 cfg0.N) := by
  unfold Pipeline.afterTail₀
  simp only [hostOps1, List.flatten_cons, List.flatten_nil, List.append_nil]
  after_reads_simp
  rw [show Pipeline.withArrays (cfgs 0).spec c (V0 m c) (fun w => (dats m 0 c).arrAt w (cfgs 0).N) (Proc.devRef .tc main_v28_1) = (dats m 0 c).arrAt 5 cfg0.N from Pipeline.withArrays_arr spec0 arr_inj5 c (V0 m c) (fun w => (dats m 0 c).arrAt w cfg0.N) 5]
  first | done | rfl

end Cert.Proof.AdamWSmall

end
-- ==== Proof.Pointwise.OutSmall6.lean ====
/-
  What the lines after the kernel take out of its array 6.
-/
module

public import proofs.«01_k».proof.Proof.Pointwise.PackSmall

@[expose] public section

set_option maxRecDepth 16384
set_option maxHeartbeats 1000000

noncomputable section

namespace Cert.Proof.AdamWSmall

open Idealize.ShloMosaic Idealize.ShloMosaic.TcCoe Idealize.SL Idealize.SL.Sem
open Cert.Kernel31Ideal Cert.Kernel31Ideal.Gen

variable (m : (ℓ : Loc nD τ sig) → Buf (Elt Ideal) ℓ) (c : Dev nD)

/-- The kernel's arrays are different ones. -/
theorem arr_inj6 : Function.Injective (Pipeline.arrRef spec0) := by decide

/-- The lines after the kernel leave a part of its array 6 in `v41`. -/
theorem out_v41 : Pipeline.afterTail₀ cfgs (dats m) 0 (V0 m) [hostOps1] c main_v41 = take0 ((dats m 0 c).arrAt 6 cfg0.N) := by
  unfold Pipeline.afterTail₀
  simp only [hostOps1, List.flatten_cons, List.flatten_nil, List.append_nil]
  after_reads_simp
  rw [show Pipeline.withArrays (cfgs 0).spec c (V0 m c) (fun w => (dats m 0 c).arrAt w (cfgs 0).N) (Proc.devRef .tc main_v28_2) = (dats m 0 c).arrAt 6 cfg0.N from Pipeline.withArrays_arr spec0 arr_inj6 c (V0 m c) (fun w => (dats m 0 c).arrAt w cfg0.N) 6]
  first | done | rfl

/-- The lines after the kernel leave a part of its array 6 in `v43`. -/
theorem out_v43 : Pipeline.afterTail₀ cfgs (dats m) 0 (V0 m) [hostOps1] c main_v43 = take1 ((dats m 0 c).arrAt 6 cfg0.N) := by
  unfold Pipeline.afterTail₀
  simp only [hostOps1, List.flatten_cons, List.flatten_nil, List.append_nil]
  after_reads_simp
  rw [show Pipeline.withArrays (cfgs 0).spec c (V0 m c) (fun w => (dats m 0 c).arrAt w (cfgs 0).N) (Proc.devRef .tc main_v28_2) = (dats m 0 c).arrAt 6 cfg0.N from Pipeline.withArrays_arr spec0 arr_inj6 c (V0 m c) (fun w => (dats m 0 c).arrAt w cfg0.N) 6]
  first | done | rfl

/-- The lines after the kernel leave a part of its array 6 in `v45`. -/
theorem out_v45 : Pipeline.afterTail₀ cfgs (dats m) 0 (V0 m) [hostOps1] c main_v45 = take2 ((dats m 0 c).arrAt 6 cfg0.N) := by
  unfold Pipeline.afterTail₀
  simp only [hostOps1, List.flatten_cons, List.flatten_nil, List.append_nil]
  after_reads_simp
  rw [show Pipeline.withArrays (cfgs 0).spec c (V0 m c) (fun w => (dats m 0 c).arrAt w (cfgs 0).N) (Proc.devRef .tc main_v28_2) = (dats m 0 c).arrAt 6 cfg0.N from Pipeline.withArrays_arr spec0 arr_inj6 c (V0 m c) (fun w => (dats m 0 c).arrAt w cfg0.N) 6]
  first | done | rfl

/-- The lines after the kernel leave a part of its array 6 in `v47`. -/
theorem out_v47 : Pipeline.afterTail₀ cfgs (dats m) 0 (V0 m) [hostOps1] c main_v47 = take3 ((dats m 0 c).arrAt 6 cfg0.N) := by
  unfold Pipeline.afterTail₀
  simp only [hostOps1, List.flatten_cons, List.flatten_nil, List.append_nil]
  after_reads_simp
  rw [show Pipeline.withArrays (cfgs 0).spec c (V0 m c) (fun w => (dats m 0 c).arrAt w (cfgs 0).N) (Proc.devRef .tc main_v28_2) = (dats m 0 c).arrAt 6 cfg0.N from Pipeline.withArrays_arr spec0 arr_inj6 c (V0 m c) (fun w => (dats m 0 c).arrAt w cfg0.N) 6]
  first | done | rfl

/-- The lines after the kernel leave a part of its array 6 in `v48`. -/
theorem out_v48 : Pipeline.afterTail₀ cfgs (dats m) 0 (V0 m) [hostOps1] c main_v48 = take4 ((dats m 0 c).arrAt 6 cfg0.N) := by
  unfold Pipeline.afterTail₀
  simp only [hostOps1, List.flatten_cons, List.flatten_nil, List.append_nil]
  after_reads_simp
  rw [show Pipeline.withArrays (cfgs 0).spec c (V0 m c) (fun w => (dats m 0 c).arrAt w (cfgs 0).N) (Proc.devRef .tc main_v28_2) = (dats m 0 c).arrAt 6 cfg0.N from Pipeline.withArrays_arr spec0 arr_inj6 c (V0 m c) (fun w => (dats m 0 c).arrAt w cfg0.N) 6]
  first | done | rfl

end Cert.Proof.AdamWSmall

end
-- ==== Proof.Pointwise.OutSmall7.lean ====
/-
  What the lines after the kernel take out of its array 7.
-/
module

public import proofs.«01_k».proof.Proof.Pointwise.PackSmall

@[expose] public section

set_option maxRecDepth 16384
set_option maxHeartbeats 1000000

noncomputable section

namespace Cert.Proof.AdamWSmall

open Idealize.ShloMosaic Idealize.ShloMosaic.TcCoe Idealize.SL Idealize.SL.Sem
open Cert.Kernel31Ideal Cert.Kernel31Ideal.Gen

variable (m : (ℓ : Loc nD τ sig) → Buf (Elt Ideal) ℓ) (c : Dev nD)

/-- The kernel's arrays are different ones. -/
theorem arr_inj7 : Function.Injective (Pipeline.arrRef spec0) := by decide

/-- The lines after the kernel leave a part of its array 7 in `v51`. -/
theorem out_v51 : Pipeline.afterTail₀ cfgs (dats m) 0 (V0 m) [hostOps1] c main_v51 = take0 ((dats m 0 c).arrAt 7 cfg0.N) := by
  unfold Pipeline.afterTail₀
  simp only [hostOps1, List.flatten_cons, List.flatten_nil, List.append_nil]
  after_reads_simp
  rw [show Pipeline.withArrays (cfgs 0).spec c (V0 m c) (fun w => (dats m 0 c).arrAt w (cfgs 0).N) (Proc.devRef .tc main_v28_3) = (dats m 0 c).arrAt 7 cfg0.N from Pipeline.withArrays_arr spec0 arr_inj7 c (V0 m c) (fun w => (dats m 0 c).arrAt w cfg0.N) 7]
  first | done | rfl

/-- The lines after the kernel leave a part of its array 7 in `v53`. -/
theorem out_v53 : Pipeline.afterTail₀ cfgs (dats m) 0 (V0 m) [hostOps1] c main_v53 = take1 ((dats m 0 c).arrAt 7 cfg0.N) := by
  unfold Pipeline.afterTail₀
  simp only [hostOps1, List.flatten_cons, List.flatten_nil, List.append_nil]
  after_reads_simp
  rw [show Pipeline.withArrays (cfgs 0).spec c (V0 m c) (fun w => (dats m 0 c).arrAt w (cfgs 0).N) (Proc.devRef .tc main_v28_3) = (dats m 0 c).arrAt 7 cfg0.N from Pipeline.withArrays_arr spec0 arr_inj7 c (V0 m c) (fun w => (dats m 0 c).arrAt w cfg0.N) 7]
  first | done | rfl

/-- The lines after the kernel leave a part of its array 7 in `v55`. -/
theorem out_v55 : Pipeline.afterTail₀ cfgs (dats m) 0 (V0 m) [hostOps1] c main_v55 = take2 ((dats m 0 c).arrAt 7 cfg0.N) := by
  unfold Pipeline.afterTail₀
  simp only [hostOps1, List.flatten_cons, List.flatten_nil, List.append_nil]
  after_reads_simp
  rw [show Pipeline.withArrays (cfgs 0).spec c (V0 m c) (fun w => (dats m 0 c).arrAt w (cfgs 0).N) (Proc.devRef .tc main_v28_3) = (dats m 0 c).arrAt 7 cfg0.N from Pipeline.withArrays_arr spec0 arr_inj7 c (V0 m c) (fun w => (dats m 0 c).arrAt w cfg0.N) 7]
  first | done | rfl

/-- The lines after the kernel leave a part of its array 7 in `v57`. -/
theorem out_v57 : Pipeline.afterTail₀ cfgs (dats m) 0 (V0 m) [hostOps1] c main_v57 = take3 ((dats m 0 c).arrAt 7 cfg0.N) := by
  unfold Pipeline.afterTail₀
  simp only [hostOps1, List.flatten_cons, List.flatten_nil, List.append_nil]
  after_reads_simp
  rw [show Pipeline.withArrays (cfgs 0).spec c (V0 m c) (fun w => (dats m 0 c).arrAt w (cfgs 0).N) (Proc.devRef .tc main_v28_3) = (dats m 0 c).arrAt 7 cfg0.N from Pipeline.withArrays_arr spec0 arr_inj7 c (V0 m c) (fun w => (dats m 0 c).arrAt w cfg0.N) 7]
  first | done | rfl

/-- The lines after the kernel leave a part of its array 7 in `v58`. -/
theorem out_v58 : Pipeline.afterTail₀ cfgs (dats m) 0 (V0 m) [hostOps1] c main_v58 = take4 ((dats m 0 c).arrAt 7 cfg0.N) := by
  unfold Pipeline.afterTail₀
  simp only [hostOps1, List.flatten_cons, List.flatten_nil, List.append_nil]
  after_reads_simp
  rw [show Pipeline.withArrays (cfgs 0).spec c (V0 m c) (fun w => (dats m 0 c).arrAt w (cfgs 0).N) (Proc.devRef .tc main_v28_3) = (dats m 0 c).arrAt 7 cfg0.N from Pipeline.withArrays_arr spec0 arr_inj7 c (V0 m c) (fun w => (dats m 0 c).arrAt w cfg0.N) 7]
  first | done | rfl

end Cert.Proof.AdamWSmall

end
-- ==== Proof.Pointwise.AdamWSmall.lean ====
/-
  The optimiser's step of the five small weights, packed side by side into one array, stepped and unpacked.
-/
module

public import proofs.«01_k».proof.Proof.Pointwise.InSmall
public import proofs.«01_k».proof.Proof.Pointwise.StepSmall
public import proofs.«01_k».proof.Proof.Pointwise.OutSmall5
public import proofs.«01_k».proof.Proof.Pointwise.OutSmall6
public import proofs.«01_k».proof.Proof.Pointwise.OutSmall7

@[expose] public section

set_option maxRecDepth 16384
set_option maxHeartbeats 1000000

noncomputable section

namespace Cert.Proof.AdamWSmall

open Idealize.ShloMosaic Idealize.ShloMosaic.TcCoe Idealize.SL Idealize.SL.Sem
open Cert.Kernel31Ideal Cert.Kernel31Ideal.Gen

variable (m : (ℓ : Loc nD τ sig) → Buf (Elt Ideal) ℓ) (c : Dev nD)

/-- The kernel's array 5 ends as the packed step. -/
theorem packed_final5 : (dats m 0 c).arrAt 5 cfg0.N = delta hs_pack (packed0 m c) (packed1 m c) (packed2 m c) (packed3 m c) := by
  rw [final5, V_in0, V_in1, V_in2, V_in3]
  first | done | rfl

/-- The kernel's array 6 ends as the packed step. -/
theorem packed_final6 : (dats m 0 c).arrAt 6 cfg0.N = first hs_pack (packed1 m c) (packed2 m c) := by
  rw [final6, V_in1, V_in2]
  first | done | rfl

/-- The kernel's array 7 ends as the packed step. -/
theorem packed_final7 : (dats m 0 c).arrAt 7 cfg0.N = second hs_pack (packed1 m c) (packed3 m c) := by
  rw [final7, V_in1, V_in3]
  first | done | rfl

/-- What the lines after the kernel leave in `v31`. -/
theorem result_v31 : Pipeline.afterTail₀ cfgs (dats m) 0 (V0 m) [hostOps1] c main_v31 = delta Cert.Reference31Ideal.Gen.bcast_S_S1x8x192 (m ((c : Thread nD τ).loc main_arg0)) (m ((c : Thread nD τ).loc main_arg5)) (m ((c : Thread nD τ).loc main_arg10)) (m ((c : Thread nD τ).loc main_arg15)) := by
  rw [out_v31, packed_final5, take0_delta, take0_pack, take0_pack, take0_pack, take0_pack]
  first | done | rfl

/-- What the lines after the kernel leave in `v33`. -/
theorem result_v33 : Pipeline.afterTail₀ cfgs (dats m) 0 (V0 m) [hostOps1] c main_v33 = delta Cert.Reference31Ideal.Gen.bcast_S_S1x2048 (m ((c : Thread nD τ).loc main_arg1)) (m ((c : Thread nD τ).loc main_arg6)) (m ((c : Thread nD τ).loc main_arg11)) (m ((c : Thread nD τ).loc main_arg16)) := by
  rw [out_v33, packed_final5, take1_delta, take1_pack, take1_pack, take1_pack, take1_pack]
  first | done | rfl

/-- What the lines after the kernel leave in `v35`. -/
theorem result_v35 : Pipeline.afterTail₀ cfgs (dats m) 0 (V0 m) [hostOps1] c main_v35 = delta Cert.Reference31Ideal.Gen.bcast_S_S1x2048 (m ((c : Thread nD τ).loc main_arg2)) (m ((c : Thread nD τ).loc main_arg7)) (m ((c : Thread nD τ).loc main_arg12)) (m ((c : Thread nD τ).loc main_arg17)) := by
  rw [out_v35, packed_final5, take2_delta, take2_pack, take2_pack, take2_pack, take2_pack]
  first | done | rfl

/-- What the lines after the kernel leave in `v37`. -/
theorem result_v37 : Pipeline.afterTail₀ cfgs (dats m) 0 (V0 m) [hostOps1] c main_v37 = delta Cert.Reference31Ideal.Gen.bcast_S_S1x2048 (m ((c : Thread nD τ).loc main_arg3)) (m ((c : Thread nD τ).loc main_arg8)) (m ((c : Thread nD τ).loc main_arg13)) (m ((c : Thread nD τ).loc main_arg18)) := by
  rw [out_v37, packed_final5, take3_delta, take3_pack, take3_pack, take3_pack, take3_pack]
  first | done | rfl

/-- What the lines after the kernel leave in `v38`. -/
theorem result_v38 : Pipeline.afterTail₀ cfgs (dats m) 0 (V0 m) [hostOps1] c main_v38 = delta Cert.Reference31Ideal.Gen.bcast_S_S2048 (m ((c : Thread nD τ).loc main_arg4)) (m ((c : Thread nD τ).loc main_arg9)) (m ((c : Thread nD τ).loc main_arg14)) (m ((c : Thread nD τ).loc main_arg19)) := by
  rw [out_v38, packed_final5, take4_delta, take4_pack, take4_pack, take4_pack, take4_pack]
  first | done | rfl

/-- What the lines after the kernel leave in `v41`. -/
theorem result_v41 : Pipeline.afterTail₀ cfgs (dats m) 0 (V0 m) [hostOps1] c main_v41 = first Cert.Reference31Ideal.Gen.bcast_S_S1x8x192 (m ((c : Thread nD τ).loc main_arg5)) (m ((c : Thread nD τ).loc main_arg10)) := by
  rw [out_v41, packed_final6, take0_first, take0_pack, take0_pack]
  first | done | rfl

/-- What the lines after the kernel leave in `v43`. -/
theorem result_v43 : Pipeline.afterTail₀ cfgs (dats m) 0 (V0 m) [hostOps1] c main_v43 = first Cert.Reference31Ideal.Gen.bcast_S_S1x2048 (m ((c : Thread nD τ).loc main_arg6)) (m ((c : Thread nD τ).loc main_arg11)) := by
  rw [out_v43, packed_final6, take1_first, take1_pack, take1_pack]
  first | done | rfl

/-- What the lines after the kernel leave in `v45`. -/
theorem result_v45 : Pipeline.afterTail₀ cfgs (dats m) 0 (V0 m) [hostOps1] c main_v45 = first Cert.Reference31Ideal.Gen.bcast_S_S1x2048 (m ((c : Thread nD τ).loc main_arg7)) (m ((c : Thread nD τ).loc main_arg12)) := by
  rw [out_v45, packed_final6, take2_first, take2_pack, take2_pack]
  first | done | rfl

/-- What the lines after the kernel leave in `v47`. -/
theorem result_v47 : Pipeline.afterTail₀ cfgs (dats m) 0 (V0 m) [hostOps1] c main_v47 = first Cert.Reference31Ideal.Gen.bcast_S_S1x2048 (m ((c : Thread nD τ).loc main_arg8)) (m ((c : Thread nD τ).loc main_arg13)) := by
  rw [out_v47, packed_final6, take3_first, take3_pack, take3_pack]
  first | done | rfl

/-- What the lines after the kernel leave in `v48`. -/
theorem result_v48 : Pipeline.afterTail₀ cfgs (dats m) 0 (V0 m) [hostOps1] c main_v48 = first Cert.Reference31Ideal.Gen.bcast_S_S2048 (m ((c : Thread nD τ).loc main_arg9)) (m ((c : Thread nD τ).loc main_arg14)) := by
  rw [out_v48, packed_final6, take4_first, take4_pack, take4_pack]
  first | done | rfl

/-- What the lines after the kernel leave in `v51`. -/
theorem result_v51 : Pipeline.afterTail₀ cfgs (dats m) 0 (V0 m) [hostOps1] c main_v51 = second Cert.Reference31Ideal.Gen.bcast_S_S1x8x192 (m ((c : Thread nD τ).loc main_arg5)) (m ((c : Thread nD τ).loc main_arg15)) := by
  rw [out_v51, packed_final7, take0_second, take0_pack, take0_pack]
  first | done | rfl

/-- What the lines after the kernel leave in `v53`. -/
theorem result_v53 : Pipeline.afterTail₀ cfgs (dats m) 0 (V0 m) [hostOps1] c main_v53 = second Cert.Reference31Ideal.Gen.bcast_S_S1x2048 (m ((c : Thread nD τ).loc main_arg6)) (m ((c : Thread nD τ).loc main_arg16)) := by
  rw [out_v53, packed_final7, take1_second, take1_pack, take1_pack]
  first | done | rfl

/-- What the lines after the kernel leave in `v55`. -/
theorem result_v55 : Pipeline.afterTail₀ cfgs (dats m) 0 (V0 m) [hostOps1] c main_v55 = second Cert.Reference31Ideal.Gen.bcast_S_S1x2048 (m ((c : Thread nD τ).loc main_arg7)) (m ((c : Thread nD τ).loc main_arg17)) := by
  rw [out_v55, packed_final7, take2_second, take2_pack, take2_pack]
  first | done | rfl

/-- What the lines after the kernel leave in `v57`. -/
theorem result_v57 : Pipeline.afterTail₀ cfgs (dats m) 0 (V0 m) [hostOps1] c main_v57 = second Cert.Reference31Ideal.Gen.bcast_S_S1x2048 (m ((c : Thread nD τ).loc main_arg8)) (m ((c : Thread nD τ).loc main_arg18)) := by
  rw [out_v57, packed_final7, take3_second, take3_pack, take3_pack]
  first | done | rfl

/-- What the lines after the kernel leave in `v58`. -/
theorem result_v58 : Pipeline.afterTail₀ cfgs (dats m) 0 (V0 m) [hostOps1] c main_v58 = second Cert.Reference31Ideal.Gen.bcast_S_S2048 (m ((c : Thread nD τ).loc main_arg9)) (m ((c : Thread nD τ).loc main_arg19)) := by
  rw [out_v58, packed_final7, take4_second, take4_pack, take4_pack]
  first | done | rfl

/-- The reference runs to the end, keeps its arguments and leaves every counter at zero. -/
theorem frame_reference : Cert.quiescent_Reference31Ideal := fun m ρ _ =>
  (θ_run Cert.Reference31Ideal.defs _ _).mono (fun r h => ⟨fun c => (h c).2.2.2.2.2.2.2.2.2.2.2.2.2.2.2, sem_eq_zero_of_no_sems (by decide) r.2⟩) (Cert.Reference31Ideal.Value.run m ρ)

set_option maxHeartbeats 4000000 in
/-- On the same arguments the kernel and the reference end with the same fifteen results. -/
theorem same : Cert.algebraic_Kernel31Ideal_Reference31Ideal (hKernel31Ideal := Cert.Kernel31Ideal.Gen.facts) (hReference31Ideal := Cert.Reference31Ideal.Gen.facts) :=
  fun m ρ m' ρ' _ hargs => ⟨fun c => delta Cert.Reference31Ideal.Gen.bcast_S_S1x8x192 (m ((c : Thread nD τ).loc main_arg0)) (m ((c : Thread nD τ).loc main_arg5)) (m ((c : Thread nD τ).loc main_arg10)) (m ((c : Thread nD τ).loc main_arg15)),
    fun c => delta Cert.Reference31Ideal.Gen.bcast_S_S1x2048 (m ((c : Thread nD τ).loc main_arg1)) (m ((c : Thread nD τ).loc main_arg6)) (m ((c : Thread nD τ).loc main_arg11)) (m ((c : Thread nD τ).loc main_arg16)),
    fun c => delta Cert.Reference31Ideal.Gen.bcast_S_S1x2048 (m ((c : Thread nD τ).loc main_arg2)) (m ((c : Thread nD τ).loc main_arg7)) (m ((c : Thread nD τ).loc main_arg12)) (m ((c : Thread nD τ).loc main_arg17)),
    fun c => delta Cert.Reference31Ideal.Gen.bcast_S_S1x2048 (m ((c : Thread nD τ).loc main_arg3)) (m ((c : Thread nD τ).loc main_arg8)) (m ((c : Thread nD τ).loc main_arg13)) (m ((c : Thread nD τ).loc main_arg18)),
    fun c => delta Cert.Reference31Ideal.Gen.bcast_S_S2048 (m ((c : Thread nD τ).loc main_arg4)) (m ((c : Thread nD τ).loc main_arg9)) (m ((c : Thread nD τ).loc main_arg14)) (m ((c : Thread nD τ).loc main_arg19)),
    fun c => first Cert.Reference31Ideal.Gen.bcast_S_S1x8x192 (m ((c : Thread nD τ).loc main_arg5)) (m ((c : Thread nD τ).loc main_arg10)),
    fun c => first Cert.Reference31Ideal.Gen.bcast_S_S1x2048 (m ((c : Thread nD τ).loc main_arg6)) (m ((c : Thread nD τ).loc main_arg11)),
    fun c => first Cert.Reference31Ideal.Gen.bcast_S_S1x2048 (m ((c : Thread nD τ).loc main_arg7)) (m ((c : Thread nD τ).loc main_arg12)),
    fun c => first Cert.Reference31Ideal.Gen.bcast_S_S1x2048 (m ((c : Thread nD τ).loc main_arg8)) (m ((c : Thread nD τ).loc main_arg13)),
    fun c => first Cert.Reference31Ideal.Gen.bcast_S_S2048 (m ((c : Thread nD τ).loc main_arg9)) (m ((c : Thread nD τ).loc main_arg14)),
    fun c => second Cert.Reference31Ideal.Gen.bcast_S_S1x8x192 (m ((c : Thread nD τ).loc main_arg5)) (m ((c : Thread nD τ).loc main_arg15)),
    fun c => second Cert.Reference31Ideal.Gen.bcast_S_S1x2048 (m ((c : Thread nD τ).loc main_arg6)) (m ((c : Thread nD τ).loc main_arg16)),
    fun c => second Cert.Reference31Ideal.Gen.bcast_S_S1x2048 (m ((c : Thread nD τ).loc main_arg7)) (m ((c : Thread nD τ).loc main_arg17)),
    fun c => second Cert.Reference31Ideal.Gen.bcast_S_S1x2048 (m ((c : Thread nD τ).loc main_arg8)) (m ((c : Thread nD τ).loc main_arg18)),
    fun c => second Cert.Reference31Ideal.Gen.bcast_S_S2048 (m ((c : Thread nD τ).loc main_arg9)) (m ((c : Thread nD τ).loc main_arg19)),
    (θ_run Cert.Kernel31Ideal.defs _ _).mono (fun r h c => ⟨((h c).2 main_v31 (Pipeline.mem_restRefs_of main_v31 (by decide) (by decide))).trans (result_v31 m c), ((h c).2 main_v33 (Pipeline.mem_restRefs_of main_v33 (by decide) (by decide))).trans (result_v33 m c), ((h c).2 main_v35 (Pipeline.mem_restRefs_of main_v35 (by decide) (by decide))).trans (result_v35 m c), ((h c).2 main_v37 (Pipeline.mem_restRefs_of main_v37 (by decide) (by decide))).trans (result_v37 m c), ((h c).2 main_v38 (Pipeline.mem_restRefs_of main_v38 (by decide) (by decide))).trans (result_v38 m c), ((h c).2 main_v41 (Pipeline.mem_restRefs_of main_v41 (by decide) (by decide))).trans (result_v41 m c), ((h c).2 main_v43 (Pipeline.mem_restRefs_of main_v43 (by decide) (by decide))).trans (result_v43 m c), ((h c).2 main_v45 (Pipeline.mem_restRefs_of main_v45 (by decide) (by decide))).trans (result_v45 m c), ((h c).2 main_v47 (Pipeline.mem_restRefs_of main_v47 (by decide) (by decide))).trans (result_v47 m c), ((h c).2 main_v48 (Pipeline.mem_restRefs_of main_v48 (by decide) (by decide))).trans (result_v48 m c), ((h c).2 main_v51 (Pipeline.mem_restRefs_of main_v51 (by decide) (by decide))).trans (result_v51 m c), ((h c).2 main_v53 (Pipeline.mem_restRefs_of main_v53 (by decide) (by decide))).trans (result_v53 m c), ((h c).2 main_v55 (Pipeline.mem_restRefs_of main_v55 (by decide) (by decide))).trans (result_v55 m c), ((h c).2 main_v57 (Pipeline.mem_restRefs_of main_v57 (by decide) (by decide))).trans (result_v57 m c), ((h c).2 main_v58 (Pipeline.mem_restRefs_of main_v58 (by decide) (by decide))).trans (result_v58 m c), ((h c).2 main_arg0 (Pipeline.mem_restRefs_of main_arg0 (by decide) (by decide))).trans (W_main_arg0 m (dats m) c), ((h c).2 main_arg1 (Pipeline.mem_restRefs_of main_arg1 (by decide) (by decide))).trans (W_main_arg1 m (dats m) c), ((h c).2 main_arg2 (Pipeline.mem_restRefs_of main_arg2 (by decide) (by decide))).trans (W_main_arg2 m (dats m) c), ((h c).2 main_arg3 (Pipeline.mem_restRefs_of main_arg3 (by decide) (by decide))).trans (W_main_arg3 m (dats m) c), ((h c).2 main_arg4 (Pipeline.mem_restRefs_of main_arg4 (by decide) (by decide))).trans (W_main_arg4 m (dats m) c), ((h c).2 main_arg5 (Pipeline.mem_restRefs_of main_arg5 (by decide) (by decide))).trans (W_main_arg5 m (dats m) c), ((h c).2 main_arg6 (Pipeline.mem_restRefs_of main_arg6 (by decide) (by decide))).trans (W_main_arg6 m (dats m) c), ((h c).2 main_arg7 (Pipeline.mem_restRefs_of main_arg7 (by decide) (by decide))).trans (W_main_arg7 m (dats m) c), ((h c).2 main_arg8 (Pipeline.mem_restRefs_of main_arg8 (by decide) (by decide))).trans (W_main_arg8 m (dats m) c), ((h c).2 main_arg9 (Pipeline.mem_restRefs_of main_arg9 (by decide) (by decide))).trans (W_main_arg9 m (dats m) c), ((h c).2 main_arg10 (Pipeline.mem_restRefs_of main_arg10 (by decide) (by decide))).trans (W_main_arg10 m (dats m) c), ((h c).2 main_arg11 (Pipeline.mem_restRefs_of main_arg11 (by decide) (by decide))).trans (W_main_arg11 m (dats m) c), ((h c).2 main_arg12 (Pipeline.mem_restRefs_of main_arg12 (by decide) (by decide))).trans (W_main_arg12 m (dats m) c), ((h c).2 main_arg13 (Pipeline.mem_restRefs_of main_arg13 (by decide) (by decide))).trans (W_main_arg13 m (dats m) c), ((h c).2 main_arg14 (Pipeline.mem_restRefs_of main_arg14 (by decide) (by decide))).trans (W_main_arg14 m (dats m) c), ((h c).2 main_arg15 (Pipeline.mem_restRefs_of main_arg15 (by decide) (by decide))).trans (W_main_arg15 m (dats m) c), ((h c).2 main_arg16 (Pipeline.mem_restRefs_of main_arg16 (by decide) (by decide))).trans (W_main_arg16 m (dats m) c), ((h c).2 main_arg17 (Pipeline.mem_restRefs_of main_arg17 (by decide) (by decide))).trans (W_main_arg17 m (dats m) c), ((h c).2 main_arg18 (Pipeline.mem_restRefs_of main_arg18 (by decide) (by decide))).trans (W_main_arg18 m (dats m) c), ((h c).2 main_arg19 (Pipeline.mem_restRefs_of main_arg19 (by decide) (by decide))).trans (W_main_arg19 m (dats m) c)⟩) (run_main m ρ),
    (θ_run Cert.Reference31Ideal.defs _ _).mono (fun r h c => ⟨((h c).1).trans (by rw [(hargs c).1, (hargs c).2.2.2.2.2.1, (hargs c).2.2.2.2.2.2.2.2.2.2.1, (hargs c).2.2.2.2.2.2.2.2.2.2.2.2.2.2.2.1]; first | done | rfl), ((h c).2.1).trans (by rw [(hargs c).2.1, (hargs c).2.2.2.2.2.2.1, (hargs c).2.2.2.2.2.2.2.2.2.2.2.1, (hargs c).2.2.2.2.2.2.2.2.2.2.2.2.2.2.2.2.1]; first | done | rfl), ((h c).2.2.1).trans (by rw [(hargs c).2.2.1, (hargs c).2.2.2.2.2.2.2.1, (hargs c).2.2.2.2.2.2.2.2.2.2.2.2.1, (hargs c).2.2.2.2.2.2.2.2.2.2.2.2.2.2.2.2.2.1]; first | done | rfl), ((h c).2.2.2.1).trans (by rw [(hargs c).2.2.2.1, (hargs c).2.2.2.2.2.2.2.2.1, (hargs c).2.2.2.2.2.2.2.2.2.2.2.2.2.1, (hargs c).2.2.2.2.2.2.2.2.2.2.2.2.2.2.2.2.2.2.1]; first | done | rfl), ((h c).2.2.2.2.1).trans (by rw [(hargs c).2.2.2.2.1, (hargs c).2.2.2.2.2.2.2.2.2.1, (hargs c).2.2.2.2.2.2.2.2.2.2.2.2.2.2.1, (hargs c).2.2.2.2.2.2.2.2.2.2.2.2.2.2.2.2.2.2.2]; first | done | rfl), ((h c).2.2.2.2.2.1).trans (by rw [(hargs c).2.2.2.2.2.1, (hargs c).2.2.2.2.2.2.2.2.2.2.1]; first | done | rfl), ((h c).2.2.2.2.2.2.1).trans (by rw [(hargs c).2.2.2.2.2.2.1, (hargs c).2.2.2.2.2.2.2.2.2.2.2.1]; first | done | rfl), ((h c).2.2.2.2.2.2.2.1).trans (by rw [(hargs c).2.2.2.2.2.2.2.1, (hargs c).2.2.2.2.2.2.2.2.2.2.2.2.1]; first | done | rfl), ((h c).2.2.2.2.2.2.2.2.1).trans (by rw [(hargs c).2.2.2.2.2.2.2.2.1, (hargs c).2.2.2.2.2.2.2.2.2.2.2.2.2.1]; first | done | rfl), ((h c).2.2.2.2.2.2.2.2.2.1).trans (by rw [(hargs c).2.2.2.2.2.2.2.2.2.1, (hargs c).2.2.2.2.2.2.2.2.2.2.2.2.2.2.1]; first | done | rfl), ((h c).2.2.2.2.2.2.2.2.2.2.1).trans (by rw [(hargs c).2.2.2.2.2.1, (hargs c).2.2.2.2.2.2.2.2.2.2.2.2.2.2.2.1]; first | done | rfl), ((h c).2.2.2.2.2.2.2.2.2.2.2.1).trans (by rw [(hargs c).2.2.2.2.2.2.1, (hargs c).2.2.2.2.2.2.2.2.2.2.2.2.2.2.2.2.1]; first | done | rfl), ((h c).2.2.2.2.2.2.2.2.2.2.2.2.1).trans (by rw [(hargs c).2.2.2.2.2.2.2.1, (hargs c).2.2.2.2.2.2.2.2.2.2.2.2.2.2.2.2.2.1]; first | done | rfl), ((h c).2.2.2.2.2.2.2.2.2.2.2.2.2.1).trans (by rw [(hargs c).2.2.2.2.2.2.2.2.1, (hargs c).2.2.2.2.2.2.2.2.2.2.2.2.2.2.2.2.2.2.1]; first | done | rfl), ((h c).2.2.2.2.2.2.2.2.2.2.2.2.2.2.1).trans (by rw [(hargs c).2.2.2.2.2.2.2.2.2.1, (hargs c).2.2.2.2.2.2.2.2.2.2.2.2.2.2.2.2.2.2.2]; first | done | rfl), (h c).2.2.2.2.2.2.2.2.2.2.2.2.2.2.2⟩) (Cert.Reference31Ideal.Value.run m' ρ')⟩

end Cert.Proof.AdamWSmall

end
-- ==== Proof.lean ====
/-
  The proof of the claims in `Defs`.
-/
module

public import proofs.«01_k».proof.Defs
public import proofs.«01_k».proof.Proof.Run
public import proofs.«01_k».proof.Proof.Same
public import proofs.«01_k».proof.Proof.ArrayReal
public import proofs.«01_k».proof.Proof.RefReal
public import proofs.«01_k».proof.Proof.Finite
public import proofs.«01_k».proof.Proof.Gen.Kernel
public import proofs.«01_k».proof.Proof.Gen.Kernel.Frame
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2.Frame
public import proofs.«01_k».proof.Proof.Products.DwFfnIn
public import proofs.«01_k».proof.Proof.Gen.Kernel3.Frame
public import proofs.«01_k».proof.Proof.Products.DhFfn
public import proofs.«01_k».proof.Proof.Gen.Kernel4.Frame
public import proofs.«01_k».proof.Proof.Products.DwIn
public import proofs.«01_k».proof.Proof.Gen.Kernel5.Frame
public import proofs.«01_k».proof.Proof.Products.DhMix
public import proofs.«01_k».proof.Proof.Gen.Kernel6.Frame
public import proofs.«01_k».proof.Proof.Products.DwFfnOut
public import proofs.«01_k».proof.Proof.Gen.Kernel7.Frame
public import proofs.«01_k».proof.Proof.Products.DAct
public import proofs.«01_k».proof.Proof.Gen.Kernel8.Frame
public import proofs.«01_k».proof.Proof.Products.FfnIn
public import proofs.«01_k».proof.Proof.Gen.Kernel9.Frame
public import proofs.«01_k».proof.Proof.Products.ProjQkv
public import proofs.«01_k».proof.Proof.Gen.Kernel10.Frame
public import proofs.«01_k».proof.Proof.Products.ProjGates
public import proofs.«01_k».proof.Proof.Gen.Kernel11.Frame
public import proofs.«01_k».proof.Proof.Products.FfnOut
public import proofs.«01_k».proof.Proof.Gen.Kernel12.Frame
public import proofs.«01_k».proof.Proof.Products.DwMixOut
public import proofs.«01_k».proof.Proof.Gen.Kernel13.Frame
public import proofs.«01_k».proof.Proof.Products.DMerged
public import proofs.«01_k».proof.Proof.Gen.Kernel14.Frame
public import proofs.«01_k».proof.Proof.Products.DhPle
public import proofs.«01_k».proof.Proof.Gen.Kernel15.Frame
public import proofs.«01_k».proof.Proof.Products.MixOut
public import proofs.«01_k».proof.Proof.Gen.Kernel16.Frame
public import proofs.«01_k».proof.Proof.Products.PleGate
public import proofs.«01_k».proof.Proof.Gen.Kernel17.Frame
public import proofs.«01_k».proof.Proof.Products.DwSbOut
public import proofs.«01_k».proof.Proof.Gen.Kernel18.Frame
public import proofs.«01_k».proof.Proof.Products.DySb
public import proofs.«01_k».proof.Proof.Gen.Kernel19.Frame
public import proofs.«01_k».proof.Proof.Products.SbOut
public import proofs.«01_k».proof.Proof.Gen.Kernel20.Frame
public import proofs.«01_k».proof.Proof.Products.DwPleIn
public import proofs.«01_k».proof.Proof.Gen.Kernel21.Frame
public import proofs.«01_k».proof.Proof.Products.PleIn
public import proofs.«01_k».proof.Proof.Gen.Kernel22.Frame
public import proofs.«01_k».proof.Proof.Pointwise.GateMergeBwd
public import proofs.«01_k».proof.Proof.Gen.Kernel23.Frame
public import proofs.«01_k».proof.Proof.Pointwise.SwiGluBwd
public import proofs.«01_k».proof.Proof.Gen.Kernel24.Frame
public import proofs.«01_k».proof.Proof.Pointwise.RmsBwd
public import proofs.«01_k».proof.Proof.Gen.Kernel25.Frame
public import proofs.«01_k».proof.Proof.Pointwise.GateMerge
public import proofs.«01_k».proof.Proof.Gen.Kernel26.Frame
public import proofs.«01_k».proof.Proof.Pointwise.SwiGlu
public import proofs.«01_k».proof.Proof.Gen.Kernel27.Frame
public import proofs.«01_k».proof.Proof.Pointwise.RmsNorm
public import proofs.«01_k».proof.Proof.Gen.Kernel28.Frame
public import proofs.«01_k».proof.Proof.Pointwise.AdamW
public import proofs.«01_k».proof.Proof.Gen.Kernel29.Frame
public import proofs.«01_k».proof.Proof.SbFwd.Claim
public import proofs.«01_k».proof.Proof.Gen.Kernel30.Frame
public import proofs.«01_k».proof.Proof.Pointwise.PleLoss
public import proofs.«01_k».proof.Proof.Gen.Kernel31.Frame
public import proofs.«01_k».proof.Proof.Pointwise.AdamWSmall
public import Idealize.ShloMosaic.Adequacy
public import Idealize.ShloMosaic.Init

@[expose] public section

noncomputable section

namespace Cert.Proof

open Idealize.ShloMosaic Idealize.SL.Sem

/-- The kernel as printed runs to the end, keeps its arguments and leaves every counter at zero. -/
theorem frame_kernel : Cert.quiescent_Kernel := fun m ρ _ => by
  rw [show Cert.Kernel.defs (F := Bits) = _ from SB.same_defs]
  exact SB.frame (F := Bits) m ρ
/-- So does its reading over the extended reals. -/
theorem frame_kernel_ideal : Cert.quiescent_KernelIdeal := fun m ρ _ => SB.frame (F := Ideal) m ρ
/-- And the reference. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run m ρ)

/-- On finite arguments the kernel's three results are the reference's: the gradients `gq`, `gk` and `gv` of the attention. -/
theorem same_gradients [hPre_finite : Cert.Pre_finite.Facts] : Cert.algebraic_KernelIdeal_ReferenceIdeal_pre_finite (hKernelIdeal := Cert.KernelIdeal.Gen.facts) (hReferenceIdeal := Cert.ReferenceIdeal.Gen.facts) :=
  fun m ρ m' ρ' hpre hargs => by
  have hX : ∀ c : Dev Cert.KernelIdeal.nD, ∃ X, m ((c.tc : Thread Cert.KernelIdeal.nD Cert.KernelIdeal.τ).loc Cert.KernelIdeal.main_arg0) = SB.M2 2048 6144 X := fun c => (SB.reals_of_pre _ _ (hpre c)).1
  have hY : ∀ c : Dev Cert.KernelIdeal.nD, ∃ Y, m ((c.tc : Thread Cert.KernelIdeal.nD Cert.KernelIdeal.τ).loc Cert.KernelIdeal.main_arg1) = SB.M2 2048 1024 Y := fun c => (SB.reals_of_pre _ _ (hpre c)).2
  choose X hX using hX
  choose Y hY using hY
  refine ⟨fun c => SB.M2 2048 1024 (SB.gq (X c) (Y c)), fun c => SB.M2 2048 1024 (SB.gk (X c) (Y c)), fun c => SB.M2 2048 1024 (SB.gv (X c) (Y c)), ?_, ?_⟩
  · refine (θ_run Cert.KernelIdeal.defs _ _).mono (fun r h c => ?_) (SB.run_main (F := Ideal) m ρ)
    have hc := h.1 c
    exact ⟨(hc.1 4).trans (SB.final_q _ _ m c (hX c) (hY c)), (hc.1 5).trans (SB.final_k _ _ m c (hX c) (hY c)), (hc.1 6).trans (SB.final_v _ _ m c (hX c) (hY c)),
      ((hc.1 2).trans ((SB.dats m 0 c).arrAt_in 2 rfl _)).trans rfl, ((hc.1 3).trans ((SB.dats m 0 c).arrAt_in 3 rfl _)).trans rfl⟩
  · refine (θ_run Cert.ReferenceIdeal.defs _ _).mono (fun r h c => ?_) (Cert.ReferenceIdeal.Value.run m' ρ')
    have hX' := (hargs c).1.trans (hX c)
    have hY' := (hargs c).2.trans (hY c)
    exact ⟨(h c).1.trans (SB.out_q _ _ m' c hX' hY'), (h c).2.1.trans (SB.out_k _ _ m' c hX' hY'), (h c).2.2.1.trans (SB.out_v _ _ m' c hX' hY'), (h c).2.2.2⟩

/-- The whole claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  SB.pre_facts, SwiGluBwd.pre_facts, RmsBwd.pre_facts, SbFwd.pre_facts, PleLoss.pre_facts,
  frame_kernel, frame_kernel_ideal, fun m ρ _ => SB.frame (F := Ideal) m ρ, frame_reference, fun m ρ _ => frame_reference m ρ trivial,
  fun m ρ _ => Cert.Kernel2.Gen.frame m ρ, fun m ρ _ => Cert.Kernel2Ideal.Gen.frame m ρ, DwFfnIn.frame_reference,
  fun m ρ _ => Cert.Kernel3.Gen.frame m ρ, fun m ρ _ => Cert.Kernel3Ideal.Gen.frame m ρ, DhFfn.frame_reference,
  fun m ρ _ => Cert.Kernel4.Gen.frame m ρ, fun m ρ _ => Cert.Kernel4Ideal.Gen.frame m ρ, DwIn.frame_reference,
  fun m ρ _ => Cert.Kernel5.Gen.frame m ρ, fun m ρ _ => Cert.Kernel5Ideal.Gen.frame m ρ, DhMix.frame_reference,
  fun m ρ _ => Cert.Kernel6.Gen.frame m ρ, fun m ρ _ => Cert.Kernel6Ideal.Gen.frame m ρ, DwFfnOut.frame_reference,
  fun m ρ _ => Cert.Kernel7.Gen.frame m ρ, fun m ρ _ => Cert.Kernel7Ideal.Gen.frame m ρ, DAct.frame_reference,
  fun m ρ _ => Cert.Kernel8.Gen.frame m ρ, fun m ρ _ => Cert.Kernel8Ideal.Gen.frame m ρ, FfnIn.frame_reference,
  fun m ρ _ => Cert.Kernel9.Gen.frame m ρ, fun m ρ _ => Cert.Kernel9Ideal.Gen.frame m ρ, ProjQkv.frame_reference,
  fun m ρ _ => Cert.Kernel10.Gen.frame m ρ, fun m ρ _ => Cert.Kernel10Ideal.Gen.frame m ρ, ProjGates.frame_reference,
  fun m ρ _ => Cert.Kernel11.Gen.frame m ρ, fun m ρ _ => Cert.Kernel11Ideal.Gen.frame m ρ, FfnOut.frame_reference,
  fun m ρ _ => Cert.Kernel12.Gen.frame m ρ, fun m ρ _ => Cert.Kernel12Ideal.Gen.frame m ρ, DwMixOut.frame_reference,
  fun m ρ _ => Cert.Kernel13.Gen.frame m ρ, fun m ρ _ => Cert.Kernel13Ideal.Gen.frame m ρ, DMerged.frame_reference,
  fun m ρ _ => Cert.Kernel14.Gen.frame m ρ, fun m ρ _ => Cert.Kernel14Ideal.Gen.frame m ρ, DhPle.frame_reference,
  fun m ρ _ => Cert.Kernel15.Gen.frame m ρ, fun m ρ _ => Cert.Kernel15Ideal.Gen.frame m ρ, MixOut.frame_reference,
  fun m ρ _ => Cert.Kernel16.Gen.frame m ρ, fun m ρ _ => Cert.Kernel16Ideal.Gen.frame m ρ, PleGate.frame_reference,
  fun m ρ _ => Cert.Kernel17.Gen.frame m ρ, fun m ρ _ => Cert.Kernel17Ideal.Gen.frame m ρ, DwSbOut.frame_reference,
  fun m ρ _ => Cert.Kernel18.Gen.frame m ρ, fun m ρ _ => Cert.Kernel18Ideal.Gen.frame m ρ, DySb.frame_reference,
  fun m ρ _ => Cert.Kernel19.Gen.frame m ρ, fun m ρ _ => Cert.Kernel19Ideal.Gen.frame m ρ, SbOut.frame_reference,
  fun m ρ _ => Cert.Kernel20.Gen.frame m ρ, fun m ρ _ => Cert.Kernel20Ideal.Gen.frame m ρ, DwPleIn.frame_reference,
  fun m ρ _ => Cert.Kernel21.Gen.frame m ρ, fun m ρ _ => Cert.Kernel21Ideal.Gen.frame m ρ, PleIn.frame_reference,
  fun m ρ _ => Cert.Kernel22.Gen.frame m ρ, fun m ρ _ => Cert.Kernel22Ideal.Gen.frame m ρ, GateMergeBwd.frame_reference,
  fun m ρ _ => Cert.Kernel23.Gen.frame m ρ, fun m ρ _ => Cert.Kernel23Ideal.Gen.frame m ρ, fun m ρ _ => Cert.Kernel23Ideal.Gen.frame m ρ, SwiGluBwd.frame_reference, fun m ρ _ => SwiGluBwd.frame_reference m ρ trivial,
  fun m ρ _ => Cert.Kernel24.Gen.frame m ρ, fun m ρ _ => Cert.Kernel24Ideal.Gen.frame m ρ, fun m ρ _ => Cert.Kernel24Ideal.Gen.frame m ρ, RmsBwd.frame_reference, fun m ρ _ => RmsBwd.frame_reference m ρ trivial,
  fun m ρ _ => Cert.Kernel25.Gen.frame m ρ, fun m ρ _ => Cert.Kernel25Ideal.Gen.frame m ρ, GateMerge.frame_reference,
  fun m ρ _ => Cert.Kernel26.Gen.frame m ρ, fun m ρ _ => Cert.Kernel26Ideal.Gen.frame m ρ, SwiGlu.frame_reference,
  fun m ρ _ => Cert.Kernel27.Gen.frame m ρ, fun m ρ _ => Cert.Kernel27Ideal.Gen.frame m ρ, RmsNorm.frame_reference,
  fun m ρ _ => Cert.Kernel28.Gen.frame m ρ, fun m ρ _ => Cert.Kernel28Ideal.Gen.frame m ρ, AdamW.frame_reference,
  fun m ρ _ => Cert.Kernel29.Gen.frame m ρ, fun m ρ _ => Cert.Kernel29Ideal.Gen.frame m ρ, fun m ρ _ => Cert.Kernel29Ideal.Gen.frame m ρ, SbFwd.frame_reference, fun m ρ _ => SbFwd.frame_reference m ρ trivial,
  fun m ρ _ => Cert.Kernel30.Gen.frame m ρ, fun m ρ _ => Cert.Kernel30Ideal.Gen.frame m ρ, fun m ρ _ => Cert.Kernel30Ideal.Gen.frame m ρ, PleLoss.frame_reference, fun m ρ _ => PleLoss.frame_reference m ρ trivial,
  fun m ρ _ => Cert.Kernel31.Gen.frame m ρ, fun m ρ _ => Cert.Kernel31Ideal.Gen.frame m ρ, AdamWSmall.frame_reference,
  trivial, same_gradients (hPre_finite := SB.pre_facts),
  trivial, DwFfnIn.same,
  trivial, DhFfn.same,
  trivial, DwIn.same,
  trivial, DhMix.same,
  trivial, DwFfnOut.same,
  trivial, DAct.same,
  trivial, FfnIn.same,
  trivial, ProjQkv.same,
  trivial, ProjGates.same,
  trivial, FfnOut.same,
  trivial, DwMixOut.same,
  trivial, DMerged.same,
  trivial, DhPle.same,
  trivial, MixOut.same,
  trivial, PleGate.same,
  trivial, DwSbOut.same,
  trivial, DySb.same,
  trivial, SbOut.same,
  trivial, DwPleIn.same,
  trivial, PleIn.same,
  trivial, GateMergeBwd.same,
  trivial, SwiGluBwd.same,
  trivial, RmsBwd.same,
  trivial, GateMerge.same,
  trivial, SwiGlu.same,
  trivial, RmsNorm.same,
  trivial, AdamW.same,
  trivial, SbFwd.same,
  trivial, PleLoss.same,
  trivial, AdamWSmall.same⟩

end Cert.Proof

end
